-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_statistics_and_indices [hPre_statistics_and_indices : Cert.Pre_statistics_and_indices.Facts] (m : (ℓ : Loc Cert.KernelIdeal.nD Cert.KernelIdeal.τ Cert.KernelIdeal.sig) → Buf (Elt Ideal) ℓ) : Prop :=
  ∀ c : Dev Cert.KernelIdeal.nD,
    (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_statistics_and_indices.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_statistics_and_indices [hPre_statistics_and_indices : Cert.Pre_statistics_and_indices.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_statistics_and_indices.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def Pre_Layer (m : (ℓ : Loc Cert.Layer.nD Cert.Layer.τ Cert.Layer.sig) → Buf (Elt Bits) ℓ) : Prop :=
  True

def Pre_LayerIdeal (m : (ℓ : Loc Cert.LayerIdeal.nD Cert.LayerIdeal.τ Cert.LayerIdeal.sig) → Buf (Elt Ideal) ℓ) : Prop :=
  True

def Pre_ConvIdeal (m : (ℓ : Loc Cert.ConvIdeal.nD Cert.ConvIdeal.τ Cert.ConvIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondIdeal_statistics [hPre_statistics : Cert.Pre_statistics.Facts] (m : (ℓ : Loc Cert.SecondIdeal.nD Cert.SecondIdeal.τ Cert.SecondIdeal.sig) → Buf (Elt Ideal) ℓ) : Prop :=
  ∀ c : Dev Cert.SecondIdeal.nD,
    (Cert.Pre_statistics.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).1 = (fun _ => 1#1)
    ∧ (Cert.Pre_statistics.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).2.1 = (fun _ => 1#1)
    ∧ (Cert.Pre_statistics.fn (F := Ideal) (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)) (m ((c.tc : Thread Cert.SecondIdeal.nD Cert.SecondIdeal.τ).loc Cert.SecondIdeal.main_arg4)) (m ((c.tc : Thread Cert.SecondIdeal.nD Cert.SecondIdeal.τ).loc Cert.SecondIdeal.main_arg5)) (m ((c.tc : Thread Cert.SecondIdeal.nD Cert.SecondIdeal.τ).loc Cert.SecondIdeal.main_arg6))).2.2 = (fun _ => 1#1)

def Pre_SecondConvIdeal (m : (ℓ : Loc Cert.SecondConvIdeal.nD Cert.SecondConvIdeal.τ Cert.SecondConvIdeal.sig) → Buf (Elt Ideal) ℓ) : Prop :=
  True

def Pre_SecondConvIdeal_statistics [hPre_statistics : Cert.Pre_statistics.Facts] (m : (ℓ : Loc Cert.SecondConvIdeal.nD Cert.SecondConvIdeal.τ Cert.SecondConvIdeal.sig) → Buf (Elt Ideal) ℓ) : Prop :=
  ∀ c : Dev Cert.SecondConvIdeal.nD,
    (Cert.Pre_statistics.fn (F := Ideal) (m ((c.tc : Thread Cert.SecondConvIdeal.nD Cert.SecondConvIdeal.τ).loc Cert.SecondConvIdeal.main_arg0)) (m ((c.tc : Thread Cert.SecondConvIdeal.nD Cert.SecondConvIdeal.τ).loc Cert.SecondConvIdeal.main_arg1)) (m ((c.tc : Thread Cert.SecondConvIdeal.nD Cert.SecondConvIdeal.τ).loc Cert.SecondConvIdeal.main_arg2)) (m ((c.tc : Thread Cert.SecondConvIdeal.nD Cert.SecondConvIdeal.τ).loc Cert.SecondConvIdeal.main_arg3)) (m ((c.tc : Thread Cert.SecondConvIdeal.nD Cert.SecondConvIdeal.τ).loc Cert.SecondConvIdeal.main_arg4)) (m ((c.tc : Thread Cert.SecondConvIdeal.nD Cert.SecondConvIdeal.τ).loc Cert.SecondConvIdeal.main_arg5)) (m ((c.tc : Thread Cert.SecondConvIdeal.nD Cert.SecondConvIdeal.τ).loc Cert.SecondConvIdeal.main_arg6))).1 = (fun _ => 1#1)
    ∧ (Cert.Pre_statistics.fn (F := Ideal) (m ((c.tc : Thread Cert.SecondConvIdeal.nD Cert.SecondConvIdeal.τ).loc Cert.SecondConvIdeal.main_arg0)) (m ((c.tc : Thread Cert.SecondConvIdeal.nD Cert.SecondConvIdeal.τ).loc Cert.SecondConvIdeal.main_arg1)) (m ((c.tc : Thread Cert.SecondConvIdeal.nD Cert.SecondConvIdeal.τ).loc Cert.SecondConvIdeal.main_arg2)) (m ((c.tc : Thread Cert.SecondConvIdeal.nD Cert.SecondConvIdeal.τ).loc Cert.SecondConvIdeal.main_arg3)) (m ((c.tc : Thread Cert.SecondConvIdeal.nD Cert.SecondConvIdeal.τ).loc Cert.SecondConvIdeal.main_arg4)) (m ((c.tc : Thread Cert.SecondConvIdeal.nD Cert.SecondConvIdeal.τ).loc Cert.SecondConvIdeal.main_arg5)) (m ((c.tc : Thread Cert.SecondConvIdeal.nD Cert.SecondConvIdeal.τ).loc Cert.SecondConvIdeal.main_arg6))).2.1 = (fun _ => 1#1)
    ∧ (Cert.Pre_statistics.fn (F := Ideal) (m ((c.tc : Thread Cert.SecondConvIdeal.nD Cert.SecondConvIdeal.τ).loc Cert.SecondConvIdeal.main_arg0)) (m ((c.tc : Thread Cert.SecondConvIdeal.nD Cert.SecondConvIdeal.τ).loc Cert.SecondConvIdeal.main_arg1)) (m ((c.tc : Thread Cert.SecondConvIdeal.nD Cert.SecondConvIdeal.τ).loc Cert.SecondConvIdeal.main_arg2)) (m ((c.tc : Thread Cert.SecondConvIdeal.nD Cert.SecondConvIdeal.τ).loc Cert.SecondConvIdeal.main_arg3)) (m ((c.tc : Thread Cert.SecondConvIdeal.nD Cert.SecondConvIdeal.τ).loc Cert.SecondConvIdeal.main_arg4)) (m ((c.tc : Thread Cert.SecondConvIdeal.nD Cert.SecondConvIdeal.τ).loc Cert.SecondConvIdeal.main_arg5)) (m ((c.tc : Thread Cert.SecondConvIdeal.nD Cert.SecondConvIdeal.τ).loc Cert.SecondConvIdeal.main_arg6))).2.2 = (fun _ => 1#1)

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdIdeal_statistics_of_third [hPre_statistics_of_third : Cert.Pre_statistics_of_third.Facts] (m : (ℓ : Loc Cert.ThirdIdeal.nD Cert.ThirdIdeal.τ Cert.ThirdIdeal.sig) → Buf (Elt Ideal) ℓ) : Prop :=
  ∀ c : Dev Cert.ThirdIdeal.nD,
    (Cert.Pre_statistics_of_third.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6))).1 = (fun _ => 1#1)
    ∧ (Cert.Pre_statistics_of_third.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6))).2.1 = (fun _ => 1#1)
    ∧ (Cert.Pre_statistics_of_third.fn (F := Ideal) (m ((c.tc : Thread Cert.ThirdIdeal.nD Cert.ThirdIdeal.τ).loc Cert.ThirdIdeal.main_arg0)) (m ((c.tc : Thread Cert.ThirdIdeal.nD Cert.ThirdIdeal.τ).loc Cert.ThirdIdeal.main_arg1)) (m ((c.tc : Thread Cert.ThirdIdeal.nD Cert.ThirdIdeal.τ).loc Cert.ThirdIdeal.main_arg2)) (m ((c.tc : Thread Cert.ThirdIdeal.nD Cert.ThirdIdeal.τ).loc Cert.ThirdIdeal.main_arg3)) (m ((c.tc : Thread Cert.ThirdIdeal.nD Cert.ThirdIdeal.τ).loc Cert.ThirdIdeal.main_arg4)) (m ((c.tc : Thread Cert.ThirdIdeal.nD Cert.ThirdIdeal.τ).loc Cert.ThirdIdeal.main_arg5)) (m ((c.tc : Thread Cert.ThirdIdeal.nD Cert.ThirdIdeal.τ).loc Cert.ThirdIdeal.main_arg6))).2.2 = (fun _ => 1#1)

def Pre_ThirdConvIdeal (m : (ℓ : Loc Cert.ThirdConvIdeal.nD Cert.ThirdConvIdeal.τ Cert.ThirdConvIdeal.sig) → Buf (Elt Ideal) ℓ) : Prop :=
  True

def Pre_ThirdConvIdeal_statistics_of_third [hPre_statistics_of_third : Cert.Pre_statistics_of_third.Facts] (m : (ℓ : Loc Cert.ThirdConvIdeal.nD Cert.ThirdConvIdeal.τ Cert.ThirdConvIdeal.sig) → Buf (Elt Ideal) ℓ) : Prop :=
  ∀ c : Dev Cert.ThirdConvIdeal.nD,
    (Cert.Pre_statistics_of_third.fn (F := Ideal) (m ((c.tc : Thread Cert.ThirdConvIdeal.nD Cert.ThirdConvIdeal.τ).loc Cert.ThirdConvIdeal.main_arg0)) (m ((c.tc : Thread Cert.ThirdConvIdeal.nD Cert.ThirdConvIdeal.τ).loc Cert.ThirdConvIdeal.main_arg1)) (m ((c.tc : Thread Cert.ThirdConvIdeal.nD Cert.ThirdConvIdeal.τ).loc Cert.ThirdConvIdeal.main_arg2)) (m ((c.tc : Thread Cert.ThirdConvIdeal.nD Cert.ThirdConvIdeal.τ).loc Cert.ThirdConvIdeal.main_arg3)) (m ((c.tc : Thread Cert.ThirdConvIdeal.nD Cert.ThirdConvIdeal.τ).loc Cert.ThirdConvIdeal.main_arg4)) (m ((c.tc : Thread Cert.ThirdConvIdeal.nD Cert.ThirdConvIdeal.τ).loc Cert.ThirdConvIdeal.main_arg5)) (m ((c.tc : Thread Cert.ThirdConvIdeal.nD Cert.ThirdConvIdeal.τ).loc Cert.ThirdConvIdeal.main_arg6))).1 = (fun _ => 1#1)
    ∧ (Cert.Pre_statistics_of_third.fn (F := Ideal) (m ((c.tc : Thread Cert.ThirdConvIdeal.nD Cert.ThirdConvIdeal.τ).loc Cert.ThirdConvIdeal.main_arg0)) (m ((c.tc : Thread Cert.ThirdConvIdeal.nD Cert.ThirdConvIdeal.τ).loc Cert.ThirdConvIdeal.main_arg1)) (m ((c.tc : Thread Cert.ThirdConvIdeal.nD Cert.ThirdConvIdeal.τ).loc Cert.ThirdConvIdeal.main_arg2)) (m ((c.tc : Thread Cert.ThirdConvIdeal.nD Cert.ThirdConvIdeal.τ).loc Cert.ThirdConvIdeal.main_arg3)) (m ((c.tc : Thread Cert.ThirdConvIdeal.nD Cert.ThirdConvIdeal.τ).loc Cert.ThirdConvIdeal.main_arg4)) (m ((c.tc : Thread Cert.ThirdConvIdeal.nD Cert.ThirdConvIdeal.τ).loc Cert.ThirdConvIdeal.main_arg5)) (m ((c.tc : Thread Cert.ThirdConvIdeal.nD Cert.ThirdConvIdeal.τ).loc Cert.ThirdConvIdeal.main_arg6))).2.1 = (fun _ => 1#1)
    ∧ (Cert.Pre_statistics_of_third.fn (F := Ideal) (m ((c.tc : Thread Cert.ThirdConvIdeal.nD Cert.ThirdConvIdeal.τ).loc Cert.ThirdConvIdeal.main_arg0)) (m ((c.tc : Thread Cert.ThirdConvIdeal.nD Cert.ThirdConvIdeal.τ).loc Cert.ThirdConvIdeal.main_arg1)) (m ((c.tc : Thread Cert.ThirdConvIdeal.nD Cert.ThirdConvIdeal.τ).loc Cert.ThirdConvIdeal.main_arg2)) (m ((c.tc : Thread Cert.ThirdConvIdeal.nD Cert.ThirdConvIdeal.τ).loc Cert.ThirdConvIdeal.main_arg3)) (m ((c.tc : Thread Cert.ThirdConvIdeal.nD Cert.ThirdConvIdeal.τ).loc Cert.ThirdConvIdeal.main_arg4)) (m ((c.tc : Thread Cert.ThirdConvIdeal.nD Cert.ThirdConvIdeal.τ).loc Cert.ThirdConvIdeal.main_arg5)) (m ((c.tc : Thread Cert.ThirdConvIdeal.nD Cert.ThirdConvIdeal.τ).loc Cert.ThirdConvIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_statistics_and_indices [hKernelIdeal : Cert.KernelIdeal.Facts] [hPre_statistics_and_indices : Cert.Pre_statistics_and_indices.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_statistics_and_indices m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_statistics_and_indices [hReferenceIdeal : Cert.ReferenceIdeal.Facts] [hPre_statistics_and_indices : Cert.Pre_statistics_and_indices.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_statistics_and_indices m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Layer [hLayer : Cert.Layer.Facts] : Prop :=
  ∀ (m : (ℓ : Loc Cert.Layer.nD Cert.Layer.τ Cert.Layer.sig) → Buf (Elt Bits) ℓ) (g : Dev Cert.Layer.nD → PrngReg), Pre_Layer m →
    θ_run (Cert.Layer.defs (F := Bits)) (onTc (τ := Cert.Layer.τ) (Cert.Layer.main (F := Bits))) ⟨m, fun _ => 0, g⟩ (fun r => (∀ c : Dev Cert.Layer.nD,
      r.2.mem ((c.tc : Thread Cert.Layer.nD Cert.Layer.τ).loc Cert.Layer.main_arg0) = m ((c.tc : Thread Cert.Layer.nD Cert.Layer.τ).loc Cert.Layer.main_arg0)
      ∧ r.2.mem ((c.tc : Thread Cert.Layer.nD Cert.Layer.τ).loc Cert.Layer.main_arg1) = m ((c.tc : Thread Cert.Layer.nD Cert.Layer.τ).loc Cert.Layer.main_arg1)
      ∧ r.2.mem ((c.tc : Thread Cert.Layer.nD Cert.Layer.τ).loc Cert.Layer.main_arg2) = m ((c.tc : Thread Cert.Layer.nD Cert.Layer.τ).loc Cert.Layer.main_arg2))
      ∧ r.2.sem = fun _ => 0)

def quiescent_LayerIdeal [hLayerIdeal : Cert.LayerIdeal.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (onTc (τ := Cert.LayerIdeal.τ) (Cert.LayerIdeal.main (F := Ideal))) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ r.2.sem = fun _ => 0)

def quiescent_SecondIdeal_pre_statistics [hSecondIdeal : Cert.SecondIdeal.Facts] [hPre_statistics : Cert.Pre_statistics.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal_statistics m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ r.2.sem = fun _ => 0)

def quiescent_SecondConvIdeal [hSecondConvIdeal : Cert.SecondConvIdeal.Facts] : Prop :=
  ∀ (m : (ℓ : Loc Cert.SecondConvIdeal.nD Cert.SecondConvIdeal.τ Cert.SecondConvIdeal.sig) → Buf (Elt Ideal) ℓ) (g : Dev Cert.SecondConvIdeal.nD → PrngReg), Pre_SecondConvIdeal m →
    θ_run (Cert.SecondConvIdeal.defs (F := Ideal)) (onTc (τ := Cert.SecondConvIdeal.τ) (Cert.SecondConvIdeal.main (F := Ideal))) ⟨m, fun _ => 0, g⟩ (fun r => (∀ c : Dev Cert.SecondConvIdeal.nD,
      r.2.mem ((c.tc : Thread Cert.SecondConvIdeal.nD Cert.SecondConvIdeal.τ).loc Cert.SecondConvIdeal.main_arg0) = m ((c.tc : Thread Cert.SecondConvIdeal.nD Cert.SecondConvIdeal.τ).loc Cert.SecondConvIdeal.main_arg0)
      ∧ r.2.mem ((c.tc : Thread Cert.SecondConvIdeal.nD Cert.SecondConvIdeal.τ).loc Cert.SecondConvIdeal.main_arg1) = m ((c.tc : Thread Cert.SecondConvIdeal.nD Cert.SecondConvIdeal.τ).loc Cert.SecondConvIdeal.main_arg1)
      ∧ r.2.mem ((c.tc : Thread Cert.SecondConvIdeal.nD Cert.SecondConvIdeal.τ).loc Cert.SecondConvIdeal.main_arg2) = m ((c.tc : Thread Cert.SecondConvIdeal.nD Cert.SecondConvIdeal.τ).loc Cert.SecondConvIdeal.main_arg2)
      ∧ r.2.mem ((c.tc : Thread Cert.SecondConvIdeal.nD Cert.SecondConvIdeal.τ).loc Cert.SecondConvIdeal.main_arg3) = m ((c.tc : Thread Cert.SecondConvIdeal.nD Cert.SecondConvIdeal.τ).loc Cert.SecondConvIdeal.main_arg3)
      ∧ r.2.mem ((c.tc : Thread Cert.SecondConvIdeal.nD Cert.SecondConvIdeal.τ).loc Cert.SecondConvIdeal.main_arg4) = m ((c.tc : Thread Cert.SecondConvIdeal.nD Cert.SecondConvIdeal.τ).loc Cert.SecondConvIdeal.main_arg4)
      ∧ r.2.mem ((c.tc : Thread Cert.SecondConvIdeal.nD Cert.SecondConvIdeal.τ).loc Cert.SecondConvIdeal.main_arg5) = m ((c.tc : Thread Cert.SecondConvIdeal.nD Cert.SecondConvIdeal.τ).loc Cert.SecondConvIdeal.main_arg5)
      ∧ r.2.mem ((c.tc : Thread Cert.SecondConvIdeal.nD Cert.SecondConvIdeal.τ).loc Cert.SecondConvIdeal.main_arg6) = m ((c.tc : Thread Cert.SecondConvIdeal.nD Cert.SecondConvIdeal.τ).loc Cert.SecondConvIdeal.main_arg6))
      ∧ r.2.sem = fun _ => 0)

def quiescent_SecondConvIdeal_pre_statistics [hSecondConvIdeal : Cert.SecondConvIdeal.Facts] [hPre_statistics : Cert.Pre_statistics.Facts] : Prop :=
  ∀ (m : (ℓ : Loc Cert.SecondConvIdeal.nD Cert.SecondConvIdeal.τ Cert.SecondConvIdeal.sig) → Buf (Elt Ideal) ℓ) (g : Dev Cert.SecondConvIdeal.nD → PrngReg), Pre_SecondConvIdeal_statistics m →
    θ_run (Cert.SecondConvIdeal.defs (F := Ideal)) (onTc (τ := Cert.SecondConvIdeal.τ) (Cert.SecondConvIdeal.main (F := Ideal))) ⟨m, fun _ => 0, g⟩ (fun r => (∀ c : Dev Cert.SecondConvIdeal.nD,
      r.2.mem ((c.tc : Thread Cert.SecondConvIdeal.nD Cert.SecondConvIdeal.τ).loc Cert.SecondConvIdeal.main_arg0) = m ((c.tc : Thread Cert.SecondConvIdeal.nD Cert.SecondConvIdeal.τ).loc Cert.SecondConvIdeal.main_arg0)
      ∧ r.2.mem ((c.tc : Thread Cert.SecondConvIdeal.nD Cert.SecondConvIdeal.τ).loc Cert.SecondConvIdeal.main_arg1) = m ((c.tc : Thread Cert.SecondConvIdeal.nD Cert.SecondConvIdeal.τ).loc Cert.SecondConvIdeal.main_arg1)
      ∧ r.2.mem ((c.tc : Thread Cert.SecondConvIdeal.nD Cert.SecondConvIdeal.τ).loc Cert.SecondConvIdeal.main_arg2) = m ((c.tc : Thread Cert.SecondConvIdeal.nD Cert.SecondConvIdeal.τ).loc Cert.SecondConvIdeal.main_arg2)
      ∧ r.2.mem ((c.tc : Thread Cert.SecondConvIdeal.nD Cert.SecondConvIdeal.τ).loc Cert.SecondConvIdeal.main_arg3) = m ((c.tc : Thread Cert.SecondConvIdeal.nD Cert.SecondConvIdeal.τ).loc Cert.SecondConvIdeal.main_arg3)
      ∧ r.2.mem ((c.tc : Thread Cert.SecondConvIdeal.nD Cert.SecondConvIdeal.τ).loc Cert.SecondConvIdeal.main_arg4) = m ((c.tc : Thread Cert.SecondConvIdeal.nD Cert.SecondConvIdeal.τ).loc Cert.SecondConvIdeal.main_arg4)
      ∧ r.2.mem ((c.tc : Thread Cert.SecondConvIdeal.nD Cert.SecondConvIdeal.τ).loc Cert.SecondConvIdeal.main_arg5) = m ((c.tc : Thread Cert.SecondConvIdeal.nD Cert.SecondConvIdeal.τ).loc Cert.SecondConvIdeal.main_arg5)
      ∧ r.2.mem ((c.tc : Thread Cert.SecondConvIdeal.nD Cert.SecondConvIdeal.τ).loc Cert.SecondConvIdeal.main_arg6) = m ((c.tc : Thread Cert.SecondConvIdeal.nD Cert.SecondConvIdeal.τ).loc Cert.SecondConvIdeal.main_arg6))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5)
      ∧ r.2.mem ((c.tc : Thread Cert.Third.nD Cert.Third.τ).loc Cert.Third.main_arg6) = m ((c.tc : Thread Cert.Third.nD Cert.Third.τ).loc Cert.Third.main_arg6))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6))
      ∧ r.2.sem = fun _ => 0)

def quiescent_ThirdIdeal_pre_statistics_of_third [hThirdIdeal : Cert.ThirdIdeal.Facts] [hPre_statistics_of_third : Cert.Pre_statistics_of_third.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal_statistics_of_third m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6))
      ∧ r.2.sem = fun _ => 0)

def quiescent_ThirdConvIdeal [hThirdConvIdeal : Cert.ThirdConvIdeal.Facts] : Prop :=
  ∀ (m : (ℓ : Loc Cert.ThirdConvIdeal.nD Cert.ThirdConvIdeal.τ Cert.ThirdConvIdeal.sig) → Buf (Elt Ideal) ℓ) (g : Dev Cert.ThirdConvIdeal.nD → PrngReg), Pre_ThirdConvIdeal m →
    θ_run (Cert.ThirdConvIdeal.defs (F := Ideal)) (onTc (τ := Cert.ThirdConvIdeal.τ) (Cert.ThirdConvIdeal.main (F := Ideal))) ⟨m, fun _ => 0, g⟩ (fun r => (∀ c : Dev Cert.ThirdConvIdeal.nD,
      r.2.mem ((c.tc : Thread Cert.ThirdConvIdeal.nD Cert.ThirdConvIdeal.τ).loc Cert.ThirdConvIdeal.main_arg0) = m ((c.tc : Thread Cert.ThirdConvIdeal.nD Cert.ThirdConvIdeal.τ).loc Cert.ThirdConvIdeal.main_arg0)
      ∧ r.2.mem ((c.tc : Thread Cert.ThirdConvIdeal.nD Cert.ThirdConvIdeal.τ).loc Cert.ThirdConvIdeal.main_arg1) = m ((c.tc : Thread Cert.ThirdConvIdeal.nD Cert.ThirdConvIdeal.τ).loc Cert.ThirdConvIdeal.main_arg1)
      ∧ r.2.mem ((c.tc : Thread Cert.ThirdConvIdeal.nD Cert.ThirdConvIdeal.τ).loc Cert.ThirdConvIdeal.main_arg2) = m ((c.tc : Thread Cert.ThirdConvIdeal.nD Cert.ThirdConvIdeal.τ).loc Cert.ThirdConvIdeal.main_arg2)
      ∧ r.2.mem ((c.tc : Thread Cert.ThirdConvIdeal.nD Cert.ThirdConvIdeal.τ).loc Cert.ThirdConvIdeal.main_arg3) = m ((c.tc : Thread Cert.ThirdConvIdeal.nD Cert.ThirdConvIdeal.τ).loc Cert.ThirdConvIdeal.main_arg3)
      ∧ r.2.mem ((c.tc : Thread Cert.ThirdConvIdeal.nD Cert.ThirdConvIdeal.τ).loc Cert.ThirdConvIdeal.main_arg4) = m ((c.tc : Thread Cert.ThirdConvIdeal.nD Cert.ThirdConvIdeal.τ).loc Cert.ThirdConvIdeal.main_arg4)
      ∧ r.2.mem ((c.tc : Thread Cert.ThirdConvIdeal.nD Cert.ThirdConvIdeal.τ).loc Cert.ThirdConvIdeal.main_arg5) = m ((c.tc : Thread Cert.ThirdConvIdeal.nD Cert.ThirdConvIdeal.τ).loc Cert.ThirdConvIdeal.main_arg5)
      ∧ r.2.mem ((c.tc : Thread Cert.ThirdConvIdeal.nD Cert.ThirdConvIdeal.τ).loc Cert.ThirdConvIdeal.main_arg6) = m ((c.tc : Thread Cert.ThirdConvIdeal.nD Cert.ThirdConvIdeal.τ).loc Cert.ThirdConvIdeal.main_arg6))
      ∧ r.2.sem = fun _ => 0)

def quiescent_ThirdConvIdeal_pre_statistics_of_third [hThirdConvIdeal : Cert.ThirdConvIdeal.Facts] [hPre_statistics_of_third : Cert.Pre_statistics_of_third.Facts] : Prop :=
  ∀ (m : (ℓ : Loc Cert.ThirdConvIdeal.nD Cert.ThirdConvIdeal.τ Cert.ThirdConvIdeal.sig) → Buf (Elt Ideal) ℓ) (g : Dev Cert.ThirdConvIdeal.nD → PrngReg), Pre_ThirdConvIdeal_statistics_of_third m →
    θ_run (Cert.ThirdConvIdeal.defs (F := Ideal)) (onTc (τ := Cert.ThirdConvIdeal.τ) (Cert.ThirdConvIdeal.main (F := Ideal))) ⟨m, fun _ => 0, g⟩ (fun r => (∀ c : Dev Cert.ThirdConvIdeal.nD,
      r.2.mem ((c.tc : Thread Cert.ThirdConvIdeal.nD Cert.ThirdConvIdeal.τ).loc Cert.ThirdConvIdeal.main_arg0) = m ((c.tc : Thread Cert.ThirdConvIdeal.nD Cert.ThirdConvIdeal.τ).loc Cert.ThirdConvIdeal.main_arg0)
      ∧ r.2.mem ((c.tc : Thread Cert.ThirdConvIdeal.nD Cert.ThirdConvIdeal.τ).loc Cert.ThirdConvIdeal.main_arg1) = m ((c.tc : Thread Cert.ThirdConvIdeal.nD Cert.ThirdConvIdeal.τ).loc Cert.ThirdConvIdeal.main_arg1)
      ∧ r.2.mem ((c.tc : Thread Cert.ThirdConvIdeal.nD Cert.ThirdConvIdeal.τ).loc Cert.ThirdConvIdeal.main_arg2) = m ((c.tc : Thread Cert.ThirdConvIdeal.nD Cert.ThirdConvIdeal.τ).loc Cert.ThirdConvIdeal.main_arg2)
      ∧ r.2.mem ((c.tc : Thread Cert.ThirdConvIdeal.nD Cert.ThirdConvIdeal.τ).loc Cert.ThirdConvIdeal.main_arg3) = m ((c.tc : Thread Cert.ThirdConvIdeal.nD Cert.ThirdConvIdeal.τ).loc Cert.ThirdConvIdeal.main_arg3)
      ∧ r.2.mem ((c.tc : Thread Cert.ThirdConvIdeal.nD Cert.ThirdConvIdeal.τ).loc Cert.ThirdConvIdeal.main_arg4) = m ((c.tc : Thread Cert.ThirdConvIdeal.nD Cert.ThirdConvIdeal.τ).loc Cert.ThirdConvIdeal.main_arg4)
      ∧ r.2.mem ((c.tc : Thread Cert.ThirdConvIdeal.nD Cert.ThirdConvIdeal.τ).loc Cert.ThirdConvIdeal.main_arg5) = m ((c.tc : Thread Cert.ThirdConvIdeal.nD Cert.ThirdConvIdeal.τ).loc Cert.ThirdConvIdeal.main_arg5)
      ∧ r.2.mem ((c.tc : Thread Cert.ThirdConvIdeal.nD Cert.ThirdConvIdeal.τ).loc Cert.ThirdConvIdeal.main_arg6) = m ((c.tc : Thread Cert.ThirdConvIdeal.nD Cert.ThirdConvIdeal.τ).loc Cert.ThirdConvIdeal.main_arg6))
      ∧ r.2.sem = fun _ => 0)

def preserves_Kernel_KernelIdeal : Prop :=
  IdealRules.named_const.Statement Cert.KernelIdeal.κ "no_cluster" .f32 0x7F61B1E6#32 ⊤

def algebraic_KernelIdeal_ReferenceIdeal_pre_statistics_and_indices [hKernelIdeal : Cert.KernelIdeal.Facts] [hReferenceIdeal : Cert.ReferenceIdeal.Facts] [hPre_statistics_and_indices : Cert.Pre_statistics_and_indices.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_statistics_and_indices m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Layer_LayerIdeal : Prop :=
  True

def algebraic_LayerIdeal_ConvIdeal [hLayerIdeal : Cert.LayerIdeal.Facts] [hConvIdeal : Cert.ConvIdeal.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.ConvIdeal.nD Cert.ConvIdeal.τ Cert.ConvIdeal.sig) → Buf (Elt Ideal) ℓ) (g' : Dev Cert.ConvIdeal.nD → PrngReg), Pre_LayerIdeal m →
    (∀ c : Dev Cert.LayerIdeal.nD,
      m' ((c.tc : Thread Cert.ConvIdeal.nD Cert.ConvIdeal.τ).loc Cert.ConvIdeal.main_arg0) = m ((c.tc : Thread Cert.LayerIdeal.nD Cert.LayerIdeal.τ).loc Cert.LayerIdeal.main_arg0)
      ∧ m' ((c.tc : Thread Cert.ConvIdeal.nD Cert.ConvIdeal.τ).loc Cert.ConvIdeal.main_arg1) = m ((c.tc : Thread Cert.LayerIdeal.nD Cert.LayerIdeal.τ).loc Cert.LayerIdeal.main_arg1)
      ∧ m' ((c.tc : Thread Cert.ConvIdeal.nD Cert.ConvIdeal.τ).loc Cert.ConvIdeal.main_arg2) = m ((c.tc : Thread Cert.LayerIdeal.nD Cert.LayerIdeal.τ).loc Cert.LayerIdeal.main_arg2)) →
    ∃ (v0 : (c : Dev Cert.LayerIdeal.nD) → Buf (Elt Ideal) ((c.tc : Thread Cert.LayerIdeal.nD Cert.LayerIdeal.τ).loc Cert.LayerIdeal.main_v9_0)) (v1 : (c : Dev Cert.LayerIdeal.nD) → Buf (Elt Ideal) ((c.tc : Thread Cert.LayerIdeal.nD Cert.LayerIdeal.τ).loc Cert.LayerIdeal.main_v9_1)) (v2 : (c : Dev Cert.LayerIdeal.nD) → Buf (Elt Ideal) ((c.tc : Thread Cert.LayerIdeal.nD Cert.LayerIdeal.τ).loc Cert.LayerIdeal.main_v9_2)),
      θ_run (Cert.LayerIdeal.defs (F := Ideal)) (onTc (τ := Cert.LayerIdeal.τ) (Cert.LayerIdeal.main (F := Ideal))) ⟨m, fun _ => 0, g⟩ (fun r => ∀ c : Dev Cert.LayerIdeal.nD,
          r.2.mem ((c.tc : Thread Cert.LayerIdeal.nD Cert.LayerIdeal.τ).loc Cert.LayerIdeal.main_v9_0) = v0 c
          ∧ r.2.mem ((c.tc : Thread Cert.LayerIdeal.nD Cert.LayerIdeal.τ).loc Cert.LayerIdeal.main_v9_1) = v1 c
          ∧ r.2.mem ((c.tc : Thread Cert.LayerIdeal.nD Cert.LayerIdeal.τ).loc Cert.LayerIdeal.main_v9_2) = v2 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2))
      ∧ θ_run (Cert.ConvIdeal.defs (F := Ideal)) (onTc (τ := Cert.ConvIdeal.τ) (Cert.ConvIdeal.main (F := Ideal))) ⟨m', fun _ => 0, g'⟩ (fun r => ∀ c : Dev Cert.ConvIdeal.nD,
          r.2.mem ((c.tc : Thread Cert.ConvIdeal.nD Cert.ConvIdeal.τ).loc Cert.ConvIdeal.main_v74) = v0 c
          ∧ r.2.mem ((c.tc : Thread Cert.ConvIdeal.nD Cert.ConvIdeal.τ).loc Cert.ConvIdeal.main_v65) = v1 c
          ∧ r.2.mem ((c.tc : Thread Cert.ConvIdeal.nD Cert.ConvIdeal.τ).loc Cert.ConvIdeal.main_v73) = v2 c
          ∧ r.2.mem ((c.tc : Thread Cert.ConvIdeal.nD Cert.ConvIdeal.τ).loc Cert.ConvIdeal.main_arg0) = m' ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m' ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m' ((c.tc : Thread Cert.ConvIdeal.nD Cert.ConvIdeal.τ).loc Cert.ConvIdeal.main_arg2))

def preserves_Second_SecondIdeal : Prop :=
  True

def algebraic_SecondIdeal_SecondConvIdeal_pre_statistics [hSecondIdeal : Cert.SecondIdeal.Facts] [hSecondConvIdeal : Cert.SecondConvIdeal.Facts] [hPre_statistics : Cert.Pre_statistics.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondConvIdeal.nD Cert.SecondConvIdeal.τ Cert.SecondConvIdeal.sig) → Buf (Elt Ideal) ℓ) (g' : Dev Cert.SecondConvIdeal.nD → PrngReg), Pre_SecondIdeal_statistics m →
    (∀ c : Dev Cert.SecondIdeal.nD,
      m' ((c.tc : Thread Cert.SecondConvIdeal.nD Cert.SecondConvIdeal.τ).loc Cert.SecondConvIdeal.main_arg0) = m ((c.tc : Thread Cert.SecondIdeal.nD Cert.SecondIdeal.τ).loc Cert.SecondIdeal.main_arg0)
      ∧ m' ((c.tc : Thread Cert.SecondConvIdeal.nD Cert.SecondConvIdeal.τ).loc Cert.SecondConvIdeal.main_arg1) = m ((c.tc : Thread Cert.SecondIdeal.nD Cert.SecondIdeal.τ).loc Cert.SecondIdeal.main_arg1)
      ∧ m' ((c.tc : Thread Cert.SecondConvIdeal.nD Cert.SecondConvIdeal.τ).loc Cert.SecondConvIdeal.main_arg2) = m ((c.tc : Thread Cert.SecondIdeal.nD Cert.SecondIdeal.τ).loc Cert.SecondIdeal.main_arg2)
      ∧ m' ((c.tc : Thread Cert.SecondConvIdeal.nD Cert.SecondConvIdeal.τ).loc Cert.SecondConvIdeal.main_arg3) = m ((c.tc : Thread Cert.SecondIdeal.nD Cert.SecondIdeal.τ).loc Cert.SecondIdeal.main_arg3)
      ∧ m' ((c.tc : Thread Cert.SecondConvIdeal.nD Cert.SecondConvIdeal.τ).loc Cert.SecondConvIdeal.main_arg4) = m ((c.tc : Thread Cert.SecondIdeal.nD Cert.SecondIdeal.τ).loc Cert.SecondIdeal.main_arg4)
      ∧ m' ((c.tc : Thread Cert.SecondConvIdeal.nD Cert.SecondConvIdeal.τ).loc Cert.SecondConvIdeal.main_arg5) = m ((c.tc : Thread Cert.SecondIdeal.nD Cert.SecondIdeal.τ).loc Cert.SecondIdeal.main_arg5)
      ∧ m' ((c.tc : Thread Cert.SecondConvIdeal.nD Cert.SecondConvIdeal.τ).loc Cert.SecondConvIdeal.main_arg6) = m ((c.tc : Thread Cert.SecondIdeal.nD Cert.SecondIdeal.τ).loc Cert.SecondIdeal.main_arg6)) →
    ∃ (v0 : (c : Dev Cert.SecondIdeal.nD) → Buf (Elt Ideal) ((c.tc : Thread Cert.SecondIdeal.nD Cert.SecondIdeal.τ).loc Cert.SecondIdeal.main_v5_0)) (v1 : (c : Dev Cert.SecondIdeal.nD) → Buf (Elt Ideal) ((c.tc : Thread Cert.SecondIdeal.nD Cert.SecondIdeal.τ).loc Cert.SecondIdeal.main_v5_1)) (v2 : (c : Dev Cert.SecondIdeal.nD) → Buf (Elt Ideal) ((c.tc : Thread Cert.SecondIdeal.nD Cert.SecondIdeal.τ).loc Cert.SecondIdeal.main_v5_2)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v5_0) = v0 c
          ∧ r.2.mem ((c.tc : Thread Cert.SecondIdeal.nD Cert.SecondIdeal.τ).loc Cert.SecondIdeal.main_v5_1) = v1 c
          ∧ r.2.mem ((c.tc : Thread Cert.SecondIdeal.nD Cert.SecondIdeal.τ).loc Cert.SecondIdeal.main_v5_2) = v2 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6))
      ∧ θ_run (Cert.SecondConvIdeal.defs (F := Ideal)) (onTc (τ := Cert.SecondConvIdeal.τ) (Cert.SecondConvIdeal.main (F := Ideal))) ⟨m', fun _ => 0, g'⟩ (fun r => ∀ c : Dev Cert.SecondConvIdeal.nD,
          r.2.mem ((c.tc : Thread Cert.SecondConvIdeal.nD Cert.SecondConvIdeal.τ).loc Cert.SecondConvIdeal.main_v101) = v0 c
          ∧ r.2.mem ((c.tc : Thread Cert.SecondConvIdeal.nD Cert.SecondConvIdeal.τ).loc Cert.SecondConvIdeal.main_v92) = v1 c
          ∧ r.2.mem ((c.tc : Thread Cert.SecondConvIdeal.nD Cert.SecondConvIdeal.τ).loc Cert.SecondConvIdeal.main_v100) = v2 c
          ∧ r.2.mem ((c.tc : Thread Cert.SecondConvIdeal.nD Cert.SecondConvIdeal.τ).loc Cert.SecondConvIdeal.main_arg0) = m' ((c.tc : Thread Cert.SecondConvIdeal.nD Cert.SecondConvIdeal.τ).loc Cert.SecondConvIdeal.main_arg0)
          ∧ r.2.mem ((c.tc : Thread Cert.SecondConvIdeal.nD Cert.SecondConvIdeal.τ).loc Cert.SecondConvIdeal.main_arg1) = m' ((c.tc : Thread Cert.SecondConvIdeal.nD Cert.SecondConvIdeal.τ).loc Cert.SecondConvIdeal.main_arg1)
          ∧ r.2.mem ((c.tc : Thread Cert.SecondConvIdeal.nD Cert.SecondConvIdeal.τ).loc Cert.SecondConvIdeal.main_arg2) = m' ((c.tc : Thread Cert.SecondConvIdeal.nD Cert.SecondConvIdeal.τ).loc Cert.SecondConvIdeal.main_arg2)
          ∧ r.2.mem ((c.tc : Thread Cert.SecondConvIdeal.nD Cert.SecondConvIdeal.τ).loc Cert.SecondConvIdeal.main_arg3) = m' ((c.tc : Thread Cert.SecondConvIdeal.nD Cert.SecondConvIdeal.τ).loc Cert.SecondConvIdeal.main_arg3)
          ∧ r.2.mem ((c.tc : Thread Cert.SecondConvIdeal.nD Cert.SecondConvIdeal.τ).loc Cert.SecondConvIdeal.main_arg4) = m' ((c.tc : Thread Cert.SecondConvIdeal.nD Cert.SecondConvIdeal.τ).loc Cert.SecondConvIdeal.main_arg4)
          ∧ r.2.mem ((c.tc : Thread Cert.SecondConvIdeal.nD Cert.SecondConvIdeal.τ).loc Cert.SecondConvIdeal.main_arg5) = m' ((c.tc : Thread Cert.SecondConvIdeal.nD Cert.SecondConvIdeal.τ).loc Cert.SecondConvIdeal.main_arg5)
          ∧ r.2.mem ((c.tc : Thread Cert.SecondConvIdeal.nD Cert.SecondConvIdeal.τ).loc Cert.SecondConvIdeal.main_arg6) = m' ((c.tc : Thread Cert.SecondConvIdeal.nD Cert.SecondConvIdeal.τ).loc Cert.SecondConvIdeal.main_arg6))

def preserves_Third_ThirdIdeal : Prop :=
  True

def algebraic_ThirdIdeal_ThirdConvIdeal_pre_statistics_of_third [hThirdIdeal : Cert.ThirdIdeal.Facts] [hThirdConvIdeal : Cert.ThirdConvIdeal.Facts] [hPre_statistics_of_third : Cert.Pre_statistics_of_third.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdConvIdeal.nD Cert.ThirdConvIdeal.τ Cert.ThirdConvIdeal.sig) → Buf (Elt Ideal) ℓ) (g' : Dev Cert.ThirdConvIdeal.nD → PrngReg), Pre_ThirdIdeal_statistics_of_third m →
    (∀ c : Dev Cert.ThirdIdeal.nD,
      m' ((c.tc : Thread Cert.ThirdConvIdeal.nD Cert.ThirdConvIdeal.τ).loc Cert.ThirdConvIdeal.main_arg0) = m ((c.tc : Thread Cert.ThirdIdeal.nD Cert.ThirdIdeal.τ).loc Cert.ThirdIdeal.main_arg0)
      ∧ m' ((c.tc : Thread Cert.ThirdConvIdeal.nD Cert.ThirdConvIdeal.τ).loc Cert.ThirdConvIdeal.main_arg1) = m ((c.tc : Thread Cert.ThirdIdeal.nD Cert.ThirdIdeal.τ).loc Cert.ThirdIdeal.main_arg1)
      ∧ m' ((c.tc : Thread Cert.ThirdConvIdeal.nD Cert.ThirdConvIdeal.τ).loc Cert.ThirdConvIdeal.main_arg2) = m ((c.tc : Thread Cert.ThirdIdeal.nD Cert.ThirdIdeal.τ).loc Cert.ThirdIdeal.main_arg2)
      ∧ m' ((c.tc : Thread Cert.ThirdConvIdeal.nD Cert.ThirdConvIdeal.τ).loc Cert.ThirdConvIdeal.main_arg3) = m ((c.tc : Thread Cert.ThirdIdeal.nD Cert.ThirdIdeal.τ).loc Cert.ThirdIdeal.main_arg3)
      ∧ m' ((c.tc : Thread Cert.ThirdConvIdeal.nD Cert.ThirdConvIdeal.τ).loc Cert.ThirdConvIdeal.main_arg4) = m ((c.tc : Thread Cert.ThirdIdeal.nD Cert.ThirdIdeal.τ).loc Cert.ThirdIdeal.main_arg4)
      ∧ m' ((c.tc : Thread Cert.ThirdConvIdeal.nD Cert.ThirdConvIdeal.τ).loc Cert.ThirdConvIdeal.main_arg5) = m ((c.tc : Thread Cert.ThirdIdeal.nD Cert.ThirdIdeal.τ).loc Cert.ThirdIdeal.main_arg5)
      ∧ m' ((c.tc : Thread Cert.ThirdConvIdeal.nD Cert.ThirdConvIdeal.τ).loc Cert.ThirdConvIdeal.main_arg6) = m ((c.tc : Thread Cert.ThirdIdeal.nD Cert.ThirdIdeal.τ).loc Cert.ThirdIdeal.main_arg6)) →
    ∃ (v0 : (c : Dev Cert.ThirdIdeal.nD) → Buf (Elt Ideal) ((c.tc : Thread Cert.ThirdIdeal.nD Cert.ThirdIdeal.τ).loc Cert.ThirdIdeal.main_v5_0)) (v1 : (c : Dev Cert.ThirdIdeal.nD) → Buf (Elt Ideal) ((c.tc : Thread Cert.ThirdIdeal.nD Cert.ThirdIdeal.τ).loc Cert.ThirdIdeal.main_v5_1)) (v2 : (c : Dev Cert.ThirdIdeal.nD) → Buf (Elt Ideal) ((c.tc : Thread Cert.ThirdIdeal.nD Cert.ThirdIdeal.τ).loc Cert.ThirdIdeal.main_v5_2)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v5_0) = v0 c
          ∧ r.2.mem ((c.tc : Thread Cert.ThirdIdeal.nD Cert.ThirdIdeal.τ).loc Cert.ThirdIdeal.main_v5_1) = v1 c
          ∧ r.2.mem ((c.tc : Thread Cert.ThirdIdeal.nD Cert.ThirdIdeal.τ).loc Cert.ThirdIdeal.main_v5_2) = v2 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6))
      ∧ θ_run (Cert.ThirdConvIdeal.defs (F := Ideal)) (onTc (τ := Cert.ThirdConvIdeal.τ) (Cert.ThirdConvIdeal.main (F := Ideal))) ⟨m', fun _ => 0, g'⟩ (fun r => ∀ c : Dev Cert.ThirdConvIdeal.nD,
          r.2.mem ((c.tc : Thread Cert.ThirdConvIdeal.nD Cert.ThirdConvIdeal.τ).loc Cert.ThirdConvIdeal.main_v101) = v0 c
          ∧ r.2.mem ((c.tc : Thread Cert.ThirdConvIdeal.nD Cert.ThirdConvIdeal.τ).loc Cert.ThirdConvIdeal.main_v92) = v1 c
          ∧ r.2.mem ((c.tc : Thread Cert.ThirdConvIdeal.nD Cert.ThirdConvIdeal.τ).loc Cert.ThirdConvIdeal.main_v100) = v2 c
          ∧ r.2.mem ((c.tc : Thread Cert.ThirdConvIdeal.nD Cert.ThirdConvIdeal.τ).loc Cert.ThirdConvIdeal.main_arg0) = m' ((c.tc : Thread Cert.ThirdConvIdeal.nD Cert.ThirdConvIdeal.τ).loc Cert.ThirdConvIdeal.main_arg0)
          ∧ r.2.mem ((c.tc : Thread Cert.ThirdConvIdeal.nD Cert.ThirdConvIdeal.τ).loc Cert.ThirdConvIdeal.main_arg1) = m' ((c.tc : Thread Cert.ThirdConvIdeal.nD Cert.ThirdConvIdeal.τ).loc Cert.ThirdConvIdeal.main_arg1)
          ∧ r.2.mem ((c.tc : Thread Cert.ThirdConvIdeal.nD Cert.ThirdConvIdeal.τ).loc Cert.ThirdConvIdeal.main_arg2) = m' ((c.tc : Thread Cert.ThirdConvIdeal.nD Cert.ThirdConvIdeal.τ).loc Cert.ThirdConvIdeal.main_arg2)
          ∧ r.2.mem ((c.tc : Thread Cert.ThirdConvIdeal.nD Cert.ThirdConvIdeal.τ).loc Cert.ThirdConvIdeal.main_arg3) = m' ((c.tc : Thread Cert.ThirdConvIdeal.nD Cert.ThirdConvIdeal.τ).loc Cert.ThirdConvIdeal.main_arg3)
          ∧ r.2.mem ((c.tc : Thread Cert.ThirdConvIdeal.nD Cert.ThirdConvIdeal.τ).loc Cert.ThirdConvIdeal.main_arg4) = m' ((c.tc : Thread Cert.ThirdConvIdeal.nD Cert.ThirdConvIdeal.τ).loc Cert.ThirdConvIdeal.main_arg4)
          ∧ r.2.mem ((c.tc : Thread Cert.ThirdConvIdeal.nD Cert.ThirdConvIdeal.τ).loc Cert.ThirdConvIdeal.main_arg5) = m' ((c.tc : Thread Cert.ThirdConvIdeal.nD Cert.ThirdConvIdeal.τ).loc Cert.ThirdConvIdeal.main_arg5)
          ∧ r.2.mem ((c.tc : Thread Cert.ThirdConvIdeal.nD Cert.ThirdConvIdeal.τ).loc Cert.ThirdConvIdeal.main_arg6) = m' ((c.tc : Thread Cert.ThirdConvIdeal.nD Cert.ThirdConvIdeal.τ).loc Cert.ThirdConvIdeal.main_arg6))

def Claim : Prop :=
  ∃ (hKernel : Cert.Kernel.Facts) (hKernelIdeal : Cert.KernelIdeal.Facts) (hReferenceIdeal : Cert.ReferenceIdeal.Facts) (hLayer : Cert.Layer.Facts) (hLayerIdeal : Cert.LayerIdeal.Facts) (hConvIdeal : Cert.ConvIdeal.Facts) (hSecond : Cert.Second.Facts) (hSecondIdeal : Cert.SecondIdeal.Facts) (hSecondConvIdeal : Cert.SecondConvIdeal.Facts) (hThird : Cert.Third.Facts) (hThirdIdeal : Cert.ThirdIdeal.Facts) (hThirdConvIdeal : Cert.ThirdConvIdeal.Facts) (hPre_statistics_and_indices : Cert.Pre_statistics_and_indices.Facts) (hPre_statistics : Cert.Pre_statistics.Facts) (hPre_statistics_of_third : Cert.Pre_statistics_of_third.Facts),
    quiescent_Kernel (hKernel := hKernel)
    ∧ quiescent_KernelIdeal (hKernelIdeal := hKernelIdeal)
    ∧ quiescent_KernelIdeal_pre_statistics_and_indices (hKernelIdeal := hKernelIdeal) (hPre_statistics_and_indices := hPre_statistics_and_indices)
    ∧ quiescent_ReferenceIdeal (hReferenceIdeal := hReferenceIdeal)
    ∧ quiescent_ReferenceIdeal_pre_statistics_and_indices (hReferenceIdeal := hReferenceIdeal) (hPre_statistics_and_indices := hPre_statistics_and_indices)
    ∧ quiescent_Layer (hLayer := hLayer)
    ∧ quiescent_LayerIdeal (hLayerIdeal := hLayerIdeal)
    ∧ quiescent_ConvIdeal (hConvIdeal := hConvIdeal)
    ∧ quiescent_Second (hSecond := hSecond)
    ∧ quiescent_SecondIdeal (hSecondIdeal := hSecondIdeal)
    ∧ quiescent_SecondIdeal_pre_statistics (hSecondIdeal := hSecondIdeal) (hPre_statistics := hPre_statistics)
    ∧ quiescent_SecondConvIdeal (hSecondConvIdeal := hSecondConvIdeal)
    ∧ quiescent_SecondConvIdeal_pre_statistics (hSecondConvIdeal := hSecondConvIdeal) (hPre_statistics := hPre_statistics)
    ∧ quiescent_Third (hThird := hThird)
    ∧ quiescent_ThirdIdeal (hThirdIdeal := hThirdIdeal)
    ∧ quiescent_ThirdIdeal_pre_statistics_of_third (hThirdIdeal := hThirdIdeal) (hPre_statistics_of_third := hPre_statistics_of_third)
    ∧ quiescent_ThirdConvIdeal (hThirdConvIdeal := hThirdConvIdeal)
    ∧ quiescent_ThirdConvIdeal_pre_statistics_of_third (hThirdConvIdeal := hThirdConvIdeal) (hPre_statistics_of_third := hPre_statistics_of_third)
    ∧ preserves_Kernel_KernelIdeal
    ∧ algebraic_KernelIdeal_ReferenceIdeal_pre_statistics_and_indices (hKernelIdeal := hKernelIdeal) (hReferenceIdeal := hReferenceIdeal) (hPre_statistics_and_indices := hPre_statistics_and_indices)
    ∧ preserves_Layer_LayerIdeal
    ∧ algebraic_LayerIdeal_ConvIdeal (hLayerIdeal := hLayerIdeal) (hConvIdeal := hConvIdeal)
    ∧ preserves_Second_SecondIdeal
    ∧ algebraic_SecondIdeal_SecondConvIdeal_pre_statistics (hSecondIdeal := hSecondIdeal) (hSecondConvIdeal := hSecondConvIdeal) (hPre_statistics := hPre_statistics)
    ∧ preserves_Third_ThirdIdeal
    ∧ algebraic_ThirdIdeal_ThirdConvIdeal_pre_statistics_of_third (hThirdIdeal := hThirdIdeal) (hThirdConvIdeal := hThirdConvIdeal) (hPre_statistics_of_third := hPre_statistics_of_third)
-- ==== Pre_statistics.lean ====
abbrev S2x224x224x128 : Shape := ⟨4, ![2, 224, 224, 128]⟩
abbrev S8x128 : Shape := ⟨2, ![8, 128]⟩
abbrev S128 : Shape := ⟨1, ![128]⟩
abbrev S64x128x3x3 : Shape := ⟨4, ![64, 128, 3, 3]⟩
abbrev S64 : Shape := ⟨1, ![64]⟩
abbrev S_ : Shape := ⟨0, ![]⟩
abbrev S1x128 : Shape := ⟨2, ![1, 128]⟩

class Facts : Prop where
  bcast_S_S2x224x224x128 : S_.BroadcastsInDim S2x224x224x128 (![] : Fin 0 → Fin S2x224x224x128.rank)
  slices_S8x128_S1x128_0_0 : S8x128.Slices ![0, 0] S1x128
  shapeCasts_S1x128_S128 : S1x128.ShapeCasts S128
  reducesTo_S2x224x224x128_S128_d0_1_2 : S2x224x224x128.ReducesTo [0, 1, 2] S128
  h_S_ : 0 < S_.numel

variable [Facts]

def fn {F : FTy → Type} [FloatOps F] (main_arg0 : FVec F S2x224x224x128 .f32) (main_arg1 : FVec F S8x128 .f32) (main_arg2 : FVec F S8x128 .f32) (main_arg3 : FVec F S128 .f32) (main_arg4 : FVec F S128 .f32) (main_arg5 : FVec F S64x128x3x3 .f32) (main_arg6 : FVec F S64 .f32) : IVec S2x224x224x128 1 × IVec S128 1 × IVec S128 1 :=
  let main_v0 : FVec F S2x224x224x128 .f32 := Host.absf main_arg0
  let main_cst : FVec F S_ .f32 := constant S_ .f32 0x7F800000#32
  let main_v1 : FVec F S2x224x224x128 .f32 := broadcastInDim S2x224x224x128 ![] bcast_S_S2x224x224x128 main_cst
  let main_v2 : IVec S2x224x224x128 1 := cmpf .olt main_v0 main_v1
  let main_v3 : FVec F S1x128 .f32 := (extractStridedSlice S1x128 ![0, 0] · slices_S8x128_S1x128_0_0) main_arg1
  let main_v4 : FVec F S128 .f32 := shapeCast S128 main_v3 shapeCasts_S1x128_S128
  let main_cst_0 : FVec F S_ .f32 := constant S_ .f32 0x00000000#32
  let main_v5 : FVec F S128 .f32 := (fun x v => Host.reduceAdd x v reducesTo_S2x224x224x128_S128_d0_1_2 h_S_) main_arg0 main_cst_0
  let main_v6 : IVec S128 1 := cmpf .oeq main_v4 main_v5
  let main_v7 : FVec F S1x128 .f32 := (extractStridedSlice S1x128 ![0, 0] · slices_S8x128_S1x128_0_0) main_arg2
  let main_v8 : FVec F S128 .f32 := shapeCast S128 main_v7 shapeCasts_S1x128_S128
  let main_v9 : FVec F S2x224x224x128 .f32 := mulf main_arg0 main_arg0
  let main_cst_1 : FVec F S_ .f32 := constant S_ .f32 0x00000000#32
  let main_v10 : FVec F S128 .f32 := (fun x v => Host.reduceAdd x v reducesTo_S2x224x224x128_S128_d0_1_2 h_S_) main_v9 main_cst_1
  let main_v11 : IVec S128 1 := cmpf .oeq main_v8 main_v10
  (main_v2, main_v6, main_v11)
-- ==== Pre_statistics_and_indices.lean ====
abbrev S2x32x50176 : Shape := ⟨3, ![2, 32, 50176]⟩
abbrev S32x8 : Shape := ⟨2, ![32, 8]⟩
abbrev S2x1x5 : Shape := ⟨3, ![2, 1, 5]⟩
abbrev S2x100x5 : Shape := ⟨3, ![2, 100, 5]⟩
abbrev S_ : Shape := ⟨0, ![]⟩
abbrev S32x1 : Shape := ⟨2, ![32, 1]⟩
abbrev S32 : Shape := ⟨1, ![32]⟩

class Facts : Prop where
  bcast_S_S2x32x50176 : S_.BroadcastsInDim S2x32x50176 (![] : Fin 0 → Fin S2x32x50176.rank)
  bcast_S_S32x8 : S_.BroadcastsInDim S32x8 (![] : Fin 0 → Fin S32x8.rank)
  slices_S32x8_S32x1_0_0 : S32x8.Slices ![0, 0] S32x1
  shapeCasts_S32x1_S32 : S32x1.ShapeCasts S32
  reducesTo_S2x32x50176_S32_d0_2 : S2x32x50176.ReducesTo [0, 2] S32
  h_S_ : 0 < S_.numel
  slices_S32x8_S32x1_0_1 : S32x8.Slices ![0, 1] S32x1
  bcast_S_S2x1x5 : S_.BroadcastsInDim S2x1x5 (![] : Fin 0 → Fin S2x1x5.rank)
  bcast_S_S2x100x5 : S_.BroadcastsInDim S2x100x5 (![] : Fin 0 → Fin S2x100x5.rank)

variable [Facts]

def fn_part1 {F : FTy → Type} [FloatOps F] (main_arg2 : IVec S2x1x5 32) (main_arg3 : IVec S2x100x5 32) (main_v2 : IVec S2x32x50176 1) (main_v5 : IVec S32x8 1) (main_v9 : IVec S32 1) (main_v14 : IVec S32 1) (main_v16 : IVec S2x1x5 1) (main_v17 : IVec S2x1x5 32) : IVec S2x32x50176 1 × IVec S32x8 1 × IVec S32 1 × IVec S32 1 × IVec S2x1x5 1 × IVec S2x100x5 1 :=
  let main_v18 : IVec S2x1x5 1 := cmpi .slt main_arg2 main_v17
  let main_v19 : IVec S2x1x5 1 := andi main_v16 main_v18
  let main_c_4 : IVec S_ 32 := constantI S_ 32 0#32
  let main_v20 : IVec S2x100x5 32 := broadcastInDim S2x100x5 ![] bcast_S_S2x100x5 main_c_4
  let main_v21 : IVec S2x100x5 1 := cmpi .sge main_arg3 main_v20
  let main_c_5 : IVec S_ 32 := constantI S_ 32 50176#32
  let main_v22 : IVec S2x100x5 32 := broadcastInDim S2x100x5 ![] bcast_S_S2x100x5 main_c_5
  let main_v23 : IVec S2x100x5 1 := cmpi .slt main_arg3 main_v22
  let main_v24 : IVec S2x100x5 1 := andi main_v21 main_v23
  (main_v2, main_v5, main_v9, main_v14, main_v19, main_v24)

def fn {F : FTy → Type} [FloatOps F] (main_arg0 : FVec F S2x32x50176 .f32) (main_arg1 : FVec F S32x8 .f32) (main_arg2 : IVec S2x1x5 32) (main_arg3 : IVec S2x100x5 32) : IVec S2x32x50176 1 × IVec S32x8 1 × IVec S32 1 × IVec S32 1 × IVec S2x1x5 1 × IVec S2x100x5 1 :=
  let main_v0 : FVec F S2x32x50176 .f32 := Host.absf main_arg0
  let main_cst : FVec F S_ .f32 := constant S_ .f32 0x7F800000#32
  let main_v1 : FVec F S2x32x50176 .f32 := broadcastInDim S2x32x50176 ![] bcast_S_S2x32x50176 main_cst
  let main_v2 : IVec S2x32x50176 1 := cmpf .olt main_v0 main_v1
  let main_v3 : FVec F S32x8 .f32 := Host.absf main_arg1
  let main_cst_0 : FVec F S_ .f32 := constant S_ .f32 0x7F800000#32
  let main_v4 : FVec F S32x8 .f32 := broadcastInDim S32x8 ![] bcast_S_S32x8 main_cst_0
  let main_v5 : IVec S32x8 1 := cmpf .olt main_v3 main_v4
  let main_v6 : FVec F S32x1 .f32 := (extractStridedSlice S32x1 ![0, 0] · slices_S32x8_S32x1_0_0) main_arg1
  let main_v7 : FVec F S32 .f32 := shapeCast S32 main_v6 shapeCasts_S32x1_S32
  let main_cst_1 : FVec F S_ .f32 := constant S_ .f32 0x00000000#32
  let main_v8 : FVec F S32 .f32 := (fun x v => Host.reduceAdd x v reducesTo_S2x32x50176_S32_d0_2 h_S_) main_arg0 main_cst_1
  let main_v9 : IVec S32 1 := cmpf .oeq main_v7 main_v8
  let main_v10 : FVec F S32x1 .f32 := (extractStridedSlice S32x1 ![0, 1] · slices_S32x8_S32x1_0_1) main_arg1
  let main_v11 : FVec F S32 .f32 := shapeCast S32 main_v10 shapeCasts_S32x1_S32
  let main_v12 : FVec F S2x32x50176 .f32 := mulf main_arg0 main_arg0
  let main_cst_2 : FVec F S_ .f32 := constant S_ .f32 0x00000000#32
  let main_v13 : FVec F S32 .f32 := (fun x v => Host.reduceAdd x v reducesTo_S2x32x50176_S32_d0_2 h_S_) main_v12 main_cst_2
  let main_v14 : IVec S32 1 := cmpf .oeq main_v11 main_v13
  let main_c : IVec S_ 32 := constantI S_ 32 0#32
  let main_v15 : IVec S2x1x5 32 := broadcastInDim S2x1x5 ![] bcast_S_S2x1x5 main_c
  let main_v16 : IVec S2x1x5 1 := cmpi .sge main_arg2 main_v15
  let main_c_3 : IVec S_ 32 := constantI S_ 32 50176#32
  let main_v17 : IVec S2x1x5 32 := broadcastInDim S2x1x5 ![] bcast_S_S2x1x5 main_c_3
  fn_part1 (F := F) main_arg2 main_arg3 main_v2 main_v5 main_v9 main_v14 main_v16 main_v17
-- ==== Pre_statistics_of_third.lean ====
abbrev S2x224x224x64 : Shape := ⟨4, ![2, 224, 224, 64]⟩
abbrev S8x64 : Shape := ⟨2, ![8, 64]⟩
abbrev S64 : Shape := ⟨1, ![64]⟩
abbrev S32x64x3x3 : Shape := ⟨4, ![32, 64, 3, 3]⟩
abbrev S32 : Shape := ⟨1, ![32]⟩
abbrev S_ : Shape := ⟨0, ![]⟩
abbrev S1x64 : Shape := ⟨2, ![1, 64]⟩

class Facts : Prop where
  bcast_S_S2x224x224x64 : S_.BroadcastsInDim S2x224x224x64 (![] : Fin 0 → Fin S2x224x224x64.rank)
  slices_S8x64_S1x64_0_0 : S8x64.Slices ![0, 0] S1x64
  shapeCasts_S1x64_S64 : S1x64.ShapeCasts S64
  reducesTo_S2x224x224x64_S64_d0_1_2 : S2x224x224x64.ReducesTo [0, 1, 2] S64
  h_S_ : 0 < S_.numel

variable [Facts]

def fn {F : FTy → Type} [FloatOps F] (main_arg0 : FVec F S2x224x224x64 .f32) (main_arg1 : FVec F S8x64 .f32) (main_arg2 : FVec F S8x64 .f32) (main_arg3 : FVec F S64 .f32) (main_arg4 : FVec F S64 .f32) (main_arg5 : FVec F S32x64x3x3 .f32) (main_arg6 : FVec F S32 .f32) : IVec S2x224x224x64 1 × IVec S64 1 × IVec S64 1 :=
  let main_v0 : FVec F S2x224x224x64 .f32 := Host.absf main_arg0
  let main_cst : FVec F S_ .f32 := constant S_ .f32 0x7F800000#32
  let main_v1 : FVec F S2x224x224x64 .f32 := broadcastInDim S2x224x224x64 ![] bcast_S_S2x224x224x64 main_cst
  let main_v2 : IVec S2x224x224x64 1 := cmpf .olt main_v0 main_v1
  let main_v3 : FVec F S1x64 .f32 := (extractStridedSlice S1x64 ![0, 0] · slices_S8x64_S1x64_0_0) main_arg1
  let main_v4 : FVec F S64 .f32 := shapeCast S64 main_v3 shapeCasts_S1x64_S64
  let main_cst_0 : FVec F S_ .f32 := constant S_ .f32 0x00000000#32
  let main_v5 : FVec F S64 .f32 := (fun x v => Host.reduceAdd x v reducesTo_S2x224x224x64_S64_d0_1_2 h_S_) main_arg0 main_cst_0
  let main_v6 : IVec S64 1 := cmpf .oeq main_v4 main_v5
  let main_v7 : FVec F S1x64 .f32 := (extractStridedSlice S1x64 ![0, 0] · slices_S8x64_S1x64_0_0) main_arg2
  let main_v8 : FVec F S64 .f32 := shapeCast S64 main_v7 shapeCasts_S1x64_S64
  let main_v9 : FVec F S2x224x224x64 .f32 := mulf main_arg0 main_arg0
  let main_cst_1 : FVec F S_ .f32 := constant S_ .f32 0x00000000#32
  let main_v10 : FVec F S64 .f32 := (fun x v => Host.reduceAdd x v reducesTo_S2x224x224x64_S64_d0_1_2 h_S_) main_v9 main_cst_1
  let main_v11 : IVec S64 1 := cmpf .oeq main_v8 main_v10
  (main_v2, main_v6, main_v11)
-- ==== Kernel.lean ====
abbrev S2x32x50176 : Shape := ⟨3, ![2, 32, 50176]⟩
abbrev S32x8 : Shape := ⟨2, ![32, 8]⟩
abbrev S2x1x5 : Shape := ⟨3, ![2, 1, 5]⟩
abbrev S2x100x5 : Shape := ⟨3, ![2, 100, 5]⟩
abbrev S1x32x50176 : Shape := ⟨3, ![1, 32, 50176]⟩
abbrev S1x1x5 : Shape := ⟨3, ![1, 1, 5]⟩
abbrev S1x100x5 : Shape := ⟨3, ![1, 100, 5]⟩
abbrev S32x50176 : Shape := ⟨2, ![32, 50176]⟩
abbrev S8x50176 : Shape := ⟨2, ![8, 50176]⟩
abbrev S32x1 : Shape := ⟨2, ![32, 1]⟩
abbrev S1x50176 : Shape := ⟨2, ![1, 50176]⟩
abbrev S8x1 : Shape := ⟨2, ![8, 1]⟩
abbrev S1x1x1 : Shape := ⟨3, ![1, 1, 1]⟩
abbrev S32 : Shape := ⟨1, ![32]⟩
abbrev S32x3 : Shape := ⟨2, ![32, 3]⟩
abbrev S1x32x1 : Shape := ⟨3, ![1, 32, 1]⟩
abbrev S1 : Shape := ⟨1, ![1]⟩
abbrev S50176 : Shape := ⟨1, ![50176]⟩
abbrev S8 : Shape := ⟨1, ![8]⟩
abbrev S5x1 : Shape := ⟨2, ![5, 1]⟩
abbrev S5 : Shape := ⟨1, ![5]⟩
abbrev S1x5 : Shape := ⟨2, ![1, 5]⟩
abbrev S1x1 : Shape := ⟨2, ![1, 1]⟩
abbrev S1x8 : Shape := ⟨2, ![1, 8]⟩

abbrev nBuf : Space → Nat
  | .hbm => 5
  | .vmem => 8
  | .smem => 4
  | _ => 0

abbrev bufTy : (tb : Table) → Fin (tcTables nBuf tb) → BufTy
  | .hbm, ⟨0, _⟩ => ⟨S2x32x50176, .f32⟩
  | .hbm, ⟨1, _⟩ => ⟨S32x8, .f32⟩
  | .hbm, ⟨2, _⟩ => ⟨S2x1x5, .i32⟩
  | .hbm, ⟨3, _⟩ => ⟨S2x100x5, .i32⟩
  | .hbm, ⟨4, _⟩ => ⟨S2x32x50176, .f32⟩
  | .local _ .vmem, ⟨0, _⟩ => ⟨S1x32x50176, .f32⟩
  | .local _ .vmem, ⟨1, _⟩ => ⟨S1x32x50176, .f32⟩
  | .local _ .vmem, ⟨2, _⟩ => ⟨S32x8, .f32⟩
  | .local _ .vmem, ⟨3, _⟩ => ⟨S1x32x50176, .f32⟩
  | .local _ .vmem, ⟨4, _⟩ => ⟨S1x32x50176, .f32⟩
  | .local _ .vmem, ⟨5, _⟩ => ⟨S32x50176, .f32⟩
  | .local _ .vmem, ⟨6, _⟩ => ⟨S32x50176, .bf16⟩
  | .local _ .vmem, ⟨7, _⟩ => ⟨S8x50176, .f32⟩
  | .local _ .smem, ⟨0, _⟩ => ⟨S1x1x5, .i32⟩
  | .local _ .smem, ⟨1, _⟩ => ⟨S1x1x5, .i32⟩
  | .local _ .smem, ⟨2, _⟩ => ⟨S1x100x5, .i32⟩
  | .local _ .smem, ⟨3, _⟩ => ⟨S1x100x5, .i32⟩
  | _, _ => ⟨S2x32x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_stg3_1 : Ref sig .tc := ⟨.smem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def k0_off1 (arg9 : BitVec 32) : Fin 3 → Nat :=
  let c0_125 : Index := 0#32
  let v350 : Index := Scalar.indexCast arg9
  let c0_126 : Index := 0#32
  ![0, v350.toNat, 0]
def k0_cond1 (v263 : BitVec 1) : BitVec 1 :=
  let v264 : BitVec 32 := Scalar.extui v263
  let c0_i32_94 : BitVec 32 := 0#32
  let v265 : BitVec 1 := Scalar.cmpi .ne v264 c0_i32_94
  v265

def k0_off2 (arg9 : BitVec 32) : Fin 3 → Nat :=
  let c0_130 : Index := 0#32
  let v361 : Index := Scalar.indexCast arg9
  let c1_131 : Index := 1#32
  ![0, v361.toNat, 1]
def k0_off3 (arg9 : BitVec 32) : Fin 3 → Nat :=
  let c0_135 : Index := 0#32
  let v372 : Index := Scalar.indexCast arg9
  let c2_136 : Index := 2#32
  ![0, v372.toNat, 2]
def k0_off4 (arg9 : BitVec 32) : Fin 3 → Nat :=
  let c0_140 : Index := 0#32
  let v383 : Index := Scalar.indexCast arg9
  let c3_141 : Index := 3#32
  ![0, v383.toNat, 3]
def k0_off5 (arg9 : BitVec 32) : Fin 3 → Nat :=
  let c0_145 : Index := 0#32
  let v394 : Index := Scalar.indexCast arg9
  let c4_146 : Index := 4#32
  ![0, v394.toNat, 4]

def k0_chk1 (arg9 : BitVec 32) (v263 : BitVec 1) : Prop :=
  (∀ (k0_h1 : k0_cond1 v263 = 1#1), ∀ a, (k0_off1 arg9) a + S1x1x1.size a ≤ S1x100x5.size a) ∧
  (∀ (k0_h1 : k0_cond1 v263 = 1#1), ∀ a, (k0_off2 arg9) a + S1x1x1.size a ≤ S1x100x5.size a) ∧
  (∀ (k0_h1 : k0_cond1 v263 = 1#1), ∀ a, (k0_off3 arg9) a + S1x1x1.size a ≤ S1x100x5.size a) ∧
  (∀ (k0_h1 : k0_cond1 v263 = 1#1), ∀ a, (k0_off4 arg9) a + S1x1x1.size a ≤ S1x100x5.size a) ∧
  (∀ (k0_h1 : k0_cond1 v263 = 1#1), ∀ a, (k0_off5 arg9) a + S1x1x1.size a ≤ S1x100x5.size a)
theorem k0_off1_inb : ∀ (arg9 : BitVec 32) (v263 : BitVec 1) (k0_hw1 : k0_chk1 arg9 v263), ∀ (k0_h1 : k0_cond1 v263 = 1#1), ∀ a, (k0_off1 arg9) a + S1x1x1.size a ≤ S1x100x5.size a := fun arg9 v263 k0_hw1 k0_h1 => k0_hw1.1 k0_h1
theorem k0_off2_inb : ∀ (arg9 : BitVec 32) (v263 : BitVec 1) (k0_hw1 : k0_chk1 arg9 v263), ∀ (k0_h1 : k0_cond1 v263 = 1#1), ∀ a, (k0_off2 arg9) a + S1x1x1.size a ≤ S1x100x5.size a := fun arg9 v263 k0_hw1 k0_h1 => k0_hw1.2.1 k0_h1
theorem k0_off3_inb : ∀ (arg9 : BitVec 32) (v263 : BitVec 1) (k0_hw1 : k0_chk1 arg9 v263), ∀ (k0_h1 : k0_cond1 v263 = 1#1), ∀ a, (k0_off3 arg9) a + S1x1x1.size a ≤ S1x100x5.size a := fun arg9 v263 k0_hw1 k0_h1 => k0_hw1.2.2.1 k0_h1
theorem k0_off4_inb : ∀ (arg9 : BitVec 32) (v263 : BitVec 1) (k0_hw1 : k0_chk1 arg9 v263), ∀ (k0_h1 : k0_cond1 v263 = 1#1), ∀ a, (k0_off4 arg9) a + S1x1x1.size a ≤ S1x100x5.size a := fun arg9 v263 k0_hw1 k0_h1 => k0_hw1.2.2.2.1 k0_h1
theorem k0_off5_inb : ∀ (arg9 : BitVec 32) (v263 : BitVec 1) (k0_hw1 : k0_chk1 arg9 v263), ∀ (k0_h1 : k0_cond1 v263 = 1#1), ∀ a, (k0_off5 arg9) a + S1x1x1.size a ≤ S1x100x5.size a := fun arg9 v263 k0_hw1 k0_h1 => k0_hw1.2.2.2.2 k0_h1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x50176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .smem S1x1x5 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x100x5 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x50176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "no_cluster" => some ⊤
  | _ => none
-- ==== ReferenceIdeal.lean ====
abbrev S2x32x50176 : Shape := ⟨3, ![2, 32, 50176]⟩
abbrev S32x8 : Shape := ⟨2, ![32, 8]⟩
abbrev S2x1x5 : Shape := ⟨3, ![2, 1, 5]⟩
abbrev S2x100x5 : Shape := ⟨3, ![2, 100, 5]⟩
abbrev S32x1 : Shape := ⟨2, ![32, 1]⟩
abbrev S32 : Shape := ⟨1, ![32]⟩
abbrev S_ : Shape := ⟨0, ![]⟩
abbrev S1x32x1 : Shape := ⟨3, ![1, 32, 1]⟩
abbrev S2x50176x32 : Shape := ⟨3, ![2, 50176, 32]⟩
abbrev S2x5 : Shape := ⟨2, ![2, 5]⟩
abbrev S2x50176 : Shape := ⟨2, ![2, 50176]⟩
abbrev S2x50176x1 : Shape := ⟨3, ![2, 50176, 1]⟩
abbrev S2 : Shape := ⟨1, ![2]⟩
abbrev S2x1 : Shape := ⟨2, ![2, 1]⟩
abbrev S2x5x1 : Shape := ⟨3, ![2, 5, 1]⟩
abbrev S2x5x2 : Shape := ⟨3, ![2, 5, 2]⟩
abbrev S2x5x32 : Shape := ⟨3, ![2, 5, 32]⟩
abbrev S2x50176x5 : Shape := ⟨3, ![2, 50176, 5]⟩
abbrev S2x1x50176 : Shape := ⟨3, ![2, 1, 50176]⟩
abbrev S5 : Shape := ⟨1, ![5]⟩
abbrev S1x5x1 : Shape := ⟨3, ![1, 5, 1]⟩
abbrev S2x5x50176 : Shape := ⟨3, ![2, 5, 50176]⟩
abbrev S2x5x50176x1 : Shape := ⟨4, ![2, 5, 50176, 1]⟩
abbrev S2x1x50176x32 : Shape := ⟨4, ![2, 1, 50176, 32]⟩
abbrev S2x5x50176x32 : Shape := ⟨4, ![2, 5, 50176, 32]⟩
abbrev S2x1x1 : Shape := ⟨3, ![2, 1, 1]⟩
abbrev S2x50176x2 : Shape := ⟨3, ![2, 50176, 2]⟩

abbrev nBuf : Space → Nat
  | .hbm => 341
  | .vmem => 0
  | .smem => 0
  | _ => 0

abbrev hbmTy0_0 (i : Nat) : BufTy := match i % 128 with
  | 0 => ⟨S2x32x50176, .f32⟩
  | 1 => ⟨S32x8, .f32⟩
  | 2 => ⟨S2x1x5, .i32⟩
  | 3 => ⟨S2x100x5, .i32⟩
  | 4 => ⟨S32x1, .f32⟩
  | 5 => ⟨S32, .f32⟩
  | 6 => ⟨S32x1, .f32⟩
  | 7 => ⟨S32, .f32⟩
  | 8 => ⟨S_, .f32⟩
  | 9 => ⟨S32, .f32⟩
  | 10 => ⟨S1x32x1, .f32⟩
  | 11 => ⟨S_, .f32⟩
  | 12 => ⟨S1x32x1, .f32⟩
  | 13 => ⟨S1x32x1, .f32⟩
  | 14 => ⟨S2x32x50176, .f32⟩
  | 15 => ⟨S2x32x50176, .f32⟩
  | 16 => ⟨S2x32x50176, .f32⟩
  | 17 => ⟨S_, .f32⟩
  | 18 => ⟨S32, .f32⟩
  | 19 => ⟨S1x32x1, .f32⟩
  | 20 => ⟨S_, .f32⟩
  | 21 => ⟨S1x32x1, .f32⟩
  | 22 => ⟨S1x32x1, .f32⟩
  | 23 => ⟨S2x32x50176, .f32⟩
  | 24 => ⟨S2x32x50176, .f32⟩
  | 25 => ⟨S_, .f32⟩
  | 26 => ⟨S1x32x1, .f32⟩
  | 27 => ⟨S1x32x1, .f32⟩
  | 28 => ⟨S1x32x1, .f32⟩
  | 29 => ⟨S2x32x50176, .f32⟩
  | 30 => ⟨S2x32x50176, .f32⟩
  | 31 => ⟨S1x32x1, .f32⟩
  | 32 => ⟨S2x32x50176, .f32⟩
  | 33 => ⟨S2x32x50176, .f32⟩
  | 34 => ⟨S1x32x1, .f32⟩
  | 35 => ⟨S2x32x50176, .f32⟩
  | 36 => ⟨S2x32x50176, .f32⟩
  | 37 => ⟨S2x50176x32, .f32⟩
  | 38 => ⟨S2x5, .i32⟩
  | 39 => ⟨S2x50176x32, .f32⟩
  | 40 => ⟨S_, .f32⟩
  | 41 => ⟨S2x50176, .f32⟩
  | 42 => ⟨S2x50176x1, .f32⟩
  | 43 => ⟨S_, .i32⟩
  | 44 => ⟨S2x50176, .i32⟩
  | 45 => ⟨S2, .i32⟩
  | 46 => ⟨S2x1, .i32⟩
  | 47 => ⟨S_, .i32⟩
  | 48 => ⟨S2x1, .i32⟩
  | 49 => ⟨S2x1, .i1⟩
  | 50 => ⟨S_, .i32⟩
  | 51 => ⟨S2x1, .i32⟩
  | 52 => ⟨S2x1, .i32⟩
  | 53 => ⟨S2x1, .i32⟩
  | 54 => ⟨S_, .i32⟩
  | 55 => ⟨S2x5, .i32⟩
  | 56 => ⟨S2x5, .i1⟩
  | 57 => ⟨S_, .i32⟩
  | 58 => ⟨S2x5, .i32⟩
  | 59 => ⟨S2x5, .i32⟩
  | 60 => ⟨S2x5, .i32⟩
  | 61 => ⟨S2x5, .i32⟩
  | 62 => ⟨S2x5x1, .i32⟩
  | 63 => ⟨S2x5x1, .i32⟩
  | 64 => ⟨S2x5x2, .i32⟩
  | 65 => ⟨S2x5x32, .f32⟩
  | 66 => ⟨S_, .i1⟩
  | 67 => ⟨S2, .i1⟩
  | 68 => ⟨S_, .i32⟩
  | 69 => ⟨S_, .i32⟩
  | 70 => ⟨S2x50176x1, .f32⟩
  | 71 => ⟨S2x50176x32, .f32⟩
  | 72 => ⟨S2x100x5, .i32⟩
  | 73 => ⟨S_, .i32⟩
  | 74 => ⟨S_, .i32⟩
  | 75 => ⟨S2x50176, .i32⟩
  | 76 => ⟨S2x5x32, .f32⟩
  | 77 => ⟨S2, .i1⟩
  | 78 => ⟨S_, .i32⟩
  | 79 => ⟨S_, .i1⟩
  | 80 => ⟨S_, .i32⟩
  | 81 => ⟨S_, .i32⟩
  | 82 => ⟨S2x5x32, .f32⟩
  | 83 => ⟨S_, .f32⟩
  | 84 => ⟨S2x5, .f32⟩
  | 85 => ⟨S2x1x5, .f32⟩
  | 86 => ⟨S2x50176x5, .f32⟩
  | 87 => ⟨S2x50176x5, .f32⟩
  | 88 => ⟨S2x50176x5, .f32⟩
  | 89 => ⟨S2x50176x5, .f32⟩
  | 90 => ⟨S_, .f32⟩
  | 91 => ⟨S2x50176x5, .f32⟩
  | 92 => ⟨S2x50176x5, .f32⟩
  | 93 => ⟨S2x50176x5, .f32⟩
  | 94 => ⟨S_, .f32⟩
  | 95 => ⟨S2x50176x5, .f32⟩
  | 96 => ⟨S2x50176x5, .f32⟩
  | 97 => ⟨S2x50176x5, .f32⟩
  | 98 => ⟨S2x50176x1, .f32⟩
  | 99 => ⟨S2x50176, .f32⟩
  | 100 => ⟨S_, .i32⟩
  | 101 => ⟨S2x50176, .i32⟩
  | 102 => ⟨S2x50176x1, .f32⟩
  | 103 => ⟨S2x50176, .f32⟩
  | 104 => ⟨S2x50176, .i1⟩
  | 105 => ⟨S2x50176x1, .f32⟩
  | 106 => ⟨S2x50176, .f32⟩
  | 107 => ⟨S2x50176, .f32⟩
  | 108 => ⟨S_, .i32⟩
  | 109 => ⟨S_, .i32⟩
  | 110 => ⟨S2x50176, .i32⟩
  | 111 => ⟨S2x50176, .i32⟩
  | 112 => ⟨S2x50176x1, .f32⟩
  | 113 => ⟨S2x50176, .f32⟩
  | 114 => ⟨S2x50176, .i1⟩
  | 115 => ⟨S2x50176x1, .f32⟩
  | 116 => ⟨S2x50176, .f32⟩
  | 117 => ⟨S2x50176, .f32⟩
  | 118 => ⟨S_, .i32⟩
  | 119 => ⟨S_, .i32⟩
  | 120 => ⟨S2x50176, .i32⟩
  | 121 => ⟨S2x50176, .i32⟩
  | 122 => ⟨S2x50176x1, .f32⟩
  | 123 => ⟨S2x50176, .f32⟩
  | 124 => ⟨S2x50176, .i1⟩
  | 125 => ⟨S2x50176x1, .f32⟩
  | 126 => ⟨S2x50176, .f32⟩
  | 127 => ⟨S2x50176, .f32⟩
  | _ => ⟨S2x32x50176, .f32⟩

abbrev hbmTy0_1 (i : Nat) : BufTy := match i % 128 with
  | 0 => ⟨S_, .i32⟩
  | 1 => ⟨S_, .i32⟩
  | 2 => ⟨S2x50176, .i32⟩
  | 3 => ⟨S2x50176, .i32⟩
  | 4 => ⟨S2x50176x1, .f32⟩
  | 5 => ⟨S2x50176, .f32⟩
  | 6 => ⟨S2x50176, .i1⟩
  | 7 => ⟨S2x50176x1, .f32⟩
  | 8 => ⟨S2x50176, .f32⟩
  | 9 => ⟨S2x50176, .f32⟩
  | 10 => ⟨S_, .i32⟩
  | 11 => ⟨S_, .i32⟩
  | 12 => ⟨S2x50176, .i32⟩
  | 13 => ⟨S2x50176, .i32⟩
  | 14 => ⟨S2x1x50176, .i32⟩
  | 15 => ⟨S5, .i32⟩
  | 16 => ⟨S1x5x1, .i32⟩
  | 17 => ⟨S2x5x50176, .i32⟩
  | 18 => ⟨S2x5x50176, .i32⟩
  | 19 => ⟨S2x5x50176, .i1⟩
  | 20 => ⟨S2x5x50176x1, .i1⟩
  | 21 => ⟨S2x1x50176x32, .f32⟩
  | 22 => ⟨S_, .f32⟩
  | 23 => ⟨S_, .f32⟩
  | 24 => ⟨S2x5x50176x32, .i1⟩
  | 25 => ⟨S2x5x50176x32, .f32⟩
  | 26 => ⟨S2x5x50176x32, .f32⟩
  | 27 => ⟨S2x5x50176x32, .f32⟩
  | 28 => ⟨S_, .f32⟩
  | 29 => ⟨S2x5x32, .f32⟩
  | 30 => ⟨S2x1x50176, .i32⟩
  | 31 => ⟨S5, .i32⟩
  | 32 => ⟨S1x5x1, .i32⟩
  | 33 => ⟨S2x5x50176, .i32⟩
  | 34 => ⟨S2x5x50176, .i32⟩
  | 35 => ⟨S2x5x50176, .i1⟩
  | 36 => ⟨S_, .f32⟩
  | 37 => ⟨S_, .f32⟩
  | 38 => ⟨S2x5x50176, .f32⟩
  | 39 => ⟨S2x5x50176, .f32⟩
  | 40 => ⟨S2x5x50176, .f32⟩
  | 41 => ⟨S2x5x50176, .f32⟩
  | 42 => ⟨S_, .f32⟩
  | 43 => ⟨S2x5, .f32⟩
  | 44 => ⟨S_, .f32⟩
  | 45 => ⟨S2x5, .f32⟩
  | 46 => ⟨S2x5, .f32⟩
  | 47 => ⟨S2x5x1, .f32⟩
  | 48 => ⟨S2x5x32, .f32⟩
  | 49 => ⟨S2x5x32, .f32⟩
  | 50 => ⟨S_, .f32⟩
  | 51 => ⟨S2x5, .f32⟩
  | 52 => ⟨S2x5, .i1⟩
  | 53 => ⟨S2x5x1, .i1⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S2x1x5, .i32⟩
  | 77 => ⟨S2x5, .i32⟩
  | 78 => ⟨S2, .i32⟩
  | 79 => ⟨S2x1, .i32⟩
  | 80 => ⟨S_, .i32⟩
  | 81 => ⟨S2x1, .i32⟩
  | 82 => ⟨S2x1, .i1⟩
  | 83 => ⟨S_, .i32⟩
  | 84 => ⟨S2x1, .i32⟩
  | 85 => ⟨S2x1, .i32⟩
  | 86 => ⟨S2x1, .i32⟩
  | 87 => ⟨S_, .i32⟩
  | 88 => ⟨S2x5, .i32⟩
  | 89 => ⟨S2x5, .i1⟩
  | 90 => ⟨S_, .i32⟩
  | 91 => ⟨S2x5, .i32⟩
  | 92 => ⟨S2x5, .i32⟩
  | 93 => ⟨S2x5, .i32⟩
  | 94 => ⟨S2x5, .i32⟩
  | 95 => ⟨S2x5x1, .i32⟩
  | 96 => ⟨S2x5x1, .i32⟩
  | 97 => ⟨S2x5x2, .i32⟩
  | 98 => ⟨S2x5x32, .f32⟩
  | 99 => ⟨S2x5x32, .i1⟩
  | 100 => ⟨S2x5x32, .f32⟩
  | 101 => ⟨S2x5x32, .f32⟩
  | 102 => ⟨S2x5x32, .f32⟩
  | 103 => ⟨S_, .f32⟩
  | 104 => ⟨S2x5, .f32⟩
  | 105 => ⟨S2x5, .f32⟩
  | 106 => ⟨S_, .f32⟩
  | 107 => ⟨S2, .f32⟩
  | 108 => ⟨S_, .f32⟩
  | 109 => ⟨S2, .f32⟩
  | 110 => ⟨S2, .i1⟩
  | 111 => ⟨S2x1, .i1⟩
  | 112 => ⟨S2x50176, .i1⟩
  | 113 => ⟨S2x50176, .i32⟩
  | 114 => ⟨S2, .i1⟩
  | 115 => ⟨S2x1x1, .i1⟩
  | 116 => ⟨S2x5x32, .i1⟩
  | 117 => ⟨S2x5x32, .f32⟩
  | 118 => ⟨S2, .i1⟩
  | 119 => ⟨S_, .i32⟩
  | 120 => ⟨S_, .i32⟩
  | 121 => ⟨S32x1, .f32⟩
  | 122 => ⟨S32, .f32⟩
  | 123 => ⟨S32x1, .f32⟩
  | 124 => ⟨S32, .f32⟩
  | 125 => ⟨S_, .f32⟩
  | 126 => ⟨S32, .f32⟩
  | 127 => ⟨S1x32x1, .f32⟩
  | _ => ⟨S2x32x50176, .f32⟩

abbrev hbmTy0_2 (i : Nat) : BufTy := match i % 128 with
  | 0 => ⟨S_, .f32⟩
  | 1 => ⟨S1x32x1, .f32⟩
  | 2 => ⟨S1x32x1, .f32⟩
  | 3 => ⟨S2x32x50176, .f32⟩
  | 4 => ⟨S2x32x50176, .f32⟩
  | 5 => ⟨S2x32x50176, .f32⟩
  | 6 => ⟨S_, .f32⟩
  | 7 => ⟨S32, .f32⟩
  | 8 => ⟨S1x32x1, .f32⟩
  | 9 => ⟨S_, .f32⟩
  | 10 => ⟨S1x32x1, .f32⟩
  | 11 => ⟨S1x32x1, .f32⟩
  | 12 => ⟨S2x32x50176, .f32⟩
  | 13 => ⟨S2x32x50176, .f32⟩
  | 14 => ⟨S_, .f32⟩
  | 15 => ⟨S1x32x1, .f32⟩
  | 16 => ⟨S1x32x1, .f32⟩
  | 17 => ⟨S1x32x1, .f32⟩
  | 18 => ⟨S2x32x50176, .f32⟩
  | 19 => ⟨S2x32x50176, .f32⟩
  | 20 => ⟨S1x32x1, .f32⟩
  | 21 => ⟨S2x32x50176, .f32⟩
  | 22 => ⟨S2x32x50176, .f32⟩
  | 23 => ⟨S1x32x1, .f32⟩
  | 24 => ⟨S2x32x50176, .f32⟩
  | 25 => ⟨S2x32x50176, .f32⟩
  | 26 => ⟨S2x50176x32, .f32⟩
  | 27 => ⟨S2x1x50176, .i32⟩
  | 28 => ⟨S5, .i32⟩
  | 29 => ⟨S1x5x1, .i32⟩
  | 30 => ⟨S2x5x50176, .i32⟩
  | 31 => ⟨S2x5x50176, .i32⟩
  | 32 => ⟨S2x5x50176, .i1⟩
  | 33 => ⟨S2x5x50176x1, .i1⟩
  | 34 => ⟨S2x1x50176x32, .f32⟩
  | 35 => ⟨S_, .f32⟩
  | 36 => ⟨S_, .f32⟩
  | 37 => ⟨S2x5x50176x32, .i1⟩
  | 38 => ⟨S2x5x50176x32, .f32⟩
  | 39 => ⟨S2x5x50176x32, .f32⟩
  | 40 => ⟨S2x5x50176x32, .f32⟩
  | 41 => ⟨S_, .f32⟩
  | 42 => ⟨S2x5x32, .f32⟩
  | 43 => ⟨S2x1x50176, .i32⟩
  | 44 => ⟨S5, .i32⟩
  | 45 => ⟨S1x5x1, .i32⟩
  | 46 => ⟨S2x5x50176, .i32⟩
  | 47 => ⟨S2x5x50176, .i32⟩
  | 48 => ⟨S2x5x50176, .i1⟩
  | 49 => ⟨S_, .f32⟩
  | 50 => ⟨S_, .f32⟩
  | 51 => ⟨S2x5x50176, .f32⟩
  | 52 => ⟨S2x5x50176, .f32⟩
  | 53 => ⟨S2x5x50176, .f32⟩
  | 54 => ⟨S2x5x50176, .f32⟩
  | 55 => ⟨S_, .f32⟩
  | 56 => ⟨S2x5, .f32⟩
  | 57 => ⟨S_, .f32⟩
  | 58 => ⟨S2x5, .f32⟩
  | 59 => ⟨S2x5, .f32⟩
  | 60 => ⟨S2x5x1, .f32⟩
  | 61 => ⟨S2x5x32, .f32⟩
  | 62 => ⟨S2x5x32, .f32⟩
  | 63 => ⟨S2, .i32⟩
  | 64 => ⟨S2x1, .i32⟩
  | 65 => ⟨S_, .i32⟩
  | 66 => ⟨S2x1, .i32⟩
  | 67 => ⟨S2x1, .i1⟩
  | 68 => ⟨S_, .i32⟩
  | 69 => ⟨S2x1, .i32⟩
  | 70 => ⟨S2x1, .i32⟩
  | 71 => ⟨S2x1, .i32⟩
  | 72 => ⟨S_, .i32⟩
  | 73 => ⟨S2x50176, .i32⟩
  | 74 => ⟨S2x50176, .i1⟩
  | 75 => ⟨S_, .i32⟩
  | 76 => ⟨S2x50176, .i32⟩
  | 77 => ⟨S2x50176, .i32⟩
  | 78 => ⟨S2x50176, .i32⟩
  | 79 => ⟨S2x50176, .i32⟩
  | 80 => ⟨S2x50176x1, .i32⟩
  | 81 => ⟨S2x50176x1, .i32⟩
  | 82 => ⟨S2x50176x2, .i32⟩
  | 83 => ⟨S2x50176x32, .f32⟩
  | 84 => ⟨S2x32x50176, .f32⟩
  | _ => ⟨S2x32x50176, .f32⟩

abbrev hbmTy (i : Nat) : BufTy := match i / 128 with
  | 0 => hbmTy0_0 i
  | 1 => hbmTy0_1 i
  | 2 => hbmTy0_2 i
  | _ => ⟨S2x32x50176, .f32⟩

abbrev bufTy : (tb : Table) → Fin (tcTables nBuf tb) → BufTy
  | .hbm, ⟨i, _⟩ => hbmTy i
  | _, _ => ⟨S2x32x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_9 : Ref sig .tc := ⟨.hbm, 66, rfl⟩
abbrev main_v51 : Ref sig .tc := ⟨.hbm, 67, rfl⟩
abbrev main_c_10 : Ref sig .tc := ⟨.hbm, 68, rfl⟩
abbrev main_c_11 : Ref sig .tc := ⟨.hbm, 69, rfl⟩
abbrev main_v52_0 : Ref sig .tc := ⟨.hbm, 70, rfl⟩
abbrev main_v52_1 : Ref sig .tc := ⟨.hbm, 71, rfl⟩
abbrev main_v52_2 : Ref sig .tc := ⟨.hbm, 72, rfl⟩
abbrev main_v52_3 : Ref sig .tc := ⟨.hbm, 73, rfl⟩
abbrev main_v52_4 : Ref sig .tc := ⟨.hbm, 74, rfl⟩
abbrev main_v52_5 : Ref sig .tc := ⟨.hbm, 75, rfl⟩
abbrev main_v52_6 : Ref sig .tc := ⟨.hbm, 76, rfl⟩
abbrev main_v52_7 : Ref sig .tc := ⟨.hbm, 77, rfl⟩
abbrev main_while0c_c_34 : Ref sig .tc := ⟨.hbm, 78, rfl⟩
abbrev main_while0c_v124 : Ref sig .tc := ⟨.hbm, 79, rfl⟩
abbrev main_while0b_c_34 : Ref sig .tc := ⟨.hbm, 80, rfl⟩
abbrev main_while0b_v124 : Ref sig .tc := ⟨.hbm, 81, rfl⟩
abbrev main_while0b_v125 : Ref sig .tc := ⟨.hbm, 82, rfl⟩
abbrev main_while0b_cst_35 : Ref sig .tc := ⟨.hbm, 83, rfl⟩
abbrev main_while0b_v126 : Ref sig .tc := ⟨.hbm, 84, rfl⟩
abbrev main_while0b_v127 : Ref sig .tc := ⟨.hbm, 85, rfl⟩
abbrev main_while0b_v128 : Ref sig .tc := ⟨.hbm, 86, rfl⟩
abbrev main_while0b_v129 : Ref sig .tc := ⟨.hbm, 87, rfl⟩
abbrev main_while0b_v130 : Ref sig .tc := ⟨.hbm, 88, rfl⟩
abbrev main_while0b_v131 : Ref sig .tc := ⟨.hbm, 89, rfl⟩
abbrev main_while0b_cst_36 : Ref sig .tc := ⟨.hbm, 90, rfl⟩
abbrev main_while0b_v132 : Ref sig .tc := ⟨.hbm, 91, rfl⟩
abbrev main_while0b_v133 : Ref sig .tc := ⟨.hbm, 92, rfl⟩
abbrev main_while0b_v134 : Ref sig .tc := ⟨.hbm, 93, rfl⟩
abbrev main_while0b_cst_37 : Ref sig .tc := ⟨.hbm, 94, rfl⟩
abbrev main_while0b_v135 : Ref sig .tc := ⟨.hbm, 95, rfl⟩
abbrev main_while0b_v136 : Ref sig .tc := ⟨.hbm, 96, rfl⟩
abbrev main_while0b_v137 : Ref sig .tc := ⟨.hbm, 97, rfl⟩
abbrev main_while0b_v138 : Ref sig .tc := ⟨.hbm, 98, rfl⟩
abbrev main_while0b_v139 : Ref sig .tc := ⟨.hbm, 99, rfl⟩
abbrev main_while0b_c_38 : Ref sig .tc := ⟨.hbm, 100, rfl⟩
abbrev main_while0b_v140 : Ref sig .tc := ⟨.hbm, 101, rfl⟩
abbrev main_while0b_v141 : Ref sig .tc := ⟨.hbm, 102, rfl⟩
abbrev main_while0b_v142 : Ref sig .tc := ⟨.hbm, 103, rfl⟩
abbrev main_while0b_v143 : Ref sig .tc := ⟨.hbm, 104, rfl⟩
abbrev main_while0b_v144 : Ref sig .tc := ⟨.hbm, 105, rfl⟩
abbrev main_while0b_v145 : Ref sig .tc := ⟨.hbm, 106, rfl⟩
abbrev main_while0b_v146 : Ref sig .tc := ⟨.hbm, 107, rfl⟩
abbrev main_while0b_c_39 : Ref sig .tc := ⟨.hbm, 108, rfl⟩
abbrev main_while0b_call1_v0 : Ref sig .tc := ⟨.hbm, 109, rfl⟩
abbrev main_while0b_call1_v1 : Ref sig .tc := ⟨.hbm, 110, rfl⟩
abbrev main_while0b_v147 : Ref sig .tc := ⟨.hbm, 111, rfl⟩
abbrev main_while0b_v148 : Ref sig .tc := ⟨.hbm, 112, rfl⟩
abbrev main_while0b_v149 : Ref sig .tc := ⟨.hbm, 113, rfl⟩
abbrev main_while0b_v150 : Ref sig .tc := ⟨.hbm, 114, rfl⟩
abbrev main_while0b_v151 : Ref sig .tc := ⟨.hbm, 115, rfl⟩
abbrev main_while0b_v152 : Ref sig .tc := ⟨.hbm, 116, rfl⟩
abbrev main_while0b_v153 : Ref sig .tc := ⟨.hbm, 117, rfl⟩
abbrev main_while0b_c_40 : Ref sig .tc := ⟨.hbm, 118, rfl⟩
abbrev main_while0b_call3_v0 : Ref sig .tc := ⟨.hbm, 119, rfl⟩
abbrev main_while0b_call3_v1 : Ref sig .tc := ⟨.hbm, 120, rfl⟩
abbrev main_while0b_v154 : Ref sig .tc := ⟨.hbm, 121, rfl⟩
abbrev main_while0b_v155 : Ref sig .tc := ⟨.hbm, 122, rfl⟩
abbrev main_while0b_v156 : Ref sig .tc := ⟨.hbm, 123, rfl⟩
abbrev main_while0b_v157 : Ref sig .tc := ⟨.hbm, 124, rfl⟩
abbrev main_while0b_v158 : Ref sig .tc := ⟨.hbm, 125, rfl⟩
abbrev main_while0b_v159 : Ref sig .tc := ⟨.hbm, 126, rfl⟩
abbrev main_while0b_v160 : Ref sig .tc := ⟨.hbm, 127, rfl⟩
abbrev main_while0b_c_41 : Ref sig .tc := ⟨.hbm, 128, rfl⟩
abbrev main_while0b_call5_v0 : Ref sig .tc := ⟨.hbm, 129, rfl⟩
abbrev main_while0b_call5_v1 : Ref sig .tc := ⟨.hbm, 130, rfl⟩
abbrev main_while0b_v161 : Ref sig .tc := ⟨.hbm, 131, rfl⟩
abbrev main_while0b_v162 : Ref sig .tc := ⟨.hbm, 132, rfl⟩
abbrev main_while0b_v163 : Ref sig .tc := ⟨.hbm, 133, rfl⟩
abbrev main_while0b_v164 : Ref sig .tc := ⟨.hbm, 134, rfl⟩
abbrev main_while0b_v165 : Ref sig .tc := ⟨.hbm, 135, rfl⟩
abbrev main_while0b_v166 : Ref sig .tc := ⟨.hbm, 136, rfl⟩
abbrev main_while0b_v167 : Ref sig .tc := ⟨.hbm, 137, rfl⟩
abbrev main_while0b_c_42 : Ref sig .tc := ⟨.hbm, 138, rfl⟩
abbrev main_while0b_call7_v0 : Ref sig .tc := ⟨.hbm, 139, rfl⟩
abbrev main_while0b_call7_v1 : Ref sig .tc := ⟨.hbm, 140, rfl⟩
abbrev main_while0b_v168 : Ref sig .tc := ⟨.hbm, 141, rfl⟩
abbrev main_while0b_v169 : Ref sig .tc := ⟨.hbm, 142, rfl⟩
abbrev main_while0b_v170 : Ref sig .tc := ⟨.hbm, 143, rfl⟩
abbrev main_while0b_v171 : Ref sig .tc := ⟨.hbm, 144, rfl⟩
abbrev main_while0b_v172 : Ref sig .tc := ⟨.hbm, 145, rfl⟩
abbrev main_while0b_v173 : Ref sig .tc := ⟨.hbm, 146, rfl⟩
abbrev main_while0b_v174 : Ref sig .tc := ⟨.hbm, 147, rfl⟩
abbrev main_while0b_v175 : Ref sig .tc := ⟨.hbm, 148, rfl⟩
abbrev main_while0b_v176 : Ref sig .tc := ⟨.hbm, 149, rfl⟩
abbrev main_while0b_cst_43 : Ref sig .tc := ⟨.hbm, 150, rfl⟩
abbrev main_while0b_call8_v0 : Ref sig .tc := ⟨.hbm, 151, rfl⟩
abbrev main_while0b_call8_v1 : Ref sig .tc := ⟨.hbm, 152, rfl⟩
abbrev main_while0b_call8_v2 : Ref sig .tc := ⟨.hbm, 153, rfl⟩
abbrev main_while0b_call8_v3 : Ref sig .tc := ⟨.hbm, 154, rfl⟩
abbrev main_while0b_v177 : Ref sig .tc := ⟨.hbm, 155, rfl⟩
abbrev main_while0b_cst_44 : Ref sig .tc := ⟨.hbm, 156, rfl⟩
abbrev main_while0b_v178 : Ref sig .tc := ⟨.hbm, 157, rfl⟩
abbrev main_while0b_v179 : Ref sig .tc := ⟨.hbm, 158, rfl⟩
abbrev main_while0b_v180 : Ref sig .tc := ⟨.hbm, 159, rfl⟩
abbrev main_while0b_v181 : Ref sig .tc := ⟨.hbm, 160, rfl⟩
abbrev main_while0b_v182 : Ref sig .tc := ⟨.hbm, 161, rfl⟩
abbrev main_while0b_v183 : Ref sig .tc := ⟨.hbm, 162, rfl⟩
abbrev main_while0b_v184 : Ref sig .tc := ⟨.hbm, 163, rfl⟩
abbrev main_while0b_cst_45 : Ref sig .tc := ⟨.hbm, 164, rfl⟩
abbrev main_while0b_cst_46 : Ref sig .tc := ⟨.hbm, 165, rfl⟩
abbrev main_while0b_call9_v0 : Ref sig .tc := ⟨.hbm, 166, rfl⟩
abbrev main_while0b_call9_v1 : Ref sig .tc := ⟨.hbm, 167, rfl⟩
abbrev main_while0b_v185 : Ref sig .tc := ⟨.hbm, 168, rfl⟩
abbrev main_while0b_v186 : Ref sig .tc := ⟨.hbm, 169, rfl⟩
abbrev main_while0b_cst_47 : Ref sig .tc := ⟨.hbm, 170, rfl⟩
abbrev main_while0b_v187 : Ref sig .tc := ⟨.hbm, 171, rfl⟩
abbrev main_while0b_cst_48 : Ref sig .tc := ⟨.hbm, 172, rfl⟩
abbrev main_while0b_v188 : Ref sig .tc := ⟨.hbm, 173, rfl⟩
abbrev main_while0b_v189 : Ref sig .tc := ⟨.hbm, 174, rfl⟩
abbrev main_while0b_v190 : Ref sig .tc := ⟨.hbm, 175, rfl⟩
abbrev main_while0b_v191 : Ref sig .tc := ⟨.hbm, 176, rfl⟩
abbrev main_while0b_v192 : Ref sig .tc := ⟨.hbm, 177, rfl⟩
abbrev main_while0b_cst_49 : Ref sig .tc := ⟨.hbm, 178, rfl⟩
abbrev main_while0b_v193 : Ref sig .tc := ⟨.hbm, 179, rfl⟩
abbrev main_while0b_v194 : Ref sig .tc := ⟨.hbm, 180, rfl⟩
abbrev main_while0b_v195 : Ref sig .tc := ⟨.hbm, 181, rfl⟩
abbrev main_while0b_v196 : Ref sig .tc := ⟨.hbm, 182, rfl⟩
abbrev main_while0b_c_50 : Ref sig .tc := ⟨.hbm, 183, rfl⟩
abbrev main_while0b_c_51 : Ref sig .tc := ⟨.hbm, 184, rfl⟩
abbrev main_while0b_v197 : Ref sig .tc := ⟨.hbm, 185, rfl⟩
abbrev main_while0b_c_52 : Ref sig .tc := ⟨.hbm, 186, rfl⟩
abbrev main_while0b_c_53 : Ref sig .tc := ⟨.hbm, 187, rfl⟩
abbrev main_while0b_v198 : Ref sig .tc := ⟨.hbm, 188, rfl⟩
abbrev main_while0b_c_54 : Ref sig .tc := ⟨.hbm, 189, rfl⟩
abbrev main_while0b_v199 : Ref sig .tc := ⟨.hbm, 190, rfl⟩
abbrev main_while0b_c_55 : Ref sig .tc := ⟨.hbm, 191, rfl⟩
abbrev main_while0b_v200 : Ref sig .tc := ⟨.hbm, 192, rfl⟩
abbrev main_while0b_c_56 : Ref sig .tc := ⟨.hbm, 193, rfl⟩
abbrev main_while0b_v201 : Ref sig .tc := ⟨.hbm, 194, rfl⟩
abbrev main_while0b_v202 : Ref sig .tc := ⟨.hbm, 195, rfl⟩
abbrev main_while0b_c_57 : Ref sig .tc := ⟨.hbm, 196, rfl⟩
abbrev main_while0b_c_58 : Ref sig .tc := ⟨.hbm, 197, rfl⟩
abbrev main_while0b_v203 : Ref sig .tc := ⟨.hbm, 198, rfl⟩
abbrev main_while0b_c_59 : Ref sig .tc := ⟨.hbm, 199, rfl⟩
abbrev main_while0b_c_60 : Ref sig .tc := ⟨.hbm, 200, rfl⟩
abbrev main_while0b_v204 : Ref sig .tc := ⟨.hbm, 201, rfl⟩
abbrev main_while0b_c_61 : Ref sig .tc := ⟨.hbm, 202, rfl⟩
abbrev main_while0b_v205 : Ref sig .tc := ⟨.hbm, 203, rfl⟩
abbrev main_while0b_v206 : Ref sig .tc := ⟨.hbm, 204, rfl⟩
abbrev main_while0b_v207 : Ref sig .tc := ⟨.hbm, 205, rfl⟩
abbrev main_while0b_v208 : Ref sig .tc := ⟨.hbm, 206, rfl⟩
abbrev main_while0b_v209 : Ref sig .tc := ⟨.hbm, 207, rfl⟩
abbrev main_while0b_c_62 : Ref sig .tc := ⟨.hbm, 208, rfl⟩
abbrev main_while0b_v210 : Ref sig .tc := ⟨.hbm, 209, rfl⟩
abbrev main_while0b_v211 : Ref sig .tc := ⟨.hbm, 210, rfl⟩
abbrev main_while0b_c_63 : Ref sig .tc := ⟨.hbm, 211, rfl⟩
abbrev main_while0b_v212 : Ref sig .tc := ⟨.hbm, 212, rfl⟩
abbrev main_while0b_v213 : Ref sig .tc := ⟨.hbm, 213, rfl⟩
abbrev main_while0b_v214 : Ref sig .tc := ⟨.hbm, 214, rfl⟩
abbrev main_while0b_c_64 : Ref sig .tc := ⟨.hbm, 215, rfl⟩
abbrev main_while0b_v215 : Ref sig .tc := ⟨.hbm, 216, rfl⟩
abbrev main_while0b_v216 : Ref sig .tc := ⟨.hbm, 217, rfl⟩
abbrev main_while0b_c_65 : Ref sig .tc := ⟨.hbm, 218, rfl⟩
abbrev main_while0b_v217 : Ref sig .tc := ⟨.hbm, 219, rfl⟩
abbrev main_while0b_v218 : Ref sig .tc := ⟨.hbm, 220, rfl⟩
abbrev main_while0b_v219 : Ref sig .tc := ⟨.hbm, 221, rfl⟩
abbrev main_while0b_v220 : Ref sig .tc := ⟨.hbm, 222, rfl⟩
abbrev main_while0b_v221 : Ref sig .tc := ⟨.hbm, 223, rfl⟩
abbrev main_while0b_v222 : Ref sig .tc := ⟨.hbm, 224, rfl⟩
abbrev main_while0b_v223 : Ref sig .tc := ⟨.hbm, 225, rfl⟩
abbrev main_while0b_v224 : Ref sig .tc := ⟨.hbm, 226, rfl⟩
abbrev main_while0b_call10_v0 : Ref sig .tc := ⟨.hbm, 227, rfl⟩
abbrev main_while0b_v225 : Ref sig .tc := ⟨.hbm, 228, rfl⟩
abbrev main_while0b_v226 : Ref sig .tc := ⟨.hbm, 229, rfl⟩
abbrev main_while0b_v227 : Ref sig .tc := ⟨.hbm, 230, rfl⟩
abbrev main_while0b_cst_66 : Ref sig .tc := ⟨.hbm, 231, rfl⟩
abbrev main_while0b_v228 : Ref sig .tc := ⟨.hbm, 232, rfl⟩
abbrev main_while0b_v229 : Ref sig .tc := ⟨.hbm, 233, rfl⟩
abbrev main_while0b_cst_67 : Ref sig .tc := ⟨.hbm, 234, rfl⟩
abbrev main_while0b_v230 : Ref sig .tc := ⟨.hbm, 235, rfl⟩
abbrev main_while0b_cst_68 : Ref sig .tc := ⟨.hbm, 236, rfl⟩
abbrev main_while0b_v231 : Ref sig .tc := ⟨.hbm, 237, rfl⟩
abbrev main_while0b_v232 : Ref sig .tc := ⟨.hbm, 238, rfl⟩
abbrev main_while0b_v233 : Ref sig .tc := ⟨.hbm, 239, rfl⟩
abbrev main_while0b_call11_v0 : Ref sig .tc := ⟨.hbm, 240, rfl⟩
abbrev main_while0b_v234 : Ref sig .tc := ⟨.hbm, 241, rfl⟩
abbrev main_while0b_v235 : Ref sig .tc := ⟨.hbm, 242, rfl⟩
abbrev main_while0b_v236 : Ref sig .tc := ⟨.hbm, 243, rfl⟩
abbrev main_while0b_call12_v0 : Ref sig .tc := ⟨.hbm, 244, rfl⟩
abbrev main_while0b_v237 : Ref sig .tc := ⟨.hbm, 245, rfl⟩
abbrev main_while0b_v238 : Ref sig .tc := ⟨.hbm, 246, rfl⟩
abbrev main_while0b_c_69 : Ref sig .tc := ⟨.hbm, 247, rfl⟩
abbrev main_while0b_v239 : Ref sig .tc := ⟨.hbm, 248, rfl⟩
abbrev main_v53 : Ref sig .tc := ⟨.hbm, 249, rfl⟩
abbrev main_v54 : Ref sig .tc := ⟨.hbm, 250, rfl⟩
abbrev main_v55 : Ref sig .tc := ⟨.hbm, 251, rfl⟩
abbrev main_v56 : Ref sig .tc := ⟨.hbm, 252, rfl⟩
abbrev main_cst_12 : Ref sig .tc := ⟨.hbm, 253, rfl⟩
abbrev main_v57 : Ref sig .tc := ⟨.hbm, 254, rfl⟩
abbrev main_v58 : Ref sig .tc := ⟨.hbm, 255, rfl⟩
abbrev main_cst_13 : Ref sig .tc := ⟨.hbm, 256, rfl⟩
abbrev main_v59 : Ref sig .tc := ⟨.hbm, 257, rfl⟩
abbrev main_v60 : Ref sig .tc := ⟨.hbm, 258, rfl⟩
abbrev main_v61 : Ref sig .tc := ⟨.hbm, 259, rfl⟩
abbrev main_v62 : Ref sig .tc := ⟨.hbm, 260, rfl⟩
abbrev main_v63 : Ref sig .tc := ⟨.hbm, 261, rfl⟩
abbrev main_cst_14 : Ref sig .tc := ⟨.hbm, 262, rfl⟩
abbrev main_v64 : Ref sig .tc := ⟨.hbm, 263, rfl⟩
abbrev main_v65 : Ref sig .tc := ⟨.hbm, 264, rfl⟩
abbrev main_cst_15 : Ref sig .tc := ⟨.hbm, 265, rfl⟩
abbrev main_v66 : Ref sig .tc := ⟨.hbm, 266, rfl⟩
abbrev main_v67 : Ref sig .tc := ⟨.hbm, 267, rfl⟩
abbrev main_v68 : Ref sig .tc := ⟨.hbm, 268, rfl⟩
abbrev main_v69 : Ref sig .tc := ⟨.hbm, 269, rfl⟩
abbrev main_cst_16 : Ref sig .tc := ⟨.hbm, 270, rfl⟩
abbrev main_v70 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_v74 : Ref sig .tc := ⟨.hbm, 275, rfl⟩
abbrev main_v75 : Ref sig .tc := ⟨.hbm, 276, rfl⟩
abbrev main_v76 : Ref sig .tc := ⟨.hbm, 277, rfl⟩
abbrev main_v77 : Ref sig .tc := ⟨.hbm, 278, rfl⟩
abbrev main_v78 : Ref sig .tc := ⟨.hbm, 279, rfl⟩
abbrev main_v79 : Ref sig .tc := ⟨.hbm, 280, rfl⟩
abbrev main_v80 : Ref sig .tc := ⟨.hbm, 281, rfl⟩
abbrev main_v81 : Ref sig .tc := ⟨.hbm, 282, rfl⟩
abbrev main_v82 : Ref sig .tc := ⟨.hbm, 283, rfl⟩
abbrev main_v83 : Ref sig .tc := ⟨.hbm, 284, rfl⟩
abbrev main_v84 : Ref sig .tc := ⟨.hbm, 285, rfl⟩
abbrev main_v85 : Ref sig .tc := ⟨.hbm, 286, rfl⟩
abbrev main_v86 : Ref sig .tc := ⟨.hbm, 287, rfl⟩
abbrev main_v87 : Ref sig .tc := ⟨.hbm, 288, rfl⟩
abbrev main_v88 : Ref sig .tc := ⟨.hbm, 289, rfl⟩
abbrev main_v89 : Ref sig .tc := ⟨.hbm, 290, rfl⟩
abbrev main_cst_17 : Ref sig .tc := ⟨.hbm, 291, rfl⟩
abbrev main_call13_v0 : Ref sig .tc := ⟨.hbm, 292, rfl⟩
abbrev main_call13_v1 : Ref sig .tc := ⟨.hbm, 293, rfl⟩
abbrev main_call13_v2 : Ref sig .tc := ⟨.hbm, 294, rfl⟩
abbrev main_call13_v3 : Ref sig .tc := ⟨.hbm, 295, rfl⟩
abbrev main_v90 : Ref sig .tc := ⟨.hbm, 296, rfl⟩
abbrev main_cst_18 : Ref sig .tc := ⟨.hbm, 297, rfl⟩
abbrev main_v91 : Ref sig .tc := ⟨.hbm, 298, rfl⟩
abbrev main_v92 : Ref sig .tc := ⟨.hbm, 299, rfl⟩
abbrev main_v93 : Ref sig .tc := ⟨.hbm, 300, rfl⟩
abbrev main_v94 : Ref sig .tc := ⟨.hbm, 301, rfl⟩
abbrev main_v95 : Ref sig .tc := ⟨.hbm, 302, rfl⟩
abbrev main_v96 : Ref sig .tc := ⟨.hbm, 303, rfl⟩
abbrev main_v97 : Ref sig .tc := ⟨.hbm, 304, rfl⟩
abbrev main_cst_19 : Ref sig .tc := ⟨.hbm, 305, rfl⟩
abbrev main_cst_20 : Ref sig .tc := ⟨.hbm, 306, rfl⟩
abbrev main_call14_v0 : Ref sig .tc := ⟨.hbm, 307, rfl⟩
abbrev main_call14_v1 : Ref sig .tc := ⟨.hbm, 308, rfl⟩
abbrev main_v98 : Ref sig .tc := ⟨.hbm, 309, rfl⟩
abbrev main_v99 : Ref sig .tc := ⟨.hbm, 310, rfl⟩
abbrev main_cst_21 : Ref sig .tc := ⟨.hbm, 311, rfl⟩
abbrev main_v100 : Ref sig .tc := ⟨.hbm, 312, rfl⟩
abbrev main_cst_22 : Ref sig .tc := ⟨.hbm, 313, rfl⟩
abbrev main_v101 : Ref sig .tc := ⟨.hbm, 314, rfl⟩
abbrev main_v102 : Ref sig .tc := ⟨.hbm, 315, rfl⟩
abbrev main_v103 : Ref sig .tc := ⟨.hbm, 316, rfl⟩
abbrev main_v104 : Ref sig .tc := ⟨.hbm, 317, rfl⟩
abbrev main_v105 : Ref sig .tc := ⟨.hbm, 318, rfl⟩
abbrev main_v106 : Ref sig .tc := ⟨.hbm, 319, rfl⟩
abbrev main_v107 : Ref sig .tc := ⟨.hbm, 320, rfl⟩
abbrev main_c_23 : Ref sig .tc := ⟨.hbm, 321, rfl⟩
abbrev main_v108 : Ref sig .tc := ⟨.hbm, 322, rfl⟩
abbrev main_v109 : Ref sig .tc := ⟨.hbm, 323, rfl⟩
abbrev main_c_24 : Ref sig .tc := ⟨.hbm, 324, rfl⟩
abbrev main_v110 : Ref sig .tc := ⟨.hbm, 325, rfl⟩
abbrev main_v111 : Ref sig .tc := ⟨.hbm, 326, rfl⟩
abbrev main_v112 : Ref sig .tc := ⟨.hbm, 327, rfl⟩
abbrev main_c_25 : Ref sig .tc := ⟨.hbm, 328, rfl⟩
abbrev main_v113 : Ref sig .tc := ⟨.hbm, 329, rfl⟩
abbrev main_v114 : Ref sig .tc := ⟨.hbm, 330, rfl⟩
abbrev main_c_26 : Ref sig .tc := ⟨.hbm, 331, rfl⟩
abbrev main_v115 : Ref sig .tc := ⟨.hbm, 332, rfl⟩
abbrev main_v116 : Ref sig .tc := ⟨.hbm, 333, rfl⟩
abbrev main_v117 : Ref sig .tc := ⟨.hbm, 334, rfl⟩
abbrev main_v118 : Ref sig .tc := ⟨.hbm, 335, rfl⟩
abbrev main_v119 : Ref sig .tc := ⟨.hbm, 336, rfl⟩
abbrev main_v120 : Ref sig .tc := ⟨.hbm, 337, rfl⟩
abbrev main_v121 : Ref sig .tc := ⟨.hbm, 338, rfl⟩
abbrev main_v122 : Ref sig .tc := ⟨.hbm, 339, rfl⟩
abbrev main_v123 : Ref sig .tc := ⟨.hbm, 340, rfl⟩

abbrev nD : Nat := 1
abbrev τ : Topo := Topo.v7x

variable {F : FTy → Type} [FloatOps F]

abbrev main_while0_count : Scf.Loop 32 := ⟨0#32, 100#32, 1#32⟩
-- ==== Layer.lean ====
abbrev S2x96x224x224 : Shape := ⟨4, ![2, 96, 224, 224]⟩
abbrev S128x96x3x3 : Shape := ⟨4, ![128, 96, 3, 3]⟩
abbrev S128 : Shape := ⟨1, ![128]⟩
abbrev S_ : Shape := ⟨0, ![]⟩
abbrev S8x96 : Shape := ⟨2, ![8, 96]⟩
abbrev S2x224x224x96 : Shape := ⟨4, ![2, 224, 224, 96]⟩
abbrev S2x232x226x96 : Shape := ⟨4, ![2, 232, 226, 96]⟩
abbrev S3x3x96x128 : Shape := ⟨4, ![3, 3, 96, 128]⟩
abbrev S1x128 : Shape := ⟨2, ![1, 128]⟩
abbrev S96 : Shape := ⟨1, ![96]⟩
abbrev S1x96 : Shape := ⟨2, ![1, 96]⟩
abbrev S2x224x224x128 : Shape := ⟨4, ![2, 224, 224, 128]⟩
abbrev S8x128 : Shape := ⟨2, ![8, 128]⟩
abbrev S1x8x226x96 : Shape := ⟨4, ![1, 8, 226, 96]⟩
abbrev S1x8x224x128 : Shape := ⟨4, ![1, 8, 224, 128]⟩
abbrev S8x226x96 : Shape := ⟨3, ![8, 226, 96]⟩
abbrev S2x226x96 : Shape := ⟨3, ![2, 226, 96]⟩
abbrev S10x226x96 : Shape := ⟨3, ![10, 226, 96]⟩
abbrev S8x224x128 : Shape := ⟨3, ![8, 224, 128]⟩
abbrev S8x224x96 : Shape := ⟨3, ![8, 224, 96]⟩
abbrev S1x1x96x128 : Shape := ⟨4, ![1, 1, 96, 128]⟩
abbrev S96x128 : Shape := ⟨2, ![96, 128]⟩
abbrev S1x1x128 : Shape := ⟨3, ![1, 1, 128]⟩

abbrev nBuf : Space → Nat
  | .hbm => 20
  | .vmem => 14
  | .smem => 0
  | _ => 0

abbrev bufTy : (tb : Table) → Fin (tcTables nBuf tb) → BufTy
  | .hbm, ⟨0, _⟩ => ⟨S2x96x224x224, .f32⟩
  | .hbm, ⟨1, _⟩ => ⟨S128x96x3x3, .f32⟩
  | .hbm, ⟨2, _⟩ => ⟨S128, .f32⟩
  | .hbm, ⟨3, _⟩ => ⟨S_, .f32⟩
  | .hbm, ⟨4, _⟩ => ⟨S8x96, .f32⟩
  | .hbm, ⟨5, _⟩ => ⟨S2x224x224x96, .f32⟩
  | .hbm, ⟨6, _⟩ => ⟨S_, .i32⟩
  | .hbm, ⟨7, _⟩ => ⟨S_, .f32⟩
  | .hbm, ⟨8, _⟩ => ⟨S2x232x226x96, .f32⟩
  | .hbm, ⟨9, _⟩ => ⟨S3x3x96x128, .f32⟩
  | .hbm, ⟨10, _⟩ => ⟨S1x128, .f32⟩
  | .hbm, ⟨11, _⟩ => ⟨S_, .f32⟩
  | .hbm, ⟨12, _⟩ => ⟨S96, .f32⟩
  | .hbm, ⟨13, _⟩ => ⟨S1x96, .f32⟩
  | .hbm, ⟨14, _⟩ => ⟨S_, .f32⟩
  | .hbm, ⟨15, _⟩ => ⟨S96, .f32⟩
  | .hbm, ⟨16, _⟩ => ⟨S1x96, .f32⟩
  | .hbm, ⟨17, _⟩ => ⟨S2x224x224x128, .f32⟩
  | .hbm, ⟨18, _⟩ => ⟨S8x128, .f32⟩
  | .hbm, ⟨19, _⟩ => ⟨S8x128, .f32⟩
  | .local _ .vmem, ⟨0, _⟩ => ⟨S1x8x226x96, .f32⟩
  | .local _ .vmem, ⟨1, _⟩ => ⟨S1x8x226x96, .f32⟩
  | .local _ .vmem, ⟨2, _⟩ => ⟨S1x8x226x96, .f32⟩
  | .local _ .vmem, ⟨3, _⟩ => ⟨S1x8x226x96, .f32⟩
  | .local _ .vmem, ⟨4, _⟩ => ⟨S3x3x96x128, .f32⟩
  | .local _ .vmem, ⟨5, _⟩ => ⟨S1x128, .f32⟩
  | .local _ .vmem, ⟨6, _⟩ => ⟨S8x96, .f32⟩
  | .local _ .vmem, ⟨7, _⟩ => ⟨S8x96, .f32⟩
  | .local _ .vmem, ⟨8, _⟩ => ⟨S1x96, .f32⟩
  | .local _ .vmem, ⟨9, _⟩ => ⟨S1x96, .f32⟩
  | .local _ .vmem, ⟨10, _⟩ => ⟨S1x8x224x128, .f32⟩
  | .local _ .vmem, ⟨11, _⟩ => ⟨S1x8x224x128, .f32⟩
  | .local _ .vmem, ⟨12, _⟩ => ⟨S8x128, .f32⟩
  | .local _ .vmem, ⟨13, _⟩ => ⟨S8x128, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x226x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x226x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x224x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ConvIdeal.lean ====
abbrev S2x96x224x224 : Shape := ⟨4, ![2, 96, 224, 224]⟩
abbrev S128x96x3x3 : Shape := ⟨4, ![128, 96, 3, 3]⟩
abbrev S128 : Shape := ⟨1, ![128]⟩
abbrev S_ : Shape := ⟨0, ![]⟩
abbrev S2x96x226x226 : Shape := ⟨4, ![2, 96, 226, 226]⟩
abbrev S2x128x224x224 : Shape := ⟨4, ![2, 128, 224, 224]⟩
abbrev S128x96x1x1 : Shape := ⟨4, ![128, 96, 1, 1]⟩
abbrev S128x96 : Shape := ⟨2, ![128, 96]⟩
abbrev S128x2x224x224 : Shape := ⟨4, ![128, 2, 224, 224]⟩
abbrev S1x128x1x1 : Shape := ⟨4, ![1, 128, 1, 1]⟩
abbrev S8 : Shape := ⟨1, ![8]⟩
abbrev S8x1 : Shape := ⟨2, ![8, 1]⟩
abbrev S1x128 : Shape := ⟨2, ![1, 128]⟩
abbrev S8x128 : Shape := ⟨2, ![8, 128]⟩
abbrev S2x224x224x128 : Shape := ⟨4, ![2, 224, 224, 128]⟩

abbrev nBuf : Space → Nat
  | .hbm => 95
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S128x96x3x3, .f32⟩
  | .hbm, ⟨2, _⟩ => ⟨S128, .f32⟩
  | .hbm, ⟨3, _⟩ => ⟨S_, .i32⟩
  | .hbm, ⟨4, _⟩ => ⟨S_, .f32⟩
  | .hbm, ⟨5, _⟩ => ⟨S2x96x226x226, .f32⟩
  | .hbm, ⟨6, _⟩ => ⟨S_, .f32⟩
  | .hbm, ⟨7, _⟩ => ⟨S2x128x224x224, .f32⟩
  | .hbm, ⟨8, _⟩ => ⟨S2x96x224x224, .f32⟩
  | .hbm, ⟨9, _⟩ => ⟨S128x96x1x1, .f32⟩
  | .hbm, ⟨10, _⟩ => ⟨S128x96, .f32⟩
  | .hbm, ⟨11, _⟩ => ⟨S128x2x224x224, .f32⟩
  | .hbm, ⟨12, _⟩ => ⟨S2x128x224x224, .f32⟩
  | .hbm, ⟨13, _⟩ => ⟨S2x128x224x224, .f32⟩
  | .hbm, ⟨14, _⟩ => ⟨S2x96x224x224, .f32⟩
  | .hbm, ⟨15, _⟩ => ⟨S128x96x1x1, .f32⟩
  | .hbm, ⟨16, _⟩ => ⟨S128x96, .f32⟩
  | .hbm, ⟨17, _⟩ => ⟨S128x2x224x224, .f32⟩
  | .hbm, ⟨18, _⟩ => ⟨S2x128x224x224, .f32⟩
  | .hbm, ⟨19, _⟩ => ⟨S2x128x224x224, .f32⟩
  | .hbm, ⟨20, _⟩ => ⟨S2x96x224x224, .f32⟩
  | .hbm, ⟨21, _⟩ => ⟨S128x96x1x1, .f32⟩
  | .hbm, ⟨22, _⟩ => ⟨S128x96, .f32⟩
  | .hbm, ⟨23, _⟩ => ⟨S128x2x224x224, .f32⟩
  | .hbm, ⟨24, _⟩ => ⟨S2x128x224x224, .f32⟩
  | .hbm, ⟨25, _⟩ => ⟨S2x128x224x224, .f32⟩
  | .hbm, ⟨26, _⟩ => ⟨S2x96x224x224, .f32⟩
  | .hbm, ⟨27, _⟩ => ⟨S128x96x1x1, .f32⟩
  | .hbm, ⟨28, _⟩ => ⟨S128x96, .f32⟩
  | .hbm, ⟨29, _⟩ => ⟨S128x2x224x224, .f32⟩
  | .hbm, ⟨30, _⟩ => ⟨S2x128x224x224, .f32⟩
  | .hbm, ⟨31, _⟩ => ⟨S2x128x224x224, .f32⟩
  | .hbm, ⟨32, _⟩ => ⟨S2x96x224x224, .f32⟩
  | .hbm, ⟨33, _⟩ => ⟨S128x96x1x1, .f32⟩
  | .hbm, ⟨34, _⟩ => ⟨S128x96, .f32⟩
  | .hbm, ⟨35, _⟩ => ⟨S128x2x224x224, .f32⟩
  | .hbm, ⟨36, _⟩ => ⟨S2x128x224x224, .f32⟩
  | .hbm, ⟨37, _⟩ => ⟨S2x128x224x224, .f32⟩
  | .hbm, ⟨38, _⟩ => ⟨S2x96x224x224, .f32⟩
  | .hbm, ⟨39, _⟩ => ⟨S128x96x1x1, .f32⟩
  | .hbm, ⟨40, _⟩ => ⟨S128x96, .f32⟩
  | .hbm, ⟨41, _⟩ => ⟨S128x2x224x224, .f32⟩
  | .hbm, ⟨42, _⟩ => ⟨S2x128x224x224, .f32⟩
  | .hbm, ⟨43, _⟩ => ⟨S2x128x224x224, .f32⟩
  | .hbm, ⟨44, _⟩ => ⟨S2x96x224x224, .f32⟩
  | .hbm, ⟨45, _⟩ => ⟨S128x96x1x1, .f32⟩
  | .hbm, ⟨46, _⟩ => ⟨S128x96, .f32⟩
  | .hbm, ⟨47, _⟩ => ⟨S128x2x224x224, .f32⟩
  | .hbm, ⟨48, _⟩ => ⟨S2x128x224x224, .f32⟩
  | .hbm, ⟨49, _⟩ => ⟨S2x128x224x224, .f32⟩
  | .hbm, ⟨50, _⟩ => ⟨S2x96x224x224, .f32⟩
  | .hbm, ⟨51, _⟩ => ⟨S128x96x1x1, .f32⟩
  | .hbm, ⟨52, _⟩ => ⟨S128x96, .f32⟩
  | .hbm, ⟨53, _⟩ => ⟨S128x2x224x224, .f32⟩
  | .hbm, ⟨54, _⟩ => ⟨S2x128x224x224, .f32⟩
  | .hbm, ⟨55, _⟩ => ⟨S2x128x224x224, .f32⟩
  | .hbm, ⟨56, _⟩ => ⟨S2x96x224x224, .f32⟩
  | .hbm, ⟨57, _⟩ => ⟨S128x96x1x1, .f32⟩
  | .hbm, ⟨58, _⟩ => ⟨S128x96, .f32⟩
  | .hbm, ⟨59, _⟩ => ⟨S128x2x224x224, .f32⟩
  | .hbm, ⟨60, _⟩ => ⟨S2x128x224x224, .f32⟩
  | .hbm, ⟨61, _⟩ => ⟨S2x128x224x224, .f32⟩
  | .hbm, ⟨62, _⟩ => ⟨S1x128x1x1, .f32⟩
  | .hbm, ⟨63, _⟩ => ⟨S2x128x224x224, .f32⟩
  | .hbm, ⟨64, _⟩ => ⟨S2x128x224x224, .f32⟩
  | .hbm, ⟨65, _⟩ => ⟨S_, .f32⟩
  | .hbm, ⟨66, _⟩ => ⟨S128, .f32⟩
  | .hbm, ⟨67, _⟩ => ⟨S8, .i32⟩
  | .hbm, ⟨68, _⟩ => ⟨S8x1, .i32⟩
  | .hbm, ⟨69, _⟩ => ⟨S_, .i32⟩
  | .hbm, ⟨70, _⟩ => ⟨S8x1, .i32⟩
  | .hbm, ⟨71, _⟩ => ⟨S8x1, .i1⟩
  | .hbm, ⟨72, _⟩ => ⟨S1x128, .f32⟩
  | .hbm, ⟨73, _⟩ => ⟨S_, .f32⟩
  | .hbm, ⟨74, _⟩ => ⟨S_, .f32⟩
  | .hbm, ⟨75, _⟩ => ⟨S8x128, .i1⟩
  | .hbm, ⟨76, _⟩ => ⟨S8x128, .f32⟩
  | .hbm, ⟨77, _⟩ => ⟨S8x128, .f32⟩
  | .hbm, ⟨78, _⟩ => ⟨S8x128, .f32⟩
  | .hbm, ⟨79, _⟩ => ⟨S2x128x224x224, .f32⟩
  | .hbm, ⟨80, _⟩ => ⟨S_, .f32⟩
  | .hbm, ⟨81, _⟩ => ⟨S128, .f32⟩
  | .hbm, ⟨82, _⟩ => ⟨S8, .i32⟩
  | .hbm, ⟨83, _⟩ => ⟨S8x1, .i32⟩
  | .hbm, ⟨84, _⟩ => ⟨S_, .i32⟩
  | .hbm, ⟨85, _⟩ => ⟨S8x1, .i32⟩
  | .hbm, ⟨86, _⟩ => ⟨S8x1, .i1⟩
  | .hbm, ⟨87, _⟩ => ⟨S1x128, .f32⟩
  | .hbm, ⟨88, _⟩ => ⟨S_, .f32⟩
  | .hbm, ⟨89, _⟩ => ⟨S_, .f32⟩
  | .hbm, ⟨90, _⟩ => ⟨S8x128, .i1⟩
  | .hbm, ⟨91, _⟩ => ⟨S8x128, .f32⟩
  | .hbm, ⟨92, _⟩ => ⟨S8x128, .f32⟩
  | .hbm, ⟨93, _⟩ => ⟨S8x128, .f32⟩
  | .hbm, ⟨94, _⟩ => ⟨S2x224x224x128, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_cst_0 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_c_1 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_2 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_call1_v3 : Ref sig .tc := ⟨.hbm, 77, rfl⟩
abbrev main_v65 : Ref sig .tc := ⟨.hbm, 78, rfl⟩
abbrev main_v66 : Ref sig .tc := ⟨.hbm, 79, rfl⟩
abbrev main_cst_3 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_c_4 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_5 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_v73 : Ref sig .tc := ⟨.hbm, 93, rfl⟩
abbrev main_v74 : Ref sig .tc := ⟨.hbm, 94, rfl⟩

abbrev nD : Nat := 1
abbrev τ : Topo := Topo.v7x

variable {F : FTy → Type} [FloatOps F]
-- ==== Second.lean ====
abbrev S2x224x224x128 : Shape := ⟨4, ![2, 224, 224, 128]⟩
abbrev S8x128 : Shape := ⟨2, ![8, 128]⟩
abbrev S128 : Shape := ⟨1, ![128]⟩
abbrev S64x128x3x3 : Shape := ⟨4, ![64, 128, 3, 3]⟩
abbrev S64 : Shape := ⟨1, ![64]⟩
abbrev S_ : Shape := ⟨0, ![]⟩
abbrev S2x232x226x128 : Shape := ⟨4, ![2, 232, 226, 128]⟩
abbrev S3x3x128x64 : Shape := ⟨4, ![3, 3, 128, 64]⟩
abbrev S1x64 : Shape := ⟨2, ![1, 64]⟩
abbrev S1x128 : Shape := ⟨2, ![1, 128]⟩
abbrev S2x224x224x64 : Shape := ⟨4, ![2, 224, 224, 64]⟩
abbrev S8x64 : Shape := ⟨2, ![8, 64]⟩
abbrev S1x8x226x128 : Shape := ⟨4, ![1, 8, 226, 128]⟩
abbrev S1x8x224x64 : Shape := ⟨4, ![1, 8, 224, 64]⟩
abbrev S8x226x128 : Shape := ⟨3, ![8, 226, 128]⟩
abbrev S2x226x128 : Shape := ⟨3, ![2, 226, 128]⟩
abbrev S10x226x128 : Shape := ⟨3, ![10, 226, 128]⟩
abbrev S1x1x128 : Shape := ⟨3, ![1, 1, 128]⟩
abbrev S8x224x64 : Shape := ⟨3, ![8, 224, 64]⟩
abbrev S8x224x128 : Shape := ⟨3, ![8, 224, 128]⟩
abbrev S1x1x128x64 : Shape := ⟨4, ![1, 1, 128, 64]⟩
abbrev S128x64 : Shape := ⟨2, ![128, 64]⟩
abbrev S1x1x64 : Shape := ⟨3, ![1, 1, 64]⟩

abbrev nBuf : Space → Nat
  | .hbm => 17
  | .vmem => 14
  | .smem => 0
  | _ => 0

abbrev bufTy : (tb : Table) → Fin (tcTables nBuf tb) → BufTy
  | .hbm, ⟨0, _⟩ => ⟨S2x224x224x128, .f32⟩
  | .hbm, ⟨1, _⟩ => ⟨S8x128, .f32⟩
  | .hbm, ⟨2, _⟩ => ⟨S8x128, .f32⟩
  | .hbm, ⟨3, _⟩ => ⟨S128, .f32⟩
  | .hbm, ⟨4, _⟩ => ⟨S128, .f32⟩
  | .hbm, ⟨5, _⟩ => ⟨S64x128x3x3, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S2x232x226x128, .f32⟩
  | .hbm, ⟨10, _⟩ => ⟨S3x3x128x64, .f32⟩
  | .hbm, ⟨11, _⟩ => ⟨S1x64, .f32⟩
  | .hbm, ⟨12, _⟩ => ⟨S1x128, .f32⟩
  | .hbm, ⟨13, _⟩ => ⟨S1x128, .f32⟩
  | .hbm, ⟨14, _⟩ => ⟨S2x224x224x64, .f32⟩
  | .hbm, ⟨15, _⟩ => ⟨S8x64, .f32⟩
  | .hbm, ⟨16, _⟩ => ⟨S8x64, .f32⟩
  | .local _ .vmem, ⟨0, _⟩ => ⟨S1x8x226x128, .f32⟩
  | .local _ .vmem, ⟨1, _⟩ => ⟨S1x8x226x128, .f32⟩
  | .local _ .vmem, ⟨2, _⟩ => ⟨S1x8x226x128, .f32⟩
  | .local _ .vmem, ⟨3, _⟩ => ⟨S1x8x226x128, .f32⟩
  | .local _ .vmem, ⟨4, _⟩ => ⟨S3x3x128x64, .f32⟩
  | .local _ .vmem, ⟨5, _⟩ => ⟨S1x64, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S1x8x224x64, .f32⟩
  | .local _ .vmem, ⟨11, _⟩ => ⟨S1x8x224x64, .f32⟩
  | .local _ .vmem, ⟨12, _⟩ => ⟨S8x64, .f32⟩
  | .local _ .vmem, ⟨13, _⟩ => ⟨S8x64, .f32⟩
  | _, _ => ⟨S2x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x226x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x226x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x224x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== SecondIdeal.lean ====
abbrev S2x224x224x128 : Shape := ⟨4, ![2, 224, 224, 128]⟩
abbrev S8x128 : Shape := ⟨2, ![8, 128]⟩
abbrev S128 : Shape := ⟨1, ![128]⟩
abbrev S64x128x3x3 : Shape := ⟨4, ![64, 128, 3, 3]⟩
abbrev S64 : Shape := ⟨1, ![64]⟩
abbrev S_ : Shape := ⟨0, ![]⟩
abbrev S2x232x226x128 : Shape := ⟨4, ![2, 232, 226, 128]⟩
abbrev S3x3x128x64 : Shape := ⟨4, ![3, 3, 128, 64]⟩
abbrev S1x64 : Shape := ⟨2, ![1, 64]⟩
abbrev S1x128 : Shape := ⟨2, ![1, 128]⟩
abbrev S2x224x224x64 : Shape := ⟨4, ![2, 224, 224, 64]⟩
abbrev S8x64 : Shape := ⟨2, ![8, 64]⟩
abbrev S1x8x226x128 : Shape := ⟨4, ![1, 8, 226, 128]⟩
abbrev S1x8x224x64 : Shape := ⟨4, ![1, 8, 224, 64]⟩
abbrev S8x226x128 : Shape := ⟨3, ![8, 226, 128]⟩
abbrev S2x226x128 : Shape := ⟨3, ![2, 226, 128]⟩
abbrev S10x226x128 : Shape := ⟨3, ![10, 226, 128]⟩
abbrev S1x1x128 : Shape := ⟨3, ![1, 1, 128]⟩
abbrev S8x224x64 : Shape := ⟨3, ![8, 224, 64]⟩
abbrev S8x224x128 : Shape := ⟨3, ![8, 224, 128]⟩
abbrev S1x1x128x64 : Shape := ⟨4, ![1, 1, 128, 64]⟩
abbrev S128x64 : Shape := ⟨2, ![128, 64]⟩
abbrev S1x1x64 : Shape := ⟨3, ![1, 1, 64]⟩

abbrev nBuf : Space → Nat
  | .hbm => 17
  | .vmem => 14
  | .smem => 0
  | _ => 0

abbrev bufTy : (tb : Table) → Fin (tcTables nBuf tb) → BufTy
  | .hbm, ⟨0, _⟩ => ⟨S2x224x224x128, .f32⟩
  | .hbm, ⟨1, _⟩ => ⟨S8x128, .f32⟩
  | .hbm, ⟨2, _⟩ => ⟨S8x128, .f32⟩
  | .hbm, ⟨3, _⟩ => ⟨S128, .f32⟩
  | .hbm, ⟨4, _⟩ => ⟨S128, .f32⟩
  | .hbm, ⟨5, _⟩ => ⟨S64x128x3x3, .f32⟩
  | .hbm, ⟨6, _⟩ => ⟨S64, .f32⟩
  | .hbm, ⟨7, _⟩ => ⟨S_, .i32⟩
  | .hbm, ⟨8, _⟩ => ⟨S_, .f32⟩
  | .hbm, ⟨9, _⟩ => ⟨S2x232x226x128, .f32⟩
  | .hbm, ⟨10, _⟩ => ⟨S3x3x128x64, .f32⟩
  | .hbm, ⟨11, _⟩ => ⟨S1x64, .f32⟩
  | .hbm, ⟨12, _⟩ => ⟨S1x128, .f32⟩
  | .hbm, ⟨13, _⟩ => ⟨S1x128, .f32⟩
  | .hbm, ⟨14, _⟩ => ⟨S2x224x224x64, .f32⟩
  | .hbm, ⟨15, _⟩ => ⟨S8x64, .f32⟩
  | .hbm, ⟨16, _⟩ => ⟨S8x64, .f32⟩
  | .local _ .vmem, ⟨0, _⟩ => ⟨S1x8x226x128, .f32⟩
  | .local _ .vmem, ⟨1, _⟩ => ⟨S1x8x226x128, .f32⟩
  | .local _ .vmem, ⟨2, _⟩ => ⟨S1x8x226x128, .f32⟩
  | .local _ .vmem, ⟨3, _⟩ => ⟨S1x8x226x128, .f32⟩
  | .local _ .vmem, ⟨4, _⟩ => ⟨S3x3x128x64, .f32⟩
  | .local _ .vmem, ⟨5, _⟩ => ⟨S1x64, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S1x8x224x64, .f32⟩
  | .local _ .vmem, ⟨11, _⟩ => ⟨S1x8x224x64, .f32⟩
  | .local _ .vmem, ⟨12, _⟩ => ⟨S8x64, .f32⟩
  | .local _ .vmem, ⟨13, _⟩ => ⟨S8x64, .f32⟩
  | _, _ => ⟨S2x224x224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x226x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x226x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x224x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== SecondConvIdeal.lean ====
abbrev S2x224x224x128 : Shape := ⟨4, ![2, 224, 224, 128]⟩
abbrev S8x128 : Shape := ⟨2, ![8, 128]⟩
abbrev S128 : Shape := ⟨1, ![128]⟩
abbrev S64x128x3x3 : Shape := ⟨4, ![64, 128, 3, 3]⟩
abbrev S64 : Shape := ⟨1, ![64]⟩
abbrev S2x128x224x224 : Shape := ⟨4, ![2, 128, 224, 224]⟩
abbrev S_ : Shape := ⟨0, ![]⟩
abbrev S1x128x1x1 : Shape := ⟨4, ![1, 128, 1, 1]⟩
abbrev S2x128x226x226 : Shape := ⟨4, ![2, 128, 226, 226]⟩
abbrev S2x64x224x224 : Shape := ⟨4, ![2, 64, 224, 224]⟩
abbrev S64x128x1x1 : Shape := ⟨4, ![64, 128, 1, 1]⟩
abbrev S64x128 : Shape := ⟨2, ![64, 128]⟩
abbrev S64x2x224x224 : Shape := ⟨4, ![64, 2, 224, 224]⟩
abbrev S1x64x1x1 : Shape := ⟨4, ![1, 64, 1, 1]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S2x224x224x64 : Shape := ⟨4, ![2, 224, 224, 64]⟩

abbrev nBuf : Space → Nat
  | .hbm => 132
  | .vmem => 0
  | .smem => 0
  | _ => 0

abbrev hbmTy0_0 (i : Nat) : BufTy := match i % 128 with
  | 0 => ⟨S2x224x224x128, .f32⟩
  | 1 => ⟨S8x128, .f32⟩
  | 2 => ⟨S8x128, .f32⟩
  | 3 => ⟨S128, .f32⟩
  | 4 => ⟨S128, .f32⟩
  | 5 => ⟨S64x128x3x3, .f32⟩
  | 6 => ⟨S64, .f32⟩
  | 7 => ⟨S2x128x224x224, .f32⟩
  | 8 => ⟨S_, .f32⟩
  | 9 => ⟨S128, .f32⟩
  | 10 => ⟨S1x128x1x1, .f32⟩
  | 11 => ⟨S_, .f32⟩
  | 12 => ⟨S1x128x1x1, .f32⟩
  | 13 => ⟨S1x128x1x1, .f32⟩
  | 14 => ⟨S2x128x224x224, .f32⟩
  | 15 => ⟨S2x128x224x224, .f32⟩
  | 16 => ⟨S2x128x224x224, .f32⟩
  | 17 => ⟨S_, .f32⟩
  | 18 => ⟨S128, .f32⟩
  | 19 => ⟨S1x128x1x1, .f32⟩
  | 20 => ⟨S_, .f32⟩
  | 21 => ⟨S1x128x1x1, .f32⟩
  | 22 => ⟨S1x128x1x1, .f32⟩
  | 23 => ⟨S2x128x224x224, .f32⟩
  | 24 => ⟨S2x128x224x224, .f32⟩
  | 25 => ⟨S_, .f32⟩
  | 26 => ⟨S1x128x1x1, .f32⟩
  | 27 => ⟨S1x128x1x1, .f32⟩
  | 28 => ⟨S1x128x1x1, .f32⟩
  | 29 => ⟨S2x128x224x224, .f32⟩
  | 30 => ⟨S2x128x224x224, .f32⟩
  | 31 => ⟨S1x128x1x1, .f32⟩
  | 32 => ⟨S2x128x224x224, .f32⟩
  | 33 => ⟨S2x128x224x224, .f32⟩
  | 34 => ⟨S1x128x1x1, .f32⟩
  | 35 => ⟨S2x128x224x224, .f32⟩
  | 36 => ⟨S2x128x224x224, .f32⟩
  | 37 => ⟨S_, .f32⟩
  | 38 => ⟨S2x128x224x224, .f32⟩
  | 39 => ⟨S2x128x224x224, .f32⟩
  | 40 => ⟨S_, .i32⟩
  | 41 => ⟨S_, .f32⟩
  | 42 => ⟨S2x128x226x226, .f32⟩
  | 43 => ⟨S_, .f32⟩
  | 44 => ⟨S2x64x224x224, .f32⟩
  | 45 => ⟨S2x128x224x224, .f32⟩
  | 46 => ⟨S64x128x1x1, .f32⟩
  | 47 => ⟨S64x128, .f32⟩
  | 48 => ⟨S64x2x224x224, .f32⟩
  | 49 => ⟨S2x64x224x224, .f32⟩
  | 50 => ⟨S2x64x224x224, .f32⟩
  | 51 => ⟨S2x128x224x224, .f32⟩
  | 52 => ⟨S64x128x1x1, .f32⟩
  | 53 => ⟨S64x128, .f32⟩
  | 54 => ⟨S64x2x224x224, .f32⟩
  | 55 => ⟨S2x64x224x224, .f32⟩
  | 56 => ⟨S2x64x224x224, .f32⟩
  | 57 => ⟨S2x128x224x224, .f32⟩
  | 58 => ⟨S64x128x1x1, .f32⟩
  | 59 => ⟨S64x128, .f32⟩
  | 60 => ⟨S64x2x224x224, .f32⟩
  | 61 => ⟨S2x64x224x224, .f32⟩
  | 62 => ⟨S2x64x224x224, .f32⟩
  | 63 => ⟨S2x128x224x224, .f32⟩
  | 64 => ⟨S64x128x1x1, .f32⟩
  | 65 => ⟨S64x128, .f32⟩
  | 66 => ⟨S64x2x224x224, .f32⟩
  | 67 => ⟨S2x64x224x224, .f32⟩
  | 68 => ⟨S2x64x224x224, .f32⟩
  | 69 => ⟨S2x128x224x224, .f32⟩
  | 70 => ⟨S64x128x1x1, .f32⟩
  | 71 => ⟨S64x128, .f32⟩
  | 72 => ⟨S64x2x224x224, .f32⟩
  | 73 => ⟨S2x64x224x224, .f32⟩
  | 74 => ⟨S2x64x224x224, .f32⟩
  | 75 => ⟨S2x128x224x224, .f32⟩
  | 76 => ⟨S64x128x1x1, .f32⟩
  | 77 => ⟨S64x128, .f32⟩
  | 78 => ⟨S64x2x224x224, .f32⟩
  | 79 => ⟨S2x64x224x224, .f32⟩
  | 80 => ⟨S2x64x224x224, .f32⟩
  | 81 => ⟨S2x128x224x224, .f32⟩
  | 82 => ⟨S64x128x1x1, .f32⟩
  | 83 => ⟨S64x128, .f32⟩
  | 84 => ⟨S64x2x224x224, .f32⟩
  | 85 => ⟨S2x64x224x224, .f32⟩
  | 86 => ⟨S2x64x224x224, .f32⟩
  | 87 => ⟨S2x128x224x224, .f32⟩
  | 88 => ⟨S64x128x1x1, .f32⟩
  | 89 => ⟨S64x128, .f32⟩
  | 90 => ⟨S64x2x224x224, .f32⟩
  | 91 => ⟨S2x64x224x224, .f32⟩
  | 92 => ⟨S2x64x224x224, .f32⟩
  | 93 => ⟨S2x128x224x224, .f32⟩
  | 94 => ⟨S64x128x1x1, .f32⟩
  | 95 => ⟨S64x128, .f32⟩
  | 96 => ⟨S64x2x224x224, .f32⟩
  | 97 => ⟨S2x64x224x224, .f32⟩
  | 98 => ⟨S2x64x224x224, .f32⟩
  | 99 => ⟨S1x64x1x1, .f32⟩
  | 100 => ⟨S2x64x224x224, .f32⟩
  | 101 => ⟨S2x64x224x224, .f32⟩
  | 102 => ⟨S_, .f32⟩
  | 103 => ⟨S64, .f32⟩
  | 104 => ⟨S8, .i32⟩
  | 105 => ⟨S8x1, .i32⟩
  | 106 => ⟨S_, .i32⟩
  | 107 => ⟨S8x1, .i32⟩
  | 108 => ⟨S8x1, .i1⟩
  | 109 => ⟨S1x64, .f32⟩
  | 110 => ⟨S_, .f32⟩
  | 111 => ⟨S_, .f32⟩
  | 112 => ⟨S8x64, .i1⟩
  | 113 => ⟨S8x64, .f32⟩
  | 114 => ⟨S8x64, .f32⟩
  | 115 => ⟨S8x64, .f32⟩
  | 116 => ⟨S2x64x224x224, .f32⟩
  | 117 => ⟨S_, .f32⟩
  | 118 => ⟨S64, .f32⟩
  | 119 => ⟨S8, .i32⟩
  | 120 => ⟨S8x1, .i32⟩
  | 121 => ⟨S_, .i32⟩
  | 122 => ⟨S8x1, .i32⟩
  | 123 => ⟨S8x1, .i1⟩
  | 124 => ⟨S1x64, .f32⟩
  | 125 => ⟨S_, .f32⟩
  | 126 => ⟨S_, .f32⟩
  | 127 => ⟨S8x64, .i1⟩
  | _ => ⟨S2x224x224x128, .f32⟩

abbrev hbmTy0_1 (i : Nat) : BufTy := match i % 128 with
  | 0 => ⟨S8x64, .f32⟩
  | 1 => ⟨S8x64, .f32⟩
  | 2 => ⟨S8x64, .f32⟩
  | 3 => ⟨S2x224x224x64, .f32⟩
  | _ => ⟨S2x224x224x128, .f32⟩

abbrev hbmTy (i : Nat) : BufTy := match i / 128 with
  | 0 => hbmTy0_0 i
  | 1 => hbmTy0_1 i
  | _ => ⟨S2x224x224x128, .f32⟩

abbrev bufTy : (tb : Table) → Fin (tcTables nBuf tb) → BufTy
  | .hbm, ⟨i, _⟩ => hbmTy i
  | _, _ => ⟨S2x224x224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_call0_v0 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_6 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c_7 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_11 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]
-- ==== Third.lean ====
abbrev S2x224x224x64 : Shape := ⟨4, ![2, 224, 224, 64]⟩
abbrev S8x64 : Shape := ⟨2, ![8, 64]⟩
abbrev S64 : Shape := ⟨1, ![64]⟩
abbrev S32x64x3x3 : Shape := ⟨4, ![32, 64, 3, 3]⟩
abbrev S32 : Shape := ⟨1, ![32]⟩
abbrev S_ : Shape := ⟨0, ![]⟩
abbrev S2x232x226x64 : Shape := ⟨4, ![2, 232, 226, 64]⟩
abbrev S3x3x64x32 : Shape := ⟨4, ![3, 3, 64, 32]⟩
abbrev S1x32 : Shape := ⟨2, ![1, 32]⟩
abbrev S1x64 : Shape := ⟨2, ![1, 64]⟩
abbrev S2x224x224x32 : Shape := ⟨4, ![2, 224, 224, 32]⟩
abbrev S8x32 : Shape := ⟨2, ![8, 32]⟩
abbrev S1x8x226x64 : Shape := ⟨4, ![1, 8, 226, 64]⟩
abbrev S1x8x224x32 : Shape := ⟨4, ![1, 8, 224, 32]⟩
abbrev S8x226x64 : Shape := ⟨3, ![8, 226, 64]⟩
abbrev S2x226x64 : Shape := ⟨3, ![2, 226, 64]⟩
abbrev S10x226x64 : Shape := ⟨3, ![10, 226, 64]⟩
abbrev S1x1x64 : Shape := ⟨3, ![1, 1, 64]⟩
abbrev S8x224x32 : Shape := ⟨3, ![8, 224, 32]⟩
abbrev S8x224x64 : Shape := ⟨3, ![8, 224, 64]⟩
abbrev S1x1x64x32 : Shape := ⟨4, ![1, 1, 64, 32]⟩
abbrev S64x32 : Shape := ⟨2, ![64, 32]⟩
abbrev S1x1x32 : Shape := ⟨3, ![1, 1, 32]⟩

abbrev nBuf : Space → Nat
  | .hbm => 17
  | .vmem => 14
  | .smem => 0
  | _ => 0

abbrev bufTy : (tb : Table) → Fin (tcTables nBuf tb) → BufTy
  | .hbm, ⟨0, _⟩ => ⟨S2x224x224x64, .f32⟩
  | .hbm, ⟨1, _⟩ => ⟨S8x64, .f32⟩
  | .hbm, ⟨2, _⟩ => ⟨S8x64, .f32⟩
  | .hbm, ⟨3, _⟩ => ⟨S64, .f32⟩
  | .hbm, ⟨4, _⟩ => ⟨S64, .f32⟩
  | .hbm, ⟨5, _⟩ => ⟨S32x64x3x3, .f32⟩
  | .hbm, ⟨6, _⟩ => ⟨S32, .f32⟩
  | .hbm, ⟨7, _⟩ => ⟨S_, .i32⟩
  | .hbm, ⟨8, _⟩ => ⟨S_, .f32⟩
  | .hbm, ⟨9, _⟩ => ⟨S2x232x226x64, .f32⟩
  | .hbm, ⟨10, _⟩ => ⟨S3x3x64x32, .f32⟩
  | .hbm, ⟨11, _⟩ => ⟨S1x32, .f32⟩
  | .hbm, ⟨12, _⟩ => ⟨S1x64, .f32⟩
  | .hbm, ⟨13, _⟩ => ⟨S1x64, .f32⟩
  | .hbm, ⟨14, _⟩ => ⟨S2x224x224x32, .f32⟩
  | .hbm, ⟨15, _⟩ => ⟨S8x32, .f32⟩
  | .hbm, ⟨16, _⟩ => ⟨S8x32, .f32⟩
  | .local _ .vmem, ⟨0, _⟩ => ⟨S1x8x226x64, .f32⟩
  | .local _ .vmem, ⟨1, _⟩ => ⟨S1x8x226x64, .f32⟩
  | .local _ .vmem, ⟨2, _⟩ => ⟨S1x8x226x64, .f32⟩
  | .local _ .vmem, ⟨3, _⟩ => ⟨S1x8x226x64, .f32⟩
  | .local _ .vmem, ⟨4, _⟩ => ⟨S3x3x64x32, .f32⟩
  | .local _ .vmem, ⟨5, _⟩ => ⟨S1x32, .f32⟩
  | .local _ .vmem, ⟨6, _⟩ => ⟨S8x64, .f32⟩
  | .local _ .vmem, ⟨7, _⟩ => ⟨S8x64, .f32⟩
  | .local _ .vmem, ⟨8, _⟩ => ⟨S1x64, .f32⟩
  | .local _ .vmem, ⟨9, _⟩ => ⟨S1x64, .f32⟩
  | .local _ .vmem, ⟨10, _⟩ => ⟨S1x8x224x32, .f32⟩
  | .local _ .vmem, ⟨11, _⟩ => ⟨S1x8x224x32, .f32⟩
  | .local _ .vmem, ⟨12, _⟩ => ⟨S8x32, .f32⟩
  | .local _ .vmem, ⟨13, _⟩ => ⟨S8x32, .f32⟩
  | _, _ => ⟨S2x224x224x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![2, 28], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8x226x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x226x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x3x64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x224x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ThirdConvIdeal.lean ====
abbrev S2x224x224x64 : Shape := ⟨4, ![2, 224, 224, 64]⟩
abbrev S8x64 : Shape := ⟨2, ![8, 64]⟩
abbrev S64 : Shape := ⟨1, ![64]⟩
abbrev S32x64x3x3 : Shape := ⟨4, ![32, 64, 3, 3]⟩
abbrev S32 : Shape := ⟨1, ![32]⟩
abbrev S2x64x224x224 : Shape := ⟨4, ![2, 64, 224, 224]⟩
abbrev S_ : Shape := ⟨0, ![]⟩
abbrev S1x64x1x1 : Shape := ⟨4, ![1, 64, 1, 1]⟩
abbrev S2x64x226x226 : Shape := ⟨4, ![2, 64, 226, 226]⟩
abbrev S2x32x224x224 : Shape := ⟨4, ![2, 32, 224, 224]⟩
abbrev S32x64x1x1 : Shape := ⟨4, ![32, 64, 1, 1]⟩
abbrev S32x64 : Shape := ⟨2, ![32, 64]⟩
abbrev S32x2x224x224 : Shape := ⟨4, ![32, 2, 224, 224]⟩
abbrev S1x32x1x1 : Shape := ⟨4, ![1, 32, 1, 1]⟩
abbrev S8 : Shape := ⟨1, ![8]⟩
abbrev S8x1 : Shape := ⟨2, ![8, 1]⟩
abbrev S1x32 : Shape := ⟨2, ![1, 32]⟩
abbrev S8x32 : Shape := ⟨2, ![8, 32]⟩
abbrev S2x224x224x32 : Shape := ⟨4, ![2, 224, 224, 32]⟩

abbrev nBuf : Space → Nat
  | .hbm => 132
  | .vmem => 0
  | .smem => 0
  | _ => 0

abbrev hbmTy0_0 (i : Nat) : BufTy := match i % 128 with
  | 0 => ⟨S2x224x224x64, .f32⟩
  | 1 => ⟨S8x64, .f32⟩
  | 2 => ⟨S8x64, .f32⟩
  | 3 => ⟨S64, .f32⟩
  | 4 => ⟨S64, .f32⟩
  | 5 => ⟨S32x64x3x3, .f32⟩
  | 6 => ⟨S32, .f32⟩
  | 7 => ⟨S2x64x224x224, .f32⟩
  | 8 => ⟨S_, .f32⟩
  | 9 => ⟨S64, .f32⟩
  | 10 => ⟨S1x64x1x1, .f32⟩
  | 11 => ⟨S_, .f32⟩
  | 12 => ⟨S1x64x1x1, .f32⟩
  | 13 => ⟨S1x64x1x1, .f32⟩
  | 14 => ⟨S2x64x224x224, .f32⟩
  | 15 => ⟨S2x64x224x224, .f32⟩
  | 16 => ⟨S2x64x224x224, .f32⟩
  | 17 => ⟨S_, .f32⟩
  | 18 => ⟨S64, .f32⟩
  | 19 => ⟨S1x64x1x1, .f32⟩
  | 20 => ⟨S_, .f32⟩
  | 21 => ⟨S1x64x1x1, .f32⟩
  | 22 => ⟨S1x64x1x1, .f32⟩
  | 23 => ⟨S2x64x224x224, .f32⟩
  | 24 => ⟨S2x64x224x224, .f32⟩
  | 25 => ⟨S_, .f32⟩
  | 26 => ⟨S1x64x1x1, .f32⟩
  | 27 => ⟨S1x64x1x1, .f32⟩
  | 28 => ⟨S1x64x1x1, .f32⟩
  | 29 => ⟨S2x64x224x224, .f32⟩
  | 30 => ⟨S2x64x224x224, .f32⟩
  | 31 => ⟨S1x64x1x1, .f32⟩
  | 32 => ⟨S2x64x224x224, .f32⟩
  | 33 => ⟨S2x64x224x224, .f32⟩
  | 34 => ⟨S1x64x1x1, .f32⟩
  | 35 => ⟨S2x64x224x224, .f32⟩
  | 36 => ⟨S2x64x224x224, .f32⟩
  | 37 => ⟨S_, .f32⟩
  | 38 => ⟨S2x64x224x224, .f32⟩
  | 39 => ⟨S2x64x224x224, .f32⟩
  | 40 => ⟨S_, .i32⟩
  | 41 => ⟨S_, .f32⟩
  | 42 => ⟨S2x64x226x226, .f32⟩
  | 43 => ⟨S_, .f32⟩
  | 44 => ⟨S2x32x224x224, .f32⟩
  | 45 => ⟨S2x64x224x224, .f32⟩
  | 46 => ⟨S32x64x1x1, .f32⟩
  | 47 => ⟨S32x64, .f32⟩
  | 48 => ⟨S32x2x224x224, .f32⟩
  | 49 => ⟨S2x32x224x224, .f32⟩
  | 50 => ⟨S2x32x224x224, .f32⟩
  | 51 => ⟨S2x64x224x224, .f32⟩
  | 52 => ⟨S32x64x1x1, .f32⟩
  | 53 => ⟨S32x64, .f32⟩
  | 54 => ⟨S32x2x224x224, .f32⟩
  | 55 => ⟨S2x32x224x224, .f32⟩
  | 56 => ⟨S2x32x224x224, .f32⟩
  | 57 => ⟨S2x64x224x224, .f32⟩
  | 58 => ⟨S32x64x1x1, .f32⟩
  | 59 => ⟨S32x64, .f32⟩
  | 60 => ⟨S32x2x224x224, .f32⟩
  | 61 => ⟨S2x32x224x224, .f32⟩
  | 62 => ⟨S2x32x224x224, .f32⟩
  | 63 => ⟨S2x64x224x224, .f32⟩
  | 64 => ⟨S32x64x1x1, .f32⟩
  | 65 => ⟨S32x64, .f32⟩
  | 66 => ⟨S32x2x224x224, .f32⟩
  | 67 => ⟨S2x32x224x224, .f32⟩
  | 68 => ⟨S2x32x224x224, .f32⟩
  | 69 => ⟨S2x64x224x224, .f32⟩
  | 70 => ⟨S32x64x1x1, .f32⟩
  | 71 => ⟨S32x64, .f32⟩
  | 72 => ⟨S32x2x224x224, .f32⟩
  | 73 => ⟨S2x32x224x224, .f32⟩
  | 74 => ⟨S2x32x224x224, .f32⟩
  | 75 => ⟨S2x64x224x224, .f32⟩
  | 76 => ⟨S32x64x1x1, .f32⟩
  | 77 => ⟨S32x64, .f32⟩
  | 78 => ⟨S32x2x224x224, .f32⟩
  | 79 => ⟨S2x32x224x224, .f32⟩
  | 80 => ⟨S2x32x224x224, .f32⟩
  | 81 => ⟨S2x64x224x224, .f32⟩
  | 82 => ⟨S32x64x1x1, .f32⟩
  | 83 => ⟨S32x64, .f32⟩
  | 84 => ⟨S32x2x224x224, .f32⟩
  | 85 => ⟨S2x32x224x224, .f32⟩
  | 86 => ⟨S2x32x224x224, .f32⟩
  | 87 => ⟨S2x64x224x224, .f32⟩
  | 88 => ⟨S32x64x1x1, .f32⟩
  | 89 => ⟨S32x64, .f32⟩
  | 90 => ⟨S32x2x224x224, .f32⟩
  | 91 => ⟨S2x32x224x224, .f32⟩
  | 92 => ⟨S2x32x224x224, .f32⟩
  | 93 => ⟨S2x64x224x224, .f32⟩
  | 94 => ⟨S32x64x1x1, .f32⟩
  | 95 => ⟨S32x64, .f32⟩
  | 96 => ⟨S32x2x224x224, .f32⟩
  | 97 => ⟨S2x32x224x224, .f32⟩
  | 98 => ⟨S2x32x224x224, .f32⟩
  | 99 => ⟨S1x32x1x1, .f32⟩
  | 100 => ⟨S2x32x224x224, .f32⟩
  | 101 => ⟨S2x32x224x224, .f32⟩
  | 102 => ⟨S_, .f32⟩
  | 103 => ⟨S32, .f32⟩
  | 104 => ⟨S8, .i32⟩
  | 105 => ⟨S8x1, .i32⟩
  | 106 => ⟨S_, .i32⟩
  | 107 => ⟨S8x1, .i32⟩
  | 108 => ⟨S8x1, .i1⟩
  | 109 => ⟨S1x32, .f32⟩
  | 110 => ⟨S_, .f32⟩
  | 111 => ⟨S_, .f32⟩
  | 112 => ⟨S8x32, .i1⟩
  | 113 => ⟨S8x32, .f32⟩
  | 114 => ⟨S8x32, .f32⟩
  | 115 => ⟨S8x32, .f32⟩
  | 116 => ⟨S2x32x224x224, .f32⟩
  | 117 => ⟨S_, .f32⟩
  | 118 => ⟨S32, .f32⟩
  | 119 => ⟨S8, .i32⟩
  | 120 => ⟨S8x1, .i32⟩
  | 121 => ⟨S_, .i32⟩
  | 122 => ⟨S8x1, .i32⟩
  | 123 => ⟨S8x1, .i1⟩
  | 124 => ⟨S1x32, .f32⟩
  | 125 => ⟨S_, .f32⟩
  | 126 => ⟨S_, .f32⟩
  | 127 => ⟨S8x32, .i1⟩
  | _ => ⟨S2x224x224x64, .f32⟩

abbrev hbmTy0_1 (i : Nat) : BufTy := match i % 128 with
  | 0 => ⟨S8x32, .f32⟩
  | 1 => ⟨S8x32, .f32⟩
  | 2 => ⟨S8x32, .f32⟩
  | 3 => ⟨S2x224x224x32, .f32⟩
  | _ => ⟨S2x224x224x64, .f32⟩

abbrev hbmTy (i : Nat) : BufTy := match i / 128 with
  | 0 => hbmTy0_0 i
  | 1 => hbmTy0_1 i
  | _ => ⟨S2x224x224x64, .f32⟩

abbrev bufTy : (tb : Table) → Fin (tcTables nBuf tb) → BufTy
  | .hbm, ⟨i, _⟩ => hbmTy i
  | _, _ => ⟨S2x224x224x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_call0_v0 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_6 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_c_7 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_8 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_call1_v3 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_c_10 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_11 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_v100 : Ref sig .tc := ⟨.hbm, 130, rfl⟩
abbrev main_v101 : Ref sig .tc := ⟨.hbm, 131, rfl⟩

abbrev nD : Nat := 1
abbrev τ : Topo := Topo.v7x

variable {F : FTy → Type} [FloatOps F]
-- ==== Proof.KI.Loop.lean ====
/-
  What the kernel computes, as functions of what it reads: the normalised features, one pass of the clustering loop over
  the centroids, the loop run from the initial centroids, and the block written at the end. Each is composed of the named
  values the kernel's own text computes; nothing here is about memory.
-/
module

public import proofs.«01_k».proof.KernelIdeal
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic

variable {F : FTy → Type} [FloatOps F] [Named F]

/-- The position of each pixel along the lanes, -/
def lanes : IVec S1x50176 32 := iota .tc S1x50176 32 [1] iota_S1x50176_d1_w32
/-- the cluster of each row of the one-hot table, -/
def rows : IVec S8x50176 32 := iota .tc S8x50176 32 [0] iota_S8x50176_d0_w32
/-- and of each entry of a column of cluster values. -/
def row : IVec S8x1 32 := iota .tc S8x1 32 [0] iota_S8x1_d0_w32

/-- Column `j` of the table of statistics and affine parameters. -/
def col (P : Vec F S32x8 .f32) (j : Fin 8) : Vec F S32x1 .f32 :=
  fun y => P fun a => match a with | ⟨0, _⟩ => y 0 | ⟨1, _⟩ => j

/-- The normalised features of one image, from its block of activations and the table. -/
def feats (y : Vec F S1x32x50176 .f32) (P : Vec F S32x8 .f32) : Vec F S32x50176 .f32 :=
  k0_pay2 (col P 0) (col P 1) (col P 2) y (col P 3)

/-- Word `k` of the one row of initial pixel indices. -/
def initWord (I : Vec F S1x1x5 .i32) (k : Fin 5) : BitVec 32 :=
  I fun a => match a with | ⟨0, _⟩ => ⟨0, Nat.one_pos⟩ | ⟨1, _⟩ => ⟨0, Nat.one_pos⟩ | ⟨2, _⟩ => k

/-- The initial centroids: the features at the five pixels named. -/
def start (X : Vec F S32x50176 .f32) (I : Vec F S1x1x5 .i32) : FVec F S32x8 .f32 :=
  k0_pay8 lanes (k0_pay4 lanes (initWord I 0) X) (k0_pay5 lanes (initWord I 1) X) (k0_pay6 lanes (initWord I 2) X)
    (k0_pay7 lanes (initWord I 3) X) (initWord I 4) X

/-- Word `k` of row `j` of the fallback pixel indices. -/
def fbWord (I : Vec F S1x100x5 .i32) (j : ℕ) (k : Fin 5) : BitVec 32 :=
  I fun a => match a with | ⟨0, _⟩ => ⟨0, Nat.one_pos⟩ | ⟨1, _⟩ => ⟨j % 100, Nat.mod_lt _ (by decide)⟩ | ⟨2, _⟩ => k

section Pass

variable (X : Vec F S32x50176 .f32) (Xb : Vec F S32x50176 .bf16) (I : Vec F S1x100x5 .i32)

/-- The one-hot table of the nearest centroids, -/
def hot (C : FVec F S32x8 .f32) : FVec F S8x50176 .f32 := k0_pay22 rows C (k0_pay19 row C) (k0_pay20 row) (k0_pay21 C) Xb
/-- the same as the loop stores it, -/
def hotStored (C : FVec F S32x8 .f32) : FVec F S8x50176 .f32 := k0_pay23 rows C (k0_pay19 row C) (k0_pay20 row) (k0_pay21 C) Xb
/-- each cluster's number of pixels, -/
def counts (C : FVec F S32x8 .f32) : FVec F S8x1 .f32 := k0_pay24 rows C (k0_pay19 row C) (k0_pay20 row) (k0_pay21 C) Xb
/-- and whether some cluster is empty. -/
def anyEmpty (C : FVec F S32x8 .f32) : BitVec 1 :=
  Scalar.cmpf .ogt (k0_pay25 rows C (k0_pay19 row C) (k0_pay20 row) (k0_pay21 C) Xb) (Scalar.ofBits (F := F) .f32 0x00000000#32)

/-- The columns an empty cluster falls back to in pass `j`: gathered only when some cluster is empty. -/
def fallback (j : ℕ) (C : FVec F S32x8 .f32) : FVec F S32x8 .f32 :=
  if k0_cond1 (anyEmpty Xb C) = 1#1 then
    k0_pay26 lanes (k0_pay15 lanes (fbWord I j 0) X) (k0_pay16 lanes (fbWord I j 1) X) (k0_pay17 lanes (fbWord I j 2) X) X
      (k0_pay18 lanes (fbWord I j 3)) (fbWord I j 4) X
  else k0_pay27

/-- Whether cluster 2 has a pixel. -/
def someTwo (C : FVec F S32x8 .f32) : BitVec 1 :=
  Scalar.cmpf .ogt (k0_pay30 (counts Xb C)) (Scalar.ofBits (F := F) .f32 0x00000000#32)

/-- How far pass `j` moves the centroids, -/
def moved (j : ℕ) (C : FVec F S32x8 .f32) : F .f32 :=
  k0_pay33 C (hot Xb C) (counts Xb C) (fallback X Xb I j C) (k0_pay28 (hot Xb C) (counts Xb C) (fallback X Xb I j C) X)
    (k0_pay29 (hot Xb C) (counts Xb C) (fallback X Xb I j C) X) (k0_pay31 (hot Xb C) (counts Xb C) X) (someTwo Xb C) X X
/-- whether that ends the loop, -/
def settled (j : ℕ) (C : FVec F S32x8 .f32) : BitVec 1 :=
  Scalar.cmpf .ole (moved X Xb I j C) (Scalar.ofBits (F := F) .f32 0x38D1B717#32)
/-- and the centroids it leaves. -/
def next (j : ℕ) (C : FVec F S32x8 .f32) : FVec F S32x8 .f32 :=
  k0_pay34 C (hot Xb C) (counts Xb C) (fallback X Xb I j C) (k0_pay28 (hot Xb C) (counts Xb C) (fallback X Xb I j C) X)
    (k0_pay29 (hot Xb C) (counts Xb C) (fallback X Xb I j C) X) (k0_pay31 (hot Xb C) (counts Xb C) X) (someTwo Xb C) X X

/-- The one-hot table after at most `k` passes from pass `j` on: the loop stops once a pass settles. -/
def loopFrom : ℕ → ℕ → BitVec 1 → FVec F S32x8 .f32 → Vec F S8x50176 .f32 → Vec F S8x50176 .f32
  | 0, _, _, _, H => H
  | k + 1, j, d, C, H =>
    if d = 0#1 then loopFrom k (j + 1) (settled X Xb I j C) (next X Xb I j C) (hotStored Xb C) else H

end Pass

/-- The block written at the end: at each pixel the mean of its cluster. -/
def painted (X : Vec F S32x50176 .f32) (H : Vec F S8x50176 .f32) : FVec F S1x32x50176 .f32 :=
  k0_pay1 H (k0_pay12 H (k0_pay9 H) X) (k0_pay13 H (k0_pay9 H) X) (k0_pay14 H (k0_pay9 H) (k0_pay10 H X) (k0_pay11 H X) X)

/-- The one-hot table the loop ends with, over the features: no pass ever reads the table the loop starts from. -/
def table (X : Vec F S32x50176 .f32) (I0 : Vec F S1x1x5 .i32) (I : Vec F S1x100x5 .i32) : Vec F S8x50176 .f32 :=
  loopFrom X (k0_pay3 X) I 99 1 (settled X (k0_pay3 X) I 0 (start X I0)) (next X (k0_pay3 X) I 0 (start X I0))
    (hotStored (k0_pay3 X) (start X I0))

/-- What one grid point writes, from the blocks it reads. -/
def block (y : Vec F S1x32x50176 .f32) (P : Vec F S32x8 .f32) (I0 : Vec F S1x1x5 .i32) (I : Vec F S1x100x5 .i32) :
    Vec F S1x32x50176 .f32 :=
  painted (feats y P) (table (feats y P) I0 I)

end Cert.Proof.KI

end
-- ==== Proof.KI.Common.lean ====
/-
  Shared definitions for the kernel's run: the ghost algebra, the loop's counter arithmetic, loads and stores of a staging
  buffer held whole, and the pipeline's proof data.
-/
module

public import proofs.«01_k».proof.Proof.KI.Loop
public import proofs.«01_k».proof.Proof.Gen.KernelIdeal.Launch
public import proofs.«01_k».proof.Proof.Gen.KernelIdeal.Points
public import Idealize.ShloMosaic.Lib.Pipeline.Sound
public import Idealize.ShloMosaic.Lib.VecWindow
public import Idealize.ShloMosaic.Lib.Tactic

@[expose] public section

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

/-! ## The resource algebra -/

/-- The ghost algebra: the rounds library's over the machine's cells, duties named by `Unit`. -/
abbrev UR (nD : Nat) (τ : Topo) : Type := URounds (GSem nD τ sig) Unit

local notation "𝕄" => MT nD τ sig Unit (Elt F) ℕ (UR nD τ) ℕ

/-- Its embedding into the machine's algebra. -/
def EP : Emb (UR nD τ) (MT nD τ sig Unit (Elt F) ℕ (UR nD τ) ℕ) :=
  (Emb.refl _).trans (uEmb (nD := nD) (sig := sig) (Ix := Unit) (Val := Elt F) (Name := ℕ) (U := UR nD τ) (Lvl := ℕ)).toEmb

instance EP_landsIn : (EP : Emb (UR nD τ) 𝕄).LandsIn (upEmb : UEmb _ 𝕄) := by unfold EP; infer_instance

/-- The loop's variant: the passes it may still make. -/
abbrev 𝒱₀ : Variants := Variants.nat

/-! ## The loop's counter -/

/-- The loop goes on exactly while fewer than 100 passes were made and none has settled. -/
theorem test_iff (j : ℕ) (hj : j ≤ 100) (d : BitVec 1) :
    Scalar.andi (Scalar.cmpi .slt (BitVec.ofNat 32 j) 100#32) (Scalar.xori d 1#1) = 1#1 ↔ j < 100 ∧ d = 0#1 := by
  revert d; revert j; decide +kernel

theorem addi_succ (j : ℕ) (hj : j < 100) : Scalar.addi (BitVec.ofNat 32 j) 1#32 = BitVec.ofNat 32 (j + 1) := by
  revert j; decide +kernel

/-- The offsets of the five fallback words of pass `j`. -/
theorem off1 : ∀ j < 100, k0_off1 (BitVec.ofNat 32 j) = ![0, j % 100, 0] := by decide +kernel
theorem off2 : ∀ j < 100, k0_off2 (BitVec.ofNat 32 j) = ![0, j % 100, 1] := by decide +kernel
theorem off3 : ∀ j < 100, k0_off3 (BitVec.ofNat 32 j) = ![0, j % 100, 2] := by decide +kernel
theorem off4 : ∀ j < 100, k0_off4 (BitVec.ofNat 32 j) = ![0, j % 100, 3] := by decide +kernel
theorem off5 : ∀ j < 100, k0_off5 (BitVec.ofNat 32 j) = ![0, j % 100, 4] := by decide +kernel

theorem offs_inb : ∀ j < 100, ∀ k < 5, ∀ a, (![0, j % 100, k] : Fin 3 → ℕ) a + S1x1x1.size a ≤ S1x100x5.size a := by decide +kernel

/-- They lie inside the table: what the pass assumes of its counter. -/
theorem chk_of_lt (j : ℕ) (hj : j < 100) (v : BitVec 1) : k0_chk1 (BitVec.ofNat 32 j) v := by
  unfold k0_chk1
  rw [off1 j hj, off2 j hj, off3 j hj, off4 j hj, off5 j hj]
  exact ⟨fun _ => offs_inb j hj 0 (by decide), fun _ => offs_inb j hj 1 (by decide), fun _ => offs_inb j hj 2 (by decide),
    fun _ => offs_inb j hj 3 (by decide), fun _ => offs_inb j hj 4 (by decide)⟩

/-! ## Loads and stores of a buffer held whole -/

section Access

variable {α : Type} (c : Dev nD) (bd : Option 𝒱₀.V) (E : Set ℕ)

/-- Memref `M` held at contents `X`. -/
abbrev own {sp : Space} {s : Shape} {e : EltTy} (c : Dev nD) (M : Memref sig .tc sp s e) (X : s.Idx → Elt F e) : sProp 𝕄 :=
  owns (Ix := Unit) (Name := ℕ) (U := UR nD τ) (Lvl := ℕ) (c : Thread nD τ) M fullShare X

/-- A load at rectangle `r` of a memref held at `X` continues at `X` restricted to `r`. -/
theorem load_own {cs : CoreSpace} {s : Shape} {e : EltTy} {M : Memref sig .tc cs s e} {r : Rect s} {hl : M.view.LoadsAt r.toLoadRect}
    {k : (r.shape.Idx → Elt F e) → Prog (TpuEff nD τ sig (Elt F) (Λ₀ F) .tc) α} {X : s.Idx → Elt F e}
    {Q : α → sProp 𝕄} :
    own c M X ⊢ iprop((own c M X -∗ wp frame (wpE (defs₀ (F := F)) 𝒱₀ (c : Thread nD τ) bd) E (k fun x => X (r.emb x)) Q)
        -∗ wp frame (wpE (defs₀ (F := F)) 𝒱₀ (c : Thread nD τ) bd) E (.op (.load M r.toLoadRect hl) k) Q) := by
  unfold own owns
  iintro ⟨%f, %hf, H⟩ Hk
  iapply (wp_load 𝒱₀ (c : Thread nD τ) bd E (m := M) (r := r.toLoadRect) (hl := hl) (View.setOn_subset_set _ _)) $$ H
  iintro H
  have h : M.view.readAt (Elt F) r.toLoadRect f = fun x => X (r.emb x) := by rw [← hf]; rfl
  rw [h]
  iapply Hk
  iexists f
  isplitr
  · ipureintro; exact hf
  · iexact H

/-- A load at rectangle `r` through which every element read is `w` continues at that element. -/
theorem load_word {cs : CoreSpace} {s : Shape} {e : EltTy} {M : Memref sig .tc cs s e} {r : Rect s} {hl : M.view.LoadsAt r.toLoadRect}
    {k : (r.shape.Idx → Elt F e) → Prog (TpuEff nD τ sig (Elt F) (Λ₀ F) .tc) α} {X : s.Idx → Elt F e} {w : r.shape.Idx → Elt F e}
    {Q : α → sProp 𝕄} (hw : (fun x => X (r.emb x)) = w) :
    own c M X ⊢ iprop((own c M X -∗ wp frame (wpE (defs₀ (F := F)) 𝒱₀ (c : Thread nD τ) bd) E (k w) Q)
        -∗ wp frame (wpE (defs₀ (F := F)) 𝒱₀ (c : Thread nD τ) bd) E (.op (.load M r.toLoadRect hl) k) Q) := by
  have := load_own (F := F) c bd E (M := M) (r := r) (hl := hl) (k := k) (X := X) (Q := Q)
  rwa [hw] at this

/-- A load of the whole of a memref held at `X` continues at `X`. -/
theorem load_full {cs : CoreSpace} {s : Shape} {e : EltTy} {M : Memref sig .tc cs s e} {off : Fin s.rank → ℕ}
    {inb : ∀ a, off a + s.size a ≤ s.size a} {hl : M.view.LoadsAt (Rect.unit off s.size inb).toLoadRect}
    {k : (s.Idx → Elt F e) → Prog (TpuEff nD τ sig (Elt F) (Λ₀ F) .tc) α} {X : s.Idx → Elt F e}
    {Q : α → sProp 𝕄} :
    own c M X ⊢ iprop((own c M X -∗ wp frame (wpE (defs₀ (F := F)) 𝒱₀ (c : Thread nD τ) bd) E (k X) Q)
        -∗ wp frame (wpE (defs₀ (F := F)) 𝒱₀ (c : Thread nD τ) bd) E (.op (.load M (Rect.unit off s.size inb).toLoadRect hl) k) Q) := by
  have h : (fun x => X ((Rect.unit off s.size inb).emb x)) = X := by
    funext y
    exact congrArg X (funext fun a => Fin.ext (by
      show off a + 1 * (y a).val = (y a).val
      have := inb a; omega))
  have := load_own (F := F) c bd E (M := M) (r := Rect.unit off s.size inb) (hl := hl) (k := k) (X := X) (Q := Q)
  rwa [h] at this

/-- A store over the whole of a memref leaves it held at what was stored. -/
theorem store_full {cs : CoreSpace} {s : Shape} {e : EltTy} {M : Memref sig .tc cs s e} {off : Fin s.rank → ℕ}
    {inb : ∀ a, off a + s.size a ≤ s.size a} {w : s.Idx → Elt F e}
    {hx : (M.access (Rect.unit off s.size inb)).Stores Finset.univ}
    {hm : Finset.univ = Finset.univ ∨ ∀ a, (Rect.unit off s.size inb).stride a = 1}
    {k : PUnit → Prog (TpuEff nD τ sig (Elt F) (Λ₀ F) .tc) α} {X : s.Idx → Elt F e}
    {Q : α → sProp 𝕄} :
    own c M X ⊢ iprop((own c M w -∗ wp frame (wpE (defs₀ (F := F)) 𝒱₀ (c : Thread nD τ) bd) E (k ⟨⟩) Q)
        -∗ wp frame (wpE (defs₀ (F := F)) 𝒱₀ (c : Thread nD τ) bd) E (.op (.store M (Rect.unit off s.size inb) w Finset.univ hx hm) k) Q) := by
  unfold own owns
  iintro ⟨%f, %hf, H⟩ Hk
  iapply (wp_store 𝒱₀ (c : Thread nD τ) bd E (m := M) (r := Rect.unit off s.size inb) (w := w) (Mk := Finset.univ) (hx := hx) (hm := hm)
    (View.set_slice_subset _ _)) $$ H
  iintro H
  iapply Hk
  iexists _
  isplitr
  swap
  · iexact H
  · ipureintro
    funext y
    have hy : (Rect.unit off s.size inb).emb y = y := funext fun a => Fin.ext (by
      show off a + 1 * (y a).val = (y a).val
      have := inb a; omega)
    have := View.read_slice_write_emb (v := M.view) (Val := Elt F) (Rect.unit off s.size inb) f w (Finset.mem_univ y)
    rw [hy] at this
    exact this

end Access

end Cert.Proof.KI

end
-- ==== Proof.KI.Pass.lean ====
/-
  One pass of the kernel's clustering loop, and the loop: held the features in both formats, the fallback indices and the
  one-hot table, a pass leaves the table of its nearest centroids and hands on whether it settles and the new centroids;
  the loop, by induction on the passes it may still make, leaves the table `loopFrom` says.
-/
module

public import proofs.«01_k».proof.Proof.KI.Common

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

/-! ## The words and columns read -/

/-- The word at `![0, j, k]` of the fallback indices. -/
theorem fbWord_eq (I : Vec F S1x100x5 .i32) (j : ℕ) (k : Fin 5) (off : Fin 3 → ℕ) (ho : off = ![0, j % 100, k.val])
    (inb : ∀ a, off a + S1x1x1.size a ≤ S1x100x5.size a) (x : S1x1x1.Idx) :
    I ((Rect.unit (s := S1x100x5) off S1x1x1.size inb).emb x) = fbWord I j k := by
  subst ho
  unfold fbWord
  refine congrArg I (funext fun a => Fin.ext ?_)
  match a with
  | ⟨0, _⟩ => exact Nat.lt_one_iff.mp ((Rect.unit (s := S1x100x5) ![0, j % 100, k.val] S1x1x1.size inb).emb x 0).isLt
  | ⟨1, h1⟩ =>
    show j % 100 + 1 * (x ⟨1, h1⟩).val = j % 100
    have := Nat.lt_one_iff.mp (x ⟨1, h1⟩).isLt
    omega
  | ⟨2, h2⟩ =>
    show k.val + 1 * (x ⟨2, h2⟩).val = k.val
    have := Nat.lt_one_iff.mp (x ⟨2, h2⟩).isLt
    omega

/-- The word at `![0, 0, k]` of the initial indices. -/
theorem initWord_eq (I : Vec F S1x1x5 .i32) (k : Fin 5) (off : Fin 3 → ℕ) (ho : off = ![0, 0, k.val])
    (inb : ∀ a, off a + S1x1x1.size a ≤ S1x1x5.size a) (x : S1x1x1.Idx) :
    I ((Rect.unit (s := S1x1x5) off S1x1x1.size inb).emb x) = initWord I k := by
  subst ho
  unfold initWord
  refine congrArg I (funext fun a => Fin.ext ?_)
  match a with
  | ⟨0, _⟩ => exact Nat.lt_one_iff.mp ((Rect.unit (s := S1x1x5) ![0, 0, k.val] S1x1x1.size inb).emb x 0).isLt
  | ⟨1, _⟩ => exact Nat.lt_one_iff.mp ((Rect.unit (s := S1x1x5) ![0, 0, k.val] S1x1x1.size inb).emb x 1).isLt
  | ⟨2, h2⟩ =>
    show k.val + 1 * (x ⟨2, h2⟩).val = k.val
    have := Nat.lt_one_iff.mp (x ⟨2, h2⟩).isLt
    omega

/-- Column `j` of the table. -/
theorem col_eq (P : Vec F S32x8 .f32) (j : Fin 8) (off : Fin 2 → ℕ) (ho : off = ![0, j.val])
    (inb : ∀ a, off a + S32x1.size a ≤ S32x8.size a) :
    (fun x => P ((Rect.unit (s := S32x8) off S32x1.size inb).emb x)) = col P j := by
  subst ho
  funext x
  unfold col
  refine congrArg P (funext fun a => Fin.ext ?_)
  match a with
  | ⟨0, h0⟩ =>
    show 0 + 1 * (x ⟨0, h0⟩).val = (x 0).val
    rw [Nat.zero_add, Nat.one_mul]; rfl
  | ⟨1, h1⟩ =>
    show j.val + 1 * (x ⟨1, h1⟩).val = j.val
    have := Nat.lt_one_iff.mp (x ⟨1, h1⟩).isLt
    omega

/-! ## One pass -/

section Pass

variable (c : Dev nD) (i : grid0.Coords)
variable (M4 : Memref sig .tc .smem S1x100x5 .i32) (h4 : M4.IsWhole) (M6 : Memref sig .tc .vmem S32x50176 .f32) (h6 : M6.IsWhole)
variable (M7 : Memref sig .tc .vmem S32x50176 .bf16) (h7 : M7.IsWhole) (M8 : Memref sig .tc .vmem S8x50176 .f32) (h8 : M8.IsWhole)
variable (X : Vec F S32x50176 .f32) (Xb : Vec F S32x50176 .bf16) (I : Vec F S1x100x5 .i32)
variable (bd : Option 𝒱₀.V) (E : Set ℕ)

/-- The distances, the nearest centroids and the counts, with the one-hot table stored. -/
theorem part7 {α : Type} {Q : α → sProp 𝕄} (j : BitVec 32) (d : BitVec 1) (C : FVec F S32x8 .f32) (H : Vec F S8x50176 .f32)
    {k : (Σ' (_ : FVec F S8x50176 .f32) (_ : FVec F S8x1 .f32), BitVec 1) → Prog (TpuEff nD τ sig (Elt F) (Λ₀ F) .tc) α} :
    iprop(own c M7 Xb ∗ own c M8 H) ⊢ iprop((iprop(own c M7 Xb ∗ own c M8 (hotStored Xb C))
          -∗ wp frame (wpE (defs₀ (F := F)) 𝒱₀ (c : Thread nD τ) bd) E (k ⟨hot Xb C, counts Xb C, anyEmpty Xb C⟩) Q)
        -∗ wp frame (wpE (defs₀ (F := F)) 𝒱₀ (c : Thread nD τ) bd) E
          (k0_part7 i row M7 h7 rows M8 h8 M4 h4 lanes M6 h6 j d C (k0_pay19 row C) (k0_pay20 row) (k0_pay21 C) >>= k) Q) := by
  simp only [k0_part7_eq_skeleton]; unfold k0_part7_skel
  simp only [Prog.lift, Prog.bind_op, Prog.bind_ret, Prog.pure_eq_ret]
  iintro ⟨H7, H8⟩ Hk
  iapply (load_full c bd E) $$ H7; iintro H7
  iapply (load_full c bd E) $$ H8; iintro H8
  iapply (store_full c bd E) $$ H8; iintro H8
  iapply Hk
  isplitl [H7]
  · iexact H7
  · iexact H8

/-- The fallback columns, the masked sums of clusters 0 and 1 and that of cluster 2. -/
theorem part8 {α : Type} {Q : α → sProp 𝕄} (j : ℕ) (hj : j < 100) (d : BitVec 1) (C : FVec F S32x8 .f32)
    {k : (Σ' (_ : FVec F S32x8 .f32) (_ : FVec F S32x1 .f32) (_ : FVec F S32x1 .f32) (_ : FVec F S32x1 .f32), BitVec 1)
      → Prog (TpuEff nD τ sig (Elt F) (Λ₀ F) .tc) α} :
    iprop(own c M4 I ∗ own c M6 X) ⊢ iprop((iprop(own c M4 I ∗ own c M6 X)
          -∗ wp frame (wpE (defs₀ (F := F)) 𝒱₀ (c : Thread nD τ) bd) E
            (k ⟨fallback X Xb I j C, k0_pay28 (hot Xb C) (counts Xb C) (fallback X Xb I j C) X,
              k0_pay29 (hot Xb C) (counts Xb C) (fallback X Xb I j C) X, k0_pay31 (hot Xb C) (counts Xb C) X, someTwo Xb C⟩) Q)
        -∗ wp frame (wpE (defs₀ (F := F)) 𝒱₀ (c : Thread nD τ) bd) E
          (k0_part8 i row M7 h7 rows M8 h8 M4 h4 lanes M6 h6 (BitVec.ofNat 32 j) d C (hot Xb C) (counts Xb C) (anyEmpty Xb C) >>= k) Q) := by
  simp only [k0_part8_eq_skeleton]; unfold k0_part8_skel
  simp only [Prog.lift, Prog.bind_op, Prog.bind_ret, Prog.pure_eq_ret]
  iintro ⟨H4, H6⟩ Hk
  iapply (wp_assume 𝒱₀ (c : Thread nD τ) bd E (chk_of_lt j hj (anyEmpty Xb C)))
  by_cases hc : k0_cond1 (anyEmpty Xb C) = 1#1
  · rw [dif_pos hc]
    simp only [k0_part5_eq_skeleton]; unfold k0_part5_skel
    simp only [smemLoad, smemLoadElt, Prog.lift, Prog.bind_op, Prog.bind_ret, Prog.pure_eq_ret]
    iapply (load_word c bd E (funext fun x => fbWord_eq I j 0 _ (off1 j hj) _ x)) $$ H4; iintro H4
    iapply (load_full c bd E) $$ H6; iintro H6
    iapply (load_word c bd E (funext fun x => fbWord_eq I j 1 _ (off2 j hj) _ x)) $$ H4; iintro H4
    iapply (load_full c bd E) $$ H6; iintro H6
    iapply (load_word c bd E (funext fun x => fbWord_eq I j 2 _ (off3 j hj) _ x)) $$ H4; iintro H4
    iapply (load_full c bd E) $$ H6; iintro H6
    iapply (load_word c bd E (funext fun x => fbWord_eq I j 3 _ (off4 j hj) _ x)) $$ H4; iintro H4
    iapply (load_full c bd E) $$ H6; iintro H6
    iapply (load_word c bd E (funext fun x => fbWord_eq I j 4 _ (off5 j hj) _ x)) $$ H4; iintro H4
    iapply (load_full c bd E) $$ H6; iintro H6
    rw [show k0_pay26 lanes (k0_pay15 lanes (fbWord I j 0) X) (k0_pay16 lanes (fbWord I j 1) X) (k0_pay17 lanes (fbWord I j 2) X) X
      (k0_pay18 lanes (fbWord I j 3)) (fbWord I j 4) X = fallback X Xb I j C from by unfold fallback; rw [if_pos hc]]
    iapply (load_full c bd E) $$ H6; iintro H6
    iapply (load_full c bd E) $$ H6; iintro H6
    iapply (load_full c bd E) $$ H6; iintro H6
    iapply Hk
    isplitl [H4]
    · iexact H4
    · iexact H6
  · rw [dif_neg hc]
    simp only [Prog.bind_op, Prog.bind_ret, Prog.pure_eq_ret]
    rw [show (k0_pay27 (F := F)) = fallback X Xb I j C from by unfold fallback; rw [if_neg hc]]
    iapply (load_full c bd E) $$ H6; iintro H6
    iapply (load_full c bd E) $$ H6; iintro H6
    iapply (load_full c bd E) $$ H6; iintro H6
    iapply Hk
    isplitl [H4]
    · iexact H4
    · iexact H6

/-- The whole pass. -/
theorem pass {α : Type} {Q : α → sProp 𝕄} (j : ℕ) (hj : j < 100) (d : BitVec 1) (C : FVec F S32x8 .f32) (H : Vec F S8x50176 .f32)
    {k : (Σ' (_ : BitVec 1) (_ : FVec F S32x8 .f32), BitVec 32) → Prog (TpuEff nD τ sig (Elt F) (Λ₀ F) .tc) α} :
    iprop(own c M4 I ∗ own c M6 X ∗ own c M7 Xb ∗ own c M8 H)
      ⊢ iprop((iprop(own c M4 I ∗ own c M6 X ∗ own c M7 Xb ∗ own c M8 (hotStored Xb C))
          -∗ wp frame (wpE (defs₀ (F := F)) 𝒱₀ (c : Thread nD τ) bd) E (k ⟨settled X Xb I j C, next X Xb I j C, 1#32⟩) Q)
        -∗ wp frame (wpE (defs₀ (F := F)) 𝒱₀ (c : Thread nD τ) bd) E
          (k0_part9 i row M7 h7 rows M8 h8 M4 h4 lanes M6 h6 (BitVec.ofNat 32 j) d C >>= k) Q) := by
  simp only [k0_part9_eq_skeleton]; unfold k0_part9_skel
  simp only [k0_part6_eq_skeleton]; unfold k0_part6_skel
  simp only [Prog.lift, Prog.bind_op, Prog.bind_ret, Prog.pure_eq_ret, Prog.bind_assoc]
  iintro ⟨H4, H6, H7, H8⟩ Hk
  iapply (part7 c i M4 h4 M6 h6 M7 h7 M8 h8 Xb bd E (BitVec.ofNat 32 j) d C H) $$ [H7 H8]
  · isplitl [H7]
    · iexact H7
    · iexact H8
  iintro ⟨H7, H8⟩
  simp only [Prog.bind_op, Prog.bind_ret, Prog.bind_assoc]
  iapply (part8 c i M4 h4 M6 h6 M7 h7 M8 h8 X Xb I bd E j hj d C) $$ [H4 H6]
  · isplitl [H4]
    · iexact H4
    · iexact H6
  iintro ⟨H4, H6⟩
  simp only [Prog.bind_op, Prog.bind_ret]
  iapply (load_full c bd E) $$ H6; iintro H6
  iapply (load_full c bd E) $$ H6; iintro H6
  iapply Hk
  isplitl [H4]
  · iexact H4
  isplitl [H6]
  · iexact H6
  isplitl [H7]
  · iexact H7
  · iexact H8

end Pass

/-! ## The loop -/

section Loop

variable (c : Dev nD) (i : grid0.Coords)
variable (M4 : Memref sig .tc .smem S1x100x5 .i32) (h4 : M4.IsWhole) (M6 : Memref sig .tc .vmem S32x50176 .f32) (h6 : M6.IsWhole)
variable (M7 : Memref sig .tc .vmem S32x50176 .bf16) (h7 : M7.IsWhole) (M8 : Memref sig .tc .vmem S8x50176 .f32) (h8 : M8.IsWhole)
variable (X : Vec F S32x50176 .f32) (Xb : Vec F S32x50176 .bf16) (I : Vec F S1x100x5 .i32)

/-- What the loop needs held, with the one-hot table at `H`. -/
def held (H : Vec F S8x50176 .f32) : sProp 𝕄 := iprop(own c M4 I ∗ own c M6 X ∗ own c M7 Xb ∗ own c M8 H)

/-- The loop's specification with at most `k` passes from pass `j` on. -/
def spec (k j : ℕ) (d : BitVec 1) (C : FVec F S32x8 .f32) (H : Vec F S8x50176 .f32) : sWPT 𝕄 (BitVec 32 × BitVec 1 × FVec F S32x8 .f32) := do
  sWPT.consume (held c M4 M6 M7 M8 X Xb I H)
  let r ← sWPT.arbitrary
  sWPT.produce (held c M4 M6 M7 M8 X Xb I (loopFrom X Xb I k j d C H))
  pure r

theorem spec_apply (k j : ℕ) (d : BitVec 1) (C : FVec F S32x8 .f32) (H : Vec F S8x50176 .f32)
    (K : BitVec 32 × BitVec 1 × FVec F S32x8 .f32 → sProp 𝕄) :
    spec c M4 M6 M7 M8 X Xb I k j d C H K
      = iprop(held c M4 M6 M7 M8 X Xb I H ∗ ∀ r : BitVec 32 × BitVec 1 × FVec F S32x8 .f32,
          (held c M4 M6 M7 M8 X Xb I (loopFrom X Xb I k j d C H) -∗ K r)) := rfl

/-- The loop's body meets it, by induction on the passes it may still make: with none, or once a pass settled, the test
    fails and the table stays; otherwise one pass, and the rest by the induction hypothesis. -/
theorem spec_le (E : Set ℕ) : ∀ k j, j + k = 100 → ∀ d C H K, spec c M4 M6 M7 M8 X Xb I k j d C H K
      ⊢ wp frame (wpE (defs₀ (F := F)) 𝒱₀ (c : Thread nD τ) (some k)) E
          (defs₀ (F := F) .tc 1 ⟨i, row, M7, h7, rows, M8, h8, M4, h4, lanes, M6, h6, BitVec.ofNat 32 j, d, C⟩) K := by
  intro k
  induction k with
  | zero =>
    intro j hj d C H K
    rw [spec_apply]
    show _ ⊢ wp frame (wpE (defs₀ (F := F)) 𝒱₀ (c : Thread nD τ) (some 0)) E
      (cc0_while1 i row M7 h7 rows M8 h8 M4 h4 lanes M6 h6 (BitVec.ofNat 32 j) d C) K
    simp only [cc0_while1_eq_skeleton]; unfold cc0_while1_skel
    have ht : ¬ Scalar.andi (Scalar.cmpi .slt (BitVec.ofNat 32 j) 100#32) (Scalar.xori d 1#1) = 1#1 := by
      rw [test_iff j (by omega)]; omega
    simp only [ht, ↓reduceIte, Prog.pure_eq_ret]
    iintro ⟨H, Hk⟩
    rw [wp_ret]; imodintro
    iapply Hk
    iexact H
  | succ k ih =>
    intro j hj d C H K
    rw [spec_apply]
    show _ ⊢ wp frame (wpE (defs₀ (F := F)) 𝒱₀ (c : Thread nD τ) (some (k + 1))) E
      (cc0_while1 i row M7 h7 rows M8 h8 M4 h4 lanes M6 h6 (BitVec.ofNat 32 j) d C) K
    simp only [cc0_while1_eq_skeleton]; unfold cc0_while1_skel
    by_cases hd : d = 0#1
    · have ht : Scalar.andi (Scalar.cmpi .slt (BitVec.ofNat 32 j) 100#32) (Scalar.xori d 1#1) = 1#1 :=
        (test_iff j (by omega) d).mpr ⟨by omega, hd⟩
      have hl : loopFrom X Xb I (k + 1) j d C H
          = loopFrom X Xb I k (j + 1) (settled X Xb I j C) (next X Xb I j C) (hotStored Xb C) := by
        rw [loopFrom, if_pos hd]
      rw [hl]
      simp only [ht, ↓reduceIte, Prog.lift, Prog.pure_eq_ret]
      unfold held
      iintro ⟨H, Hk⟩
      iapply (pass c i M4 h4 M6 h6 M7 h7 M8 h8 X Xb I (some (k + 1)) E j (by omega) d C H) $$ H
      iintro H
      simp only [Prog.bind_op, Prog.bind_ret]
      rw [addi_succ j (by omega)]
      iapply (wp_call_spec 𝒱₀ (c : Thread nD τ) (some (k + 1)) E
        (spec c M4 M6 M7 M8 X Xb I k (j + 1) (settled X Xb I j C) (next X Xb I j C) (hotStored Xb C)) k
        (fun u hu => by cases hu; exact Nat.lt_succ_self k)
        (ih (j + 1) (by omega) _ _ _))
      rw [spec_apply]; unfold held
      isplitl [H]
      · iexact H
      iintro %r H
      rw [wp_ret]; imodintro
      iapply Hk
      iexact H
    · have ht : ¬ Scalar.andi (Scalar.cmpi .slt (BitVec.ofNat 32 j) 100#32) (Scalar.xori d 1#1) = 1#1 := by
        rw [test_iff j (by omega)]; exact fun h => hd h.2
      have hl : loopFrom X Xb I (k + 1) j d C H = H := by rw [loopFrom, if_neg hd]
      rw [hl]
      simp only [ht, ↓reduceIte, Prog.pure_eq_ret]
      iintro ⟨H, Hk⟩
      rw [wp_ret]; imodintro
      iapply Hk
      iexact H

end Loop

end Cert.Proof.KI

end
-- ==== Proof.KI.Body.lean ====
/-
  The kernel's body at one grid point, run once over any staging buffers: from the activations, the table of statistics and
  the two tables of indices, it writes `block` of them and hands the inputs back untouched.
-/
module

public import proofs.«01_k».proof.Proof.KI.Pass

@[expose] public section

set_option maxRecDepth 16384

noncomputable section

namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR nD τ) ℕ

section

variable (c : Dev nD) (i : grid0.Coords)
variable (M1 : Memref sig .tc .vmem S1x32x50176 .f32) (h1 : M1.IsWhole) (M2 : Memref sig .tc .vmem S32x8 .f32) (h2 : M2.IsWhole)
variable (M3 : Memref sig .tc .smem S1x1x5 .i32) (h3 : M3.IsWhole)
variable (M4 : Memref sig .tc .smem S1x100x5 .i32) (h4 : M4.IsWhole)
variable (M5 : Memref sig .tc .vmem S1x32x50176 .f32) (h5 : M5.IsWhole) (M6 : Memref sig .tc .vmem S32x50176 .f32) (h6 : M6.IsWhole)
variable (M7 : Memref sig .tc .vmem S32x50176 .bf16) (h7 : M7.IsWhole) (M8 : Memref sig .tc .vmem S8x50176 .f32) (h8 : M8.IsWhole)

/-- The loop entered at pass 0 with nothing settled leaves the table `table` says. -/
theorem loop_start (X : Vec F S32x50176 .f32) (I0 : Vec F S1x1x5 .i32) (I : Vec F S1x100x5 .i32) (H : Vec F S8x50176 .f32) :
    loopFrom X (k0_pay3 X) I 100 0 0#1 (start X I0) H = table X I0 I := by
  rw [loopFrom, if_pos rfl]; rfl

theorem body {Q : PUnit → sProp 𝕄} (y : Vec F S1x32x50176 .f32) (P : Vec F S32x8 .f32) (I0 : Vec F S1x1x5 .i32) (I : Vec F S1x100x5 .i32)
    (o : Vec F S1x32x50176 .f32) (x : Vec F S32x50176 .f32) (xb : Vec F S32x50176 .bf16) (h : Vec F S8x50176 .f32) :
    iprop((own c M1 y ∗ own c M2 P ∗ own c M3 I0 ∗ own c M4 I ∗ own c M5 o ∗ own c M6 x ∗ own c M7 xb ∗ own c M8 h)
      ∗ ((own c M1 y ∗ own c M2 P ∗ own c M3 I0 ∗ own c M4 I ∗ own c M5 (block y P I0 I)
          ∗ (∃ x, own c M6 x) ∗ (∃ xb, own c M7 xb) ∗ (∃ h, own c M8 h)) -∗ Q ⟨⟩))
      ⊢ wp frame (wpE (defs₀ (F := F)) 𝒱₀ (c : Thread nD τ) none) Set.univ
          (cc0__kmeans_kernel i M1 h1 M2 h2 M3 h3 M4 h4 M5 h5 M6 h6 M7 h7 M8 h8) Q := by
  simp only [cc0__kmeans_kernel_eq_skeleton]; unfold cc0__kmeans_kernel_skel
  simp only [k0_part1_eq_skeleton]; unfold k0_part1_skel
  simp only [smemLoad, smemLoadElt, Prog.lift, Prog.bind_op, Prog.bind_ret, Prog.pure_eq_ret, Prog.bind_assoc]
  iintro ⟨⟨H1, H2, H3, H4, H5, H6, H7, H8⟩, Hk⟩
  iapply (load_word c none Set.univ (col_eq P 0 _ rfl _)) $$ H2; iintro H2
  iapply (load_word c none Set.univ (col_eq P 1 _ rfl _)) $$ H2; iintro H2
  iapply (load_word c none Set.univ (col_eq P 2 _ rfl _)) $$ H2; iintro H2
  iapply (load_full c none Set.univ) $$ H1; iintro H1
  iapply (load_word c none Set.univ (col_eq P 3 _ rfl _)) $$ H2; iintro H2
  rw [show k0_pay2 (col P 0) (col P 1) (col P 2) y (col P 3) = feats y P from rfl]
  unfold block
  generalize feats y P = X
  iapply (load_full c none Set.univ) $$ H6; iintro H6
  iapply (store_full c none Set.univ) $$ H6; iintro H6
  iapply (load_full c none Set.univ) $$ H6; iintro H6
  iapply (load_full c none Set.univ) $$ H7; iintro H7
  iapply (store_full c none Set.univ) $$ H7; iintro H7
  iapply (load_word c none Set.univ (funext fun z => initWord_eq I0 0 _ rfl _ z)) $$ H3; iintro H3
  rw [show iota .tc S1x50176 32 [1] iota_S1x50176_d1_w32 = lanes from rfl, show iota .tc S8x50176 32 [0] iota_S8x50176_d0_w32 = rows from rfl,
    show iota .tc S8x1 32 [0] iota_S8x1_d0_w32 = row from rfl]
  simp only [k0_part2_eq_skeleton]; unfold k0_part2_skel
  simp only [smemLoad, smemLoadElt, Prog.lift, Prog.bind_op, Prog.bind_ret, Prog.pure_eq_ret, Prog.bind_assoc]
  iapply (load_full c none Set.univ) $$ H6; iintro H6
  iapply (load_word c none Set.univ (funext fun z => initWord_eq I0 1 _ rfl _ z)) $$ H3; iintro H3
  iapply (load_full c none Set.univ) $$ H6; iintro H6
  iapply (load_word c none Set.univ (funext fun z => initWord_eq I0 2 _ rfl _ z)) $$ H3; iintro H3
  iapply (load_full c none Set.univ) $$ H6; iintro H6
  iapply (load_word c none Set.univ (funext fun z => initWord_eq I0 3 _ rfl _ z)) $$ H3; iintro H3
  iapply (load_full c none Set.univ) $$ H6; iintro H6
  simp only [k0_part3_eq_skeleton]; unfold k0_part3_skel
  simp only [smemLoad, smemLoadElt, Prog.lift, Prog.bind_op, Prog.bind_ret, Prog.pure_eq_ret, Prog.bind_assoc]
  iapply (load_word c none Set.univ (funext fun z => initWord_eq I0 4 _ rfl _ z)) $$ H3; iintro H3
  iapply (load_full c none Set.univ) $$ H6; iintro H6
  rw [show k0_pay8 lanes (k0_pay4 lanes (initWord I0 0) X) (k0_pay5 lanes (initWord I0 1) X) (k0_pay6 lanes (initWord I0 2) X)
    (k0_pay7 lanes (initWord I0 3) X) (initWord I0 4) X = start X I0 from rfl]
  iapply (wp_call_spec 𝒱₀ (c : Thread nD τ) none Set.univ
    (spec c M4 M6 M7 M8 X (k0_pay3 X) I 100 0 0#1 (start X I0) h) 100 (fun u hu => nomatch hu)
    (spec_le c i M4 h4 M6 h6 M7 h7 M8 h8 X (k0_pay3 X) I Set.univ 100 0 rfl 0#1 (start X I0) h))
  rw [spec_apply, loop_start]; unfold held
  isplitl [H4 H6 H7 H8]
  · isplitl [H4]
    · iexact H4
    isplitl [H6]
    · iexact H6
    isplitl [H7]
    · iexact H7
    · iexact H8
  iintro %r ⟨H4, H6, H7, H8⟩
  generalize table X I0 I = T
  iapply (load_full c none Set.univ) $$ H8; iintro H8
  iapply (load_full c none Set.univ) $$ H6; iintro H6
  iapply (load_full c none Set.univ) $$ H6; iintro H6
  simp only [k0_part4_eq_skeleton]; unfold k0_part4_skel
  simp only [Prog.lift, Prog.bind_op, Prog.bind_ret, Prog.pure_eq_ret, Prog.bind_assoc]
  iapply (load_full c none Set.univ) $$ H6; iintro H6
  iapply (load_full c none Set.univ) $$ H6; iintro H6
  iapply (load_full c none Set.univ) $$ H6; iintro H6
  iapply (load_full c none Set.univ) $$ H5; iintro H5
  iapply (store_full c none Set.univ) $$ H5; iintro H5
  rw [wp_ret]; imodintro
  iapply Hk
  isplitl [H1]
  · iexact H1
  isplitl [H2]
  · iexact H2
  isplitl [H3]
  · iexact H3
  isplitl [H4]
  · iexact H4
  isplitl [H5]
  · iexact H5
  isplitl [H6]
  · iexists _; iexact H6
  isplitl [H7]
  · iexists _; iexact H7
  · iexists _; iexact H8

end

end Cert.Proof.KI

end
-- ==== Proof.KI.Run.lean ====
/-
  The kernel's run: the pipeline's proof data, the body at every grid point, the launch. Every weakly fair execution
  terminates with every semaphore counter at zero, the four argument arrays as they were and the result array at what the
  written blocks make of it.
-/
module

public import proofs.«01_k».proof.Proof.KI.Body
public import Idealize.ShloMosaic.Lib.Pipeline.KitQuiescent
public import Idealize.ShloMosaic.Lib.Pipeline.FrameBody

@[expose] public section

set_option maxRecDepth 16384

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf kernel pipe)

variable {F : FTy → Type} [FloatOps F] [Named F]

local notation "𝕄" => MT nD τ sig Unit (Elt F) ℕ (UR nD τ) ℕ

variable (m : (ℓ : Loc nD τ sig) → Buf (Elt F) ℓ) (ρ : Dev nD → PrngReg)

/-- The memory at launch. -/
def s₀ : MemSt nD τ sig (Elt F) := ⟨m, fun _ => 0, ρ⟩

/-- A window's block at a grid point, read off the launch memory. -/
abbrev blk (c : Dev nD) (W : Pipeline.Window sig grid0) (t : Fin grid0.N) : (W.xblock (grid0.coords t)).Idx → Elt F W.elt :=
  (W.blk t).view.read (Elt F) ((s₀ m ρ).mem (W.arr.view.loc (c : Thread nD τ)))

/-- The activations of image `t`, -/
def actsAt (c : Dev nD) (t : Fin grid0.N) : Vec F S1x32x50176 .f32 := blk m ρ c win0_0 t
/-- the table of statistics, -/
def statsAt (c : Dev nD) (t : Fin grid0.N) : Vec F S32x8 .f32 := blk m ρ c win0_1 t
/-- the initial indices, -/
def initAt (c : Dev nD) (t : Fin grid0.N) : Vec F S1x1x5 .i32 := blk m ρ c win0_2 t
/-- the fallback indices, -/
def fbAt (c : Dev nD) (t : Fin grid0.N) : Vec F S1x100x5 .i32 := blk m ρ c win0_3 t
/-- and what is written for it. -/
def outAt (c : Dev nD) (t : Fin grid0.N) : Vec F S1x32x50176 .f32 :=
  block (actsAt m ρ c t) (statsAt m ρ c t) (initAt m ρ c t) (fbAt m ρ c t)

/-- The invariant between points: the three scratch buffers held at something. -/
def Φc (c : Dev nD) : sProp 𝕄 :=
  Pipeline.scopedRest (Ix := Unit) (Name := ℕ) (U := UR nD τ) (Lvl := ℕ) (Val := Elt F) spec0 c

/-- The proof data on core `c`: the inputs' staging buffers keep their blocks, the result's is left at `outAt`. -/
def dats (_ : Fin 1) (c : Dev nD) : Dat τ (Elt F) Unit ℕ (UR nD τ) ℕ (cfg0 (F := F)) c where
  A w := (s₀ m ρ).mem (((cfg0 (F := F)).win w).arr.view.loc (c : Thread nD τ))
  after w t := match w with
    | ⟨0, _⟩ => actsAt m ρ c t
    | ⟨1, _⟩ => statsAt m ρ c t
    | ⟨2, _⟩ => initAt m ρ c t
    | ⟨3, _⟩ => fbAt m ρ c t
    | ⟨4, _⟩ => outAt m ρ c t
  Φ _ := Φc c
  q _ := fullShare
  owed _ := 0

theorem before_0 (c : Dev nD) (t : Fin (cfg0 (F := F)).N) (d) : (dats m ρ 0 c).before 0 t d = actsAt m ρ c t :=
  ((dats m ρ 0 c).before_in_eq_fetched 0 rfl (fun _ => rfl) (fun _ _ _ => rfl) (fun _ => rfl) t d).trans rfl
theorem before_1 (c : Dev nD) (t : Fin (cfg0 (F := F)).N) (d) : (dats m ρ 0 c).before 1 t d = statsAt m ρ c t :=
  ((dats m ρ 0 c).before_in_eq_fetched 1 rfl (fun _ => rfl) (fun _ _ _ => rfl) (fun _ => rfl) t d).trans rfl
theorem before_2 (c : Dev nD) (t : Fin (cfg0 (F := F)).N) (d) : (dats m ρ 0 c).before 2 t d = initAt m ρ c t :=
  ((dats m ρ 0 c).before_in_eq_fetched 2 rfl (fun _ => rfl) (fun _ _ _ => rfl) (fun _ => rfl) t d).trans rfl
theorem before_3 (c : Dev nD) (t : Fin (cfg0 (F := F)).N) (d) : (dats m ρ 0 c).before 3 t d = fbAt m ρ c t :=
  ((dats m ρ 0 c).before_in_eq_fetched 3 rfl (fun _ => rfl) (fun _ _ _ => rfl) (fun _ => rfl) t d).trans rfl

/-- A scratch buffer held at some contents, as a memref held at some contents. -/
theorem own_of_pt {cs : CoreSpace} {s : Shape} {e : EltTy} (c : Dev nD) (M : Memref sig .tc cs s e)
    (hM : M.view.set = Finset.univ) (f : Buf (Elt F) (M.view.loc (c : Thread nD τ))) :
    ((M.view.loc (c : Thread nD τ) ↦{fullShare} f) : sProp 𝕄) ⊢ own c M (M.view.read (Elt F) f) := by
  unfold own owns
  iintro H
  iexists f
  isplitr
  · ipureintro; rfl
  · rw [hM]; iexact H

/-- And back. -/
theorem pt_of_own {cs : CoreSpace} {s : Shape} {e : EltTy} (c : Dev nD) (M : Memref sig .tc cs s e)
    (hM : M.view.set = Finset.univ) (X : s.Idx → Elt F e) :
    own c M X ⊢ (iprop(∃ f : Buf (Elt F) (M.view.loc (c : Thread nD τ)), M.view.loc (c : Thread nD τ) ↦{fullShare} f) : sProp 𝕄) := by
  unfold own owns
  iintro ⟨%f, -, H⟩
  iexists f
  rw [hM]; iexact H

/-- The invariant gives the three scratch memrefs, -/
theorem scratch_out (c : Dev nD) : (Φc c : sProp 𝕄) ⊢ iprop((∃ x, own c (Memref.whole cc0_scratch0) x)
    ∗ (∃ xb, own c (Memref.whole cc0_scratch1) xb) ∗ (∃ h, own c (Memref.whole cc0_scratch2) h)) := by
  unfold Φc
  rw [scopedRest0_eq]
  iintro ⟨⟨%f0, H0⟩, ⟨%f1, H1⟩, ⟨%f2, H2⟩⟩
  isplitl [H0]
  · iexists _; iapply (own_of_pt c (Memref.whole cc0_scratch0) (View.set_whole _) f0); iexact H0
  isplitl [H1]
  · iexists _; iapply (own_of_pt c (Memref.whole cc0_scratch1) (View.set_whole _) f1); iexact H1
  · iexists _; iapply (own_of_pt c (Memref.whole cc0_scratch2) (View.set_whole _) f2); iexact H2

/-- and takes them back. -/
theorem scratch_in (c : Dev nD) : iprop((∃ x, own c (Memref.whole cc0_scratch0) x)
    ∗ (∃ xb, own c (Memref.whole cc0_scratch1) xb) ∗ (∃ h, own c (Memref.whole cc0_scratch2) h)) ⊢ (Φc c : sProp 𝕄) := by
  unfold Φc
  rw [scopedRest0_eq]
  iintro ⟨⟨%f0, H0⟩, ⟨%f1, H1⟩, ⟨%f2, H2⟩⟩
  isplitl [H0]
  · iapply (pt_of_own c (Memref.whole cc0_scratch0) (View.set_whole _) f0); iexact H0
  isplitl [H1]
  · iapply (pt_of_own c (Memref.whole cc0_scratch1) (View.set_whole _) f1); iexact H1
  · iapply (pt_of_own c (Memref.whole cc0_scratch2) (View.set_whole _) f2); iexact H2

/-- The body at every grid point. -/
theorem body_obligation (c : Dev nD) : BodyObligation (dats (F := F) m ρ 0 c) (defs₀ (F := F)) 𝒱₀ () Set.univ := fun t => by
  rw [bigSep_W0, bigSep_W0]
  sl_whnfR [defs₀, Defs.onTc]
  rw [show (dats m ρ 0 c).Φ t.castSucc = Φc c from rfl, show (dats m ρ 0 c).Φ t.succ = Φc c from rfl,
    show (dats m ρ 0 c).owesAt () t.succ = (dats m ρ 0 c).owesAt () t.castSucc from rfl]
  iintro ⟨HΦ, Howes, ⟨%d0, H1⟩, ⟨%d1, H2⟩, ⟨%d2, H3⟩, ⟨%d3, H4⟩, ⟨%d4, H5⟩⟩
  ihave HS := (scratch_out (F := F) c) $$ HΦ
  icases HS with ⟨⟨%x, H6⟩, ⟨%xb, H7⟩, ⟨%h, H8⟩⟩
  iapply (body c (grid0.coords t) _ _ _ _ _ _ _ _ _ _ _ _ _ _ _ _ (actsAt m ρ c t) (statsAt m ρ c t) (initAt m ρ c t) (fbAt m ρ c t) _ x xb h)
  isplitl [H1 H2 H3 H4 H5 H6 H7 H8]
  · isplitl [H1]
    · rw [← before_0 m ρ c t d0]; iexact H1
    isplitl [H2]
    · rw [← before_1 m ρ c t d1]; iexact H2
    isplitl [H3]
    · rw [← before_2 m ρ c t d2]; iexact H3
    isplitl [H4]
    · rw [← before_3 m ρ c t d3]; iexact H4
    isplitl [H5]
    · iexact H5
    isplitl [H6]
    · iexact H6
    isplitl [H7]
    · iexact H7
    · iexact H8
  iintro ⟨H1, H2, H3, H4, H5, HS⟩
  isplitl [HS]
  · iapply (scratch_in (F := F) c); iexact HS
  isplitl [Howes]
  · iexact Howes
  isplitl [H1]
  · iexact H1
  isplitl [H2]
  · iexact H2
  isplitl [H3]
  · iexact H3
  isplitl [H4]
  · iexact H4
  · iexact H5

/-! ## The launch -/

/-- An array's contents after the run. -/
def finalA (c : Dev nD) (w : Fin (cfg0 (F := F)).W) : Buf (Elt F) (((cfg0 (F := F)).win w).arr.view.loc (c : Thread nD τ)) :=
  (dats m ρ 0 c).arrAt w (cfg0 (F := F)).N

set_option backward.isDefEq.respectTransparency.types false in
/-- From any memory with zero counters every weakly fair execution terminates, every array at `finalA`, every counter at
    zero. -/
theorem run_main : θ_run defs (onTc (τ := τ) (main (F := F))) (s₀ m ρ) (fun r =>
    (∀ (c : Dev nD) (w : Fin (cfg0 (F := F)).W), r.2.mem (((cfg0 (F := F)).win w).arr.view.loc (c : Thread nD τ)) = finalA m ρ c w)
      ∧ r.2.sem = fun _ => 0) :=
  Pipeline.θ_run_region_noSem_kit_quiescent cfgs (dats m ρ) () (0 : Fin 1) launch0 EP defs₀ 𝒱₀ m ρ main
    (hbody := body_obligation m ρ) (hshare := fun c w => by unfold Dat.share; split <;> rfl) (howed := fun _ _ => rfl)
    (u₀ := initOf (Pipeline.cells (cfgs (F := F)) cellOf_inj) (Pipeline.launchToks (cfgs (F := F)) cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := fun _ => iprop(emp)) (Y := fun _ => iprop(emp)) (Z := fun _ => iprop(emp))
    (hX := fun c => by rw [unscopedRest0_eq]; iintro -; isplitr <;> iempintro)
    (hin := fun c => by
      rw [show (dats m ρ 0 c).Φ 0 = Φc c from rfl]; unfold Φc
      iintro ⟨-, H⟩; iexact H)
    (hout := fun c => by
      rw [show (dats m ρ 0 c).Φ (Fin.last (cfg0 (F := F)).N) = Φc c from rfl]; unfold Φc
      iintro H; isplitr
      · iempintro
      · iexact H)
    (QY := fun _ _ => True)
    (hY := fun c s' => by
      iintro ⟨-, -, HSI⟩; imodintro
      isplitr; · ipureintro; trivial
      iexact HSI)
    (hQ := fun _ h hz => ⟨fun c w => (h c).1 w, hz⟩)

/-- An input array is only read. -/
theorem finalA_in (c : Dev nD) (w : Fin (cfg0 (F := F)).W) (hw : ((cfg0 (F := F)).win w).isOut = false) :
    finalA m ρ c w = m (((cfg0 (F := F)).win w).arr.view.loc (c : Thread nD τ)) :=
  (dats (F := F) m ρ 0 c).arrAt_in w hw _

/-- The frame: the run terminates, the four argument arrays unchanged, the counters zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono
    (fun _ h => ⟨fun c => ⟨(h.1 c (0 : Fin 5)).trans (finalA_in m ρ c 0 rfl), (h.1 c (1 : Fin 5)).trans (finalA_in m ρ c 1 rfl),
      (h.1 c (2 : Fin 5)).trans (finalA_in m ρ c 2 rfl), (h.1 c (3 : Fin 5)).trans (finalA_in m ρ c 3 rfl)⟩, h.2⟩)
    (run_main (F := F) m ρ)

end Cert.Proof.KI

end
-- ==== Proof.R.Frame.lean ====
/-
  The reference terminates on its core, leaves its arguments alone, and every semaphore counter at zero: it is host code
  with no semaphore of its own.
-/
module

public import proofs.«01_k».proof.ReferenceIdeal
public import proofs.«01_k».proof.Proof.Gen.ReferenceIdeal
public import proofs.«01_k».proof.Proof.Gen.ReferenceIdeal.Run
public import Idealize.ShloMosaic.Lib.Quiescent

@[expose] public section

noncomputable section

namespace Cert.Proof.R

open Cert.ReferenceIdeal Cert.ReferenceIdeal.Gen
open Idealize.ShloMosaic Idealize.SL.Sem

variable {F : FTy → Type} [FloatOps F]

/-- The frame of the reference. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run (F := F) m ρ)

end Cert.Proof.R

end
-- ==== Proof.V.Model.lean ====
/-
  The clustering over the real numbers: one image's features `x channel pixel`, five centroids `μ cluster channel`, the
  nearest centroid of each pixel, the means of the clusters, and the sequence of states the passes go through. A state
  that has settled stays as it is.
-/
module

public import Idealize.ShloMosaic.PureOps.Ideal
public import Idealize.ShloMosaic.Lib.Pipeline.ValueKit

@[expose] public section

noncomputable section

namespace Cert.Proof.V

open Idealize.ShloMosaic

/-- Features of one image: channel, pixel. -/
abbrev Feat := Fin 32 → Fin 50176 → ℝ
/-- Centroids: cluster, channel. -/
abbrev Cents := Fin 5 → Fin 32 → ℝ

/-- `k` is the first cluster at which the score is least. -/
def First (s : Fin 5 → ℝ) (k : Fin 5) : Prop := (∀ j, s k ≤ s j) ∧ ∀ j, j < k → s k < s j

theorem First.unique {s : Fin 5 → ℝ} {k l : Fin 5} (hk : First s k) (hl : First s l) : k = l := by
  rcases lt_trichotomy k l with h | h | h
  · exact absurd (hk.1 l) (not_le.mpr (hl.2 k h))
  · exact h
  · exact absurd (hl.1 k) (not_le.mpr (hk.2 l h))

theorem exists_first (s : Fin 5 → ℝ) : ∃ k, First s k := by
  classical
  have hne : (Finset.univ.filter fun k => ∀ j, s k ≤ s j).Nonempty := by
    obtain ⟨k, -, hk⟩ := Finset.exists_min_image Finset.univ s ⟨0, Finset.mem_univ _⟩
    exact ⟨k, by simpa using hk⟩
  refine ⟨_, (Finset.mem_filter.mp (Finset.min'_mem _ hne)).2, fun j hj => ?_⟩
  have hmin := (Finset.mem_filter.mp (Finset.min'_mem _ hne)).2
  rcases lt_or_eq_of_le (hmin j) with h | h
  · exact h
  · refine absurd (Finset.min'_le _ j (Finset.mem_filter.mpr ⟨Finset.mem_univ _, fun i => h ▸ hmin i⟩)) (not_le.mpr hj)

/-- The first cluster of least score. -/
def first (s : Fin 5 → ℝ) : Fin 5 := (exists_first s).choose
theorem first_spec (s : Fin 5 → ℝ) : First s (first s) := (exists_first s).choose_spec
theorem First.eq {s : Fin 5 → ℝ} {k : Fin 5} (h : First s k) : first s = k := (first_spec s).unique h

/-- The squared distance of pixel `p` to centroid `k`, less the pixel's own square. -/
def score (x : Feat) (μ : Cents) (p : Fin 50176) (k : Fin 5) : ℝ := (∑ c, μ k c * μ k c) - 2 * ∑ c, μ k c * x c p

/-- Each pixel's cluster. -/
def labels (x : Feat) (μ : Cents) (p : Fin 50176) : Fin 5 := first (score x μ p)

/-- The number of pixels of cluster `k`, -/
def cnt (ℓ : Fin 50176 → Fin 5) (k : Fin 5) : ℝ := ∑ p, if ℓ p = k then 1 else 0
/-- the sum of their features, -/
def total (x : Feat) (ℓ : Fin 50176 → Fin 5) (k : Fin 5) (c : Fin 32) : ℝ := ∑ p, if ℓ p = k then x c p else 0
/-- and the mean. -/
def mean (x : Feat) (ℓ : Fin 50176 → Fin 5) (k : Fin 5) (c : Fin 32) : ℝ := total x ℓ k c / max (cnt ℓ k) 1

/-- The centroids of the next pass: an empty cluster takes the features of a given pixel. -/
def renewed (x : Feat) (f : Fin 5 → Fin 50176) (ℓ : Fin 50176 → Fin 5) (k : Fin 5) (c : Fin 32) : ℝ :=
  if 0 < cnt ℓ k then mean x ℓ k c else x c (f k)

/-- How far the centroids move. -/
def shift (μ ν : Cents) : ℝ := ∑ k, Real.sqrt (∑ c, (ν k c - μ k c) * (ν k c - μ k c))

/-- Whether a pass that moves the centroids this far is the last. -/
def Ends (d : ℝ) : Prop := (d : EReal) ≤ Ideal.ofBits .f32 0x38D1B717#32

/-- What a pass leaves: the labels, the centroids, whether the clustering has settled. -/
structure St where
  lab : Fin 50176 → Fin 5
  cen : Cents
  fin : Prop

open Classical in
/-- One pass. -/
def St.pass (x : Feat) (f : Fin 5 → Fin 50176) (s : St) : St :=
  if s.fin then s
  else
    { lab := labels x s.cen
      cen := if Ends (shift s.cen (renewed x f (labels x s.cen))) then s.cen else renewed x f (labels x s.cen)
      fin := Ends (shift s.cen (renewed x f (labels x s.cen))) }

theorem St.pass_fin {x : Feat} {f : Fin 5 → Fin 50176} {s : St} (h : s.fin) : s.pass x f = s := if_pos h

theorem St.pass_of_not {x : Feat} {f : Fin 5 → Fin 50176} {s : St} (h : ¬ s.fin) :
    s.pass x f = { lab := labels x s.cen
                   cen := open Classical in
                     if Ends (shift s.cen (renewed x f (labels x s.cen))) then s.cen else renewed x f (labels x s.cen)
                   fin := Ends (shift s.cen (renewed x f (labels x s.cen))) } := if_neg h

/-- The `k` passes from pass `j` on. -/
def St.run (x : Feat) (f : ℕ → Fin 5 → Fin 50176) : ℕ → ℕ → St → St
  | 0, _, s => s
  | k + 1, j, s => St.run x f k (j + 1) (s.pass x (f j))

theorem St.run_fin {x : Feat} {f : ℕ → Fin 5 → Fin 50176} : ∀ (k j : ℕ) {s : St}, s.fin → s.run x f k j = s
  | 0, _, _, _ => rfl
  | k + 1, j, s, h => by rw [St.run, St.pass_fin h, St.run_fin k (j + 1) h]

theorem St.run_succ {x : Feat} {f : ℕ → Fin 5 → Fin 50176} : ∀ (k j : ℕ) (s : St),
    s.run x f (k + 1) j = (s.run x f k j).pass x (f (j + k))
  | 0, _, _ => rfl
  | k + 1, j, s => by
    rw [St.run, St.run_succ k (j + 1), St.run]
    congr 2; omega

/-- The state before the first pass: centroids at given pixels. -/
def St.start (x : Feat) (i : Fin 5 → Fin 50176) : St := ⟨fun _ => 0, fun k c => x c (i k), False⟩

/-! ### Real numbers among the extended reals -/

theorem coe_sum {ι : Type*} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem coe_max (a b : ℝ) : ((max a b : ℝ) : EReal) = max (a : EReal) (b : EReal) := EReal.coe_strictMono.monotone.map_max

/-- A quotient of real numbers. -/
theorem div_real (a : ℝ) {b : ℝ} (h : b ≠ 0) : Ideal.div (a : EReal) (b : EReal) = ((a / b : ℝ) : EReal) := by
  rw [Ideal.div_coe h, ← EReal.coe_mul, mul_one_div]

theorem sqrt_real {a : ℝ} (h : 0 ≤ a) : Ideal.sqrt (a : EReal) = ((Real.sqrt a : ℝ) : EReal) := by
  rw [Ideal.sqrt_coe, if_neg (not_lt.mpr h)]

/-- A number that is neither infinity is real. -/
theorem real_of_abs_lt {a : EReal} (h : max a (-a) < ⊤) : ((a.toReal : ℝ) : EReal) = a := by
  refine EReal.coe_toReal ?_ ?_
  · rintro rfl; simp at h
  · rintro rfl; simp at h

theorem cnt_nonneg (ℓ : Fin 50176 → Fin 5) (k : Fin 5) : 0 ≤ cnt ℓ k :=
  Finset.sum_nonneg fun p _ => by split <;> norm_num

/-- A count is zero or at least one. -/
theorem cnt_cases (ℓ : Fin 50176 → Fin 5) (k : Fin 5) : cnt ℓ k = 0 ∨ 1 ≤ cnt ℓ k := by
  by_cases h : ∃ p, ℓ p = k
  · obtain ⟨p, hp⟩ := h
    right
    calc (1 : ℝ) = if ℓ p = k then 1 else 0 := (if_pos hp).symm
      _ ≤ cnt ℓ k := Finset.single_le_sum (f := fun p => if ℓ p = k then (1 : ℝ) else 0) (fun q _ => by split <;> norm_num)
        (Finset.mem_univ p)
  · left
    exact Finset.sum_eq_zero fun p _ => if_neg fun hp => h ⟨p, hp⟩

theorem max_cnt_ne (ℓ : Fin 50176 → Fin 5) (k : Fin 5) : max (cnt ℓ k) 1 ≠ 0 :=
  (lt_of_lt_of_le one_pos (le_max_right _ _)).ne'

end Cert.Proof.V

end
-- ==== Proof.V.Numbers.lean ====
/-
  The literals both programs use, and the small readings of integer tests the kernel makes: a test turned into the number
  zero or one, and the first place at which a table of eight is least.
-/
module

public import proofs.«01_k».proof.Proof.V.Model
public import Idealize.ShloMosaic.Lib.IdealHost

@[expose] public section

set_option maxRecDepth 16384

noncomputable section

namespace Cert.Proof.V

open Idealize.ShloMosaic

theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_count : Ideal.ofBits .f32 0x47C40000#32 = ((100352 : ℝ) : EReal) := by
  simp [Ideal.ofBits, Ideal.ieee, -EReal.coe_mul]; norm_num
theorem lit_top : Ideal.ofBits .f32 0x7F800000#32 = ⊤ := by simp [Ideal.ofBits, Ideal.ieee]
theorem lit_bot : Ideal.ofBits .f32 0xFF800000#32 = ⊥ := by simp [Ideal.ofBits, Ideal.ieee]

/-- The number added to a variance is positive. -/
theorem lit_eps : ∃ e : ℝ, 0 < e ∧ Ideal.ofBits .f32 0x3727C5AC#32 = (e : EReal) := by
  refine ⟨(2 ^ 23 + 2606508 : ℕ) * (2 : ℝ) ^ (-40 : ℤ), by positivity, ?_⟩
  simp [Ideal.ofBits, Ideal.ieee, -EReal.coe_mul]
/-- It, as a real number. -/
def eps : ℝ := lit_eps.choose
theorem eps_pos : 0 < eps := lit_eps.choose_spec.1
theorem lit_eps_eq : Ideal.ofBits .f32 0x3727C5AC#32 = (eps : EReal) := lit_eps.choose_spec.2

/-- A test widened and read as a number. -/
theorem flag_num (b : BitVec 1) : FloatOps.sitofp (F := Ideal) FTy.f32 (BitVec.setWidth 32 b) = if b = 1#1 then 1 else 0 := by
  show (((BitVec.setWidth 32 b).toInt : ℝ) : EReal) = _
  rcases BitVec.eq_zero_or_eq_one b with rfl | rfl
  · simp
  · simp

theorem cmpi_eq_iff {w : ℕ} (a b : BitVec w) : IntOp.cmpi .eq a b = 1#1 ↔ a = b := by
  by_cases h : a = b
  · simp [IntOp.cmpi, h]
  · have : (a == b) = false := by simpa using h
    simp [IntOp.cmpi, this, h]

/-- A position against an index word. -/
theorem ofNat_eq_word {n : ℕ} (hn : n < 2 ^ 32) (w : BitVec 32) : BitVec.ofNat 32 n = w ↔ n = w.toNat := by
  rw [← BitVec.toNat_inj, BitVec.toNat_ofNat, Nat.mod_eq_of_lt hn]

/-- The mask of one pixel. -/
theorem mask_num {n : ℕ} (hn : n < 2 ^ 32) (w : BitVec 32) :
    FloatOps.sitofp (F := Ideal) FTy.f32 (BitVec.setWidth 32 (IntOp.cmpi .eq (BitVec.ofNat 32 n) w))
      = if n = w.toNat then 1 else 0 := by
  rw [flag_num]; simp only [cmpi_eq_iff, ofNat_eq_word hn]

theorem real_one : ((1 : ℝ) : EReal) = 1 := EReal.coe_one

/-- The least index word among eight at which a test holds, eight standing for none. -/
theorem fold_minsi_bool : ∀ (b : Fin 8 → Bool) (k : Fin 8), b k = true → (∀ j, j < k → b j = false) →
    Finset.univ.fold IntOp.minsi (2147483647#32) (fun r : Fin 8 => if b r = true then BitVec.ofNat 32 r.val else 8#32)
      = BitVec.ofNat 32 k.val := by
  decide +kernel

/-- The same for a test that is a proposition. -/
theorem fold_minsi_first (q : Fin 8 → Prop) [DecidablePred q] (k : Fin 8) (hk : q k) (hj : ∀ j, j < k → ¬ q j) :
    Finset.univ.fold IntOp.minsi (2147483647#32) (fun r : Fin 8 => if q r then BitVec.ofNat 32 r.val else 8#32)
      = BitVec.ofNat 32 k.val := by
  have := fold_minsi_bool (fun r => decide (q r)) k (by simpa using hk) (fun j h => by simpa using hj j h)
  simpa only [decide_eq_true_eq] using this

/-- Scores of the five clusters in a table of eight, the three others never the least. -/
def table8 (s : Fin 5 → ℝ) (r : Fin 8) : EReal := if h : r.val < 5 then (s ⟨r.val, h⟩ : EReal) else ⊤

theorem table8_le (s : Fin 5 → ℝ) (r : Fin 8) : (s (first s) : EReal) ≤ table8 s r := by
  unfold table8; split
  · exact EReal.coe_le_coe_iff.mpr ((first_spec s).1 _)
  · exact le_top

theorem fold_min_table8 (s : Fin 5 → ℝ) : Finset.univ.fold min (⊤ : EReal) (table8 s) = (s (first s) : EReal) := by
  apply le_antisymm
  · refine (Finset.fold_min_le _).mpr (Or.inr ⟨⟨(first s).val, by omega⟩, Finset.mem_univ _, ?_⟩)
    simp [table8]
  · exact (Finset.le_fold_min _).mpr ⟨le_top, fun r _ => table8_le s r⟩

/-- The first place at which the table is least is the first cluster of least score. -/
theorem fold_first (s : Fin 5 → ℝ) :
    Finset.univ.fold IntOp.minsi (2147483647#32) (fun r : Fin 8 =>
      if table8 s r ≤ Finset.univ.fold min (⊤ : EReal) (table8 s) then BitVec.ofNat 32 r.val else 8#32)
      = BitVec.ofNat 32 (first s).val := by
  rw [fold_min_table8]
  refine fold_minsi_first (fun r => table8 s r ≤ (s (first s) : EReal)) ⟨(first s).val, by omega⟩ ?_ fun j hj => ?_
  · simp [table8]
  · have hj' : j.val < (first s).val := hj
    have h5 : j.val < 5 := by omega
    simp only [table8, h5, dif_pos, EReal.coe_le_coe_iff, not_le]
    exact (first_spec s).2 ⟨j.val, h5⟩ hj'

end Cert.Proof.V

end
-- ==== Proof.V.KernelPass.lean ====
/-
  One pass of the kernel's loop over the extended reals, where the features and the centroids are real numbers: the columns
  it gathers, the one-hot table, the counts, and the means.
-/
module

public import proofs.«01_k».proof.Proof.KI.Loop
public import proofs.«01_k».proof.Proof.V.Numbers
public import Idealize.ShloMosaic.Lib.Pipeline.ValueKit

@[expose] public section

set_option maxRecDepth 16384

noncomputable section

namespace Cert.Proof.V

open Cert.KernelIdeal Cert.KernelIdeal.Gen Cert.Proof.KI
open Idealize.ShloMosaic

/-- The array holds the features. -/
def IsFeat (X : S32x50176.Idx → EReal) (x : Feat) : Prop := ∀ c p, X (ix2 c p) = (x c p : EReal)

/-- The centroids as eight columns, the last three zero. -/
def cen8 (μ : Cents) (c : Fin 32) (k : Fin 8) : ℝ := if h : k.val < 5 then μ ⟨k.val, h⟩ c else 0

/-- The array holds the centroids. -/
def IsCent (C : FVec Ideal S32x8 .f32) (μ : Cents) : Prop := ∀ c k, C (ix2 c k) = (cen8 μ c k : EReal)

/-- The table is the one-hot table of the labels. -/
def IsHot (H : FVec Ideal S8x50176 .f32) (ℓ : Fin 50176 → Fin 5) : Prop :=
  ∀ r p, H (ix2 r p) = if r.val = (ℓ p).val then 1 else 0

variable {X : Vec Ideal S32x50176 .f32} {Xb : Vec Ideal S32x50176 .bf16} {x : Feat} {C : FVec Ideal S32x8 .f32} {μ : Cents}
  {H : FVec Ideal S8x50176 .f32} {ℓ : Fin 50176 → Fin 5}

/-- A masked sum over the pixels with one pixel in the mask. -/
theorem sum_mask (hX : IsFeat X x) (c : Fin 32) (p : Fin 50176) (g : Fin 50176 → EReal)
    (hg : ∀ q, g q = if q.val = p.val then 1 else 0) : ∑ q, X (ix2 c q) * g q = (x c p : EReal) := by
  rw [Finset.sum_eq_single p]
  · rw [hg, if_pos rfl, mul_one, hX]
  · intro q _ hq
    rw [hg, if_neg (fun h => hq (Fin.ext h)), mul_zero]
  · intro h; exact absurd (Finset.mem_univ _) h

/-- A masked sum over the pixels of one cluster. -/
theorem sum_hot (hX : IsFeat X x) (hH : IsHot H ℓ) (c : Fin 32) (k : Fin 5) (r : Fin 8) (hr : r.val = k.val) :
    ∑ q, X (ix2 c q) * H (ix2 r q) = (total x ℓ k c : EReal) := by
  rw [total, coe_sum]
  refine Finset.sum_congr rfl fun q _ => ?_
  rw [hH, hX, hr]
  by_cases h : ℓ q = k
  · rw [if_pos h, if_pos (by rw [h]), mul_one]
  · rw [if_neg h, if_neg (fun e => h (Fin.ext e.symm)), mul_zero, EReal.coe_zero]

/-- The word names a pixel. -/
def Names (w : BitVec 32) (p : Fin 50176) : Prop := w.toNat = p.val

/-- The column gathered for one index word. -/
theorem pick_apply (hX : IsFeat X x) {w : BitVec 32} {p : Fin 50176} (hw : Names w p) (c : Fin 32) :
    k0_pay4 lanes w X (ix2 c 0) = (x c p : EReal) := by
  pointwise [k0_pay4, lanes]
  exact sum_mask hX c p _ fun q => by rw [mask_num (by omega), hw]

/-- Five columns of features and three of zeros. -/
theorem gathered {T : FVec Ideal S32x8 .f32} {f : Fin 5 → Fin 50176} {v : Fin 5 → Fin 32 → EReal}
    (hv : ∀ k c, v k c = (x c (f k) : EReal))
    (hT : ∀ (c : Fin 32) (k : Fin 8), T (ix2 c k) =
      if h : k.val < 1 then v 0 c else if h : k.val - 1 < 1 then v 1 c else if h : k.val - 1 - 1 < 1 then v 2 c
      else if h : k.val - 1 - 1 - 1 < 1 then v 3 c else if h : k.val - 1 - 1 - 1 - 1 < 1 then v 4 c else 0) :
    IsCent T (fun k c => x c (f k)) := by
  intro c k
  rw [hT, cen8]
  simp only [hv]
  obtain ⟨k, hk⟩ := k
  interval_cases k <;> simp <;> rfl

theorem pay5 : k0_pay5 (F := Ideal) = k0_pay4 := rfl
theorem pay6 : k0_pay6 (F := Ideal) = k0_pay4 := rfl
theorem pay7 : k0_pay7 (F := Ideal) = k0_pay4 := rfl
theorem pay15 : k0_pay15 (F := Ideal) = k0_pay4 := rfl
theorem pay16 : k0_pay16 (F := Ideal) = k0_pay4 := rfl
theorem pay17 : k0_pay17 (F := Ideal) = k0_pay4 := rfl

/-- The initial centroids are the features at the five pixels named. -/
theorem start_cent (hX : IsFeat X x) {I0 : Vec Ideal S1x1x5 .i32} {f : Fin 5 → Fin 50176} (hf : ∀ k, Names (initWord I0 k) (f k)) :
    IsCent (start X I0) (fun k c => x c (f k)) := by
  refine gathered (v := fun k c => k0_pay4 lanes (initWord I0 k) X (ix2 c 0)) (fun k c => pick_apply hX (hf k) c) fun c k => ?_
  have h4 : k0_pay4 lanes (initWord I0 4) X (ix2 c 0) = ∑ q, X (ix2 c q) * FloatOps.sitofp (F := Ideal) FTy.f32
      (BitVec.setWidth 32 (IntOp.cmpi .eq (lanes (ix2 0 q)) (initWord I0 4))) := by
    pointwise [k0_pay4]
  rw [start, pay5, pay6, pay7]
  have e : ∀ n (h : n < 1), (⟨n, h⟩ : Fin 1) = 0 := fun n h => Subsingleton.elim _ _
  beta_reduce
  rw [h4]
  generalize k0_pay4 lanes (initWord I0 0) X = v0
  generalize k0_pay4 lanes (initWord I0 1) X = v1
  generalize k0_pay4 lanes (initWord I0 2) X = v2
  generalize k0_pay4 lanes (initWord I0 3) X = v3
  pointwise [k0_pay8]
  simp only [e]

end Cert.Proof.V

end
-- ==== Proof.V.Features.lean ====
/-
  The normalised features: the kernel's, from the sums and the sums of squares it is given, and the reference's, from the
  activations themselves, are one real number at each pixel.
-/
module

public import proofs.«01_k».proof.Proof.V.KernelPass
public import proofs.«01_k».proof.Proof.Gen.ReferenceIdeal.Step

@[expose] public section

set_option maxRecDepth 16384

noncomputable section

namespace Cert.Proof.V

open Idealize.ShloMosaic

/-- The activations of both images, -/
abbrev SY : Shape := ⟨3, ![2, 32, 50176]⟩
/-- and the table of statistics and affine parameters. -/
abbrev SP : Shape := ⟨2, ![32, 8]⟩

/-- The activations and the table are real, and the table's first columns are the activations' sums and sums of squares. -/
structure Data (y : FVec Ideal SY .f32) (P : FVec Ideal SP .f32) (a : Fin 2 → Feat) (t : Fin 32 → Fin 8 → ℝ) : Prop where
  act : ∀ b c p, y (ix3 b c p) = (a b c p : EReal)
  tab : ∀ c j, P (ix2 c j) = (t c j : EReal)
  sum : ∀ c, t c 0 = ∑ b, ∑ p, a b c p
  sq : ∀ c, t c 1 = ∑ b, ∑ p, a b c p * a b c p

/-- A channel's mean, -/
def avg (t : Fin 32 → Fin 8 → ℝ) (c : Fin 32) : ℝ := t c 0 / 100352
/-- its variance, -/
def var (t : Fin 32 → Fin 8 → ℝ) (c : Fin 32) : ℝ := t c 1 / 100352 - avg t c * avg t c
/-- and the features. -/
def feat (a : Fin 2 → Feat) (t : Fin 32 → Fin 8 → ℝ) (b : Fin 2) : Feat := fun c p =>
  (a b c p - avg t c) * ((Real.sqrt (var t c + eps))⁻¹ * t c 2) + t c 3

variable {y : FVec Ideal SY .f32} {P : FVec Ideal SP .f32} {a : Fin 2 → Feat} {t : Fin 32 → Fin 8 → ℝ}

/-- The variance is the mean of the squares of the deviations. -/
theorem Data.var_eq (D : Data y P a t) (c : Fin 32) :
    (∑ b, ∑ p, (a b c p - avg t c) * (a b c p - avg t c)) / 100352 = var t c := by
  have h : ∀ b p, (a b c p - avg t c) * (a b c p - avg t c)
      = a b c p * a b c p - 2 * avg t c * a b c p + avg t c * avg t c := fun b p => by ring
  have hs : t c 0 = 100352 * avg t c := by rw [avg]; ring
  simp only [h, Finset.sum_add_distrib, Finset.sum_sub_distrib, ← Finset.mul_sum, ← D.sum, ← D.sq, Finset.sum_const,
    Finset.card_univ, Fintype.card_fin, nsmul_eq_mul]
  rw [var, hs]
  push_cast
  ring

theorem Data.var_nonneg (D : Data y P a t) (c : Fin 32) : 0 ≤ var t c := by
  rw [← D.var_eq c]
  exact div_nonneg (Finset.sum_nonneg fun b _ => Finset.sum_nonneg fun p _ => mul_self_nonneg _) (by norm_num)

theorem Data.pos (D : Data y P a t) (c : Fin 32) : 0 < var t c + eps := add_pos_of_nonneg_of_pos (D.var_nonneg c) eps_pos

theorem rsqrt_real {r : ℝ} (h : 0 < r) : Ideal.rsqrt (r : EReal) = (((Real.sqrt r)⁻¹ : ℝ) : EReal) := by
  rw [Ideal.rsqrt_coe, if_neg (not_lt.mpr h.le), if_neg h.ne']

/-- The kernel's features of image `b`. -/
theorem Data.kernel (D : Data y P a t) (b : Fin 2) (Y : Vec Ideal Cert.KernelIdeal.S1x32x50176 .f32)
    (hY : ∀ c p, Y (ix3 0 c p) = y (ix3 b c p)) : IsFeat (Cert.Proof.KI.feats (F := Ideal) Y P) (feat a t b) := by
  have hc : ∀ (j : Fin 8) (c : Fin 32), Cert.Proof.KI.col (F := Ideal) P j (ix2 c 0) = (t c j : EReal) := fun j c => by
    rw [← D.tab c j]
    unfold Cert.Proof.KI.col
    congr 1
    funext x
    match x with
    | ⟨0, _⟩ => rfl
    | ⟨1, _⟩ => rfl
  intro c p
  have h := hY c p
  rw [D.act] at h
  unfold Cert.Proof.KI.feats
  have h0 := hc 0 c
  have h1 := hc 1 c
  have h2 := hc 2 c
  have h3 := hc 3 c
  generalize Cert.Proof.KI.col (F := Ideal) P 0 = v0 at h0 ⊢
  generalize Cert.Proof.KI.col (F := Ideal) P 1 = v1 at h1 ⊢
  generalize Cert.Proof.KI.col (F := Ideal) P 2 = v2 at h2 ⊢
  generalize Cert.Proof.KI.col (F := Ideal) P 3 = v3 at h3 ⊢
  pointwise [Cert.KernelIdeal.Gen.k0_pay2]
  have hn : (100352 : ℝ) ≠ 0 := by norm_num
  rw [h, h0, h1, h2, h3, lit_count, lit_eps_eq, div_real _ hn, div_real _ hn, ← EReal.coe_mul, ← EReal.coe_sub, ← EReal.coe_sub, ← EReal.coe_add]
  have hv : t c 1 / 100352 - t c 0 / 100352 * (t c 0 / 100352) = var t c := rfl
  rw [hv, rsqrt_real (D.pos c), ← EReal.coe_mul, ← EReal.coe_mul, ← EReal.coe_add]
  rfl

/-! ### The reference -/

/-- The host's sum over the first and the last of three axes. -/
theorem sum_outer {m n k : ℕ} {u : Shape} (h : (⟨3, ![m, n, k]⟩ : Shape).ReducesTo [0, 2] u)
    (x : (⟨3, ![m, n, k]⟩ : Shape).Idx → EReal) (init : EReal) (j : u.Idx) (hu : 0 < u.rank) (c : Fin n) (hc : (j ⟨0, hu⟩).val = c.val) :
    Ideal.hostReduceAdd h x init j = init + ∑ b : Fin m, ∑ p : Fin k, x (ix3 b c p) := by
  have hr : u.rank = 1 := h.1
  unfold Ideal.hostReduceAdd
  congr 1
  rw [← Fintype.sum_prod_type' (f := fun (b : Fin m) (p : Fin k) => x (ix3 b c p))]
  symm
  refine Finset.sum_bij (fun (l : Fin m × Fin k) _ => ix3 l.1 c l.2) ?_ ?_ ?_ ?_
  · intro l _
    refine Finset.mem_filter.mpr ⟨Finset.mem_univ _, ?_⟩
    funext z
    apply Fin.ext
    match z with
    | ⟨0, _⟩ => exact hc.symm
    | ⟨_ + 1, hz⟩ => exact absurd hz (by omega)
  · intro l _ l' _ e
    exact Prod.ext (congrFun e 0) (congrFun e 2)
  · intro i hi
    refine ⟨(i 0, i 2), Finset.mem_univ _, ?_⟩
    funext z; apply Fin.ext
    match z with
    | ⟨0, _⟩ => rfl
    | ⟨1, _⟩ => exact hc.symm.trans (congrArg Fin.val (congrFun (Finset.mem_filter.mp hi).2 ⟨0, hu⟩)).symm
    | ⟨2, _⟩ => rfl
  · intro l _; rfl

/-- The host's sum over the images and the pixels of a channel. -/
theorem channel_sum {u : Shape} (h : SY.ReducesTo [0, 2] u) (x : SY.Idx → EReal) (j : u.Idx) (hu : 0 < u.rank) (c : Fin 32)
    (hc : (j ⟨0, hu⟩).val = c.val) : Ideal.hostReduceAdd h x 0 j = ∑ b : Fin 2, ∑ p : Fin 50176, x (ix3 b c p) :=
  (sum_outer h x 0 j hu c hc).trans (zero_add _)

open Cert.ReferenceIdeal Cert.ReferenceIdeal.Gen Cert.ReferenceIdeal.Step

variable (I : IVec S2x1x5 32)

theorem Data.ref_mean (D : Data y P a t) (c : Fin 32) : A_main_v7 (F := Ideal) y P I (ix3 0 c 0) = (avg t c : EReal) := by
  have h : A_main_v7 (F := Ideal) y P I (ix3 0 c 0) = Ideal.div (Ideal.hostReduceAdd reducesTo_S2x32x50176_S32_d0_2 y 0 (ix1 c))
      (Ideal.ofBits FTy.f32 1204027392#32) := by
    pointwise [A_main_v7, A_main_v5, A_main_v4, K_main_v6, K_main_cst, K_main_cst_0]
  rw [h, channel_sum _ _ (ix1 c) (by decide) c rfl]
  have e : ∑ b : Fin 2, ∑ p : Fin 50176, y (ix3 b c p) = (t c 0 : EReal) := by
    rw [D.sum, coe_sum]
    refine Finset.sum_congr rfl fun b _ => ?_
    rw [coe_sum]
    exact Finset.sum_congr rfl fun p _ => D.act b c p
  rw [e, lit_count, div_real _ (by norm_num)]
  rfl

theorem Data.ref_var (D : Data y P a t) (c : Fin 32) : A_main_v14 (F := Ideal) y P I (ix3 0 c 0) = (var t c : EReal) := by
  have h : A_main_v14 (F := Ideal) y P I (ix3 0 c 0) = Ideal.div (Ideal.hostReduceAdd reducesTo_S2x32x50176_S32_d0_2
      (A_main_v10 (F := Ideal) y P I) 0 (ix1 c)) (Ideal.ofBits FTy.f32 1204027392#32) := by
    pointwise [A_main_v14, A_main_v12, A_main_v11, K_main_v13, K_main_cst_1, K_main_cst_2]
  have h10 : ∀ b p, A_main_v10 (F := Ideal) y P I (ix3 b c p)
      = (((a b c p - avg t c) * (a b c p - avg t c) : ℝ) : EReal) := by
    intro b p
    have : A_main_v10 (F := Ideal) y P I (ix3 b c p) = (y (ix3 b c p) - A_main_v7 (F := Ideal) y P I (ix3 0 c 0))
        * (y (ix3 b c p) - A_main_v7 (F := Ideal) y P I (ix3 0 c 0)) := by
      pointwise [A_main_v10, A_main_v9, A_main_v8]
    rw [this, D.ref_mean, D.act, ← EReal.coe_sub, ← EReal.coe_mul]
  rw [h, channel_sum _ _ (ix1 c) (by decide) c rfl]
  have e : ∑ b : Fin 2, ∑ p : Fin 50176, A_main_v10 (F := Ideal) y P I (ix3 b c p)
      = ((∑ b, ∑ p, (a b c p - avg t c) * (a b c p - avg t c) : ℝ) : EReal) := by
    rw [coe_sum]
    refine Finset.sum_congr rfl fun b _ => ?_
    rw [coe_sum]
    exact Finset.sum_congr rfl fun p _ => h10 b p
  rw [e, lit_count, div_real _ (by norm_num), D.var_eq]

/-- The reference's features. -/
theorem Data.ref (D : Data y P a t) (b : Fin 2) (p : Fin 50176) (c : Fin 32) :
    A_main_v28 (F := Ideal) y P I (ix3 b p c) = (feat a t b c p : EReal) := by
  have h : A_main_v28 (F := Ideal) y P I (ix3 b p c) = Ideal.div (y (ix3 b c p) - A_main_v7 (F := Ideal) y P I (ix3 0 c 0))
          (Ideal.sqrt (A_main_v14 (F := Ideal) y P I (ix3 0 c 0) + Ideal.ofBits FTy.f32 925353388#32)) *
        P (ix2 c 2) + P (ix2 c 3) := by
    pointwise [A_main_v28, A_main_v27, A_main_v26, A_main_v25, A_main_v24, A_main_v23, A_main_v22, A_main_v21, A_main_v20,
      A_main_v19, A_main_v18, A_main_v16, A_main_v15, A_main_v3, A_main_v2, A_main_v1, A_main_v0, K_main_v17, K_main_cst_3]
  rw [h, D.ref_mean, D.ref_var, D.act, D.tab, D.tab, lit_eps_eq, ← EReal.coe_sub, ← EReal.coe_add, sqrt_real (D.pos c).le,
    div_real _ (Real.sqrt_pos.mpr (D.pos c)).ne', ← EReal.coe_mul, ← EReal.coe_add, feat, div_eq_mul_inv, mul_assoc]

end Cert.Proof.V

end
-- ==== Proof.V.Pre.lean ====
/-
  What the precondition says of the argument arrays over the extended reals.
-/
module

public import proofs.«01_k».proof.Pre_statistics_and_indices
public import proofs.«01_k».proof.Proof.V.Features
public import Idealize.ShloMosaic.Lib.Affine
public import Idealize.ShloMosaic.Lib.Decide

@[expose] public section

set_option maxRecDepth 16384

noncomputable section

namespace Cert.Proof.V

open Idealize.ShloMosaic

instance preFacts : Cert.Pre_statistics_and_indices.Facts where
  bcast_S_S2x32x50176 := by decide
  bcast_S_S32x8 := by decide
  slices_S32x8_S32x1_0_0 := by decide
  shapeCasts_S32x1_S32 := by decide
  reducesTo_S2x32x50176_S32_d0_2 := by decide
  h_S_ := by decide
  slices_S32x8_S32x1_0_1 := by decide
  bcast_S_S2x1x5 := by decide
  bcast_S_S2x100x5 := by decide

open Cert.Pre_statistics_and_indices (fn fn_part1 S2x1x5 S2x100x5)

variable {y : FVec Ideal SY .f32} {P : FVec Ideal SP .f32} {I : IVec S2x1x5 32} {W : IVec S2x100x5 32}

theorem of_flag {p : Prop} [Decidable p] (h : BitVec.ofBool (decide p) = 1#1) : p := by
  by_contra hp
  rw [decide_eq_false hp] at h
  exact absurd h (by decide)

theorem act_real (h : (fn (F := Ideal) y P I W).1 = fun _ => 1#1) (b : Fin 2) (c : Fin 32) (p : Fin 50176) :
    y (ix3 b c p) = ((y (ix3 b c p)).toReal : EReal) := by
  have e : (fn (F := Ideal) y P I W).1 (ix3 b c p)
      = BitVec.ofBool (decide (max (y (ix3 b c p)) (-y (ix3 b c p)) < Ideal.ofBits .f32 0x7F800000#32)) := by
    pointwise [fn, fn_part1]
    rfl
  rw [h, lit_top] at e
  exact (real_of_abs_lt (of_flag e.symm)).symm

theorem tab_real (h : (fn (F := Ideal) y P I W).2.1 = fun _ => 1#1) (c : Fin 32) (j : Fin 8) :
    P (ix2 c j) = ((P (ix2 c j)).toReal : EReal) := by
  have e : (fn (F := Ideal) y P I W).2.1 (ix2 c j)
      = BitVec.ofBool (decide (max (P (ix2 c j)) (-P (ix2 c j)) < Ideal.ofBits .f32 0x7F800000#32)) := by
    pointwise [fn, fn_part1]
    rfl
  rw [h, lit_top] at e
  exact (real_of_abs_lt (of_flag e.symm)).symm

theorem tab_sum (h : (fn (F := Ideal) y P I W).2.2.1 = fun _ => 1#1) (c : Fin 32) :
    P (ix2 c 0) = ∑ b, ∑ p, y (ix3 b c p) := by
  have e : (fn (F := Ideal) y P I W).2.2.1 (ix1 c) = BitVec.ofBool (decide (P (ix2 c 0)
      = Ideal.hostReduceAdd Cert.Pre_statistics_and_indices.Facts.reducesTo_S2x32x50176_S32_d0_2 y 0 (ix1 c))) := by
    pointwise [fn, fn_part1]
  rw [h] at e
  exact (of_flag e.symm).trans (channel_sum _ _ (ix1 c) (by decide) c rfl)

theorem tab_sq (h : (fn (F := Ideal) y P I W).2.2.2.1 = fun _ => 1#1) (c : Fin 32) :
    P (ix2 c 1) = ∑ b, ∑ p, y (ix3 b c p) * y (ix3 b c p) := by
  have e : (fn (F := Ideal) y P I W).2.2.2.1 (ix1 c) = BitVec.ofBool (decide (P (ix2 c 1)
      = Ideal.hostReduceAdd Cert.Pre_statistics_and_indices.Facts.reducesTo_S2x32x50176_S32_d0_2
          (mulf (F := Ideal) y y) 0 (ix1 c))) := by
    pointwise [fn, fn_part1]
  rw [h] at e
  exact (of_flag e.symm).trans (channel_sum _ _ (ix1 c) (by decide) c rfl)

theorem word_range {w : BitVec 32}
    (h : IntOp.andi (IntOp.cmpi CmpIPredicate.sge w 0#32) (IntOp.cmpi CmpIPredicate.slt w 50176#32) = 1#1) : w.toNat < 50176 := by
  have hb : ∀ a b : BitVec 1, IntOp.andi a b = 1#1 → a = 1#1 ∧ b = 1#1 := by decide
  obtain ⟨h0, h1⟩ := hb _ _ h
  have h0' : (0#32).toInt ≤ w.toInt := of_flag h0
  have h1' : w.toInt < (50176#32).toInt := of_flag h1
  have e0 : (0#32 : BitVec 32).toInt = 0 := by decide
  have e1 : (50176#32 : BitVec 32).toInt = 50176 := by decide
  rw [e0] at h0'
  rw [e1] at h1'
  have hw := w.isLt
  rw [BitVec.toInt_eq_toNat_cond] at h0' h1'
  split_ifs at h0' h1' <;> omega

theorem init_range (h : (fn (F := Ideal) y P I W).2.2.2.2.1 = fun _ => 1#1) (b : Fin 2) (k : Fin 5) :
    (I (ix3 b 0 k)).toNat < 50176 := by
  have e : (fn (F := Ideal) y P I W).2.2.2.2.1 (ix3 b 0 k) = IntOp.andi (IntOp.cmpi CmpIPredicate.sge (I (ix3 b 0 k)) 0#32)
      (IntOp.cmpi CmpIPredicate.slt (I (ix3 b 0 k)) 50176#32) := by
    pointwise [fn, fn_part1]
  rw [h] at e
  exact word_range e.symm

theorem fallback_range (h : (fn (F := Ideal) y P I W).2.2.2.2.2 = fun _ => 1#1) (b : Fin 2) (j : Fin 100) (k : Fin 5) :
    (W (ix3 b j k)).toNat < 50176 := by
  have e : (fn (F := Ideal) y P I W).2.2.2.2.2 (ix3 b j k) = IntOp.andi (IntOp.cmpi CmpIPredicate.sge (W (ix3 b j k)) 0#32)
      (IntOp.cmpi CmpIPredicate.slt (W (ix3 b j k)) 50176#32) := by
    pointwise [fn, fn_part1]
  rw [h] at e
  exact word_range e.symm

/-- The activations, -/
def acts (y : FVec Ideal SY .f32) (b : Fin 2) : Feat := fun c p => (y (ix3 b c p)).toReal
/-- the table, -/
def tabs (P : FVec Ideal SP .f32) (c : Fin 32) (j : Fin 8) : ℝ := (P (ix2 c j)).toReal
/-- the initial pixels -/
def inits (I : IVec S2x1x5 32) (b : Fin 2) (k : Fin 5) : Fin 50176 := Fin.ofNat 50176 (I (ix3 b 0 k)).toNat
/-- and the fallback pixels. -/
def falls (W : IVec S2x100x5 32) (b : Fin 2) (j : ℕ) (k : Fin 5) : Fin 50176 :=
  Fin.ofNat 50176 (W (ix3 b (Fin.ofNat 100 j) k)).toNat

theorem inits_names (h : (fn (F := Ideal) y P I W).2.2.2.2.1 = fun _ => 1#1) (b : Fin 2) (k : Fin 5) :
    Names (I (ix3 b 0 k)) (inits I b k) := (Nat.mod_eq_of_lt (init_range h b k)).symm

theorem falls_names (h : (fn (F := Ideal) y P I W).2.2.2.2.2 = fun _ => 1#1) (b : Fin 2) (j : ℕ) (hj : j < 100) (k : Fin 5) :
    Names (W (ix3 b ⟨j, hj⟩ k)) (falls W b j k) := by
  have e : Fin.ofNat 100 j = ⟨j, hj⟩ := Fin.ext (Nat.mod_eq_of_lt hj)
  unfold falls
  rw [e]
  exact (Nat.mod_eq_of_lt (fallback_range h b _ k)).symm

theorem pre_data (h0 : (fn (F := Ideal) y P I W).1 = fun _ => 1#1) (h1 : (fn (F := Ideal) y P I W).2.1 = fun _ => 1#1)
    (h2 : (fn (F := Ideal) y P I W).2.2.1 = fun _ => 1#1) (h3 : (fn (F := Ideal) y P I W).2.2.2.1 = fun _ => 1#1) :
    Data y P (acts y) (tabs P) where
  act := act_real h0
  tab := tab_real h1
  sum c := by
    rw [← EReal.coe_eq_coe_iff, tabs, ← tab_real h1, tab_sum h2, coe_sum]
    refine Finset.sum_congr rfl fun b _ => ?_
    rw [coe_sum]
    exact Finset.sum_congr rfl fun p _ => act_real h0 b c p
  sq c := by
    rw [← EReal.coe_eq_coe_iff, tabs, ← tab_real h1, tab_sq h3, coe_sum]
    refine Finset.sum_congr rfl fun b _ => ?_
    rw [coe_sum]
    exact Finset.sum_congr rfl fun p _ => by rw [EReal.coe_mul, acts, ← act_real h0]

end Cert.Proof.V

end
-- ==== Proof.V.Gather.lean ====
/-
  A gather of rows named by pairs of indices, read at an index.
-/
module

public import Idealize.ShloMosaic.Lib.Pipeline.ValueKit

@[expose] public section

set_option maxRecDepth 16384

noncomputable section

namespace Cert.Proof.V

open Idealize.ShloMosaic

variable {α : Type} {B N C R Q : ℕ}

/-- The dimension numbers of `x[i, j]` for an operand of `B` by `N` rows and pairs of indices arranged as `R` by `Q`. -/
abbrev pairDims (B N C R Q : ℕ)
    (wf : GatherDims.WF ⟨3, ![B, N, C]⟩ ⟨3, ![R, Q, 2]⟩ ⟨3, ![R, Q, C]⟩ [2] [0, 1] [] [0, 1] [] 2 ![1, 1, C]) :
    GatherDims ⟨3, ![B, N, C]⟩ ⟨3, ![R, Q, 2]⟩ ⟨3, ![R, Q, C]⟩ where
  offsetDims := [2]
  collapsedSliceDims := [0, 1]
  operandBatchingDims := []
  startIndicesBatchingDims := []
  startIndexMap := [0, 1]
  indexVectorDim := 2
  sliceSizes := ![1, 1, C]
  wf := wf

/-- Row `(b, n)` of the operand, where the pair at `(r, q)` is `(b, n)`. -/
theorem gather_pair {w : ℕ}
    (wf : GatherDims.WF ⟨3, ![B, N, C]⟩ ⟨3, ![R, Q, 2]⟩ ⟨3, ![R, Q, C]⟩ [2] [0, 1] [] [0, 1] [] 2 ![1, 1, C])
    (x : (⟨3, ![B, N, C]⟩ : Shape).Idx → α) (idx : IVec ⟨3, ![R, Q, 2]⟩ w) (r : Fin R) (q : Fin Q) (c : Fin C)
    (b : Fin B) (n : Fin N) (hb : (idx (ix3 r q 0)).toInt = b.val) (hn : (idx (ix3 r q 1)).toInt = n.val) :
    Host.gather (pairDims B N C R Q wf) x idx (ix3 r q c) = x (ix3 b n c) := by
  unfold Host.gather
  congr 1
  funext a
  refine Fin.ext ?_
  show (pairDims B N C R Q wf).start (ix3 r q c) idx a + (pairDims B N C R Q wf).batchCoord (ix3 r q c) a
      + (pairDims B N C R Q wf).offCoord (ix3 r q c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil, Nat.add_zero]
  rcases h012 with rfl | rfl | rfl
  · have hm : (0 : Fin 3) ∈ (pairDims B N C R Q wf).startIndexMap := by simp
    rw [GatherDims.offCoord_eq_zero _ _ _ (fun h => ((GatherDims.mem_sKept _ _).mp h).1 (by simp)), Nat.add_zero]
    unfold GatherDims.start
    rw [dif_pos hm]
    have hsi : (pairDims B N C R Q wf).siIdx (ix3 r q c) ⟨List.idxOf (0 : Fin 3) (pairDims B N C R Q wf).startIndexMap,
        List.idxOf_lt_length_iff.2 hm⟩ = ix3 r q 0 := by
      funext i; refine Fin.ext ?_
      match i with
      | ⟨0, _⟩ => rfl
      | ⟨1, _⟩ => rfl
      | ⟨2, _⟩ => rfl
    rw [hsi, hb]
    show min b.val (B - 1) = b.val
    have := b.isLt
    omega
  · have hm : (1 : Fin 3) ∈ (pairDims B N C R Q wf).startIndexMap := by simp
    rw [GatherDims.offCoord_eq_zero _ _ _ (fun h => ((GatherDims.mem_sKept _ _).mp h).1 (by simp)), Nat.add_zero]
    unfold GatherDims.start
    rw [dif_pos hm]
    have hsi : (pairDims B N C R Q wf).siIdx (ix3 r q c) ⟨List.idxOf (1 : Fin 3) (pairDims B N C R Q wf).startIndexMap,
        List.idxOf_lt_length_iff.2 hm⟩ = ix3 r q 1 := by
      funext i; refine Fin.ext ?_
      match i with
      | ⟨0, _⟩ => rfl
      | ⟨1, _⟩ => rfl
      | ⟨2, _⟩ => rfl
    rw [hsi, hn]
    show min n.val (N - 1) = n.val
    have := n.isLt
    omega
  · have hm : (2 : Fin 3) ∉ (pairDims B N C R Q wf).startIndexMap := by simp
    unfold GatherDims.start
    rw [dif_neg hm, Nat.zero_add]
    rfl

end Cert.Proof.V

end
-- ==== Proof.V.RefPass.lean ====
/-
  One pass of the reference's loop over the extended reals: what a state that reads as a model state becomes.
-/
module

public import proofs.«01_k».proof.Proof.V.Features
public import proofs.«01_k».proof.Proof.V.Gather
public import Idealize.ShloMosaic.Lib.DynamicIndex

@[expose] public section

set_option maxRecDepth 16384

noncomputable section

namespace Cert.Proof.V

open Cert.ReferenceIdeal Cert.ReferenceIdeal.Gen Cert.ReferenceIdeal.Step
open Idealize.ShloMosaic

/-! ### Words -/

/-- An index that is not negative is left as it is. -/
theorem norm_word {w z : BitVec 32} {n : ℕ} (hw : w.toNat = n) (hn : n < 2 ^ 31) :
    (Scalar.select (IntOp.cmpi CmpIPredicate.slt w 0#32) z w).toInt = n := by
  have hi : w.toInt = n := by
    rw [BitVec.toInt_eq_toNat_cond, hw, if_pos (by omega)]
  have hs : w.slt 0#32 = false := by
    rw [BitVec.slt, hi, BitVec.toInt_zero]
    exact decide_eq_false (by omega)
  have h : IntOp.cmpi CmpIPredicate.slt w 0#32 = 0#1 := by
    show BitVec.ofBool (w.slt 0#32) = 0#1
    rw [hs]; rfl
  rw [h]
  exact hi

theorem small_word {n : ℕ} (hn : n < 2 ^ 31) : (BitVec.ofNat 32 n).toNat = n := by
  rw [BitVec.toNat_ofNat]; exact Nat.mod_eq_of_lt (by omega)

/-- The word of a cluster selects that cluster. -/
theorem select_label {α : Type} (l k : Fin 5) (u v : α) :
    Scalar.select (IntOp.cmpi CmpIPredicate.eq (BitVec.ofNat 32 l.val) (BitVec.ofNat 32 k.val)) u v = if l = k then u else v := by
  have hl := l.isLt
  have hk := k.isLt
  by_cases h : l = k
  · rw [if_pos h, h]
    have : IntOp.cmpi CmpIPredicate.eq (BitVec.ofNat 32 k.val) (BitVec.ofNat 32 k.val) = 1#1 := (cmpi_eq_iff _ _).mpr rfl
    rw [this]; rfl
  · rw [if_neg h]
    have : IntOp.cmpi CmpIPredicate.eq (BitVec.ofNat 32 l.val) (BitVec.ofNat 32 k.val) ≠ 1#1 := fun e => h (Fin.ext (by
      have := congrArg BitVec.toNat ((cmpi_eq_iff _ _).mp e)
      rwa [small_word (by omega), small_word (by omega)] at this))
    exact if_neg this

theorem or_bit (a b : BitVec 1) : IntOp.ori a b = 1#1 ↔ a = 1#1 ∨ b = 1#1 := by
  revert a b; decide

theorem select_bit {α : Type} (b : BitVec 1) (u v : α) : Scalar.select b u v = if b = 1#1 then u else v := rfl

/-! ### The nearest centroid -/

/-- The scores and the distances have the same first least cluster. -/
theorem first_sqrt {s : Fin 5 → ℝ} {q : ℝ} (h : ∀ k, 0 ≤ q + s k) : first (fun k => Real.sqrt (q + s k)) = first s := by
  refine First.eq ⟨fun j => Real.sqrt_le_sqrt (by linarith [(first_spec s).1 j]), fun j hj => ?_⟩
  exact Real.sqrt_lt_sqrt (h _) (by linarith [(first_spec s).2 j hj])

theorem first_word {δ : Fin 5 → ℝ} {k : Fin 5} (h : First δ k) : BitVec.ofNat 32 k.val = BitVec.ofNat 32 (first δ).val := by
  rw [h.eq]

theorem forall_five {p : Fin 5 → Prop} (h0 : p 0) (h1 : p 1) (h2 : p 2) (h3 : p 3) (h4 : p 4) : ∀ k, p k := by
  intro k
  have hk : k = 0 ∨ k = 1 ∨ k = 2 ∨ k = 3 ∨ k = 4 := by revert k; decide
  rcases hk with rfl | rfl | rfl | rfl | rfl <;> assumption

/-- The running comparison of five distances. -/
theorem ladder (δ : Fin 5 → ℝ) (w : BitVec 32) (a : Fin 5 → EReal) (ha : ∀ k, a k = (δ k : EReal))
    (hw : w = if a 4 < (if a 3 < (if a 2 < (if a 1 < a 0 then a 1 else a 0) then a 2 else if a 1 < a 0 then a 1 else a 0) then a 3
        else if a 2 < (if a 1 < a 0 then a 1 else a 0) then a 2 else if a 1 < a 0 then a 1 else a 0) then 4#32
      else if a 3 < (if a 2 < (if a 1 < a 0 then a 1 else a 0) then a 2 else if a 1 < a 0 then a 1 else a 0) then 3#32
      else if a 2 < (if a 1 < a 0 then a 1 else a 0) then 2#32 else if a 1 < a 0 then 1#32 else 0#32) :
    w = BitVec.ofNat 32 (first δ).val := by
  subst hw
  have f0 : δ 0 ≤ δ 1 → δ 0 ≤ δ 2 → δ 0 ≤ δ 3 → δ 0 ≤ δ 4 → 0#32 = BitVec.ofNat 32 (first δ).val := fun h1 h2 h3 h4 =>
    first_word (k := 0) ⟨forall_five le_rfl h1 h2 h3 h4, fun j hj => absurd hj (by simp)⟩
  have f1 : δ 1 < δ 0 → δ 1 ≤ δ 2 → δ 1 ≤ δ 3 → δ 1 ≤ δ 4 → 1#32 = BitVec.ofNat 32 (first δ).val := fun h0 h2 h3 h4 =>
    first_word (k := 1) ⟨forall_five h0.le le_rfl h2 h3 h4, forall_five (fun _ => h0) (fun h => absurd h (by decide))
      (fun h => absurd h (by decide)) (fun h => absurd h (by decide)) (fun h => absurd h (by decide))⟩
  have f2 : δ 2 < δ 0 → δ 2 < δ 1 → δ 2 ≤ δ 3 → δ 2 ≤ δ 4 → 2#32 = BitVec.ofNat 32 (first δ).val := fun h0 h1 h3 h4 =>
    first_word (k := 2) ⟨forall_five h0.le h1.le le_rfl h3 h4, forall_five (fun _ => h0) (fun _ => h1)
      (fun h => absurd h (by decide)) (fun h => absurd h (by decide)) (fun h => absurd h (by decide))⟩
  have f3 : δ 3 < δ 0 → δ 3 < δ 1 → δ 3 < δ 2 → δ 3 ≤ δ 4 → 3#32 = BitVec.ofNat 32 (first δ).val := fun h0 h1 h2 h4 =>
    first_word (k := 3) ⟨forall_five h0.le h1.le h2.le le_rfl h4, forall_five (fun _ => h0) (fun _ => h1)
      (fun _ => h2) (fun h => absurd h (by decide)) (fun h => absurd h (by decide))⟩
  have f4 : δ 4 < δ 0 → δ 4 < δ 1 → δ 4 < δ 2 → δ 4 < δ 3 → 4#32 = BitVec.ofNat 32 (first δ).val := fun h0 h1 h2 h3 =>
    first_word (k := 4) ⟨forall_five h0.le h1.le h2.le h3.le le_rfl, forall_five (fun _ => h0) (fun _ => h1)
      (fun _ => h2) (fun _ => h3) (fun h => absurd h (by decide))⟩
  simp only [ha]
  by_cases c1 : δ 1 < δ 0
  · simp only [EReal.coe_lt_coe_iff, if_pos c1]
    by_cases c2 : δ 2 < δ 1
    · simp only [EReal.coe_lt_coe_iff, if_pos c2]
      by_cases c3 : δ 3 < δ 2
      · simp only [EReal.coe_lt_coe_iff, if_pos c3]
        by_cases c4 : δ 4 < δ 3
        · rw [if_pos c4]; apply f4 <;> linarith
        · rw [if_neg c4]; apply f3 <;> linarith
      · simp only [EReal.coe_lt_coe_iff, if_neg c3]
        by_cases c4 : δ 4 < δ 2
        · rw [if_pos c4]; apply f4 <;> linarith
        · rw [if_neg c4]; apply f2 <;> linarith
    · simp only [EReal.coe_lt_coe_iff, if_neg c2]
      by_cases c3 : δ 3 < δ 1
      · simp only [EReal.coe_lt_coe_iff, if_pos c3]
        by_cases c4 : δ 4 < δ 3
        · rw [if_pos c4]; apply f4 <;> linarith
        · rw [if_neg c4]; apply f3 <;> linarith
      · simp only [EReal.coe_lt_coe_iff, if_neg c3]
        by_cases c4 : δ 4 < δ 1
        · rw [if_pos c4]; apply f4 <;> linarith
        · rw [if_neg c4]; apply f1 <;> linarith
  · simp only [EReal.coe_lt_coe_iff, if_neg c1]
    by_cases c2 : δ 2 < δ 0
    · simp only [EReal.coe_lt_coe_iff, if_pos c2]
      by_cases c3 : δ 3 < δ 2
      · simp only [EReal.coe_lt_coe_iff, if_pos c3]
        by_cases c4 : δ 4 < δ 3
        · rw [if_pos c4]; apply f4 <;> linarith
        · rw [if_neg c4]; apply f3 <;> linarith
      · simp only [EReal.coe_lt_coe_iff, if_neg c3]
        by_cases c4 : δ 4 < δ 2
        · rw [if_pos c4]; apply f4 <;> linarith
        · rw [if_neg c4]; apply f2 <;> linarith
    · simp only [EReal.coe_lt_coe_iff, if_neg c2]
      by_cases c3 : δ 3 < δ 0
      · simp only [EReal.coe_lt_coe_iff, if_pos c3]
        by_cases c4 : δ 4 < δ 3
        · rw [if_pos c4]; apply f4 <;> linarith
        · rw [if_neg c4]; apply f3 <;> linarith
      · simp only [EReal.coe_lt_coe_iff, if_neg c3]
        by_cases c4 : δ 4 < δ 0
        · rw [if_pos c4]; apply f4 <;> linarith
        · rw [if_neg c4]; apply f0 <;> linarith

/-- The squared distance. -/
theorem score_dist (x : Feat) (μ : Cents) (p : Fin 50176) (k : Fin 5) :
    (∑ c, x c p * x c p) + score x μ p k = ∑ c, (x c p - μ k c) * (x c p - μ k c) := by
  have h : ∀ c, (x c p - μ k c) * (x c p - μ k c) = x c p * x c p - 2 * (μ k c * x c p) + μ k c * μ k c := fun c => by ring
  simp only [h, Finset.sum_add_distrib, Finset.sum_sub_distrib, ← Finset.mul_sum, score]
  ring

/-! ### The state -/

/-- The state reads, at image `b`, as the model's state `σ`. -/
structure Reads (s : State Ideal) (b : Fin 2) (x : Feat) (f : ℕ → Fin 5 → Fin 50176) (σ : St) : Prop where
  rows : ∀ p c, s.main_v52_1 (ix3 b p c) = (x c p : EReal)
  sq : ∀ p, s.main_v52_0 (ix3 b p 0) = ((∑ c, x c p * x c p : ℝ) : EReal)
  fb : ∀ (j : ℕ) (hj : j < 100) k, Names (s.main_v52_2 (ix3 b ⟨j, hj⟩ k)) (f j k)
  lab : ∀ p, s.main_v52_5 (ix2 b p) = BitVec.ofNat 32 (σ.lab p).val
  cen : ∀ k c, s.main_v52_6 (ix3 b k c) = (σ.cen k c : EReal)
  fin : s.main_v52_7 (ix1 b) = 1#1 ↔ σ.fin

variable {s : State Ideal} {b : Fin 2} {x : Feat} {f : ℕ → Fin 5 → Fin 50176} {σ : St} {j : ℕ}

theorem Reads.dist (R : Reads s b x f σ) (p : Fin 50176) (k : Fin 5) :
    b17 j s (ix3 b p k) = ((Real.sqrt ((∑ c, x c p * x c p) + score x σ.cen p k) : ℝ) : EReal) := by
  have h : b17 j s (ix3 b p k) = Ideal.sqrt (max (s.main_v52_0 (ix3 b p 0)
      + ∑ c, s.main_v52_6 (ix3 b k c) * s.main_v52_6 (ix3 b k c)
      - Ideal.ofBits FTy.f32 1073741824#32 * ∑ c, s.main_v52_1 (ix3 b p c) * s.main_v52_6 (ix3 b k c)) 0) := by
    pointwise [b17, b16, b15, b14, b13, b12, b11, b10, b9, b8, b7, b6, b5, b4, b3, b2]
  have hc : ∑ c, s.main_v52_6 (ix3 b k c) * s.main_v52_6 (ix3 b k c) = ((∑ c, σ.cen k c * σ.cen k c : ℝ) : EReal) := by
    rw [coe_sum]
    exact Finset.sum_congr rfl fun c _ => by rw [R.cen, EReal.coe_mul]
  have hd : ∑ c, s.main_v52_1 (ix3 b p c) * s.main_v52_6 (ix3 b k c) = ((∑ c, σ.cen k c * x c p : ℝ) : EReal) := by
    rw [coe_sum]
    exact Finset.sum_congr rfl fun c _ => by rw [R.cen, R.rows, mul_comm, EReal.coe_mul]
  have hp : 0 ≤ (∑ c, x c p * x c p) + score x σ.cen p k := by
    rw [score_dist]; exact Finset.sum_nonneg fun c _ => mul_self_nonneg _
  rw [h, hc, hd, R.sq, lit_two, ← EReal.coe_add, ← EReal.coe_mul, ← EReal.coe_sub, add_sub_assoc]
  have hs : (∑ c, σ.cen k c * σ.cen k c) - 2 * ∑ c, σ.cen k c * x c p = score x σ.cen p k := rfl
  rw [hs, max_eq_left (EReal.coe_nonneg.mpr hp), sqrt_real hp]

/-- The labels a pass computes. -/
theorem Reads.label (R : Reads s b x f σ) (p : Fin 50176) :
    b61 j s (ix2 b p) = BitVec.ofNat 32 (labels x σ.cen p).val := by
  have hl : labels x σ.cen p = first fun k => Real.sqrt ((∑ c, x c p * x c p) + score x σ.cen p k) :=
    (first_sqrt fun k => by rw [score_dist]; exact Finset.sum_nonneg fun c _ => mul_self_nonneg _).symm
  rw [hl]
  refine ladder _ _ (fun k => b17 j s (ix3 b p k)) (fun k => R.dist p k) ?_
  pointwise [b61, b60, b59, b58, b57, b56, b55, b54, b53, b52, b51, b50, b49, b48, b47, b46, b45, b44, b43, b42, b41, b40, b39,
    b38, b37, b36, b35, b34, b33, b32, b31, b30, b29, b28, b27, b26, b25, b24, b23, b22, b21, b20, b19, b18]

theorem Reads.sums (R : Reads s b x f σ) (k : Fin 5) (c : Fin 32) :
    b77 j s (ix3 b k c) = (total x (labels x σ.cen) k c : EReal) := by
  have h : b77 j s (ix3 b k c) = ∑ p, Scalar.select (IntOp.cmpi CmpIPredicate.eq (b61 j s (ix2 b p)) (BitVec.ofNat 32 k.val))
      (s.main_v52_1 (ix3 b p c)) 0 := by
    pointwise [b77, b76, b75, b74, b73, b72, b71, b70, b69, b68, b67, b66, b65, b64, b63, b62]
  rw [h, total, coe_sum]
  refine Finset.sum_congr rfl fun p _ => ?_
  rw [R.label, select_label, R.rows]
  split_ifs <;> rfl

theorem Reads.counts (R : Reads s b x f σ) (k : Fin 5) : b91 j s (ix2 b k) = (cnt (labels x σ.cen) k : EReal) := by
  have h : b91 j s (ix2 b k) = ∑ p, Scalar.select (IntOp.cmpi CmpIPredicate.eq (b61 j s (ix2 b p)) (BitVec.ofNat 32 k.val))
      (1 : EReal) 0 := by
    pointwise [b91, b90, b89, b88, b87, b86, b85, b84, b83, b82, b81, b80, b79, b78]
  rw [h, cnt, coe_sum]
  refine Finset.sum_congr rfl fun p _ => ?_
  rw [R.label, select_label]
  split_ifs <;> rfl

/-- The row of fallback pixels of pass `j`. -/
theorem row_apply (hj : j < 100) (k : Fin 5) : b124 j s (ix3 b 0 k) = s.main_v52_2 (ix3 b ⟨j, hj⟩ k) := by
  have hf : S2x100x5.Slices ![0, j, 0] S2x1x5 := by
    refine ⟨rfl, fun a => ?_⟩
    match a with
    | ⟨0, _⟩ => exact Nat.le_refl 2
    | ⟨1, _⟩ => exact (by omega : j + 1 ≤ 100)
    | ⟨2, _⟩ => exact Nat.le_refl 5
  unfold b124
  rw [Host.dynamicSlice_eq_extractStridedSlice S2x1x5 s.main_v52_2 _ ![0, j, 0] sliceFits_S2x100x5_S2x1x5 hf]
  · unfold extractStridedSlice
    congr 1
    funext a
    apply Fin.ext
    match a with
    | ⟨0, _⟩ => exact Nat.zero_add _
    | ⟨1, _⟩ => exact Nat.add_zero _
    | ⟨2, _⟩ => exact Nat.zero_add _
  · intro a
    match a with
    | ⟨0, _⟩ => rfl
    | ⟨1, _⟩ => exact toInt_wrap_ofNat j (by omega)
    | ⟨2, _⟩ => rfl

theorem Reads.fallback (R : Reads s b x f σ) (hj : j < 100) (k : Fin 5) (c : Fin 32) :
    b146 j s (ix3 b k c) = (x c (f j k) : EReal) := by
  have h0 : b145 j s (ix3 b k 0) = Scalar.select (IntOp.cmpi CmpIPredicate.slt (BitVec.ofNat 32 b.val) 0#32)
      (IntOp.addi (BitVec.ofNat 32 b.val) 2#32) (BitVec.ofNat 32 b.val) := by
    pointwise [b145, b144, b143, b142, b141, b140, b139, b138, b137, b136, b135, b134, b133, b132, b131, b130, b129, b128, b127,
      b126, b125]
  have h1 : b145 j s (ix3 b k 1) = Scalar.select (IntOp.cmpi CmpIPredicate.slt (b124 j s (ix3 b 0 k)) 0#32)
        (IntOp.addi (b124 j s (ix3 b 0 k)) 50176#32) (b124 j s (ix3 b 0 k)) := by
    pointwise [b145, b144, b143, b142, b141, b140, b139, b138, b137, b136, b135, b134, b133, b132, b131, b130, b129, b128, b127,
      b126, b125]
  have hb := b.isLt
  have hp := (f j k).isLt
  have hn := R.fb j hj k
  rw [← row_apply hj k] at hn
  unfold b146
  refine (gather_pair _ _ _ b k c b (f j k) ?_ ?_).trans (R.rows _ _)
  · rw [h0, norm_word (small_word (by omega)) (by omega)]
  · rw [h1, norm_word hn (by omega)]

theorem Reads.fresh (R : Reads s b x f σ) (hj : j < 100) (k : Fin 5) (c : Fin 32) :
    b148 j s (ix3 b k c) = (renewed x (f j) (labels x σ.cen) k c : EReal) := by
  have h : b148 j s (ix3 b k c) = if 0 < b91 j s (ix2 b k) then Ideal.div (b77 j s (ix3 b k c)) (max (b91 j s (ix2 b k)) 1)
      else b146 j s (ix3 b k c) := by
    pointwise [b148, b147, b101, b100, b99, b98, b97, b96, b95, b94, b93, b92]
  rw [h, R.counts, R.sums, R.fallback hj, ← real_one, ← coe_max, div_real _ (max_cnt_ne _ k), renewed]
  by_cases hc : 0 < cnt (labels x σ.cen) k
  · rw [if_pos hc, if_pos (EReal.coe_pos.mpr hc), mean]
  · rw [if_neg hc, if_neg (fun h' => hc (EReal.coe_pos.mp h'))]

theorem Reads.stop (R : Reads s b x f σ) (hj : j < 100) :
    b158 j s (ix1 b) = 1#1 ↔ Ends (shift σ.cen (renewed x (f j) (labels x σ.cen))) := by
  have h : b158 j s (ix1 b) = BitVec.ofBool (decide (b155 j s (ix1 b) ≤ Ideal.ofBits FTy.f32 953267991#32)) := by
    pointwise [b158, b157, b156]
  have h1 : b155 j s (ix1 b) = ∑ k, b153 j s (ix2 b k) := by
    pointwise [b155, b154]
  have h2 : ∀ k, b153 j s (ix2 b k) = Ideal.sqrt (∑ c, (b148 j s (ix3 b k c) - s.main_v52_6 (ix3 b k c))
      * (b148 j s (ix3 b k c) - s.main_v52_6 (ix3 b k c))) := by
    intro k
    pointwise [b153, b152, b151, b150, b149]
  have h3 : b155 j s (ix1 b) = (shift σ.cen (renewed x (f j) (labels x σ.cen)) : EReal) := by
    rw [h1, shift, coe_sum]
    refine Finset.sum_congr rfl fun k _ => ?_
    rw [h2, ← sqrt_real (Finset.sum_nonneg fun c _ => mul_self_nonneg _), coe_sum]
    refine congrArg Ideal.sqrt (Finset.sum_congr rfl fun c _ => ?_)
    rw [R.fresh hj, R.cen, ← EReal.coe_sub, ← EReal.coe_mul]
  rw [h, h3, Ends]
  by_cases hc : (shift σ.cen (renewed x (f j) (labels x σ.cen)) : EReal) ≤ Ideal.ofBits FTy.f32 953267991#32
  · rw [decide_eq_true hc]; exact ⟨fun _ => hc, fun _ => rfl⟩
  · rw [decide_eq_false hc]; exact ⟨fun h' => absurd h' (by decide), fun h' => absurd h' hc⟩

/-- A pass of the reference is a pass of the model. -/
theorem Reads.pass (R : Reads s b x f σ) (hj : j < 100) : Reads (step j s) b x f (σ.pass x (f j)) := by
  have h5 : ∀ p, b161 j s (ix2 b p) = Scalar.select (s.main_v52_7 (ix1 b)) (s.main_v52_5 (ix2 b p)) (b61 j s (ix2 b p)) := by
    intro p
    pointwise [b161, b160, b159]
  have h6 : ∀ k c, b165 j s (ix3 b k c) = Scalar.select (IntOp.ori (s.main_v52_7 (ix1 b)) (b158 j s (ix1 b)))
      (s.main_v52_6 (ix3 b k c)) (b148 j s (ix3 b k c)) := by
    intro k c
    pointwise [b165, b164, b163, b162]
  have h7 : b166 j s (ix1 b) = IntOp.ori (s.main_v52_7 (ix1 b)) (b158 j s (ix1 b)) := by
    pointwise [b166]
  by_cases hf : σ.fin
  · have h1 := R.fin.mpr hf
    rw [St.pass_fin hf]
    refine ⟨R.rows, R.sq, R.fb, fun p => ?_, fun k c => ?_, ?_⟩
    · rw [step_main_v52_5, h5, h1]; exact R.lab p
    · rw [step_main_v52_6, h6, select_bit, if_pos ((or_bit _ _).mpr (Or.inl h1))]; exact R.cen k c
    · rw [step_main_v52_7, h7]; exact ⟨fun _ => hf, fun _ => (or_bit _ _).mpr (Or.inl h1)⟩
  · have h1 : ¬ s.main_v52_7 (ix1 b) = 1#1 := fun h => hf (R.fin.mp h)
    have h8 : IntOp.ori (s.main_v52_7 (ix1 b)) (b158 j s (ix1 b)) = 1#1 ↔ Ends (shift σ.cen (renewed x (f j) (labels x σ.cen))) :=
      (or_bit _ _).trans ((or_iff_right h1).trans (R.stop hj))
    rw [St.pass_of_not hf]
    refine ⟨R.rows, R.sq, R.fb, fun p => ?_, fun k c => ?_, ?_⟩
    · rw [step_main_v52_5, h5, select_bit, if_neg h1]; exact R.label p
    · rw [step_main_v52_6, h6, select_bit]
      by_cases he : Ends (shift σ.cen (renewed x (f j) (labels x σ.cen)))
      · rw [if_pos (h8.mpr he)]; simp only [if_pos he]; exact R.cen k c
      · rw [if_neg (fun h => he (h8.mp h))]; simp only [if_neg he]; exact R.fresh hj k c
    · rw [step_main_v52_7, h7]; exact h8

end Cert.Proof.V

end
-- ==== Proof.V.RefRun.lean ====
/-
  The reference over the extended reals: its first state, its hundred passes and its result.
-/
module

public import proofs.«01_k».proof.Proof.V.RefPass

@[expose] public section

set_option maxRecDepth 16384

noncomputable section

namespace Cert.Proof.V

open Cert.ReferenceIdeal Cert.ReferenceIdeal.Gen Cert.ReferenceIdeal.Step
open Idealize.ShloMosaic

/-! ### The first state -/

variable {y : FVec Ideal SY .f32} {P : FVec Ideal SP .f32} {a : Fin 2 → Feat} {t : Fin 32 → Fin 8 → ℝ}
variable {I : IVec S2x1x5 32} {W : IVec S2x100x5 32} {b : Fin 2} {i : Fin 5 → Fin 50176} {f : ℕ → Fin 5 → Fin 50176}

theorem Data.seed (D : Data y P a t) (hi : ∀ k, Names (I (ix3 b 0 k)) (i k)) (k : Fin 5) (c : Fin 32) :
    A_main_v50 (F := Ideal) y P I (ix3 b k c) = (feat a t b c (i k) : EReal) := by
  have h0 : A_main_v49 (F := Ideal) y P I (ix3 b k 0) = Scalar.select (IntOp.cmpi CmpIPredicate.slt (BitVec.ofNat 32 b.val) 0#32)
      (IntOp.addi (BitVec.ofNat 32 b.val) 2#32) (BitVec.ofNat 32 b.val) := by
    pointwise [A_main_v49, A_main_v48, A_main_v45, A_main_v44, A_main_v42, A_main_v29, K_main_v34, K_main_v35, K_main_c_5, K_main_v36, K_main_v37, K_main_c_6, K_main_v38, K_main_v39, K_main_v40, K_main_c_7, K_main_v41, K_main_c_8, K_main_v43, K_main_v46, K_main_v47]
  have h1 : A_main_v49 (F := Ideal) y P I (ix3 b k 1) = Scalar.select (IntOp.cmpi CmpIPredicate.slt (I (ix3 b 0 k)) 0#32)
      (IntOp.addi (I (ix3 b 0 k)) 50176#32) (I (ix3 b 0 k)) := by
    pointwise [A_main_v49, A_main_v48, A_main_v45, A_main_v44, A_main_v42, A_main_v29, K_main_v34, K_main_v35, K_main_c_5, K_main_v36, K_main_v37, K_main_c_6, K_main_v38, K_main_v39, K_main_v40, K_main_c_7, K_main_v41, K_main_c_8, K_main_v43, K_main_v46, K_main_v47]
  have hb := b.isLt
  have hp := (i k).isLt
  unfold A_main_v50
  refine (gather_pair _ _ _ b k c b (i k) ?_ ?_).trans (D.ref I b (i k) c)
  · rw [h0, norm_word (small_word (by omega)) (by omega)]
  · rw [h1, norm_word (hi k) (by omega)]

/-- The loop's first state reads as the model's. -/
theorem Data.init (D : Data y P a t) (hi : ∀ k, Names (I (ix3 b 0 k)) (i k))
    (hf : ∀ (j : ℕ) (hj : j < 100) k, Names (W (ix3 b ⟨j, hj⟩ k)) (f j k)) :
    Reads (Cert.ReferenceIdeal.Step.init (F := Ideal) W y P I) b (feat a t b) f (St.start (feat a t b) i) := by
  refine ⟨fun p c => D.ref I b p c, fun p => ?_, hf, fun p => ?_, fun k c => D.seed hi k c, ?_⟩
  · show A_main_v32 (F := Ideal) y P I (ix3 b p 0) = _
    have h : A_main_v32 (F := Ideal) y P I (ix3 b p 0)
        = ∑ c, A_main_v28 (F := Ideal) y P I (ix3 b p c) * A_main_v28 (F := Ideal) y P I (ix3 b p c) := by
      pointwise [A_main_v32, A_main_v31, A_main_v30, K_main_cst_4]
    rw [h, coe_sum]
    exact Finset.sum_congr rfl fun c _ => by rw [D.ref, EReal.coe_mul]
  · show K_main_v33 (F := Ideal) (ix2 b p) = _
    have h : K_main_v33 (F := Ideal) (ix2 b p) = 0#32 := by
      pointwise [K_main_v33, K_main_c]
    rw [h]; rfl
  · show K_main_v51 (F := Ideal) (ix1 b) = 1#1 ↔ _
    have h : K_main_v51 (F := Ideal) (ix1 b) = 0#1 := by
      pointwise [K_main_v51, K_main_c_9]
    rw [h]; exact ⟨fun h => absurd h (by decide), fun h => h.elim⟩

/-- The loop's states. -/
def states (s : State Ideal) : ℕ → State Ideal
  | 0 => s
  | n + 1 => step n (states s n)

/-- After `n` passes the state reads as the model's after `n` passes. -/
theorem Reads.states {s : State Ideal} {x : Feat} {σ : St} (R : Reads s b x f σ) :
    ∀ n, n ≤ 100 → Reads (states s n) b x f (σ.run x f n 0)
  | 0, _ => R
  | n + 1, h => by
    rw [St.run_succ, Nat.zero_add]
    exact (R.states n (by omega)).pass (by omega)

/-! ### The result -/

/-- Each cluster's mean of the rows `X` under the labels `L`, -/
def groupMeans (L : IVec S2x50176 32) (X : FVec Ideal S2x50176x32 .f32) : FVec Ideal S2x5x32 .f32 :=
  Host.divf (Host.reduceAdd (select (broadcastInDim S2x5x50176x32 ![0, 1, 2, 3] bcast_S2x5x50176x1_S2x5x50176x32_0_1_2_3
    (broadcastInDim S2x5x50176x1 ![0, 1, 2] bcast_S2x5x50176_S2x5x50176x1_0_1_2 (cmpi .eq (broadcastInDim S2x5x50176 ![0, 1, 2]
    bcast_S2x1x50176_S2x5x50176_0_1_2 (broadcastInDim S2x1x50176 ![0, 2] bcast_S2x50176_S2x1x50176_0_2 (L))) (broadcastInDim
    S2x5x50176 ![0, 1, 2] bcast_S1x5x1_S2x5x50176_0_1_2 (broadcastInDim S1x5x1 ![1] bcast_S5_S1x5x1_1 (iotaInDim S5 32 0))))))
    (broadcastInDim S2x5x50176x32 ![0, 1, 2, 3] bcast_S2x1x50176x32_S2x5x50176x32_0_1_2_3 (broadcastInDim S2x1x50176x32 ![0, 2,
    3] bcast_S2x50176x32_S2x1x50176x32_0_2_3 X)) (broadcastInDim S2x5x50176x32 ![] bcast_S_S2x5x50176x32 ((constant S_ .f32
    0x00000000#32)))) (constant S_ .f32 0x00000000#32) reducesTo_S2x5x50176x32_S2x5x32_d2 h_S_) (broadcastInDim S2x5x32 ![0, 1,
    2] bcast_S2x5x1_S2x5x32_0_1_2 (broadcastInDim S2x5x1 ![0, 1] bcast_S2x5_S2x5x1_0_1 (maximumf (Host.reduceAdd ((select
    (cmpi .eq (broadcastInDim S2x5x50176 ![0, 1, 2] bcast_S2x1x50176_S2x5x50176_0_1_2 (broadcastInDim S2x1x50176 ![0, 2]
    bcast_S2x50176_S2x1x50176_0_2 (L))) (broadcastInDim S2x5x50176 ![0, 1, 2] bcast_S1x5x1_S2x5x50176_0_1_2 (broadcastInDim
    S1x5x1 ![1] bcast_S5_S1x5x1_1 (iotaInDim S5 32 0)))) (broadcastInDim S2x5x50176 ![] bcast_S_S2x5x50176 (constant S_ .f32
    0x3F800000#32)) (broadcastInDim S2x5x50176 ![] bcast_S_S2x5x50176 (constant S_ .f32 0x00000000#32)))) (constant S_ .f32
    0x00000000#32) reducesTo_S2x5x50176_S2x5_d2 h_S_) (broadcastInDim S2x5 ![] bcast_S_S2x5 (constant S_ .f32 0x3F800000#32)))))

/-- where the result reads it, -/
def spots (L : IVec S2x50176 32) : IVec S2x50176x2 32 :=
  concatenate S2x50176x2 2 [⟨S2x50176x1, (broadcastInDim S2x50176x1 ![0, 1] bcast_S2x50176_S2x50176x1_0_1 (broadcastInDim
    S2x50176 ![0, 1] bcast_S2x1_S2x50176_0_1 (select (cmpi .slt (broadcastInDim S2x1 ![0] bcast_S2_S2x1_0 (iotaInDim S2 32 0))
    (broadcastInDim S2x1 ![] bcast_S_S2x1 (constantI S_ 32 0#32))) (addi (broadcastInDim S2x1 ![0] bcast_S2_S2x1_0 (iotaInDim S2
    32 0)) (broadcastInDim S2x1 ![] bcast_S_S2x1 (constantI S_ 32 2#32))) (broadcastInDim S2x1 ![0] bcast_S2_S2x1_0 (iotaInDim
    S2 32 0)))))⟩, ⟨S2x50176x1, (broadcastInDim S2x50176x1 ![0, 1] bcast_S2x50176_S2x50176x1_0_1 (select (cmpi .slt (L)
    (broadcastInDim S2x50176 ![] bcast_S_S2x50176 (constantI S_ 32 0#32))) (addi (L) (broadcastInDim S2x50176 ![]
    bcast_S_S2x50176 (constantI S_ 32 5#32))) (L)))⟩] concatenates_S2x50176x1_S2x50176x1_S2x50176x2_d2

/-- and the result: each pixel the mean of its cluster. -/
theorem result_eq (s : State Ideal) : R_main_v123 (F := Ideal) s y P = transpose S2x32x50176 [0, 2, 1]
    (Host.gather gather_S2x5x32_S2x50176x2_S2x50176x32_2_01_n_n_01_2_1132
      (groupMeans s.main_v52_5 (A_main_v28 (F := Ideal) y P I)) (spots s.main_v52_5)) transposes_S2x50176x32_S2x32x50176_0_2_1 := rfl

variable {L : IVec S2x50176 32} {X : FVec Ideal S2x50176x32 .f32} {x : Feat} {ℓ : Fin 50176 → Fin 5}

theorem groupMeans_apply (hL : ∀ p, L (ix2 b p) = BitVec.ofNat 32 (ℓ p).val) (hX : ∀ p c, X (ix3 b p c) = (x c p : EReal))
    (k : Fin 5) (c : Fin 32) : groupMeans L X (ix3 b k c) = (mean x ℓ k c : EReal) := by
  have h : groupMeans L X (ix3 b k c) = Ideal.div
      (∑ p, Scalar.select (IntOp.cmpi CmpIPredicate.eq (L (ix2 b p)) (BitVec.ofNat 32 k.val)) (X (ix3 b p c)) 0)
      (max (∑ p, Scalar.select (IntOp.cmpi CmpIPredicate.eq (L (ix2 b p)) (BitVec.ofNat 32 k.val)) (1 : EReal) 0) 1) := by
    pointwise [groupMeans]
  have hs : ∑ p, Scalar.select (IntOp.cmpi CmpIPredicate.eq (L (ix2 b p)) (BitVec.ofNat 32 k.val)) (X (ix3 b p c)) 0
      = (total x ℓ k c : EReal) := by
    rw [total, coe_sum]
    refine Finset.sum_congr rfl fun p _ => ?_
    rw [hL, select_label, hX]
    split_ifs <;> rfl
  have hc : ∑ p, Scalar.select (IntOp.cmpi CmpIPredicate.eq (L (ix2 b p)) (BitVec.ofNat 32 k.val)) (1 : EReal) 0
      = (cnt ℓ k : EReal) := by
    rw [cnt, coe_sum]
    refine Finset.sum_congr rfl fun p _ => ?_
    rw [hL, select_label]
    split_ifs <;> rfl
  rw [h, hs, hc, ← real_one, ← coe_max, div_real _ (max_cnt_ne _ k), mean]

theorem result_apply {s : State Ideal} {σ : St} (D : Data y P a t) (I : IVec S2x1x5 32) (R : Reads s b (feat a t b) f σ)
    (c : Fin 32) (p : Fin 50176) :
    R_main_v123 (F := Ideal) s y P (ix3 b c p) = (mean (feat a t b) σ.lab (σ.lab p) c : EReal) := by
  rw [result_eq (I := I)]
  have ht : ∀ Z : FVec Ideal S2x50176x32 .f32,
      transpose S2x32x50176 [0, 2, 1] Z transposes_S2x50176x32_S2x32x50176_0_2_1 (ix3 b c p) = Z (ix3 b p c) := by
    intro Z
    pointwise []
  have h0 : spots s.main_v52_5 (ix3 b p 0) = Scalar.select (IntOp.cmpi CmpIPredicate.slt (BitVec.ofNat 32 b.val) 0#32)
      (IntOp.addi (BitVec.ofNat 32 b.val) 2#32) (BitVec.ofNat 32 b.val) := by
    pointwise [spots]
  have h1 : spots s.main_v52_5 (ix3 b p 1) = Scalar.select (IntOp.cmpi CmpIPredicate.slt (s.main_v52_5 (ix2 b p)) 0#32)
      (IntOp.addi (s.main_v52_5 (ix2 b p)) 5#32) (s.main_v52_5 (ix2 b p)) := by
    pointwise [spots]
  have hb := b.isLt
  have hl := (σ.lab p).isLt
  rw [ht]
  refine (gather_pair _ _ _ b p c b (σ.lab p) ?_ ?_).trans (groupMeans_apply R.lab (fun p c => D.ref I b p c) _ c)
  · rw [h0, norm_word (small_word (by omega)) (by omega)]
  · rw [h1, R.lab, norm_word (small_word (by omega)) (by omega)]

end Cert.Proof.V

end
-- ==== Proof.V.KernelHot.lean ====
/-
  The table of the nearest centroids that a pass of the kernel computes, its counts, and the test for an empty cluster.
-/
module

public import proofs.«01_k».proof.Proof.V.KernelPass

@[expose] public section

set_option maxRecDepth 16384

noncomputable section

namespace Cert.Proof.V

open Cert.KernelIdeal Cert.KernelIdeal.Gen Cert.Proof.KI
open Idealize.ShloMosaic

variable {X : Vec Ideal S32x50176 .f32} {Xb : Vec Ideal S32x50176 .bf16} {x : Feat} {C : FVec Ideal S32x8 .f32} {μ : Cents}
  {H : FVec Ideal S8x50176 .f32} {ℓ : Fin 50176 → Fin 5}

/-- The square of column `k` of the centroids, as the kernel sums it. -/
def colSq (C : FVec Ideal S32x8 .f32) (k : Fin 8) : EReal := ∑ c : Fin 32, ∑ _q : Fin 1, C (ix2 c k) * C (ix2 c k)

/-- The scores the kernel compares at a pixel. -/
def scores (C : FVec Ideal S32x8 .f32) (Xb : Vec Ideal S32x50176 .bf16) (p : Fin 50176) (r : Fin 8) : EReal :=
  Scalar.select (IntOp.cmpi CmpIPredicate.sge (BitVec.ofNat 32 r.val) 5#32)
    (Named.named (F := Ideal) (φ := .f32) κ "no_cluster" 2137108966#32)
    (Scalar.select (IntOp.cmpi CmpIPredicate.eq (BitVec.ofNat 32 r.val) 4#32) (colSq C 4)
      (Scalar.select (IntOp.cmpi CmpIPredicate.eq (BitVec.ofNat 32 r.val) 3#32) (colSq C 3)
        (Scalar.select (IntOp.cmpi CmpIPredicate.eq (BitVec.ofNat 32 r.val) 2#32) (colSq C 2)
          (Scalar.select (IntOp.cmpi CmpIPredicate.eq (BitVec.ofNat 32 r.val) 1#32) (colSq C 1)
            (Scalar.select (IntOp.cmpi CmpIPredicate.eq (BitVec.ofNat 32 r.val) 0#32) (colSq C 0) 0))))
      - Ideal.ofBits FTy.f32 1073741824#32 * ∑ c : Fin 32, C (ix2 c r) * Xb (ix2 c p))

theorem colSq_eq (hC : IsCent C μ) (k : Fin 5) (r : Fin 8) (hr : r.val = k.val) :
    colSq C r = ((∑ c, μ k c * μ k c : ℝ) : EReal) := by
  rw [colSq, coe_sum]
  refine Finset.sum_congr rfl fun c _ => ?_
  have h5 : r.val < 5 := by omega
  have hk : (⟨r.val, h5⟩ : Fin 5) = k := Fin.ext hr
  rw [Fin.sum_univ_one, hC, cen8, dif_pos h5, hk, EReal.coe_mul]

theorem prod_eq (hX : IsFeat Xb x) (hC : IsCent C μ) (p : Fin 50176) (k : Fin 5) (r : Fin 8) (hr : r.val = k.val) :
    ∑ c : Fin 32, C (ix2 c r) * Xb (ix2 c p) = ((∑ c, μ k c * x c p : ℝ) : EReal) := by
  rw [coe_sum]
  refine Finset.sum_congr rfl fun c _ => ?_
  have h5 : r.val < 5 := by omega
  have hk : (⟨r.val, h5⟩ : Fin 5) = k := Fin.ext hr
  rw [hC, hX, cen8, dif_pos h5, hk, EReal.coe_mul]

/-- The scores are the five clusters' squared distances less the pixel's square, and nothing reaches the three others. -/
theorem scores_eq (hX : IsFeat Xb x) (hC : IsCent C μ) (p : Fin 50176) (r : Fin 8) :
    scores C Xb p r = table8 (score x μ p) r := by
  by_cases h5 : r.val < 5
  · have hp := prod_eq hX hC p ⟨r.val, h5⟩ r rfl
    have hq : ∀ k : Fin 8, k.val = r.val → colSq C k = ((∑ c, μ ⟨r.val, h5⟩ c * μ ⟨r.val, h5⟩ c : ℝ) : EReal) :=
      fun k hk => colSq_eq hC ⟨r.val, h5⟩ k hk
    rw [scores, hp, lit_two, table8, dif_pos h5, score, EReal.coe_sub, EReal.coe_mul]
    obtain ⟨r, hr8⟩ := r
    simp only at h5 hq ⊢
    interval_cases r
    · rw [← hq 0 rfl]; rfl
    · rw [← hq 1 rfl]; rfl
    · rw [← hq 2 rfl]; rfl
    · rw [← hq 3 rfl]; rfl
    · rw [← hq 4 rfl]; rfl
  · have hn : Named.named (F := Ideal) (φ := .f32) κ "no_cluster" 2137108966#32 = (⊤ : EReal) :=
      IdealRules.named_const.ideal_named_scalar κ _ _ _ rfl
    have hs : IntOp.cmpi CmpIPredicate.sge (BitVec.ofNat 32 r.val) 5#32 = 1#1 := by
      obtain ⟨r, hr8⟩ := r
      have : r = 5 ∨ r = 6 ∨ r = 7 := by simp only at h5; omega
      rcases this with rfl | rfl | rfl <;> rfl
    rw [scores, hs, hn, table8, dif_neg h5]
    rfl

/-- The one-hot table of the nearest centroids. -/
theorem hot_isHot (hX : IsFeat Xb x) (hC : IsCent C μ) : IsHot (hot Xb C) (labels x μ) := by
  intro r p
  have hs : scores C Xb p = table8 (score x μ p) := funext (scores_eq hX hC p)
  have h : hot Xb C (ix2 r p) = FloatOps.sitofp (F := Ideal) FTy.f32 (BitVec.setWidth 32 (IntOp.cmpi .eq (BitVec.ofNat 32 r.val)
      (Finset.univ.fold IntOp.minsi (2147483647#32) (fun r : Fin 8 =>
        if scores C Xb p r ≤ Finset.univ.fold min (Ideal.ofBits FTy.f32 2139095040#32) (scores C Xb p)
        then BitVec.ofNat 32 r.val else 8#32)))) := by
    unfold scores colSq
    pointwise [hot, k0_pay22, k0_pay19, k0_pay20, k0_pay21, row, rows]
  rw [h, hs, lit_top, fold_first, mask_num (by omega), BitVec.toNat_ofNat, labels,
    Nat.mod_eq_of_lt (by have := (first (score x μ p)).isLt; omega)]

theorem hotStored_eq : hotStored Xb C = hot Xb C := by
  unfold hotStored hot k0_pay23
  exact shapeCast_self _ _

/-- The sum of a row of the one-hot table. -/
theorem sum_row (hH : IsHot H ℓ) (k : Fin 5) (r : Fin 8) (hr : r.val = k.val) :
    ∑ q, H (ix2 r q) = (cnt ℓ k : EReal) := by
  rw [cnt, coe_sum]
  refine Finset.sum_congr rfl fun q _ => ?_
  rw [hH, hr]
  by_cases h : ℓ q = k
  · rw [if_pos h, if_pos (by rw [h]), real_one]
  · rw [if_neg h, if_neg (fun e => h (Fin.ext e.symm)), EReal.coe_zero]

/-- The counts. -/
theorem counts_apply (hX : IsFeat Xb x) (hC : IsCent C μ) (k : Fin 5) (r : Fin 8) (hr : r.val = k.val) :
    counts Xb C (ix2 r 0) = (cnt (labels x μ) k : EReal) := by
  rw [← sum_row (hot_isHot hX hC) k r hr]
  unfold counts hot k0_pay24
  generalize k0_pay22 rows C (k0_pay19 row C) (k0_pay20 row) (k0_pay21 C) Xb = T
  pointwise

end Cert.Proof.V

end
-- ==== Proof.V.KernelCol.lean ====
/-
  The test for an empty cluster and the fallback columns.
-/
module

public import proofs.«01_k».proof.Proof.V.KernelHot

@[expose] public section

set_option maxRecDepth 16384

noncomputable section

namespace Cert.Proof.V

open Cert.KernelIdeal Cert.KernelIdeal.Gen Cert.Proof.KI
open Idealize.ShloMosaic

variable {X : Vec Ideal S32x50176 .f32} {Xb : Vec Ideal S32x50176 .bf16} {x : Feat} {C : FVec Ideal S32x8 .f32} {μ : Cents}
  {H : FVec Ideal S8x50176 .f32} {ℓ : Fin 50176 → Fin 5}

/-- The largest of the flags of the empty clusters. -/
def emptyFlag (T : FVec Ideal S8x1 .f32) : EReal :=
  Finset.univ.fold max (⊥ : EReal) fun k : Fin 5 => if T (ix2 ⟨k.val, by omega⟩ 0) < ((1 / 2 : ℝ) : EReal) then 1 else 0

/-- The same as the kernel computes it from the counts. -/
def flagOf (T : FVec Ideal S8x1 .f32) : EReal :=
  extractAt ![0, 0] (shapeCast S1x1 (multiReduction (F := Ideal) (φ := .f32) .maximumf [1] S1 (shapeCast S1x5
    (select (cmpf .olt (shapeCast S5 (extractStridedSlice S5x1 ![0, 0] T slices_S8x1_o0_0_S5x1) shapeCasts_S5x1_S5)
      (broadcast S5 (Scalar.ofBits (F := Ideal) .f32 0x3F000000#32))) (broadcast S5 (Scalar.ofBits (F := Ideal) .f32 0x3F800000#32))
      (broadcast S5 (Scalar.ofBits (F := Ideal) .f32 0x00000000#32))) shapeCasts_S5_S1x5) 0xFF800000#32 reduces_S1x5_S1 (.inl rfl) rfl)
    shapeCasts_S1_S1x1) inpos_S1x1_p0_0

/-- That is what the kernel computes, -/
theorem pay25_eq : k0_pay25 rows C (k0_pay19 row C) (k0_pay20 row) (k0_pay21 C) Xb = flagOf (counts Xb C) := by
  unfold k0_pay25 flagOf counts
  rfl

/-- and its value. -/
theorem flagOf_eq (T : FVec Ideal S8x1 .f32) : flagOf T = emptyFlag T := by
  unfold flagOf emptyFlag
  rw [← lit_half, ← lit_bot]
  pointwise

theorem cmp_gt (a b : EReal) : Scalar.cmpf (F := Ideal) (φ := .f32) .ogt a b = BitVec.ofBool (decide (b < a)) := rfl

theorem anyEmpty_eq : anyEmpty Xb C = BitVec.ofBool (decide (0 < emptyFlag (counts Xb C))) := by
  have h : anyEmpty Xb C = Scalar.cmpf (F := Ideal) (φ := .f32) .ogt
      (k0_pay25 rows C (k0_pay19 row C) (k0_pay20 row) (k0_pay21 C) Xb) (Scalar.ofBits (F := Ideal) .f32 0x00000000#32) := rfl
  refine h.trans ?_
  refine (congrArg (fun e => Scalar.cmpf (F := Ideal) (φ := .f32) .ogt e (Scalar.ofBits (F := Ideal) .f32 0x00000000#32))
    (pay25_eq.trans (flagOf_eq _))).trans ?_
  refine (cmp_gt _ _).trans ?_
  refine congrArg (fun z : EReal => BitVec.ofBool (decide (z < emptyFlag (counts Xb C)))) ?_
  exact Ideal.ofBits_zero_f32

/-- Where no cluster is reported empty, each has a pixel. -/
theorem cnt_pos_of_anyEmpty (hX : IsFeat Xb x) (hC : IsCent C μ) (he : anyEmpty Xb C ≠ 1#1) (k : Fin 5) :
    0 < cnt (labels x μ) k := by
  by_contra hk
  have h0 : cnt (labels x μ) k = 0 := le_antisymm (not_lt.mp hk) (cnt_nonneg _ _)
  have hc := counts_apply hX hC k ⟨k.val, by omega⟩ rfl
  rw [h0] at hc
  rw [anyEmpty_eq] at he
  generalize counts Xb C = T at hc he
  have hf : 0 < emptyFlag T := by
    unfold emptyFlag
    rw [Finset.lt_fold_max]
    refine Or.inr ⟨k, Finset.mem_univ _, ?_⟩
    rw [hc, if_pos (EReal.coe_lt_coe_iff.mpr (by norm_num))]
    exact zero_lt_one
  rw [decide_eq_true hf] at he
  exact he rfl

/-- The fallback columns, when they are gathered. -/
theorem fallback_cent (hX : IsFeat X x) {I : Vec Ideal S1x100x5 .i32} {j : ℕ} {f : Fin 5 → Fin 50176}
    (hf : ∀ k, Names (fbWord I j k) (f k)) (he : anyEmpty Xb C = 1#1) :
    IsCent (fallback X Xb I j C) (fun k c => x c (f k)) := by
  have he' : k0_cond1 (anyEmpty Xb C) = 1#1 := by rw [he]; decide
  rw [fallback, if_pos he']
  refine gathered (v := fun k c => k0_pay4 lanes (fbWord I j k) X (ix2 c 0)) (fun k c => pick_apply hX (hf k) c) fun c k => ?_
  have h4 : k0_pay4 lanes (fbWord I j 4) X (ix2 c 0) = ∑ q, X (ix2 c q) * FloatOps.sitofp (F := Ideal) FTy.f32
      (BitVec.setWidth 32 (IntOp.cmpi .eq (lanes (ix2 0 q)) (fbWord I j 4))) := by
    pointwise [k0_pay4]
  have h3 : k0_pay4 lanes (fbWord I j 3) X (ix2 c 0) = ∑ q, X (ix2 c q) * FloatOps.sitofp (F := Ideal) FTy.f32
      (BitVec.setWidth 32 (IntOp.cmpi .eq (lanes (ix2 0 q)) (fbWord I j 3))) := by
    pointwise [k0_pay4]
  rw [pay15, pay16, pay17]
  have e : ∀ n (h : n < 1), (⟨n, h⟩ : Fin 1) = 0 := fun n h => Subsingleton.elim _ _
  beta_reduce
  rw [h4, h3]
  generalize k0_pay4 lanes (fbWord I j 0) X = v0
  generalize k0_pay4 lanes (fbWord I j 1) X = v1
  generalize k0_pay4 lanes (fbWord I j 2) X = v2
  pointwise [k0_pay26, k0_pay18]
  simp only [e]

end Cert.Proof.V

end
-- ==== Proof.V.KernelMean.lean ====
/-
  The columns a pass of the kernel renews, and how far they move.
-/
module

public import proofs.«01_k».proof.Proof.V.KernelPass

@[expose] public section

set_option maxRecDepth 16384

noncomputable section

namespace Cert.Proof.V

open Cert.KernelIdeal Cert.KernelIdeal.Gen Cert.Proof.KI
open Idealize.ShloMosaic

variable {X : Vec Ideal S32x50176 .f32} {Xb : Vec Ideal S32x50176 .bf16} {x : Feat} {C : FVec Ideal S32x8 .f32} {μ : Cents}
  {H : FVec Ideal S8x50176 .f32} {ℓ : Fin 50176 → Fin 5}

/-- A cluster's new centroid: its mean, or the fallback column where it has no pixel. -/
def column (X : Vec Ideal S32x50176 .f32) (H : FVec Ideal S8x50176 .f32) (n : FVec Ideal S8x1 .f32) (B : FVec Ideal S32x8 .f32)
    (r : Fin 8) (c : Fin 32) : EReal :=
  if 0 < n (ix2 r 0) then
    Ideal.div (∑ q : Fin 50176, X (ix2 c q) * H (ix2 r q)) (max (n (ix2 r 0)) (Ideal.ofBits .f32 0x3F800000#32))
  else B (ix2 c r)

variable {n : FVec Ideal S8x1 .f32} {B : FVec Ideal S32x8 .f32}

theorem pay28_apply (c : Fin 32) : k0_pay28 H n B X (ix2 c 0) = column X H n B 0 c := by
  unfold k0_pay28 column
  pointwise
  split_ifs <;> pointwise

theorem pay29_apply (c : Fin 32) : k0_pay29 H n B X (ix2 c 0) = column X H n B 1 c := by
  unfold k0_pay29 column
  pointwise
  split_ifs <;> pointwise

/-- The renewed centroids as the kernel assembles them from its columns. -/
theorem pay32_apply (c : Fin 32) (k : Fin 8) :
    k0_pay32 H n B (k0_pay28 H n B X) (k0_pay29 H n B X) (k0_pay31 H n X)
      (Scalar.cmpf .ogt (k0_pay30 n) (Scalar.ofBits (F := Ideal) .f32 0x00000000#32)) X X (ix2 c k) =
      if h : k.val < 5 then column X H n B k c else 0 := by
  have h0 := pay28_apply (X := X) (H := H) (n := n) (B := B) c
  have h1 := pay29_apply (X := X) (H := H) (n := n) (B := B) c
  generalize k0_pay28 H n B X = V0 at h0 ⊢
  generalize k0_pay29 H n B X = V1 at h1 ⊢
  unfold k0_pay32 k0_pay31 k0_pay30
  pointwise
  have e : ∀ n (h : n < 1), (⟨n, h⟩ : Fin 1) = 0 := fun n h => Subsingleton.elim _ _
  simp only [e, h0, h1]
  have h2 : (k : ℕ) = 0 ∨ (k : ℕ) = 1 ∨ (k : ℕ) = 2 ∨ (k : ℕ) = 3 ∨ (k : ℕ) = 4 ∨ 5 ≤ (k : ℕ) := by omega
  rcases h2 with h | h | h | h | h | h
  · obtain rfl : k = 0 := Fin.ext h
    rw [dif_pos (show ((0 : Fin 8) : ℕ) < 1 by decide), dif_pos (show ((0 : Fin 8) : ℕ) < 5 by decide)]
  · obtain rfl : k = 1 := Fin.ext h
    rw [dif_neg (by decide), dif_pos (by decide), dif_pos (by decide)]
  · obtain rfl : k = 2 := Fin.ext h
    rw [dif_neg (by decide), dif_neg (by decide), dif_pos (by decide), dif_pos (by decide), column]
    split_ifs <;> pointwise
  · obtain rfl : k = 3 := Fin.ext h
    rw [dif_neg (by decide), dif_neg (by decide), dif_neg (by decide), dif_pos (by decide), dif_pos (by decide), column]
    split_ifs <;> pointwise
  · obtain rfl : k = 4 := Fin.ext h
    rw [dif_neg (by decide), dif_neg (by decide), dif_neg (by decide), dif_neg (by decide), dif_pos (by decide),
      dif_pos (by decide), column]
    split_ifs <;> pointwise
  · rw [dif_neg (by omega), dif_neg (by omega), dif_neg (by omega), dif_neg (by omega), dif_neg (by omega), dif_neg (by omega)]

/-- A renewed column, where the counts are those of the labels. -/
theorem column_real (hX : IsFeat X x) (hH : IsHot H ℓ) (f : Fin 5 → Fin 50176) (k : Fin 5) (r : Fin 8) (hr : r.val = k.val)
    (hn : n (ix2 r 0) = (cnt ℓ k : EReal)) (hB : ¬ 0 < cnt ℓ k → ∀ c, B (ix2 c r) = (x c (f k) : EReal)) (c : Fin 32) :
    column X H n B r c = (renewed x f ℓ k c : EReal) := by
  rw [column, renewed, hn, sum_hot hX hH c k r hr, Ideal.ofBits_one_f32, ← real_one, ← coe_max, div_real _ (max_cnt_ne ℓ k)]
  by_cases h : 0 < cnt ℓ k
  · rw [if_pos (EReal.coe_pos.mpr h), if_pos h, mean]
  · rw [if_neg (fun h' => h (EReal.coe_pos.mp h')), if_neg h, hB h]

/-- The distance the centroids move, from the arrays of the old and the new ones. -/
def moveOf (N C : FVec Ideal S32x8 .f32) : EReal :=
  ∑ k : Fin 8, Ideal.sqrt (∑ c : Fin 32, (N (ix2 c k) - C (ix2 c k)) * (N (ix2 c k) - C (ix2 c k)))

theorem pay33_eq {V0 V1 V2 : FVec Ideal S32x1 .f32} {b : BitVec 1} {Y Z : Vec Ideal S32x50176 .f32} :
    k0_pay33 C H n B V0 V1 V2 b Y Z = moveOf (k0_pay32 H n B V0 V1 V2 b Y Z) C := by
  unfold k0_pay33 moveOf
  generalize k0_pay32 H n B V0 V1 V2 b Y Z = N
  pointwise

/-- Centroids that are real numbers move by a real number. -/
theorem moveOf_real {N : FVec Ideal S32x8 .f32} {ν : Cents} (hC : IsCent C μ) (hN : IsCent N ν) :
    moveOf N C = (shift μ ν : EReal) := by
  have hk : ∀ k : Fin 8, ∑ c : Fin 32, (N (ix2 c k) - C (ix2 c k)) * (N (ix2 c k) - C (ix2 c k))
      = ((∑ c, (cen8 ν c k - cen8 μ c k) * (cen8 ν c k - cen8 μ c k) : ℝ) : EReal) := by
    intro k
    rw [coe_sum]
    refine Finset.sum_congr rfl fun c _ => ?_
    rw [hC, hN, ← EReal.coe_sub, ← EReal.coe_mul]
  rw [moveOf]
  simp only [hk]
  have hs : ∀ k : Fin 8, Ideal.sqrt ((∑ c, (cen8 ν c k - cen8 μ c k) * (cen8 ν c k - cen8 μ c k) : ℝ) : EReal)
      = ((Real.sqrt (∑ c, (cen8 ν c k - cen8 μ c k) * (cen8 ν c k - cen8 μ c k)) : ℝ) : EReal) := fun k =>
    sqrt_real (Finset.sum_nonneg fun c _ => mul_self_nonneg _)
  simp only [hs]
  rw [← coe_sum, shift]
  congr 1
  have e : ∀ k : Fin 5, ∀ r : Fin 8, r.val = k.val → Real.sqrt (∑ c, (cen8 ν c r - cen8 μ c r) * (cen8 ν c r - cen8 μ c r))
      = Real.sqrt (∑ c, (ν k c - μ k c) * (ν k c - μ k c)) := by
    intro k r hr
    have h5 : r.val < 5 := by omega
    have hk' : (⟨r.val, h5⟩ : Fin 5) = k := Fin.ext hr
    simp only [cen8, dif_pos h5, hk']
  have z : ∀ r : Fin 8, ¬ r.val < 5 → Real.sqrt (∑ c, (cen8 ν c r - cen8 μ c r) * (cen8 ν c r - cen8 μ c r)) = 0 := by
    intro r hr
    simp [cen8, dif_neg hr]
  rw [Fin.sum_univ_eight, Fin.sum_univ_five, e 0 0 rfl, e 1 1 rfl, e 2 2 rfl, e 3 3 rfl, e 4 4 rfl, z 5 (by decide),
    z 6 (by decide), z 7 (by decide), add_zero, add_zero, add_zero]

end Cert.Proof.V

end
-- ==== Proof.V.KernelLoop.lean ====
/-
  The kernel's loop as a whole: the one-hot table it ends with is that of the model's labels, and the block it writes.
-/
module

public import proofs.«01_k».proof.Proof.V.KernelCol
public import proofs.«01_k».proof.Proof.V.KernelMean

@[expose] public section

set_option maxRecDepth 16384

noncomputable section

namespace Cert.Proof.V

open Cert.KernelIdeal Cert.KernelIdeal.Gen Cert.Proof.KI
open Idealize.ShloMosaic

variable {X : Vec Ideal S32x50176 .f32} {Xb : Vec Ideal S32x50176 .bf16} {x : Feat} {C : FVec Ideal S32x8 .f32} {μ : Cents}
  {I : Vec Ideal S1x100x5 .i32} {j : ℕ} {f : Fin 5 → Fin 50176} {H : FVec Ideal S8x50176 .f32} {ℓ : Fin 50176 → Fin 5}

/-- The renewed centroids of pass `j`. -/
def fresh (X : Vec Ideal S32x50176 .f32) (Xb : Vec Ideal S32x50176 .bf16) (I : Vec Ideal S1x100x5 .i32) (j : ℕ)
    (C : FVec Ideal S32x8 .f32) : FVec Ideal S32x8 .f32 :=
  k0_pay32 (hot Xb C) (counts Xb C) (fallback X Xb I j C) (k0_pay28 (hot Xb C) (counts Xb C) (fallback X Xb I j C) X)
    (k0_pay29 (hot Xb C) (counts Xb C) (fallback X Xb I j C) X) (k0_pay31 (hot Xb C) (counts Xb C) X)
    (Scalar.cmpf .ogt (k0_pay30 (counts Xb C)) (Scalar.ofBits (F := Ideal) .f32 0x00000000#32)) X X

theorem fresh_cent (hX : IsFeat X x) (hXb : IsFeat Xb x) (hC : IsCent C μ) (hf : ∀ k, Names (fbWord I j k) (f k)) :
    IsCent (fresh X Xb I j C) (renewed x f (labels x μ)) := by
  intro c r
  refine (pay32_apply c r).trans ?_
  rw [cen8]
  by_cases h : r.val < 5
  · rw [dif_pos h, dif_pos h]
    refine column_real hX (hot_isHot hXb hC) f ⟨r.val, h⟩ r rfl (counts_apply hXb hC ⟨r.val, h⟩ r rfl) (fun hk c => ?_) c
    have he : anyEmpty Xb C = 1#1 := by
      by_contra he
      exact hk (cnt_pos_of_anyEmpty hXb hC he _)
    rw [fallback_cent hX hf he c r, cen8, dif_pos h]
  · rw [dif_neg h, dif_neg h, EReal.coe_zero]

theorem moved_eq : moved X Xb I j C = moveOf (fresh X Xb I j C) C := pay33_eq

theorem moved_real (hX : IsFeat X x) (hXb : IsFeat Xb x) (hC : IsCent C μ) (hf : ∀ k, Names (fbWord I j k) (f k)) :
    moved X Xb I j C = (shift μ (renewed x f (labels x μ)) : EReal) :=
  moved_eq.trans (moveOf_real hC (fresh_cent hX hXb hC hf))

theorem cmp_le (a b : EReal) : Scalar.cmpf (F := Ideal) (φ := .f32) .ole a b = BitVec.ofBool (decide (a ≤ b)) := rfl

theorem cmp_le_iff (a b : EReal) : Scalar.cmpf (F := Ideal) (φ := .f32) .ole a b = 1#1 ↔ a ≤ b := by
  rw [cmp_le]
  by_cases h : a ≤ b
  · rw [decide_eq_true h]; exact ⟨fun _ => h, fun _ => rfl⟩
  · rw [decide_eq_false h]; exact ⟨fun h' => absurd h' (by decide), fun h' => absurd h' h⟩

/-- The kernel stops where the model does. -/
theorem settled_iff (hX : IsFeat X x) (hXb : IsFeat Xb x) (hC : IsCent C μ) (hf : ∀ k, Names (fbWord I j k) (f k)) :
    settled X Xb I j C = 1#1 ↔ Ends (shift μ (renewed x f (labels x μ))) := by
  refine (cmp_le_iff _ _).trans ?_
  rw [moved_real hX hXb hC hf]
  exact Iff.rfl

theorem next_eq : next X Xb I j C = if settled X Xb I j C = 1#1 then C else fresh X Xb I j C := rfl

/-- The centroids a pass leaves. -/
theorem next_cent (hX : IsFeat X x) (hXb : IsFeat Xb x) (hC : IsCent C μ) (hf : ∀ k, Names (fbWord I j k) (f k)) :
    IsCent (next X Xb I j C) (open Classical in
      if Ends (shift μ (renewed x f (labels x μ))) then μ else renewed x f (labels x μ)) := by
  rw [next_eq]
  by_cases h : Ends (shift μ (renewed x f (labels x μ)))
  · rw [if_pos h, if_pos ((settled_iff hX hXb hC hf).mpr h)]; exact hC
  · rw [if_neg h, if_neg (fun h' => h ((settled_iff hX hXb hC hf).mp h'))]; exact fresh_cent hX hXb hC hf

/-- A one-bit word that is not one is zero. -/
theorem bit_zero {b : BitVec 1} : b = 0#1 ↔ ¬ b = 1#1 := by
  revert b; decide

/-- The loop's passes are the model's. -/
theorem loopFrom_hot (hX : IsFeat X x) (hXb : IsFeat Xb x) {f : ℕ → Fin 5 → Fin 50176}
    (hf : ∀ j < 100, ∀ k, Names (fbWord I j k) (f j k)) : ∀ (k j : ℕ) (d : BitVec 1) (C : FVec Ideal S32x8 .f32)
    (H : Vec Ideal S8x50176 .f32) (s : St), j + k ≤ 100 → (d = 1#1 ↔ s.fin) → IsCent C s.cen → IsHot H s.lab →
    IsHot (loopFrom X Xb I k j d C H) (s.run x f k j).lab
  | 0, _, _, _, _, _, _, _, _, hH => hH
  | k + 1, j, d, C, H, s, hj, hd, hC, hH => by
    rw [loopFrom, St.run]
    by_cases h : s.fin
    · rw [if_neg (fun h0 => bit_zero.mp h0 (hd.mpr h)), St.pass_fin h, St.run_fin _ _ h]; exact hH
    · rw [if_pos (bit_zero.mpr (fun h1 => h (hd.mp h1))), St.pass_of_not h]
      have hf' := hf j (by omega)
      exact loopFrom_hot hX hXb hf k (j + 1) _ _ _ _ (by omega) (settled_iff hX hXb hC hf') (next_cent hX hXb hC hf')
        (by rw [hotStored_eq]; exact hot_isHot hXb hC)

/-- The table the kernel ends with. -/
theorem table_hot (hX : IsFeat X x) {I0 : Vec Ideal S1x1x5 .i32} {i : Fin 5 → Fin 50176} (hi : ∀ k, Names (initWord I0 k) (i k))
    {f : ℕ → Fin 5 → Fin 50176} (hf : ∀ j < 100, ∀ k, Names (fbWord I j k) (f j k)) :
    IsHot (table X I0 I) ((St.start x i).run x f 100 0).lab := by
  have hXb : IsFeat (k0_pay3 X) x := fun c p => by
    have h : k0_pay3 X (ix2 c p) = X (ix2 c p) := by pointwise [k0_pay3]
    rw [h]; exact hX c p
  have hC := start_cent hX hi
  have hf' := hf 0 (by omega)
  rw [table, St.run, St.pass_of_not (s := St.start x i) id]
  exact loopFrom_hot hX hXb hf 99 1 _ _ _ _ (by omega) (settled_iff hX hXb hC hf') (next_cent hX hXb hC hf')
    (by rw [hotStored_eq]; exact hot_isHot hXb hC)

/-- A mean as the kernel recomputes it at the end. -/
def average (X : Vec Ideal S32x50176 .f32) (H : Vec Ideal S8x50176 .f32) (r : Fin 8) (c : Fin 32) : EReal :=
  Ideal.div (∑ q : Fin 50176, X (ix2 c q) * H (ix2 r q)) (max (∑ q : Fin 50176, H (ix2 r q)) 1)

theorem average_real (hX : IsFeat X x) (hH : IsHot H ℓ) (k : Fin 5) (r : Fin 8) (hr : r.val = k.val) (c : Fin 32) :
    average X H r c = (mean x ℓ k c : EReal) := by
  rw [average, sum_hot hX hH c k r hr, sum_row hH k r hr, ← real_one, ← coe_max, div_real _ (max_cnt_ne ℓ k), mean]

theorem painted_apply (c : Fin 32) (p : Fin 50176) : painted X H (ix3 0 c p) =
    0 + average X H 0 c * H (ix2 0 p) + average X H 1 c * H (ix2 1 p) + average X H 2 c * H (ix2 2 p)
      + average X H 3 c * H (ix2 3 p) + average X H 4 c * H (ix2 4 p) := by
  unfold painted average
  pointwise [k0_pay1, k0_pay12, k0_pay13, k0_pay14, k0_pay9, k0_pay10, k0_pay11]

/-- The block written: at each pixel the mean of its cluster. -/
theorem painted_real (hX : IsFeat X x) (hH : IsHot H ℓ) (c : Fin 32) (p : Fin 50176) :
    painted X H (ix3 0 c p) = (mean x ℓ (ℓ p) c : EReal) := by
  have hx : ∀ a : EReal, a * 0 = 0 := mul_zero
  rw [painted_apply, average_real hX hH 0 0 rfl, average_real hX hH 1 1 rfl, average_real hX hH 2 2 rfl,
    average_real hX hH 3 3 rfl, average_real hX hH 4 4 rfl, hH, hH, hH, hH, hH]
  generalize ℓ p = k
  have hk : k = 0 ∨ k = 1 ∨ k = 2 ∨ k = 3 ∨ k = 4 := by revert k; decide
  rcases hk with rfl | rfl | rfl | rfl | rfl <;> simp

end Cert.Proof.V

end
-- ==== Proof.V.Value.lean ====
/-
  Both programs' results over the extended reals: every pixel the mean of its cluster after a hundred passes.
-/
module

public import proofs.«01_k».proof.Proof.V.Pre
public import proofs.«01_k».proof.Proof.V.RefRun
public import proofs.«01_k».proof.Proof.V.KernelLoop
public import proofs.«01_k».proof.Proof.KI.Run
public import proofs.«01_k».proof.Defs
public import proofs.«01_k».proof.Proof.Gen.ReferenceIdeal.StepRun
public import Idealize.ShloMosaic.Lib.Pipeline.ValueKit

@[expose] public section

set_option maxRecDepth 16384

noncomputable section

namespace Cert.Proof.V

open Idealize.ShloMosaic
open Idealize.ShloMosaic.TcCoe
open Idealize.ShloMosaic.Pipeline (Dat)

/-- The labels of image `b` after a hundred passes. -/
def finalLab (y : FVec Ideal SY .f32) (P : FVec Ideal SP .f32) (I : IVec Cert.ReferenceIdeal.S2x1x5 32)
    (W : IVec Cert.ReferenceIdeal.S2x100x5 32) (b : Fin 2) : Fin 50176 → Fin 5 :=
  ((St.start (feat (acts y) (tabs P) b) (inits I b)).run (feat (acts y) (tabs P) b) (falls W b) 100 0).lab

/-- The common result. -/
def answer (y : FVec Ideal SY .f32) (P : FVec Ideal SP .f32) (I : IVec Cert.ReferenceIdeal.S2x1x5 32)
    (W : IVec Cert.ReferenceIdeal.S2x100x5 32) : FVec Ideal SY .f32 := fun i =>
  (mean (feat (acts y) (tabs P) (i 0)) (finalLab y P I W (i 0)) (finalLab y P I W (i 0) (i 2)) (i 1) : EReal)

/-- What the precondition gives. -/
structure Good (y : FVec Ideal SY .f32) (P : FVec Ideal SP .f32) (I : IVec Cert.ReferenceIdeal.S2x1x5 32)
    (W : IVec Cert.ReferenceIdeal.S2x100x5 32) : Prop where
  data : Data y P (acts y) (tabs P)
  init : ∀ b k, Names (I (ix3 b 0 k)) (inits I b k)
  fall : ∀ b j (hj : j < 100) k, Names (W (ix3 b ⟨j, hj⟩ k)) (falls W b j k)

variable {y : FVec Ideal SY .f32} {P : FVec Ideal SP .f32} {I : IVec Cert.ReferenceIdeal.S2x1x5 32}
  {W : IVec Cert.ReferenceIdeal.S2x100x5 32}

/-- The reference's result. -/
theorem reference_answer (G : Good y P I W) :
    Cert.ReferenceIdeal.Step.R_main_v123 (F := Ideal) (states (Cert.ReferenceIdeal.Step.init (F := Ideal) W y P I) 100) y P
      = answer y P I W := by
  funext i
  have hi : i = ix3 (i 0) (i 1) (i 2) := by
    funext a
    match a with
    | ⟨0, _⟩ => rfl
    | ⟨1, _⟩ => rfl
    | ⟨2, _⟩ => rfl
  have R := (G.data.init (G.init (i 0)) (G.fall (i 0))).states 100 le_rfl
  exact (congrArg _ hi).trans (result_apply G.data I R (i 1) (i 2))

/-! ### The kernel -/

section Kernel

open Cert.KernelIdeal Cert.KernelIdeal.Gen Cert.Proof.KI

theorem idx : ∀ t : Fin (cfg0 (F := Ideal)).N, win0_0.index t = ![t.val, 0, 0] ∧ win0_1.index t = ![0, 0] ∧ win0_2.index t = ![t.val, 0, 0]
    ∧ win0_3.index t = ![t.val, 0, 0] ∧ win0_4.index t = ![t.val, 0, 0] :=
  (by decide +kernel : ∀ t : Fin grid0.N, _)

variable (m : (ℓ : Loc nD τ sig) → Buf (Elt Ideal) ℓ) (ρ : Dev nD → PrngReg)

theorem acts_block (c : Dev nD) (t : Fin (cfg0 (F := Ideal)).N) (b : Fin 2) (hb : b.val = t.val) (ch : Fin 32) (p : Fin 50176) :
    actsAt (F := Ideal) m ρ c t (ix3 0 ch p) = m ((c : Thread nD τ).loc main_arg0) (ix3 b ch p) := by
  unfold actsAt blk Cert.Proof.KI.s₀
  blk_ext [idx t]

theorem stats_block (c : Dev nD) (t : Fin (cfg0 (F := Ideal)).N) :
    statsAt (F := Ideal) m ρ c t = m ((c : Thread nD τ).loc main_arg1) := by
  unfold statsAt blk Cert.Proof.KI.s₀
  blk_ext! [idx t]

theorem init_block (c : Dev nD) (t : Fin (cfg0 (F := Ideal)).N) (b : Fin 2) (hb : b.val = t.val) (k : Fin 5) :
    initAt (F := Ideal) m ρ c t (ix3 0 0 k) = m ((c : Thread nD τ).loc main_arg2) (ix3 b 0 k) := by
  unfold initAt blk Cert.Proof.KI.s₀
  blk_ext [idx t]

theorem fb_block (c : Dev nD) (t : Fin (cfg0 (F := Ideal)).N) (b : Fin 2) (hb : b.val = t.val) (j : Fin 100) (k : Fin 5) :
    fbAt (F := Ideal) m ρ c t (ix3 0 j k) = m ((c : Thread nD τ).loc main_arg3) (ix3 b j k) := by
  unfold fbAt blk Cert.Proof.KI.s₀
  blk_ext [idx t]

theorem initWord_block (c : Dev nD) (t : Fin (cfg0 (F := Ideal)).N) (b : Fin 2) (hb : b.val = t.val) (k : Fin 5) :
    initWord (initAt (F := Ideal) m ρ c t) k = m ((c : Thread nD τ).loc main_arg2) (ix3 b 0 k) := by
  rw [← init_block m ρ c t b hb k]
  unfold initWord
  refine congrArg (initAt (F := Ideal) m ρ c t) ?_
  funext a
  match a with
  | ⟨0, _⟩ => rfl
  | ⟨1, _⟩ => rfl
  | ⟨2, _⟩ => rfl

theorem fbWord_block (c : Dev nD) (t : Fin (cfg0 (F := Ideal)).N) (b : Fin 2) (hb : b.val = t.val) (j : ℕ) (hj : j < 100) (k : Fin 5) :
    fbWord (fbAt (F := Ideal) m ρ c t) j k = m ((c : Thread nD τ).loc main_arg3) (ix3 b ⟨j, hj⟩ k) := by
  rw [← fb_block m ρ c t b hb ⟨j, hj⟩ k]
  unfold fbWord
  refine congrArg (fbAt (F := Ideal) m ρ c t) ?_
  funext a
  match a with
  | ⟨0, _⟩ => rfl
  | ⟨1, _⟩ => exact Fin.ext (Nat.mod_eq_of_lt hj)
  | ⟨2, _⟩ => rfl

/-- What the kernel writes for an image. -/
theorem out_block (c : Dev nD) (t : Fin (cfg0 (F := Ideal)).N) (b : Fin 2) (hb : b.val = t.val)
    (G : Good (m ((c : Thread nD τ).loc main_arg0)) (m ((c : Thread nD τ).loc main_arg1)) (m ((c : Thread nD τ).loc main_arg2))
      (m ((c : Thread nD τ).loc main_arg3))) (ch : Fin 32) (p : Fin 50176) :
    outAt (F := Ideal) m ρ c t (ix3 0 ch p) = answer (m ((c : Thread nD τ).loc main_arg0)) (m ((c : Thread nD τ).loc main_arg1))
      (m ((c : Thread nD τ).loc main_arg2)) (m ((c : Thread nD τ).loc main_arg3)) (ix3 b ch p) := by
  have hX : IsFeat (feats (F := Ideal) (actsAt (F := Ideal) m ρ c t) (statsAt (F := Ideal) m ρ c t))
      (feat (acts (m ((c : Thread nD τ).loc main_arg0))) (tabs (m ((c : Thread nD τ).loc main_arg1))) b) := by
    rw [stats_block]
    exact G.data.kernel b _ fun ch p => acts_block m ρ c t b hb ch p
  unfold outAt block
  refine painted_real hX (table_hot hX (i := inits (m ((c : Thread nD τ).loc main_arg2)) b)
    (f := falls (m ((c : Thread nD τ).loc main_arg3)) b) (fun k => ?_) (fun j hj k => ?_)) ch p
  · rw [initWord_block m ρ c t b hb]; exact G.init b k
  · rw [fbWord_block m ρ c t b hb j hj]; exact G.fall b j hj k

theorem covers : ((cfg0 (F := Ideal)).win (4 : Fin 5)).Covers := by decide +kernel

/-- The result array, of the blocks written. -/
theorem array_of_blocks {c : Dev nD} (D : Dat τ (Elt Ideal) Unit ℕ (UR nD τ) ℕ (cfg0 (F := Ideal)) c)
    (O : Fin (cfg0 (F := Ideal)).N → Vec Ideal S1x32x50176 .f32) (A : FVec Ideal SY .f32)
    (hD : ∀ t, D.after (4 : Fin 5) t = O t)
    (hO : ∀ (t : Fin (cfg0 (F := Ideal)).N) (b : Fin 2), b.val = t.val → ∀ ch p, O t (ix3 0 ch p) = A (ix3 b ch p)) :
    D.arrAt (4 : Fin 5) (cfg0 (F := Ideal)).N = A := by
  refine D.arrAt_eq_of_covers (4 : Fin 5) _ covers fun t _ y => ?_
  have ht : t.val < 2 := t.isLt
  have hy : ∃ (ch : Fin 32) (p : Fin 50176), y = ix3 (0 : Fin 1) ch p := by
    refine ⟨y 1, y 2, ?_⟩
    funext a
    match a with
    | ⟨0, _⟩ => exact Fin.ext (Nat.lt_one_iff.mp (y 0).isLt)
    | ⟨1, _⟩ => rfl
    | ⟨2, _⟩ => rfl
  obtain ⟨ch, p, rfl⟩ := hy
  blk_simp
  rw [hD]
  refine (hO t ⟨t.val, ht⟩ rfl ch p).trans (congrArg _ ?_)
  blk_ext [idx t]

theorem after_four (c : Dev nD) (t : Fin (cfg0 (F := Ideal)).N) :
    (dats (F := Ideal) m ρ 0 c).after (4 : Fin 5) t = outAt (F := Ideal) m ρ c t := rfl

/-- The kernel's result. -/
theorem kernel_answer (c : Dev nD)
    (G : Good (m ((c : Thread nD τ).loc main_arg0)) (m ((c : Thread nD τ).loc main_arg1)) (m ((c : Thread nD τ).loc main_arg2))
      (m ((c : Thread nD τ).loc main_arg3))) :
    finalA (F := Ideal) m ρ c (4 : Fin 5) = answer (m ((c : Thread nD τ).loc main_arg0)) (m ((c : Thread nD τ).loc main_arg1))
      (m ((c : Thread nD τ).loc main_arg2)) (m ((c : Thread nD τ).loc main_arg3)) :=
  array_of_blocks (dats (F := Ideal) m ρ 0 c) (fun t => outAt (F := Ideal) m ρ c t) _ (fun t => after_four m ρ c t)
    (fun t b hb ch p => out_block m ρ c t b hb G ch p)

end Kernel

/-- The precondition makes the argument arrays good. -/
theorem good_of_pre (m : (ℓ : Loc Cert.KernelIdeal.nD Cert.KernelIdeal.τ Cert.KernelIdeal.sig) → Buf (Elt Ideal) ℓ)
    (h : Cert.Pre_KernelIdeal_statistics_and_indices m) (c : Dev Cert.KernelIdeal.nD) :
    Good (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := by
  obtain ⟨h0, h1, h2, h3, h4, h5⟩ := h c
  exact ⟨pre_data h0 h1 h2 h3, inits_names h4, fun b j hj k => falls_names h5 b j hj k⟩

open Idealize.SL.Sem

/-- The kernel and the reference end with the same result. -/
theorem equal : Cert.algebraic_KernelIdeal_ReferenceIdeal_pre_statistics_and_indices := by
  intro m g m' g' hpre hargs
  refine ⟨fun c => answer (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · exact (θ_run _ _ _).mono (fun _ h c => ⟨(h.1 c (4 : Fin 5)).trans (kernel_answer m g c (good_of_pre m hpre c)),
        (h.1 c (0 : Fin 5)).trans (Cert.Proof.KI.finalA_in m g c 0 rfl), (h.1 c (1 : Fin 5)).trans (Cert.Proof.KI.finalA_in m g c 1 rfl),
        (h.1 c (2 : Fin 5)).trans (Cert.Proof.KI.finalA_in m g c 2 rfl), (h.1 c (3 : Fin 5)).trans (Cert.Proof.KI.finalA_in m g c 3 rfl)⟩)
      (Cert.Proof.KI.run_main (F := Ideal) m g)
  · refine (θ_run _ _ _).mono (fun _ h c => ⟨(h c).1.trans ?_, (h c).2⟩)
      (Cert.ReferenceIdeal.StepRun.run_iter (F := Ideal) m' g'
        (fun c => states (Cert.ReferenceIdeal.StepRun.initState m' c)) (fun _ => rfl) (fun _ _ => rfl))
    obtain ⟨e0, e1, e2, e3⟩ := hargs c
    have hs : Cert.ReferenceIdeal.StepRun.initState m' c = Cert.ReferenceIdeal.Step.init (F := Ideal)
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := rfl
    rw [hs, e0, e1, e2, e3]
    exact reference_answer (good_of_pre m hpre c)

end Cert.Proof.V

end
-- ==== Proof.C.Model.lean ====
/-
  A three by three convolution with a border of zeros, at one pixel and one output channel.
-/
module

public import Idealize.ShloMosaic.Lib.Pipeline.ValueKit

@[expose] public section

set_option maxRecDepth 16384

noncomputable section

namespace Cert.Proof.C

open Idealize.ShloMosaic

/-- The images with a border: row `h` and column `v` count from the border, and the border is zero. -/
def padded {a c r s : ℕ} (x : (⟨4, ![a, c, r, s]⟩ : Shape).Idx → EReal) (n : Fin a) (h v : ℕ) (i : Fin c) : EReal :=
  if hv : (1 ≤ h ∧ h ≤ r) ∧ 1 ≤ v ∧ v ≤ s then x (ix4 n i ⟨h - 1, by omega⟩ ⟨v - 1, by omega⟩) else 0

/-- The weights of output channel `o`. -/
def kernelOf {k c : ℕ} (w : (⟨4, ![k, c, 3, 3]⟩ : Shape).Idx → EReal) (o : Fin k) (p q : Fin 3) (i : Fin c) : EReal :=
  w (ix4 o i p q)

/-- One shift's share of the convolution. -/
def tap {c : ℕ} (X : ℕ → ℕ → Fin c → EReal) (W : Fin 3 → Fin 3 → Fin c → EReal) (h v : ℕ) (p q : Fin 3) : EReal :=
  ∑ i : Fin c, X (h + p.val) (v + q.val) i * W p q i

/-- The convolution of the bordered images `X` by `W` and the bias, the nine shifts in order. -/
def conv {c : ℕ} (X : ℕ → ℕ → Fin c → EReal) (W : Fin 3 → Fin 3 → Fin c → EReal) (b : EReal) (h v : ℕ) : EReal :=
  tap X W h v 0 0 + tap X W h v 0 1 + tap X W h v 0 2 + tap X W h v 1 0 + tap X W h v 1 1 + tap X W h v 1 2
    + tap X W h v 2 0 + tap X W h v 2 1 + tap X W h v 2 2 + b

/-- A contraction over the channels, either factor first, is a shift's share. -/
theorem tap_of {c : ℕ} {X : ℕ → ℕ → Fin c → EReal} {W : Fin 3 → Fin 3 → Fin c → EReal} {h v : ℕ} {p q : Fin 3} {R U : Fin c → EReal}
    {k l : ℕ} (hR : ∀ i, R i = X k l i) (hU : ∀ i, U i = W p q i) (hk : k = h + p.val) (hl : l = v + q.val) :
    ∑ i : Fin c, R i * U i = tap X W h v p q :=
  Finset.sum_congr rfl fun i _ => by rw [hR, hU, hk, hl]

theorem tap_of' {c : ℕ} {X : ℕ → ℕ → Fin c → EReal} {W : Fin 3 → Fin 3 → Fin c → EReal} {h v : ℕ} {p q : Fin 3} {R U : Fin c → EReal}
    {k l : ℕ} (hR : ∀ i, R i = X k l i) (hU : ∀ i, U i = W p q i) (hk : k = h + p.val) (hl : l = v + q.val) :
    ∑ i : Fin c, U i * R i = tap X W h v p q :=
  Finset.sum_congr rfl fun i _ => by rw [hR, hU, hk, hl, mul_comm]

/-- Nine shares and a bias in order are the convolution. -/
theorem conv_of {c : ℕ} {X : ℕ → ℕ → Fin c → EReal} {W : Fin 3 → Fin 3 → Fin c → EReal} {b : EReal} {h v : ℕ}
    {t₀ t₁ t₂ t₃ t₄ t₅ t₆ t₇ t₈ b' : EReal}
    (h₀ : t₀ = tap X W h v 0 0) (h₁ : t₁ = tap X W h v 0 1) (h₂ : t₂ = tap X W h v 0 2)
    (h₃ : t₃ = tap X W h v 1 0) (h₄ : t₄ = tap X W h v 1 1) (h₅ : t₅ = tap X W h v 1 2)
    (h₆ : t₆ = tap X W h v 2 0) (h₇ : t₇ = tap X W h v 2 1) (h₈ : t₈ = tap X W h v 2 2) (hb : b' = b) :
    t₀ + t₁ + t₂ + t₃ + t₄ + t₅ + t₆ + t₇ + t₈ + b' = conv X W b h v := by
  rw [h₀, h₁, h₂, h₃, h₄, h₅, h₆, h₇, h₈, hb]
  rfl

end Cert.Proof.C

end
-- ==== Proof.C.Sums.lean ====
/-
  Sums over several axes, running sums, and writes of the first row of a block.
-/
module

public import Idealize.ShloMosaic.Lib.Pipeline.ValueKit
public import Idealize.ShloMosaic.Lib.WritesUnit
public import Idealize.ShloMosaic.Lib.Pipeline.ReadBack

@[expose] public section

set_option maxRecDepth 16384

noncomputable section

namespace Cert.Proof.C

open Idealize.ShloMosaic

/-- A sum over the first two of three axes. -/
theorem sum_front {a b k : ℕ} {u : Shape} (h : (⟨3, ![a, b, k]⟩ : Shape).Reduces [0, 1] u)
    (x : (⟨3, ![a, b, k]⟩ : Shape).Idx → EReal) (j : u.Idx) (hu : 0 < u.rank) (o : Fin k) (ho : (j ⟨0, hu⟩).val = o.val) :
    Ideal.reduceAdd h x j = ∑ r : Fin a, ∑ v : Fin b, x (ix3 r v o) := by
  unfold Ideal.reduceAdd
  rw [← Fintype.sum_prod_type' (f := fun (r : Fin a) (v : Fin b) => x (ix3 r v o))]
  symm
  refine Finset.sum_bij (fun (l : Fin a × Fin b) _ => ix3 l.1 l.2 o) ?_ ?_ ?_ ?_
  · intro l _
    have hr : u.rank = 1 := h.1
    refine Finset.mem_filter.mpr ⟨Finset.mem_univ _, ?_⟩
    funext z
    apply Fin.ext
    match z with
    | ⟨0, _⟩ => exact ho.symm
    | ⟨_ + 1, hz⟩ => exact absurd hz (by omega)
  · intro l _ l' _ e
    exact Prod.ext (congrFun e 0) (congrFun e 1)
  · intro i hi
    refine ⟨(i 0, i 1), Finset.mem_univ _, ?_⟩
    funext z; apply Fin.ext
    match z with
    | ⟨0, _⟩ => rfl
    | ⟨1, _⟩ => rfl
    | ⟨2, _⟩ => exact ho.symm.trans (congrArg Fin.val (congrFun (Finset.mem_filter.mp hi).2 ⟨0, hu⟩)).symm
  · intro l _; rfl

/-- The host's sum over all axes but the second of four. -/
theorem sum_channel {a k b c : ℕ} {u : Shape} (h : (⟨4, ![a, k, b, c]⟩ : Shape).ReducesTo [0, 2, 3] u)
    (x : (⟨4, ![a, k, b, c]⟩ : Shape).Idx → EReal) (init : EReal) (j : u.Idx) (hu : 0 < u.rank) (o : Fin k)
    (ho : (j ⟨0, hu⟩).val = o.val) :
    Ideal.hostReduceAdd h x init j = init + ∑ n : Fin a, ∑ r : Fin b, ∑ v : Fin c, x (ix4 n o r v) := by
  unfold Ideal.hostReduceAdd
  refine congrArg (init + ·) ?_
  have e : ∑ n : Fin a, ∑ r : Fin b, ∑ v : Fin c, x (ix4 n o r v) = ∑ l : Fin a × Fin b × Fin c, x (ix4 l.1 o l.2.1 l.2.2) := by
    rw [Fintype.sum_prod_type]
    refine Finset.sum_congr rfl fun n _ => ?_
    rw [Fintype.sum_prod_type]
  rw [e]
  symm
  refine Finset.sum_bij (fun (l : Fin a × Fin b × Fin c) _ => ix4 l.1 o l.2.1 l.2.2) ?_ ?_ ?_ ?_
  · intro l _
    have hr : u.rank = 1 := h.1
    refine Finset.mem_filter.mpr ⟨Finset.mem_univ _, ?_⟩
    funext z
    apply Fin.ext
    match z with
    | ⟨0, _⟩ => exact ho.symm
    | ⟨_ + 1, hz⟩ => exact absurd hz (by omega)
  · intro l _ l' _ e
    exact Prod.ext (congrFun e 0) (Prod.ext (congrFun e 2) (congrFun e 3))
  · intro i hi
    refine ⟨(i 0, i 2, i 3), Finset.mem_univ _, ?_⟩
    funext z; apply Fin.ext
    match z with
    | ⟨0, _⟩ => rfl
    | ⟨1, _⟩ => exact ho.symm.trans (congrArg Fin.val (congrFun (Finset.mem_filter.mp hi).2 ⟨0, hu⟩)).symm
    | ⟨2, _⟩ => rfl
    | ⟨3, _⟩ => rfl
  · intro l _; rfl

/-- The host's sum over all axes but the last of four. -/
theorem sum_last {a k b c : ℕ} {u : Shape} (h : (⟨4, ![a, b, c, k]⟩ : Shape).ReducesTo [0, 1, 2] u)
    (x : (⟨4, ![a, b, c, k]⟩ : Shape).Idx → EReal) (init : EReal) (j : u.Idx) (hu : 0 < u.rank) (o : Fin k)
    (ho : (j ⟨0, hu⟩).val = o.val) :
    Ideal.hostReduceAdd h x init j = init + ∑ n : Fin a, ∑ r : Fin b, ∑ v : Fin c, x (ix4 n r v o) := by
  unfold Ideal.hostReduceAdd
  refine congrArg (init + ·) ?_
  have e : ∑ n : Fin a, ∑ r : Fin b, ∑ v : Fin c, x (ix4 n r v o) = ∑ l : Fin a × Fin b × Fin c, x (ix4 l.1 l.2.1 l.2.2 o) := by
    rw [Fintype.sum_prod_type]
    refine Finset.sum_congr rfl fun n _ => ?_
    rw [Fintype.sum_prod_type]
  rw [e]
  symm
  refine Finset.sum_bij (fun (l : Fin a × Fin b × Fin c) _ => ix4 l.1 l.2.1 l.2.2 o) ?_ ?_ ?_ ?_
  · intro l _
    have hr : u.rank = 1 := h.1
    refine Finset.mem_filter.mpr ⟨Finset.mem_univ _, ?_⟩
    funext z
    apply Fin.ext
    match z with
    | ⟨0, _⟩ => exact ho.symm
    | ⟨_ + 1, hz⟩ => exact absurd hz (by omega)
  · intro l _ l' _ e
    exact Prod.ext (congrFun e 0) (Prod.ext (congrFun e 1) (congrFun e 2))
  · intro i hi
    refine ⟨(i 0, i 1, i 2), Finset.mem_univ _, ?_⟩
    funext z; apply Fin.ext
    match z with
    | ⟨0, _⟩ => rfl
    | ⟨1, _⟩ => rfl
    | ⟨2, _⟩ => rfl
    | ⟨3, _⟩ => exact ho.symm.trans (congrArg Fin.val (congrFun (Finset.mem_filter.mp hi).2 ⟨0, hu⟩)).symm
  · intro l _; rfl

/-- A running sum that starts at its first term is the sum of its terms. -/
theorem running {N : ℕ} (f : (n : ℕ) → n < N → EReal) (T : ℕ → EReal) (hA : ∀ h : 0 < N, f 0 h = T 0)
    (hB : ∀ (n : ℕ) (h : n + 1 < N), f (n + 1) h = f n (by omega) + T (n + 1)) (n : ℕ) (h : n < N) :
    f n h = ∑ i ∈ Finset.range (n + 1), T i := by
  induction n with
  | zero => rw [hA, Finset.sum_range_one]
  | succ n ih => rw [hB, ih, Finset.sum_range_succ _ (n + 1)]

/-- Blocks of eight rows, twenty-eight to an image and two images, are all rows. -/
theorem all_rows (g : ℕ → ℕ → EReal) :
    ∑ t ∈ Finset.range 56, ∑ r : Fin 8, g (t / 28) (8 * (t % 28) + r.val) = ∑ n : Fin 2, ∑ h : Fin 224, g n.val h.val := by
  rw [← Fin.sum_univ_eq_sum_range (fun t => ∑ r : Fin 8, g (t / 28) (8 * (t % 28) + r.val)) 56]
  have e : ∑ n : Fin 2, ∑ h : Fin 224, g n.val h.val = ∑ n : Fin 2, ∑ s : Fin 28, ∑ r : Fin 8, g n.val (8 * s.val + r.val) := by
    refine Finset.sum_congr rfl fun n _ => ?_
    refine (Fin.sum_mul_add_congr fun s k hl => ?_).symm
    show g _ _ = g _ _
    rw [Nat.mul_comm]
  rw [e]
  exact Fin.sum_divmod_congr fun t ha hs => rfl

variable {n : ℕ}

/-- A write of the first row, read in that row, -/
theorem canon_row (inb : ∀ a, (![0, 0] : Fin 2 → ℕ) a + (![1, n] : Fin 2 → ℕ) a ≤ (![8, n] : Fin 2 → ℕ) a)
    (w : (Rect.unit (s := ⟨2, ![8, n]⟩) ![0, 0] ![1, n] inb).shape.Idx → Elt Ideal .f32) (L : List (View.Piece (Elt Ideal) ⟨2, ![8, n]⟩ .f32)) (o : Fin n) :
    View.canon ((⟨Rect.unit (s := ⟨2, ![8, n]⟩) ![0, 0] ![1, n] inb, w⟩ : View.Piece (Elt Ideal) ⟨2, ![8, n]⟩ .f32) :: L) (ix2 0 o) = w (ix2 0 o) := by
  have e : (ix2 0 o : (⟨2, ![8, n]⟩ : Shape).Idx) = (Rect.unit (s := ⟨2, ![8, n]⟩) ![0, 0] ![1, n] inb).emb (ix2 0 o) := by
    funext z; apply Fin.ext
    match z with
    | ⟨0, _⟩ => rfl
    | ⟨1, _⟩ => show o.val = 0 + 1 * o.val; omega
  rw [e]
  exact View.canon_cons_emb _ w L (ix2 0 o)

/-- and in another row. -/
theorem canon_off (inb : ∀ a, (![0, 0] : Fin 2 → ℕ) a + (![1, n] : Fin 2 → ℕ) a ≤ (![8, n] : Fin 2 → ℕ) a)
    (w : (Rect.unit (s := ⟨2, ![8, n]⟩) ![0, 0] ![1, n] inb).shape.Idx → Elt Ideal .f32) (L : List (View.Piece (Elt Ideal) ⟨2, ![8, n]⟩ .f32))
    (r : Fin 8) (hr : r ≠ 0) (o : Fin n) :
    View.canon ((⟨Rect.unit (s := ⟨2, ![8, n]⟩) ![0, 0] ![1, n] inb, w⟩ : View.Piece (Elt Ideal) ⟨2, ![8, n]⟩ .f32) :: L) (ix2 r o) = View.canon L (ix2 r o) := by
  refine View.canon_cons_of_not_mem _ L ?_
  show _ ∉ (Rect.unit (s := ⟨2, ![8, n]⟩) ![0, 0] ![1, n] inb).set
  rw [Rect.mem_set_unit]
  intro h
  have h1 : r.val < 0 + 1 := (h 0).2
  exact hr (Fin.ext (by show r.val = 0; omega))

/-- A write of the whole block is what the block holds. -/
theorem canon_all (inb : ∀ a, (![0, 0] : Fin 2 → ℕ) a + (![8, n] : Fin 2 → ℕ) a ≤ (![8, n] : Fin 2 → ℕ) a)
    (Z : (⟨2, ![8, n]⟩ : Shape).Idx → Elt Ideal .f32) :
    View.canon [(⟨Rect.unit (s := ⟨2, ![8, n]⟩) ![0, 0] ![8, n] inb, Z⟩ : View.Piece (Elt Ideal) ⟨2, ![8, n]⟩ .f32)] = Z :=
  View.canon_cons_unit_lit' (S := ⟨2, ![8, n]⟩) inb Z [] fun a => match a with
    | ⟨0, _⟩ => rfl
    | ⟨1, _⟩ => rfl

variable {sig : RefSig} {κ : Kind} {sp : Space} (V : View sig κ sp ⟨2, ![8, n]⟩ .f32)

/-- The first row loaded after a write of the whole block. -/
theorem cov_row (inb : ∀ a, (![0, 0] : Fin 2 → ℕ) a + (![8, n] : Fin 2 → ℕ) a ≤ (![8, n] : Fin 2 → ℕ) a)
    (inb' : ∀ a, (![0, 0] : Fin 2 → ℕ) a + (![1, n] : Fin 2 → ℕ) a ≤ (![8, n] : Fin 2 → ℕ) a)
    (Z : (⟨2, ![8, n]⟩ : Shape).Idx → Elt Ideal .f32) (o : Fin n) :
    V.readCov [(⟨Rect.unit (s := ⟨2, ![8, n]⟩) ![0, 0] ![8, n] inb, Z⟩ : View.Piece (Elt Ideal) ⟨2, ![8, n]⟩ .f32)]
      (Rect.unit (s := ⟨2, ![8, n]⟩) ![0, 0] ![1, n] inb').toLoadRect (ix2 0 o) = Z (ix2 0 o) := by
  have e := View.readCov_fill V (s := ⟨2, ![8, n]⟩) inb Z [] (Rect.unit (s := ⟨2, ![8, n]⟩) ![0, 0] ![1, n] inb') fun a => match a with
    | ⟨0, _⟩ => rfl
    | ⟨1, _⟩ => rfl
  refine (congrFun e (ix2 0 o)).trans (congrArg Z ?_)
  funext z; apply Fin.ext
  match z with
  | ⟨0, _⟩ => rfl
  | ⟨1, _⟩ => show 0 + 1 * o.val = o.val; omega

/-- The first row loaded. -/
theorem ld_row (inb : ∀ a, (![0, 0] : Fin 2 → ℕ) a + (![1, n] : Fin 2 → ℕ) a ≤ (![8, n] : Fin 2 → ℕ) a)
    (Z : (⟨2, ![8, n]⟩ : Shape).Idx → Elt Ideal .f32) (o : Fin n) :
    View.ld (S := ⟨2, ![8, n]⟩) (e' := .f32) (Val := Elt Ideal) Z (Rect.unit (s := ⟨2, ![8, n]⟩) ![0, 0] ![1, n] inb) (ix2 0 o) = Z (ix2 0 o) := by
  refine congrArg Z ?_
  funext z; apply Fin.ext
  match z with
  | ⟨0, _⟩ => rfl
  | ⟨1, _⟩ => show 0 + 1 * o.val = o.val; omega

/-- After a write of the first row, that row -/
theorem read_row (f : V.ty.Contents (Elt Ideal)) (inb : ∀ a, (![0, 0] : Fin 2 → ℕ) a + (![1, n] : Fin 2 → ℕ) a ≤ (![8, n] : Fin 2 → ℕ) a)
    (w : (Rect.unit (s := ⟨2, ![8, n]⟩) ![0, 0] ![1, n] inb).shape.Idx → Elt Ideal .f32) (o : Fin n) :
    V.read (Elt Ideal) (V.writes (Elt Ideal) f [(⟨Rect.unit (s := ⟨2, ![8, n]⟩) ![0, 0] ![1, n] inb, w⟩ : View.Piece (Elt Ideal) ⟨2, ![8, n]⟩ .f32)]) (ix2 0 o)
      = w (ix2 0 o) :=
  View.read_writes_cons_unit_of_mem V f inb w [] (ix2 0 o) (ix2 0 o) rfl fun a => match a with
    | ⟨0, _⟩ => rfl
    | ⟨1, _⟩ => (Nat.zero_add _).symm

/-- and the others. -/
theorem read_off (f : V.ty.Contents (Elt Ideal)) (inb : ∀ a, (![0, 0] : Fin 2 → ℕ) a + (![1, n] : Fin 2 → ℕ) a ≤ (![8, n] : Fin 2 → ℕ) a)
    (w : (Rect.unit (s := ⟨2, ![8, n]⟩) ![0, 0] ![1, n] inb).shape.Idx → Elt Ideal .f32) (r : Fin 8) (hr : r ≠ 0) (o : Fin n) :
    V.read (Elt Ideal) (V.writes (Elt Ideal) f [(⟨Rect.unit (s := ⟨2, ![8, n]⟩) ![0, 0] ![1, n] inb, w⟩ : View.Piece (Elt Ideal) ⟨2, ![8, n]⟩ .f32)]) (ix2 r o)
      = V.read (Elt Ideal) f (ix2 r o) :=
  View.read_writes_cons_unit_of_not_mem V f inb w [] (ix2 r o) rfl 0 (Or.inr (by
    show 0 + 1 ≤ r.val
    have h : r.val ≠ 0 := fun h => hr (Fin.ext h)
    omega))

end Cert.Proof.C

end
-- ==== Proof.C.Kernel.lean ====
/-
  One grid point of the first layer's kernel: the rows it computes and its two running sums.
-/
module

public import proofs.«01_k».proof.Proof.C.Model
public import proofs.«01_k».proof.Proof.C.Sums
public import proofs.«01_k».proof.Proof.Gen.LayerIdeal.Value
public import Idealize.ShloMosaic.Lib.Pipeline.ValueKit

@[expose] public section

set_option maxRecDepth 16384

noncomputable section

namespace Cert.Proof.C

open Cert.LayerIdeal Cert.LayerIdeal.Gen
open Idealize.ShloMosaic

variable {v0 v2 : Vec Ideal S1x8x226x96 .f32} {w0 w1 w2 w3 w4 w5 w6 w7 w8 : Vec Ideal S1x1x96x128 .f32} {b : Vec Ideal S1x128 .f32}

/-- The rows a point computes. -/
abbrev rowsOf (v0 v2 : Vec Ideal S1x8x226x96 .f32) (w0 w1 w2 w3 w4 w5 w6 w7 w8 : Vec Ideal S1x1x96x128 .f32) (b : Vec Ideal S1x128 .f32) :
    FVec Ideal S8x224x128 .f32 :=
  k0_pay9 (k0_pay6 v0 v2) (k0_pay7 v0 v2 w0 w1 w2 w3) (k0_pay8 v0 v2) w4 w5 w6 w7 w8 b

theorem rowsOf_apply {X : ℕ → ℕ → Fin 96 → EReal} {W : Fin 3 → Fin 3 → Fin 96 → EReal} {h : ℕ} (r : Fin 8) (v : Fin 224) (o : Fin 128)
    (hX : ∀ (a : Fin 10) (u : Fin 226) (i : Fin 96), k0_pay6 v0 v2 (ix3 a u i) = X (h + a.val) u i)
    (h0 : ∀ i, w0 (ix4 0 0 i o) = W 0 0 i) (h1 : ∀ i, w1 (ix4 0 0 i o) = W 0 1 i) (h2 : ∀ i, w2 (ix4 0 0 i o) = W 0 2 i)
    (h3 : ∀ i, w3 (ix4 0 0 i o) = W 1 0 i) (h4 : ∀ i, w4 (ix4 0 0 i o) = W 1 1 i) (h5 : ∀ i, w5 (ix4 0 0 i o) = W 1 2 i)
    (h6 : ∀ i, w6 (ix4 0 0 i o) = W 2 0 i) (h7 : ∀ i, w7 (ix4 0 0 i o) = W 2 1 i) (h8 : ∀ i, w8 (ix4 0 0 i o) = W 2 2 i) :
    rowsOf v0 v2 w0 w1 w2 w3 w4 w5 w6 w7 w8 b (ix3 r v o) = conv X W (b (ix2 0 o)) (h + r.val) v := by
  pointwise [k0_pay9, k0_pay7, k0_pay8]
  have hX' : ∀ (a : Fin 10) (u : Fin 226) (i : Fin 96) (k l : ℕ), k = h + a.val → l = u.val → k0_pay6 v0 v2 (ix3 a u i) = X k l i := by
    intro a u i k l hk hl
    rw [hX, hk, hl]
  refine conv_of ?_ ?_ ?_ ?_ ?_ ?_ ?_ ?_ ?_ rfl
  · exact tap_of (fun i => hX' _ _ i _ _ (by first | rfl | exact (Nat.add_assoc _ _ _).trans (congrArg (h + ·) (Nat.add_comm _ _)))
      (by first | rfl | exact Nat.add_comm _ _)) h0 rfl rfl
  · exact tap_of (fun i => hX' _ _ i _ _ (by first | rfl | exact (Nat.add_assoc _ _ _).trans (congrArg (h + ·) (Nat.add_comm _ _)))
      (by first | rfl | exact Nat.add_comm _ _)) h1 rfl rfl
  · exact tap_of (fun i => hX' _ _ i _ _ (by first | rfl | exact (Nat.add_assoc _ _ _).trans (congrArg (h + ·) (Nat.add_comm _ _)))
      (by first | rfl | exact Nat.add_comm _ _)) h2 rfl rfl
  · exact tap_of (fun i => hX' _ _ i _ _ (by first | rfl | exact (Nat.add_assoc _ _ _).trans (congrArg (h + ·) (Nat.add_comm _ _)))
      (by first | rfl | exact Nat.add_comm _ _)) h3 rfl rfl
  · exact tap_of (fun i => hX' _ _ i _ _ (by first | rfl | exact (Nat.add_assoc _ _ _).trans (congrArg (h + ·) (Nat.add_comm _ _)))
      (by first | rfl | exact Nat.add_comm _ _)) h4 rfl rfl
  · exact tap_of (fun i => hX' _ _ i _ _ (by first | rfl | exact (Nat.add_assoc _ _ _).trans (congrArg (h + ·) (Nat.add_comm _ _)))
      (by first | rfl | exact Nat.add_comm _ _)) h5 rfl rfl
  · exact tap_of (fun i => hX' _ _ i _ _ (by first | rfl | exact (Nat.add_assoc _ _ _).trans (congrArg (h + ·) (Nat.add_comm _ _)))
      (by first | rfl | exact Nat.add_comm _ _)) h6 rfl rfl
  · exact tap_of (fun i => hX' _ _ i _ _ (by first | rfl | exact (Nat.add_assoc _ _ _).trans (congrArg (h + ·) (Nat.add_comm _ _)))
      (by first | rfl | exact Nat.add_comm _ _)) h7 rfl rfl
  · exact tap_of (fun i => hX' _ _ i _ _ (by first | rfl | exact (Nat.add_assoc _ _ _).trans (congrArg (h + ·) (Nat.add_comm _ _)))
      (by first | rfl | exact Nat.add_comm _ _)) h8 rfl rfl

theorem pay6_apply (a : Fin 10) (u : Fin 226) (i : Fin 96) :
    k0_pay6 v0 v2 (ix3 a u i) = if h : a.val < 8 then v0 (ix4 0 ⟨a.val, h⟩ u i) else v2 (ix4 0 ⟨a.val - 8, by omega⟩ u i) := by
  pointwise [k0_pay6]

theorem pay4_apply {y : FVec Ideal S8x224x128 .f32} {p : Vec Ideal S1x128 .f32} (o : Fin 128) :
    k0_pay4 y p (ix2 0 o) = p (ix2 0 o) + ∑ r : Fin 8, ∑ v : Fin 224, y (ix3 r v o) := by
  pointwise [k0_pay4]
  exact congrArg (p (ix2 0 o) + ·) (sum_front _ y (ix1 o) Nat.one_pos o rfl)

theorem pay5_apply {y : FVec Ideal S8x224x128 .f32} {p : Vec Ideal S1x128 .f32} (o : Fin 128) :
    k0_pay5 y p (ix2 0 o) = p (ix2 0 o) + ∑ r : Fin 8, ∑ v : Fin 224, y (ix3 r v o) * y (ix3 r v o) := by
  pointwise [k0_pay5]
  exact congrArg (p (ix2 0 o) + ·) (sum_front _ (mulf y y) (ix1 o) Nat.one_pos o rfl)

variable (m : (ℓ : Loc nD τ sig) → Buf (Elt Ideal) ℓ)

theorem idx : ∀ t : Fin cfg0.N, win0_0.index t = ![t.val / 28, t.val % 28, 0, 0] ∧ win0_1.index t = ![t.val / 28, t.val % 28 + 1, 0, 0]
    ∧ win0_2.index t = ![0, 0, 0, 0] ∧ win0_3.index t = ![0, 0] ∧ win0_8.index t = ![t.val / 28, t.val % 28, 0, 0] := (by decide +kernel : ∀ t : Fin grid0.N, _)

/-- The images, the weights and the bias. -/
abbrev argX (c : Dev nD) : FVec Ideal S2x96x224x224 .f32 := m ((c.tc : Thread nD τ).loc main_arg0)
abbrev argW (c : Dev nD) : FVec Ideal S128x96x3x3 .f32 := m ((c.tc : Thread nD τ).loc main_arg1)
abbrev argB (c : Dev nD) : FVec Ideal S128 .f32 := m ((c.tc : Thread nD τ).loc main_arg2)

theorem w_entry (c : Dev nD) :
    V m c main_v3 = transpose S3x3x96x128 [2, 3, 1, 0] (argW m c) transposes_S128x96x3x3_S3x3x96x128_2_3_1_0 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem xp_entry (c : Dev nD) :
    V m c main_v2 = pad S2x232x226x96 ![0, 1, 1, 0] ![0, 7, 1, 0] ![0, 0, 0, 0]
      (transpose S2x224x224x96 [0, 2, 3, 1] (argX m c) transposes_S2x96x224x224_S2x224x224x96_0_2_3_1)
      (sitofp .f32 (constantI S_ 32 0#32)) pads_S2x224x224x96_S2x232x226x96_000_170_110_000 h_S_ := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem b_entry (c : Dev nD) : V m c main_v4 = shapeCast S1x128 (argB m c) shapeCasts_S128_S1x128 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem xp_apply (c : Dev nD) (n : Fin 2) (h : Fin 232) (v : Fin 226) (i : Fin 96) :
    V m c main_v2 (ix4 n h v i) = padded (argX m c) n h v i := by
  refine (congrFun (xp_entry m c) _).trans ?_
  have hz : (FloatOps.sitofp .f32 0#32 : Ideal .f32) = (0 : EReal) := by
    show (((0#32 : BitVec 32).toInt : ℝ) : EReal) = 0
    simp
  pointwise
  unfold padded
  by_cases hv : (1 ≤ h.val ∧ h.val ≤ 224) ∧ 1 ≤ v.val ∧ v.val ≤ 224
  · rw [dif_pos hv, dif_pos (by omega)]
  · rw [dif_neg hv, dif_neg (by omega)]
    exact hz

theorem w_apply (c : Dev nD) (p q : Fin 3) (i : Fin 96) (o : Fin 128) :
    V m c main_v3 (ix4 p q i o) = kernelOf (argW m c) o p q i := by
  refine (congrFun (w_entry m c) _).trans ?_
  pointwise
  rfl

theorem b_apply (c : Dev nD) (o : Fin 128) :
    V m c main_v4 (ix2 0 o) = argB m c (ix1 o) := by
  refine (congrFun (b_entry m c) _).trans ?_
  pointwise

theorem row_block (c : Dev nD) (t : Fin cfg0.N) (r : Fin 8) (v : Fin 226) (i : Fin 96) (h : Fin 232) (hh : h.val = 8 * (t.val % 28) + r.val) (n : Fin 2) (hn : n.val = t.val / 28):
    iblk m c 0 t (ix4 0 r v i) = V m c main_v2 (ix4 n h v i) := by
  blk_simp [iblk]
  blk_ext [idx t]

theorem next_block (c : Dev nD) (t : Fin cfg0.N) (r : Fin 8) (v : Fin 226) (i : Fin 96) (h : Fin 232) (hh : h.val = 8 * (t.val % 28) + r.val + 8) (n : Fin 2) (hn : n.val = t.val / 28):
    iblk m c 1 t (ix4 0 r v i) = V m c main_v2 (ix4 n h v i) := by
  blk_simp [iblk]
  blk_ext [idx t]

theorem w_block (c : Dev nD) (t : Fin cfg0.N) (p q : Fin 3) (i : Fin 96) (o : Fin 128) :
    iblk m c 2 t (ix4 p q i o) = V m c main_v3 (ix4 p q i o) := by
  blk_simp [iblk]
  blk_ext [idx t]

theorem b_block (c : Dev nD) (t : Fin cfg0.N) (o : Fin 128) :
    iblk m c 3 t (ix2 0 o) = V m c main_v4 (ix2 0 o) := by
  blk_simp [iblk]
  blk_ext [idx t]

/-- What the layer computes at image `n`, row `h`, column `v` and output channel `o`. -/
def layerAt (c : Dev nD) (n h v : ℕ) (o : Fin 128) : EReal :=
  conv (padded (argX m c) ⟨n % 2, Nat.mod_lt _ (by omega)⟩) (kernelOf (argW m c) o) (argB m c (ix1 o)) h v

/-- The rows point `t` computes. -/
def rowsAt (c : Dev nD) (t : Fin cfg0.N) : FVec Ideal S8x224x128 .f32 :=
  rowsOf (iblk m c 0 t) (iblk m c 1 t)
    (View.ld (iblk m c 2 t) (Rect.unit ![0, 0, 0, 0] ![1, 1, 96, 128] inb_S3x3x96x128_S1x1x96x128_0_0_0_0))
    (View.ld (iblk m c 2 t) (Rect.unit ![0, 1, 0, 0] ![1, 1, 96, 128] inb_S3x3x96x128_S1x1x96x128_0_1_0_0))
    (View.ld (iblk m c 2 t) (Rect.unit ![0, 2, 0, 0] ![1, 1, 96, 128] inb_S3x3x96x128_S1x1x96x128_0_2_0_0))
    (View.ld (iblk m c 2 t) (Rect.unit ![1, 0, 0, 0] ![1, 1, 96, 128] inb_S3x3x96x128_S1x1x96x128_1_0_0_0))
    (View.ld (iblk m c 2 t) (Rect.unit ![1, 1, 0, 0] ![1, 1, 96, 128] inb_S3x3x96x128_S1x1x96x128_1_1_0_0))
    (View.ld (iblk m c 2 t) (Rect.unit ![1, 2, 0, 0] ![1, 1, 96, 128] inb_S3x3x96x128_S1x1x96x128_1_2_0_0))
    (View.ld (iblk m c 2 t) (Rect.unit ![2, 0, 0, 0] ![1, 1, 96, 128] inb_S3x3x96x128_S1x1x96x128_2_0_0_0))
    (View.ld (iblk m c 2 t) (Rect.unit ![2, 1, 0, 0] ![1, 1, 96, 128] inb_S3x3x96x128_S1x1x96x128_2_1_0_0))
    (View.ld (iblk m c 2 t) (Rect.unit ![2, 2, 0, 0] ![1, 1, 96, 128] inb_S3x3x96x128_S1x1x96x128_2_2_0_0))
    (iblk m c 3 t)

theorem ld_apply (c : Dev nD) (t : Fin cfg0.N) (p q : Fin 3) (inb : ∀ a, (![p.val, q.val, 0, 0] : Fin 4 → ℕ) a + (![1, 1, 96, 128] : Fin 4 → ℕ) a ≤ S3x3x96x128.size a)
    (i : Fin 96) (o : Fin 128) :
    View.ld (iblk m c 2 t) (Rect.unit (s := S3x3x96x128) ![p.val, q.val, 0, 0] ![1, 1, 96, 128] inb) (ix4 0 0 i o) = kernelOf (argW m c) o p q i := by
  refine Eq.trans ?_ ((w_block m c t p q i o).trans (w_apply m c p q i o))
  refine congrArg (iblk m c 2 t) ?_
  funext z; apply Fin.ext
  match z with
  | ⟨0, _⟩ => exact Nat.add_zero _
  | ⟨1, _⟩ => exact Nat.add_zero _
  | ⟨2, _⟩ => show 0 + 1 * i.val = i.val; omega
  | ⟨3, _⟩ => show 0 + 1 * o.val = o.val; omega

theorem rowsAt_apply (c : Dev nD) (t : Fin cfg0.N) (r : Fin 8) (v : Fin 224) (o : Fin 128) :
    rowsAt m c t (ix3 r v o) = layerAt m c (t.val / 28) (8 * (t.val % 28) + r.val) v o := by
  have ht : t.val < 56 := lt_of_lt_of_eq t.isLt N_0
  unfold rowsAt layerAt
  refine (rowsOf_apply (X := padded (argX m c) ⟨t.val / 28 % 2, Nat.mod_lt _ (by omega)⟩) (W := kernelOf (argW m c) o) (h := 8 * (t.val % 28)) r v o ?_
    (ld_apply m c t 0 0 _ · o) (ld_apply m c t 0 1 _ · o) (ld_apply m c t 0 2 _ · o) (ld_apply m c t 1 0 _ · o) (ld_apply m c t 1 1 _ · o)
    (ld_apply m c t 1 2 _ · o) (ld_apply m c t 2 0 _ · o) (ld_apply m c t 2 1 _ · o) (ld_apply m c t 2 2 _ · o)).trans ?_
  · intro a u i
    refine (pay6_apply a u i).trans ?_
    by_cases h : a.val < 8
    · rw [dif_pos h]
      exact (row_block m c t ⟨a.val, h⟩ u i ⟨8 * (t.val % 28) + a.val, by omega⟩ rfl ⟨t.val / 28 % 2, Nat.mod_lt _ (by omega)⟩
        (by show t.val / 28 % 2 = t.val / 28; omega)).trans (xp_apply m c _ _ _ _)
    · rw [dif_neg h]
      exact (next_block m c t ⟨a.val - 8, by omega⟩ u i ⟨8 * (t.val % 28) + a.val, by omega⟩ (by show 8 * (t.val % 28) + a.val = 8 * (t.val % 28) + (a.val - 8) + 8; omega)
        ⟨t.val / 28 % 2, Nat.mod_lt _ (by omega)⟩ (by show t.val / 28 % 2 = t.val / 28; omega)).trans (xp_apply m c _ _ _ _)
  · rw [b_block, b_apply]

/-! ### What a point leaves -/

theorem pay1_apply (y : FVec Ideal S8x224x128 .f32) (r : Fin 8) (v : Fin 224) (o : Fin 128) :
    k0_pay1 y (ix4 0 r v o) = y (ix3 r v o) := by
  pointwise [k0_pay1]

theorem zero2 (j : S8x128.Idx) : k0_pay2 (F := Ideal) j = (0 : EReal) := by pointwise [k0_pay2]
theorem zero3 (j : S8x128.Idx) : k0_pay3 (F := Ideal) j = (0 : EReal) := by pointwise [k0_pay3]

theorem out_point (c : Dev nD) (t : Fin cfg0.N) : (outsAt0 m c t.val t.isLt).1 = k0_pay1 (rowsAt m c t) := by
  by_cases h0 : t.val % 56 = 0
  · rw [outsAt0_A m c t h0]
    frame_out
    rfl
  · rw [outsAt0_B m c t h0]
    frame_out
    rfl

/-- The first row of the running sums at point `t`'s channel `o` gains this. -/
def sumAt (c : Dev nD) (t : ℕ) (o : Fin 128) : EReal :=
  ∑ r : Fin 8, ∑ v : Fin 224, layerAt m c (t / 28) (8 * (t % 28) + r.val) v o

theorem sumAt_eq (c : Dev nD) (t : Fin cfg0.N) (p : Vec Ideal S1x128 .f32) (o : Fin 128) :
    k0_pay4 (rowsAt m c t) p (ix2 0 o) = p (ix2 0 o) + sumAt m c t.val o := by
  refine (pay4_apply o).trans (congrArg (p (ix2 0 o) + ·) ?_)
  refine Finset.sum_congr rfl fun r _ => Finset.sum_congr rfl fun v _ => ?_
  rw [rowsAt_apply]

theorem sumAt_A (c : Dev nD) (t : Fin cfg0.N) (h0 : t.val % 56 = 0) (r : Fin 8) (o : Fin 128) :
    (outsAt0 m c t.val t.isLt).2.1 (ix2 r o) = if r = 0 then sumAt m c t.val o else 0 := by
  rw [outsAt0_A m c t h0]
  frame_out
  by_cases hr : r = 0
  · subst hr
    rw [if_pos rfl]
    refine (canon_row _ _ _ o).trans ?_
    refine (sumAt_eq m c t _ o).trans ?_
    refine (congrArg (· + sumAt m c t.val o) ((cov_row _ _ _ _ o).trans (zero2 _))).trans (zero_add _)
  · rw [if_neg hr]
    refine (canon_off _ _ _ r hr o).trans ?_
    exact (congrFun (canon_all _ _) _).trans (zero2 _)

theorem sumAt_B (c : Dev nD) (t : Fin cfg0.N) (h0 : ¬ t.val % 56 = 0) (r : Fin 8) (o : Fin 128) :
    (outsAt0 m c t.val t.isLt).2.1 (ix2 r o)
      = (outsAt0 m c (t.val - 1) (Nat.lt_of_le_of_lt (Nat.sub_le _ _) t.isLt)).2.1 (ix2 r o) + if r = 0 then sumAt m c t.val o else 0 := by
  rw [outsAt0_B m c t h0]
  frame_out
  by_cases hr : r = 0
  · subst hr
    rw [if_pos rfl]
    refine (read_row _ _ _ _ o).trans ?_
    refine (sumAt_eq m c t _ o).trans ?_
    exact congrArg (· + sumAt m c t.val o) (ld_row _ _ o)
  · rw [if_neg hr, add_zero]
    refine (read_off _ _ _ _ r hr o).trans ?_
    exact congrFun (Memref.IsWhole.read_unread _ _) _

/-- After the last point the first row holds the sums over all images, rows and columns. -/
theorem sumAt_last (c : Dev nD) (h : 55 < cfg0.N) (r : Fin 8) (o : Fin 128) :
    (outsAt0 m c 55 h).2.1 (ix2 r o)
      = if r = 0 then ∑ n : Fin 2, ∑ k : Fin 224, ∑ v : Fin 224, layerAt m c n k v o else 0 := by
  have hN : cfg0.N = 56 := N_0
  refine (running (fun n hn => (outsAt0 m c n hn).2.1 (ix2 r o)) (fun t => if r = 0 then sumAt m c t o else 0)
    (fun h => sumAt_A m c ⟨0, h⟩ (Nat.zero_mod _) r o)
    (fun n h => sumAt_B m c ⟨n + 1, h⟩ (by show ¬ (n + 1) % 56 = 0; omega) r o) 55 h).trans ?_
  by_cases hr : r = 0
  · simp only [if_pos hr]
    exact all_rows fun n h => ∑ v : Fin 224, layerAt m c n h v o
  · simp only [if_neg hr, Finset.sum_const_zero]

/-- The first row of the running sums of squares at point `t`'s channel `o` gains this. -/
def sqAt (c : Dev nD) (t : ℕ) (o : Fin 128) : EReal :=
  ∑ r : Fin 8, ∑ v : Fin 224, layerAt m c (t / 28) (8 * (t % 28) + r.val) v o * layerAt m c (t / 28) (8 * (t % 28) + r.val) v o

theorem sqAt_eq (c : Dev nD) (t : Fin cfg0.N) (p : Vec Ideal S1x128 .f32) (o : Fin 128) :
    k0_pay5 (rowsAt m c t) p (ix2 0 o) = p (ix2 0 o) + sqAt m c t.val o := by
  refine (pay5_apply o).trans (congrArg (p (ix2 0 o) + ·) ?_)
  refine Finset.sum_congr rfl fun r _ => Finset.sum_congr rfl fun v _ => ?_
  rw [rowsAt_apply]

theorem sqAt_A (c : Dev nD) (t : Fin cfg0.N) (h0 : t.val % 56 = 0) (r : Fin 8) (o : Fin 128) :
    (outsAt0 m c t.val t.isLt).2.2 (ix2 r o) = if r = 0 then sqAt m c t.val o else 0 := by
  rw [outsAt0_A m c t h0]
  frame_out
  by_cases hr : r = 0
  · subst hr
    rw [if_pos rfl]
    refine (canon_row _ _ _ o).trans ?_
    refine (sqAt_eq m c t _ o).trans ?_
    refine (congrArg (· + sqAt m c t.val o) ((cov_row _ _ _ _ o).trans (zero3 _))).trans (zero_add _)
  · rw [if_neg hr]
    refine (canon_off _ _ _ r hr o).trans ?_
    exact (congrFun (canon_all _ _) _).trans (zero3 _)

theorem sqAt_B (c : Dev nD) (t : Fin cfg0.N) (h0 : ¬ t.val % 56 = 0) (r : Fin 8) (o : Fin 128) :
    (outsAt0 m c t.val t.isLt).2.2 (ix2 r o)
      = (outsAt0 m c (t.val - 1) (Nat.lt_of_le_of_lt (Nat.sub_le _ _) t.isLt)).2.2 (ix2 r o) + if r = 0 then sqAt m c t.val o else 0 := by
  rw [outsAt0_B m c t h0]
  frame_out
  by_cases hr : r = 0
  · subst hr
    rw [if_pos rfl]
    refine (read_row _ _ _ _ o).trans ?_
    refine (sqAt_eq m c t _ o).trans ?_
    exact congrArg (· + sqAt m c t.val o) (ld_row _ _ o)
  · rw [if_neg hr, add_zero]
    refine (read_off _ _ _ _ r hr o).trans ?_
    exact congrFun (Memref.IsWhole.read_unread _ _) _

/-- After the last point the first row holds the sums of squares over all images, rows and columns. -/
theorem sqAt_last (c : Dev nD) (h : 55 < cfg0.N) (r : Fin 8) (o : Fin 128) :
    (outsAt0 m c 55 h).2.2 (ix2 r o)
      = if r = 0 then ∑ n : Fin 2, ∑ k : Fin 224, ∑ v : Fin 224, layerAt m c n k v o * layerAt m c n k v o else 0 := by
  have hN : cfg0.N = 56 := N_0
  refine (running (fun n hn => (outsAt0 m c n hn).2.2 (ix2 r o)) (fun t => if r = 0 then sqAt m c t o else 0)
    (fun h => sqAt_A m c ⟨0, h⟩ (Nat.zero_mod _) r o)
    (fun n h => sqAt_B m c ⟨n + 1, h⟩ (by show ¬ (n + 1) % 56 = 0; omega) r o) 55 h).trans ?_
  by_cases hr : r = 0
  · simp only [if_pos hr]
    exact all_rows fun n h => ∑ v : Fin 224, layerAt m c n h v o * layerAt m c n h v o
  · simp only [if_neg hr, Finset.sum_const_zero]

end Cert.Proof.C

end
-- ==== Proof.C.Reference.lean ====
/-
  The reference's first convolution over the extended reals, read at an index.
-/
module

public import proofs.«01_k».proof.Proof.C.Model
public import proofs.«01_k».proof.Proof.C.Sums
public import proofs.«01_k».proof.Proof.Gen.ConvIdeal.Run
public import Idealize.ShloMosaic.Lib.Pipeline.ValueKit

@[expose] public section

set_option maxRecDepth 16384

noncomputable section

namespace Cert.Proof.C

open Cert.ConvIdeal Cert.ConvIdeal.Gen
open Idealize.ShloMosaic

/-- The reference's array with its border of zeros. -/
def refPad (x : FVec Ideal S2x96x224x224 .f32) : FVec Ideal S2x96x226x226 .f32 :=
  pad S2x96x226x226 ![0, 0, 1, 1] ![0, 0, 1, 1] ![0, 0, 0, 0] x (sitofp .f32 (constantI S_ 32 0#32)) pads_S2x96x224x224_S2x96x226x226_000_000_110_110 h_S_

/-- The reference's convolution. -/
def refConv (x : FVec Ideal S2x96x224x224 .f32) (w : FVec Ideal S128x96x3x3 .f32) (b : FVec Ideal S128 .f32) : FVec Ideal S2x128x224x224 .f32 :=
  addf (addf (addf (addf (addf (addf (addf (addf (addf (addf (broadcastInDim S2x128x224x224 ![] bcast_S_S2x128x224x224 (constant S_ .f32 0x00000000#32)) (transpose S2x128x224x224 [1, 0, 2, 3] (Host.dotGeneral dot_S128x96_S2x96x224x224_S128x2x224x224_1_1_0_023_n_n none (shapeCast _ (extractStridedSlice S128x96x1x1 ![0, 0, 0, 0] w slices_S128x96x3x3_S128x96x1x1_0_0_0_0) shapeCasts_S128x96x1x1_S128x96) (extractStridedSlice S2x96x224x224 ![0, 0, 0, 0] (refPad x) slices_S2x96x226x226_S2x96x224x224_0_0_0_0)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 0, 1] w slices_S128x96x3x3_S128x96x1x1_0_0_0_1) shapeCasts_S128x96x1x1_S128x96) (extractStridedSlice S2x96x224x224 ![0, 0, 0, 1] (refPad x) slices_S2x96x226x226_S2x96x224x224_0_0_0_1)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 0, 2] w slices_S128x96x3x3_S128x96x1x1_0_0_0_2) shapeCasts_S128x96x1x1_S128x96) (extractStridedSlice S2x96x224x224 ![0, 0, 0, 2] (refPad x) slices_S2x96x226x226_S2x96x224x224_0_0_0_2)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 1, 0] w slices_S128x96x3x3_S128x96x1x1_0_0_1_0) shapeCasts_S128x96x1x1_S128x96) (extractStridedSlice S2x96x224x224 ![0, 0, 1, 0] (refPad x) slices_S2x96x226x226_S2x96x224x224_0_0_1_0)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 1, 1] w slices_S128x96x3x3_S128x96x1x1_0_0_1_1) shapeCasts_S128x96x1x1_S128x96) (extractStridedSlice S2x96x224x224 ![0, 0, 1, 1] (refPad x) slices_S2x96x226x226_S2x96x224x224_0_0_1_1)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 1, 2] w slices_S128x96x3x3_S128x96x1x1_0_0_1_2) shapeCasts_S128x96x1x1_S128x96) (extractStridedSlice S2x96x224x224 ![0, 0, 1, 2] (refPad x) slices_S2x96x226x226_S2x96x224x224_0_0_1_2)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 2, 0] w slices_S128x96x3x3_S128x96x1x1_0_0_2_0) shapeCasts_S128x96x1x1_S128x96) (extractStridedSlice S2x96x224x224 ![0, 0, 2, 0] (refPad x) slices_S2x96x226x226_S2x96x224x224_0_0_2_0)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 2, 1] w slices_S128x96x3x3_S128x96x1x1_0_0_2_1) shapeCasts_S128x96x1x1_S128x96) (extractStridedSlice S2x96x224x224 ![0, 0, 2, 1] (refPad x) slices_S2x96x226x226_S2x96x224x224_0_0_2_1)) transposes_S128x2x224x224_S2x128x224x224_1_0_2_3)) (transpose S2x128x224x224 [1, 0, 2, 3] (Host.dotGeneral dot_S128x96_S2x96x224x224_S128x2x224x224_1_1_0_023_n_n none (shapeCast _ (extractStridedSlice S128x96x1x1 ![0, 0, 2, 2] w slices_S128x96x3x3_S128x96x1x1_0_0_2_2) shapeCasts_S128x96x1x1_S128x96) (extractStridedSlice S2x96x224x224 ![0, 0, 2, 2] (refPad x) slices_S2x96x226x226_S2x96x224x224_0_0_2_2)) transposes_S128x2x224x224_S2x128x224x224_1_0_2_3)) (broadcastInDim S2x128x224x224 ![0, 1, 2, 3] bcast_S1x128x1x1_S2x128x224x224_0_1_2_3 (broadcastInDim S1x128x1x1 ![1] bcast_S128_S1x128x1x1_1 b))

theorem refPad_apply (x : FVec Ideal S2x96x224x224 .f32) (n : Fin 2) (c : Fin 96) (h w : Fin 226) :
    refPad x (ix4 n c h w) = padded x n h w c := by
  have hz : (FloatOps.sitofp .f32 0#32 : Ideal .f32) = (0 : EReal) := by
    show (((0#32 : BitVec 32).toInt : ℝ) : EReal) = 0
    simp
  pointwise [refPad]
  unfold padded
  by_cases hv : (1 ≤ h.val ∧ h.val ≤ 224) ∧ 1 ≤ w.val ∧ w.val ≤ 224
  · rw [dif_pos hv, dif_pos (by omega)]
  · rw [dif_neg hv, dif_neg (by omega)]
    exact hz

theorem refConv_apply (x : FVec Ideal S2x96x224x224 .f32) (w : FVec Ideal S128x96x3x3 .f32) (b : FVec Ideal S128 .f32)
    (n : Fin 2) (o : Fin 128) (h v : Fin 224) :
    refConv x w b (ix4 n o h v) = conv (padded x n) (kernelOf w o) (b (ix1 o)) h v := by
  pointwise [refConv]
  refine conv_of ?_ ?_ ?_ ?_ ?_ ?_ ?_ ?_ ?_ rfl <;>
    exact tap_of' (fun i => refPad_apply x n i _ _) (fun i => rfl) (by first | rfl | exact Nat.add_comm _ _)
      (by first | rfl | exact Nat.add_comm _ _)

/-- Each channel's sum in the first row of eight. -/
def refSums (y : FVec Ideal S2x128x224x224 .f32) : FVec Ideal S8x128 .f32 :=
  select (broadcastInDim S8x128 ![0, 1] bcast_S8x1_S8x128_0_1 (cmpi .eq (broadcastInDim S8x1 ![0] bcast_S8_S8x1_0 (iotaInDim S8 32 0)) (broadcastInDim S8x1 ![] bcast_S_S8x1 (constantI S_ 32 0#32))))
    (broadcastInDim S8x128 ![0, 1] bcast_S1x128_S8x128_0_1 (broadcastInDim S1x128 ![1] bcast_S128_S1x128_1
      (Host.reduceAdd y (constant S_ .f32 0x00000000#32) reducesTo_S2x128x224x224_S128_d0_2_3 h_S_)))
    (broadcastInDim S8x128 ![] bcast_S_S8x128 (constant S_ .f32 0x00000000#32))

theorem refSums_apply (y : FVec Ideal S2x128x224x224 .f32) (r : Fin 8) (o : Fin 128) :
    refSums y (ix2 r o) = if r = 0 then ∑ n : Fin 2, ∑ h : Fin 224, ∑ v : Fin 224, y (ix4 n o h v) else 0 := by
  pointwise [refSums]
  rw [sum_channel _ _ _ _ (by decide) o rfl, zero_add]
  by_cases h : r = 0
  · subst h
    rw [if_pos rfl]
    rfl
  · rw [if_neg h]
    have e : IntOp.cmpi CmpIPredicate.eq (BitVec.ofNat 32 r.val) 0#32 = 0#1 := by revert h; revert r; decide
    rw [e]
    rfl

section Results

variable (m : (ℓ : Loc nD τ sig) → Buf (Elt Ideal) ℓ) (c : Dev nD)

theorem res_out0_eq (n : Fin 2) (h v : Fin 224) (o : Fin 128) :
    Cert.ConvIdeal.Value.res_out0 m c (ix4 n h v o)
      = refConv (m ((c.tc : Thread nD τ).loc main_arg0)) (m ((c.tc : Thread nD τ).loc main_arg1)) (m ((c.tc : Thread nD τ).loc main_arg2)) (ix4 n o h v) := by
  have e : Cert.ConvIdeal.Value.res_out0 m c = transpose S2x224x224x128 [0, 2, 3, 1]
    (refConv (m ((c.tc : Thread nD τ).loc main_arg0)) (m ((c.tc : Thread nD τ).loc main_arg1)) (m ((c.tc : Thread nD τ).loc main_arg2)))
    transposes_S2x128x224x224_S2x224x224x128_0_2_3_1 := rfl
  rw [e]
  pointwise

theorem res_out1_eq : Cert.ConvIdeal.Value.res_out1 m c = refSums
    (refConv (m ((c.tc : Thread nD τ).loc main_arg0)) (m ((c.tc : Thread nD τ).loc main_arg1)) (m ((c.tc : Thread nD τ).loc main_arg2))) := rfl

theorem res_out2_eq : Cert.ConvIdeal.Value.res_out2 m c = refSums (mulf
    (refConv (m ((c.tc : Thread nD τ).loc main_arg0)) (m ((c.tc : Thread nD τ).loc main_arg1)) (m ((c.tc : Thread nD τ).loc main_arg2)))
    (refConv (m ((c.tc : Thread nD τ).loc main_arg0)) (m ((c.tc : Thread nD τ).loc main_arg1)) (m ((c.tc : Thread nD τ).loc main_arg2)))) := rfl

end Results

end Cert.Proof.C

end
-- ==== Proof.C.Value.lean ====
/-
  The first layer's kernel and the reference's convolution give the same arrays.
-/
module

public import proofs.«01_k».proof.Defs
public import proofs.«01_k».proof.Proof.C.Kernel
public import proofs.«01_k».proof.Proof.C.Reference
public import Idealize.ShloMosaic.Lib.Quiescent

@[expose] public section

set_option maxRecDepth 16384

noncomputable section

namespace Cert.Proof.C

section Kernel

open Cert.LayerIdeal Cert.LayerIdeal.Gen
open Idealize.ShloMosaic

variable (m : (ℓ : Loc nD τ sig) → Buf (Elt Ideal) ℓ)

/-- The convolution's array, its sums and its sums of squares. -/
def outArr (c : Dev nD) : FVec Ideal S2x224x224x128 .f32 := fun j => layerAt m c (j 0).val (j 1).val (j 2).val (j 3)

def sumArr (c : Dev nD) : FVec Ideal S8x128 .f32 := fun j =>
  if (show Fin 8 from j 0) = 0 then ∑ n : Fin 2, ∑ k : Fin 224, ∑ v : Fin 224, layerAt m c n k v (j 1) else 0

def sqArr (c : Dev nD) : FVec Ideal S8x128 .f32 := fun j =>
  if (show Fin 8 from j 0) = 0 then ∑ n : Fin 2, ∑ k : Fin 224, ∑ v : Fin 224, layerAt m c n k v (j 1) * layerAt m c n k v (j 1) else 0

theorem canon_row_col (j : S8x128.Idx) : ∃ (r : Fin 8) (o : Fin 128), j = ix2 r o := by
  refine ⟨j 0, j 1, ?_⟩
  funext a
  match a with
  | ⟨0, _⟩ => rfl
  | ⟨1, _⟩ => rfl

theorem idx_sums : ∀ t : Fin cfg0.N, win0_9.index t = ![0, 0] ∧ win0_10.index t = ![0, 0] := (by decide +kernel : ∀ t : Fin grid0.N, _)

theorem sumAt_end (c : Dev nD) (k : ℕ) (h : k < cfg0.N) (hk : k = 55) (r : Fin 8) (o : Fin 128) :
    (outsAt0 m c k h).2.1 (ix2 r o) = if r = 0 then ∑ n : Fin 2, ∑ k : Fin 224, ∑ v : Fin 224, layerAt m c n k v o else 0 := by
  subst hk
  exact sumAt_last m c h r o

theorem sqAt_end (c : Dev nD) (k : ℕ) (h : k < cfg0.N) (hk : k = 55) (r : Fin 8) (o : Fin 128) :
    (outsAt0 m c k h).2.2 (ix2 r o) = if r = 0 then ∑ n : Fin 2, ∑ k : Fin 224, ∑ v : Fin 224, layerAt m c n k v o * layerAt m c n k v o else 0 := by
  subst hk
  exact sqAt_last m c h r o

theorem final_out (c : Dev nD) : (dats m 0 c).arrAt 8 cfg0.N = outArr m c := by
  refine (dats m 0 c).arrAt_eq_of_covers 8 _ (by decide +kernel) fun t hf y => ?_
  have ht : t.val < 56 := lt_of_lt_of_eq t.isLt N_0
  have hy : ∃ (r : Fin 8) (v : Fin 224) (o : Fin 128), y = ix4 (0 : Fin 1) r v o := by
    refine ⟨y 1, y 2, y 3, ?_⟩
    funext a
    match a with
    | ⟨0, _⟩ => exact Fin.ext (Nat.lt_one_iff.mp (y 0).isLt)
    | ⟨1, _⟩ => rfl
    | ⟨2, _⟩ => rfl
    | ⟨3, _⟩ => rfl
  obtain ⟨r, v, o, rfl⟩ := hy
  blk_simp
  rw [after0_8, out_point]
  refine ((pay1_apply _ r v o).trans (rowsAt_apply m c t r v o)).trans ?_
  have e : outArr m c (ix4 ⟨t.val / 28, by omega⟩ ⟨8 * (t.val % 28) + r.val, by omega⟩ v o)
    = layerAt m c (t.val / 28) (8 * (t.val % 28) + r.val) v o := rfl
  refine e.symm.trans (congrArg _ ?_)
  blk_ext [idx t]

theorem final_sums (c : Dev nD) : (dats m 0 c).arrAt 9 cfg0.N = sumArr m c := by
  refine (dats m 0 c).arrAt_eq_of_covers 9 _ (by decide +kernel) fun t hf y => ?_
  have ht : t.val < 56 := lt_of_lt_of_eq t.isLt N_0
  have h55 : t.val % 56 = 55 := (flush0_9 t).mp hf
  obtain ⟨r, o, rfl⟩ := canon_row_col y
  blk_simp
  rw [after0_9]
  refine (sumAt_end m c t.val t.isLt (by omega) r o).trans ?_
  have e : sumArr m c (ix2 r o) = if r = 0 then ∑ n : Fin 2, ∑ k : Fin 224, ∑ v : Fin 224, layerAt m c n k v o else 0 := rfl
  refine e.symm.trans (congrArg _ ?_)
  blk_ext [idx_sums t]

theorem final_squares (c : Dev nD) : (dats m 0 c).arrAt 10 cfg0.N = sqArr m c := by
  refine (dats m 0 c).arrAt_eq_of_covers 10 _ (by decide +kernel) fun t hf y => ?_
  have ht : t.val < 56 := lt_of_lt_of_eq t.isLt N_0
  have h55 : t.val % 56 = 55 := (flush0_10 t).mp hf
  obtain ⟨r, o, rfl⟩ := canon_row_col y
  blk_simp
  rw [after0_10]
  refine (sqAt_end m c t.val t.isLt (by omega) r o).trans ?_
  have e : sqArr m c (ix2 r o)
    = if r = 0 then ∑ n : Fin 2, ∑ k : Fin 224, ∑ v : Fin 224, layerAt m c n k v o * layerAt m c n k v o else 0 := rfl
  refine e.symm.trans (congrArg _ ?_)
  blk_ext [idx_sums t]

end Kernel

open Idealize.ShloMosaic Idealize.SL.Sem

section Reference

variable (m : (ℓ : Loc Cert.LayerIdeal.nD Cert.LayerIdeal.τ Cert.LayerIdeal.sig) → Buf (Elt Ideal) ℓ) (c : Dev Cert.LayerIdeal.nD)

theorem refConv_args (n : Fin 2) (h v : Fin 224) (o : Fin 128) :
    refConv (argX m c) (argW m c) (argB m c) (ix4 n o h v) = layerAt m c n h v o := by
  refine (refConv_apply _ _ _ n o h v).trans ?_
  unfold layerAt
  have e : (⟨n.val % 2, Nat.mod_lt _ (by omega)⟩ : Fin 2) = n := Fin.ext (Nat.mod_eq_of_lt n.isLt)
  rw [e]

theorem refSums_args : refSums (refConv (argX m c) (argW m c) (argB m c)) = sumArr m c := by
  funext j
  obtain ⟨r, o, rfl⟩ := canon_row_col j
  refine (refSums_apply _ _ _).trans ?_
  simp only [refConv_args]
  rfl

theorem refSquares_args :
    refSums (mulf (refConv (argX m c) (argW m c) (argB m c)) (refConv (argX m c) (argW m c) (argB m c))) = sqArr m c := by
  funext j
  obtain ⟨r, o, rfl⟩ := canon_row_col j
  refine (refSums_apply _ _ _).trans ?_
  have e (n : Fin 2) (h v : Fin 224) (o : Fin 128) :
      mulf (refConv (argX m c) (argW m c) (argB m c)) (refConv (argX m c) (argW m c) (argB m c)) (ix4 n o h v)
        = layerAt m c n h v o * layerAt m c n h v o := by
    refine Eq.trans ?_ (congrArg₂ (· * ·) (refConv_args m c n h v o) (refConv_args m c n h v o))
    rfl
  simp only [e]
  rfl

end Reference

/-- The frame of the reference. -/
theorem conv_frame (m : (ℓ : Loc Cert.ConvIdeal.nD Cert.ConvIdeal.τ Cert.ConvIdeal.sig) → Buf (Elt Ideal) ℓ) (ρ : Dev Cert.ConvIdeal.nD → PrngReg) :
    θ_run (Cert.ConvIdeal.defs (F := Ideal)) (onTc (τ := Cert.ConvIdeal.τ) (Cert.ConvIdeal.main (F := Ideal))) ⟨m, fun _ => 0, ρ⟩
      (fun r => (∀ c : Dev Cert.ConvIdeal.nD,
        r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
        ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
        ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
        ∧ r.2.sem = fun _ => 0) :=
  (θ_run _ _ _).mono (fun r h => ⟨fun c => (h c).2.2.2, sem_eq_zero_of_no_sems (by decide) r.2⟩) (Cert.ConvIdeal.Value.run (F := Ideal) m ρ)

/-- The kernel and the reference end with the same results. -/
theorem equal : Cert.algebraic_LayerIdeal_ConvIdeal := by
  intro m g m' g' _ hargs
  refine ⟨fun c => outArr m c, fun c => sumArr m c, fun c => sqArr m c, ?_, ?_⟩
  · exact (θ_run _ _ _).mono (fun _ h c => ⟨(h c).1.trans (final_out m c), (h c).2.1.trans (final_sums m c),
      (h c).2.2.1.trans (final_squares m c), (h c).2.2.2⟩) (Cert.LayerIdeal.Value.run_blocks (F := Ideal) m g)
  · refine (θ_run _ _ _).mono (fun _ h c => ⟨(h c).1.trans ?_, (h c).2.1.trans ?_, (h c).2.2.1.trans ?_, (h c).2.2.2⟩)
      (Cert.ConvIdeal.Value.run (F := Ideal) m' g')
    all_goals obtain ⟨e0, e1, e2⟩ := hargs c
    · funext j
      have hj : j = ix4 (j 0 : Fin 2) (j 1 : Fin 224) (j 2 : Fin 224) (j 3 : Fin 128) := by
        funext a
        match a with
        | ⟨0, _⟩ => rfl
        | ⟨1, _⟩ => rfl
        | ⟨2, _⟩ => rfl
        | ⟨3, _⟩ => rfl
      rw [hj]
      refine (res_out0_eq m' c _ _ _ _).trans ?_
      rw [e0, e1, e2]
      exact refConv_args m c _ _ _ _
    · refine (res_out1_eq m' c).trans ?_
      rw [e0, e1, e2]
      exact refSums_args m c
    · refine (res_out2_eq m' c).trans ?_
      rw [e0, e1, e2]
      exact refSquares_args m c

end Cert.Proof.C

end
-- ==== Proof.C.Norm.lean ====
/-
  Batch normalisation and relu of one value, as the kernel and as the reference compute it, and the kernel's test of the
  border.
-/
module

public import proofs.«01_k».proof.Proof.C.Model
public import proofs.«01_k».proof.Proof.V.Features

@[expose] public section

set_option maxRecDepth 16384

noncomputable section

namespace Cert.Proof.C

open Idealize.ShloMosaic
open Cert.Proof.V (lit_count lit_eps_eq eps eps_pos div_real rsqrt_real sqrt_real coe_sum)

/-- A channel's mean from its sum, -/
def meanOf (s : EReal) : EReal := Ideal.div s (Ideal.ofBits .f32 0x47C40000#32)

/-- and one value normalised by the kernel, from its channel's sum and sum of squares. -/
def normOf (y s q g b : EReal) : EReal :=
  max ((y - meanOf s) * (Ideal.rsqrt (meanOf q - meanOf s * meanOf s + Ideal.ofBits .f32 0x3727C5AC#32) * g) + b) 0

/-- The same by the reference, from the mean and the mean of the squares of the deviations. -/
def refNormOf (y mean var g b : EReal) : EReal :=
  max (Ideal.div (y - mean) (Ideal.sqrt (var + Ideal.ofBits .f32 0x3727C5AC#32)) * g + b) 0

variable {ι : Type} [Fintype ι] {y : ι → EReal}

/-- Over real values whose sums are given the two are one value. -/
theorem norm_eq (hι : Fintype.card ι = 100352) (hy : ∀ j, y j = ((y j).toReal : EReal)) (x : ι) (g b : EReal) {s q : EReal} (hs : s = ∑ j, y j)
    (hq : q = ∑ j, y j * y j) :
    refNormOf (y x) (meanOf (∑ j, y j)) (meanOf (∑ j, (y j - meanOf (∑ j, y j)) * (y j - meanOf (∑ j, y j)))) g b = normOf (y x) s q g b := by
  have hn : (100352 : ℝ) ≠ 0 := by norm_num
  obtain ⟨a, ha⟩ : ∃ a : ι → ℝ, ∀ j, y j = (a j : EReal) := ⟨fun j => (y j).toReal, hy⟩
  have mean_real (r : ℝ) : meanOf (r : EReal) = ((r / 100352 : ℝ) : EReal) := by
    rw [meanOf, lit_count, div_real _ hn]
  have e0 : ∑ j, y j = ((∑ j, a j : ℝ) : EReal) := by
    rw [coe_sum]
    exact Finset.sum_congr rfl fun j _ => ha j
  have e1 : ∑ j, y j * y j = ((∑ j, a j * a j : ℝ) : EReal) := by
    rw [coe_sum]
    exact Finset.sum_congr rfl fun j _ => by rw [ha, EReal.coe_mul]
  subst hs hq
  rw [e0, e1, mean_real]
  set μ : ℝ := (∑ j, a j) / 100352 with hμ
  have e2 : ∑ j, (y j - (μ : EReal)) * (y j - (μ : EReal)) = ((∑ j, (a j - μ) * (a j - μ) : ℝ) : EReal) := by
    rw [coe_sum]
    exact Finset.sum_congr rfl fun j _ => by rw [ha, ← EReal.coe_sub, ← EReal.coe_mul]
  have hsum : ∑ j, a j = 100352 * μ := by rw [hμ]; ring
  have e3 : (∑ j, (a j - μ) * (a j - μ)) / 100352 = (∑ j, a j * a j) / 100352 - μ * μ := by
    have h : ∀ j, (a j - μ) * (a j - μ) = a j * a j - 2 * μ * a j + μ * μ := fun j => by ring
    simp only [h, Finset.sum_add_distrib, Finset.sum_sub_distrib, ← Finset.mul_sum, Finset.sum_const, Finset.card_univ, hι,
      nsmul_eq_mul, hsum]
    push_cast
    ring
  have hv : 0 ≤ (∑ j, (a j - μ) * (a j - μ)) / 100352 :=
    div_nonneg (Finset.sum_nonneg fun j _ => mul_self_nonneg _) (by norm_num)
  have hp : 0 < (∑ j, (a j - μ) * (a j - μ)) / 100352 + eps := add_pos_of_nonneg_of_pos hv eps_pos
  rw [e2, mean_real]
  unfold refNormOf normOf
  rw [ha, mean_real, mean_real, ← hμ, lit_eps_eq, ← EReal.coe_sub, ← EReal.coe_mul, ← EReal.coe_sub, ← e3, ← EReal.coe_add, sqrt_real hp.le,
    div_real _ (Real.sqrt_pos.mpr hp).ne', rsqrt_real hp, div_eq_mul_inv, EReal.coe_mul, mul_assoc]

/-- The images normalised by the kernel, the channels second. -/
def normed {k : ℕ} (y : (⟨4, ![2, 224, 224, k]⟩ : Shape).Idx → EReal) (s q : (⟨2, ![8, k]⟩ : Shape).Idx → EReal)
    (g b : (⟨1, ![k]⟩ : Shape).Idx → EReal) : (⟨4, ![2, k, 224, 224]⟩ : Shape).Idx → EReal := fun j =>
  normOf (y (ix4 (j 0) (j 2) (j 3) (j 1))) (s (ix2 0 (j 1))) (q (ix2 0 (j 1))) (g (ix1 (j 1))) (b (ix1 (j 1)))

/-- The reference's value over one channel's images. -/
theorem normed_eq {k : ℕ} {y : (⟨4, ![2, 224, 224, k]⟩ : Shape).Idx → EReal} {s q : (⟨2, ![8, k]⟩ : Shape).Idx → EReal}
    (g b : (⟨1, ![k]⟩ : Shape).Idx → EReal) (hy : ∀ n h v i, y (ix4 n h v i) = ((y (ix4 n h v i)).toReal : EReal)) (i : Fin k)
    (hs : s (ix2 0 i) = ∑ n, ∑ h, ∑ v, y (ix4 n h v i)) (hq : q (ix2 0 i) = ∑ n, ∑ h, ∑ v, y (ix4 n h v i) * y (ix4 n h v i))
    {M V : EReal} (hM : M = meanOf (∑ n, ∑ h, ∑ v, y (ix4 n h v i)))
    (hV : V = meanOf (∑ n, ∑ h, ∑ v, (y (ix4 n h v i) - M) * (y (ix4 n h v i) - M))) (n : Fin 2) (h v : Fin 224) :
    refNormOf (y (ix4 n h v i)) M V (g (ix1 i)) (b (ix1 i)) = normed y s q g b (ix4 n i h v) := by
  have flat (f : Fin 2 → Fin 224 → Fin 224 → EReal) : ∑ n, ∑ h, ∑ v, f n h v = ∑ j : Fin 2 × Fin 224 × Fin 224, f j.1 j.2.1 j.2.2 := by
    rw [Fintype.sum_prod_type]
    refine Finset.sum_congr rfl fun n _ => ?_
    rw [Fintype.sum_prod_type]
  subst hM
  subst hV
  simp only [flat] at hs hq ⊢
  exact norm_eq (y := fun j : Fin 2 × Fin 224 × Fin 224 => y (ix4 j.1 j.2.1 j.2.2 i)) (by simp) (fun j => hy _ _ _ _) (n, h, v) _ _ hs hq

/-! ### The border -/

theorem at_least (n : ℕ) (hn : n < 256) : IntOp.cmpi CmpIPredicate.sge (BitVec.ofNat 32 n) 1#32 = BitVec.ofBool (decide (1 ≤ n)) :=
  (by decide +kernel : ∀ n : Fin 256, IntOp.cmpi CmpIPredicate.sge (BitVec.ofNat 32 n.val) 1#32 = BitVec.ofBool (decide (1 ≤ n.val))) ⟨n, hn⟩

theorem at_most (n : ℕ) (hn : n < 256) : IntOp.cmpi CmpIPredicate.sle (BitVec.ofNat 32 n) 224#32 = BitVec.ofBool (decide (n ≤ 224)) :=
  (by decide +kernel : ∀ n : Fin 256, IntOp.cmpi CmpIPredicate.sle (BitVec.ofNat 32 n.val) 224#32 = BitVec.ofBool (decide (n.val ≤ 224))) ⟨n, hn⟩

/-- The kernel's test of row and column, inside the border. -/
theorem inside {h v : ℕ} (hh : h < 256) (hv : v < 256) (a b : EReal) :
    Scalar.select (IntOp.andi (IntOp.andi (IntOp.andi (IntOp.cmpi CmpIPredicate.sge (BitVec.ofNat 32 h) 1#32)
      (IntOp.cmpi CmpIPredicate.sle (BitVec.ofNat 32 h) 224#32)) (IntOp.cmpi CmpIPredicate.sge (BitVec.ofNat 32 v) 1#32))
      (IntOp.cmpi CmpIPredicate.sle (BitVec.ofNat 32 v) 224#32)) a b
      = if (1 ≤ h ∧ h ≤ 224) ∧ 1 ≤ v ∧ v ≤ 224 then a else b := by
  rw [at_least h hh, at_most h hh, at_least v hv, at_most v hv]
  by_cases h1 : 1 ≤ h <;> by_cases h2 : h ≤ 224 <;> by_cases h3 : 1 ≤ v <;> by_cases h4 : v ≤ 224 <;>
    simp only [h1, h2, h3, h4, decide_true, decide_false, and_true, and_false, true_and, false_and, if_true, if_false] <;> rfl

end Cert.Proof.C

end
-- ==== Proof.D.Kernel.lean ====
/-
  One grid point of the second layer's kernel: the rows it computes and its two running sums.
-/
module

public import proofs.«01_k».proof.Proof.C.Norm
public import proofs.«01_k».proof.Proof.C.Sums
public import proofs.«01_k».proof.Proof.Gen.SecondIdeal.Value
public import Idealize.ShloMosaic.Lib.Pipeline.ValueKit

@[expose] public section

set_option maxRecDepth 16384

noncomputable section

namespace Cert.Proof.D

open Cert.SecondIdeal Cert.SecondIdeal.Gen
open Idealize.ShloMosaic Cert.Proof.C

variable {v0 v2 : Vec Ideal S1x8x226x128 .f32} {sv qv gv bv : Vec Ideal S1x128 .f32}
  {w0 w1 w2 w3 w4 w5 w6 w7 w8 : Vec Ideal S1x1x128x64 .f32} {b : Vec Ideal S1x64 .f32}

/-- The normalised rows a point reads, before and -/
abbrev normRows (v0 v2 : Vec Ideal S1x8x226x128 .f32) (sv qv gv bv : Vec Ideal S1x128 .f32) : FVec Ideal S10x226x128 .f32 := k0_pay6 v0 v2 sv qv gv bv

/-- after the border is set to zero. -/
abbrev maskedRows (y : FVec Ideal S10x226x128 .f32) (k : ℕ) : FVec Ideal S10x226x128 .f32 :=
  k0_pay7 y (Scalar.muli (BitVec.ofNat 32 k) 8#32) (iota .tc S10x226x128 32 [0] iota_S10x226x128_d0_w32)

/-- The rows a point computes, from the normalised rows and its place in the image. -/
abbrev rowsOf (y : FVec Ideal S10x226x128 .f32) (k : ℕ) (w0 w1 w2 w3 w4 w5 w6 w7 w8 : Vec Ideal S1x1x128x64 .f32) (b : Vec Ideal S1x64 .f32) :
    FVec Ideal S8x224x64 .f32 :=
  k0_pay11 (maskedRows y k) (k0_pay8 y (Scalar.muli (BitVec.ofNat 32 k) 8#32) (iota .tc S10x226x128 32 [0] iota_S10x226x128_d0_w32) w0 w1 w2)
    (k0_pay9 y (Scalar.muli (BitVec.ofNat 32 k) 8#32) (iota .tc S10x226x128 32 [0] iota_S10x226x128_d0_w32)) (k0_pay10 w3) w4 w5 w6 w7 w8 b

theorem rowsOf_apply {y : FVec Ideal S10x226x128 .f32} {k : ℕ} {X : ℕ → ℕ → Fin 128 → EReal} {W : Fin 3 → Fin 3 → Fin 128 → EReal} {h : ℕ} (r : Fin 8) (v : Fin 224) (o : Fin 64)
    (hX : ∀ (a : Fin 10) (u : Fin 226) (i : Fin 128), maskedRows y k (ix3 a u i) = X (h + a.val) u i)
    (h0 : ∀ i, w0 (ix4 0 0 i o) = W 0 0 i) (h1 : ∀ i, w1 (ix4 0 0 i o) = W 0 1 i) (h2 : ∀ i, w2 (ix4 0 0 i o) = W 0 2 i)
    (h3 : ∀ i, w3 (ix4 0 0 i o) = W 1 0 i) (h4 : ∀ i, w4 (ix4 0 0 i o) = W 1 1 i) (h5 : ∀ i, w5 (ix4 0 0 i o) = W 1 2 i)
    (h6 : ∀ i, w6 (ix4 0 0 i o) = W 2 0 i) (h7 : ∀ i, w7 (ix4 0 0 i o) = W 2 1 i) (h8 : ∀ i, w8 (ix4 0 0 i o) = W 2 2 i) :
    rowsOf y k w0 w1 w2 w3 w4 w5 w6 w7 w8 b (ix3 r v o) = conv X W (b (ix2 0 o)) (h + r.val) v := by
  unfold rowsOf k0_pay8 k0_pay9 k0_pay10
  unfold maskedRows at hX ⊢
  have hX' : ∀ (a : Fin 10) (u : Fin 226) (i : Fin 128) (k' l : ℕ), k' = h + a.val → l = u.val → k0_pay7 y (Scalar.muli (BitVec.ofNat 32 k) 8#32) (iota .tc S10x226x128 32 [0] iota_S10x226x128_d0_w32) (ix3 a u i) = X k' l i := by
    intro a u i k l hk hl
    rw [hX, hk, hl]
  generalize k0_pay7 y (Scalar.muli (BitVec.ofNat 32 k) 8#32) (iota .tc S10x226x128 32 [0] iota_S10x226x128_d0_w32) = z at hX' ⊢
  pointwise [k0_pay11]
  refine conv_of ?_ ?_ ?_ ?_ ?_ ?_ ?_ ?_ ?_ rfl
  · exact tap_of (fun i => hX' _ _ i _ _ (by first | rfl | exact (Nat.add_assoc _ _ _).trans (congrArg (h + ·) (Nat.add_comm _ _)))
      (by first | rfl | exact Nat.add_comm _ _)) h0 rfl rfl
  · exact tap_of (fun i => hX' _ _ i _ _ (by first | rfl | exact (Nat.add_assoc _ _ _).trans (congrArg (h + ·) (Nat.add_comm _ _)))
      (by first | rfl | exact Nat.add_comm _ _)) h1 rfl rfl
  · exact tap_of (fun i => hX' _ _ i _ _ (by first | rfl | exact (Nat.add_assoc _ _ _).trans (congrArg (h + ·) (Nat.add_comm _ _)))
      (by first | rfl | exact Nat.add_comm _ _)) h2 rfl rfl
  · exact tap_of (fun i => hX' _ _ i _ _ (by first | rfl | exact (Nat.add_assoc _ _ _).trans (congrArg (h + ·) (Nat.add_comm _ _)))
      (by first | rfl | exact Nat.add_comm _ _)) h3 rfl rfl
  · exact tap_of (fun i => hX' _ _ i _ _ (by first | rfl | exact (Nat.add_assoc _ _ _).trans (congrArg (h + ·) (Nat.add_comm _ _)))
      (by first | rfl | exact Nat.add_comm _ _)) h4 rfl rfl
  · exact tap_of (fun i => hX' _ _ i _ _ (by first | rfl | exact (Nat.add_assoc _ _ _).trans (congrArg (h + ·) (Nat.add_comm _ _)))
      (by first | rfl | exact Nat.add_comm _ _)) h5 rfl rfl
  · exact tap_of (fun i => hX' _ _ i _ _ (by first | rfl | exact (Nat.add_assoc _ _ _).trans (congrArg (h + ·) (Nat.add_comm _ _)))
      (by first | rfl | exact Nat.add_comm _ _)) h6 rfl rfl
  · exact tap_of (fun i => hX' _ _ i _ _ (by first | rfl | exact (Nat.add_assoc _ _ _).trans (congrArg (h + ·) (Nat.add_comm _ _)))
      (by first | rfl | exact Nat.add_comm _ _)) h7 rfl rfl
  · exact tap_of (fun i => hX' _ _ i _ _ (by first | rfl | exact (Nat.add_assoc _ _ _).trans (congrArg (h + ·) (Nat.add_comm _ _)))
      (by first | rfl | exact Nat.add_comm _ _)) h8 rfl rfl

theorem normRows_apply (a : Fin 10) (u : Fin 226) (i : Fin 128) :
    normRows v0 v2 sv qv gv bv (ix3 a u i)
      = normOf (if h : a.val < 8 then v0 (ix4 0 ⟨a.val, h⟩ u i) else v2 (ix4 0 ⟨a.val - 8, by omega⟩ u i)) (sv (ix2 0 i)) (qv (ix2 0 i)) (gv (ix2 0 i)) (bv (ix2 0 i)) := by
  pointwise [k0_pay6]
  rfl

theorem place : ∀ (k : Fin 28) (a : Fin 10), IntOp.addi (IntOp.muli (BitVec.ofNat 32 k.val) 8#32) (BitVec.ofNat 32 a.val) = BitVec.ofNat 32 (8 * k.val + a.val) := by decide +kernel

theorem maskedRows_apply (y : FVec Ideal S10x226x128 .f32) (k : Fin 28) (a : Fin 10) (u : Fin 226) (i : Fin 128) :
    maskedRows y k.val (ix3 a u i) = if (1 ≤ 8 * k.val + a.val ∧ 8 * k.val + a.val ≤ 224) ∧ 1 ≤ u.val ∧ u.val ≤ 224 then y (ix3 a u i) else 0 := by
  pointwise [k0_pay7]
  refine Eq.trans ?_ (inside (h := 8 * k.val + a.val) (v := u.val) (by omega) (by omega) (y (ix3 a u i)) 0)
  rw [← place k a]
  rfl

theorem pay4_apply {y : FVec Ideal S8x224x64 .f32} {p : Vec Ideal S1x64 .f32} (o : Fin 64) :
    k0_pay4 y p (ix2 0 o) = p (ix2 0 o) + ∑ r : Fin 8, ∑ v : Fin 224, y (ix3 r v o) := by
  pointwise [k0_pay4]
  exact congrArg (p (ix2 0 o) + ·) (sum_front _ y (ix1 o) Nat.one_pos o rfl)

theorem pay5_apply {y : FVec Ideal S8x224x64 .f32} {p : Vec Ideal S1x64 .f32} (o : Fin 64) :
    k0_pay5 y p (ix2 0 o) = p (ix2 0 o) + ∑ r : Fin 8, ∑ v : Fin 224, y (ix3 r v o) * y (ix3 r v o) := by
  pointwise [k0_pay5]
  exact congrArg (p (ix2 0 o) + ·) (sum_front _ (mulf y y) (ix1 o) Nat.one_pos o rfl)

variable (m : (ℓ : Loc nD τ sig) → Buf (Elt Ideal) ℓ)

theorem idx : ∀ t : Fin cfg0.N, win0_0.index t = ![t.val / 28, t.val % 28, 0, 0] ∧ win0_1.index t = ![t.val / 28, t.val % 28 + 1, 0, 0]
    ∧ win0_2.index t = ![0, 0, 0, 0] ∧ win0_3.index t = ![0, 0] ∧ win0_8.index t = ![t.val / 28, t.val % 28, 0, 0] ∧ win0_4.index t = ![0, 0] ∧ win0_5.index t = ![0, 0] ∧ win0_6.index t = ![0, 0] ∧ win0_7.index t = ![0, 0] := (by decide +kernel : ∀ t : Fin grid0.N, _)

theorem coord : ∀ t : Fin cfg0.N, (grid0.coords t 1).val = t.val % 28 := (by decide +kernel : ∀ t : Fin grid0.N, _)

/-- The images, their sums and sums of squares, the affine parameters, the weights and the bias. -/
abbrev argY (c : Dev nD) : FVec Ideal S2x224x224x128 .f32 := m ((c.tc : Thread nD τ).loc main_arg0)
abbrev argS (c : Dev nD) : FVec Ideal S8x128 .f32 := m ((c.tc : Thread nD τ).loc main_arg1)
abbrev argQ (c : Dev nD) : FVec Ideal S8x128 .f32 := m ((c.tc : Thread nD τ).loc main_arg2)
abbrev argG (c : Dev nD) : FVec Ideal S128 .f32 := m ((c.tc : Thread nD τ).loc main_arg3)
abbrev argBB (c : Dev nD) : FVec Ideal S128 .f32 := m ((c.tc : Thread nD τ).loc main_arg4)
abbrev argW (c : Dev nD) : FVec Ideal S64x128x3x3 .f32 := m ((c.tc : Thread nD τ).loc main_arg5)
abbrev argB (c : Dev nD) : FVec Ideal S64 .f32 := m ((c.tc : Thread nD τ).loc main_arg6)

/-- The normalised images. -/
def normArr (c : Dev nD) : FVec Ideal (⟨4, ![2, 128, 224, 224]⟩ : Shape) .f32 := normed (argY m c) (argS m c) (argQ m c) (argG m c) (argBB m c)

theorem w_entry (c : Dev nD) :
    V m c main_v1 = transpose S3x3x128x64 [2, 3, 1, 0] (argW m c) transposes_S64x128x3x3_S3x3x128x64_2_3_1_0 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem yp_entry (c : Dev nD) :
    V m c main_v0 = pad S2x232x226x128 ![0, 1, 1, 0] ![0, 7, 1, 0] ![0, 0, 0, 0] (argY m c)
      (sitofp .f32 (constantI S_ 32 0#32)) pads_S2x224x224x128_S2x232x226x128_000_170_110_000 h_S_ := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem s_entry (c : Dev nD) : V m c main_arg1 = argS m c := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem q_entry (c : Dev nD) : V m c main_arg2 = argQ m c := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem b_entry (c : Dev nD) : V m c main_v2 = shapeCast S1x64 (argB m c) shapeCasts_S64_S1x64 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem b_apply (c : Dev nD) (o : Fin 64) : V m c main_v2 (ix2 0 o) = argB m c (ix1 o) := by
  refine (congrFun (b_entry m c) _).trans ?_
  pointwise

theorem g_entry (c : Dev nD) : V m c main_v3 = shapeCast S1x128 (argG m c) shapeCasts_S128_S1x128 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem g_apply (c : Dev nD) (o : Fin 128) : V m c main_v3 (ix2 0 o) = argG m c (ix1 o) := by
  refine (congrFun (g_entry m c) _).trans ?_
  pointwise

theorem bb_entry (c : Dev nD) : V m c main_v4 = shapeCast S1x128 (argBB m c) shapeCasts_S128_S1x128 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem bb_apply (c : Dev nD) (o : Fin 128) : V m c main_v4 (ix2 0 o) = argBB m c (ix1 o) := by
  refine (congrFun (bb_entry m c) _).trans ?_
  pointwise

theorem yp_apply (c : Dev nD) (n : Fin 2) (h : Fin 232) (v : Fin 226) (i : Fin 128) (hv : (1 ≤ h.val ∧ h.val ≤ 224) ∧ 1 ≤ v.val ∧ v.val ≤ 224) :
    V m c main_v0 (ix4 n h v i) = argY m c (ix4 n ⟨h.val - 1, by omega⟩ ⟨v.val - 1, by omega⟩ i) := by
  refine (congrFun (yp_entry m c) _).trans ?_
  pointwise
  rw [dif_pos (by omega)]

theorem w_apply (c : Dev nD) (p q : Fin 3) (i : Fin 128) (o : Fin 64) :
    V m c main_v1 (ix4 p q i o) = kernelOf (argW m c) o p q i := by
  refine (congrFun (w_entry m c) _).trans ?_
  pointwise
  rfl

theorem row_block (c : Dev nD) (t : Fin cfg0.N) (r : Fin 8) (v : Fin 226) (i : Fin 128) (h : Fin 232) (hh : h.val = 8 * (t.val % 28) + r.val) (n : Fin 2) (hn : n.val = t.val / 28):
    iblk m c 0 t (ix4 0 r v i) = V m c main_v0 (ix4 n h v i) := by
  blk_simp [iblk]
  blk_ext [idx t]

theorem next_block (c : Dev nD) (t : Fin cfg0.N) (r : Fin 8) (v : Fin 226) (i : Fin 128) (h : Fin 232) (hh : h.val = 8 * (t.val % 28) + r.val + 8) (n : Fin 2) (hn : n.val = t.val / 28):
    iblk m c 1 t (ix4 0 r v i) = V m c main_v0 (ix4 n h v i) := by
  blk_simp [iblk]
  blk_ext [idx t]

theorem w_block (c : Dev nD) (t : Fin cfg0.N) (p q : Fin 3) (i : Fin 128) (o : Fin 64) :
    iblk m c 2 t (ix4 p q i o) = V m c main_v1 (ix4 p q i o) := by
  blk_simp [iblk]
  blk_ext [idx t]

theorem b_block (c : Dev nD) (t : Fin cfg0.N) (o : Fin 64) :
    iblk m c 3 t (ix2 0 o) = V m c main_v2 (ix2 0 o) := by
  blk_simp [iblk]
  blk_ext [idx t]

theorem s_block (c : Dev nD) (t : Fin cfg0.N) (i : Fin 128) :
    View.ld (iblk m c 4 t) (Rect.unit ![0, 0] ![1, 128] inb_S8x128_S1x128_0_0) (ix2 0 i) = argS m c (ix2 0 i) := by
  have e : iblk m c 4 t (ix2 0 i) = V m c main_arg1 (ix2 0 i) := by
    blk_simp [iblk]
    blk_ext [idx t]
  exact ((ld_row _ _ i).trans e).trans (congrFun (s_entry m c) _)

theorem q_block (c : Dev nD) (t : Fin cfg0.N) (i : Fin 128) :
    View.ld (iblk m c 5 t) (Rect.unit ![0, 0] ![1, 128] inb_S8x128_S1x128_0_0) (ix2 0 i) = argQ m c (ix2 0 i) := by
  have e : iblk m c 5 t (ix2 0 i) = V m c main_arg2 (ix2 0 i) := by
    blk_simp [iblk]
    blk_ext [idx t]
  exact ((ld_row _ _ i).trans e).trans (congrFun (q_entry m c) _)

theorem g_block (c : Dev nD) (t : Fin cfg0.N) (i : Fin 128) : iblk m c 6 t (ix2 0 i) = argG m c (ix1 i) := by
  refine Eq.trans ?_ (g_apply m c i)
  blk_simp [iblk]
  blk_ext [idx t]

theorem bb_block (c : Dev nD) (t : Fin cfg0.N) (i : Fin 128) : iblk m c 7 t (ix2 0 i) = argBB m c (ix1 i) := by
  refine Eq.trans ?_ (bb_apply m c i)
  blk_simp [iblk]
  blk_ext [idx t]

/-- What the layer computes at image `n`, row `h`, column `v` and output channel `o`. -/
def layerAt (c : Dev nD) (n h v : ℕ) (o : Fin 64) : EReal :=
  conv (padded (normArr m c) ⟨n % 2, Nat.mod_lt _ (by omega)⟩) (kernelOf (argW m c) o) (argB m c (ix1 o)) h v

/-- The normalised rows point `t` reads. -/
def normAt (c : Dev nD) (t : Fin cfg0.N) : FVec Ideal S10x226x128 .f32 :=
  normRows (iblk m c 0 t) (iblk m c 1 t)
    (View.ld (iblk m c 4 t) (Rect.unit ![0, 0] ![1, 128] inb_S8x128_S1x128_0_0))
    (View.ld (iblk m c 5 t) (Rect.unit ![0, 0] ![1, 128] inb_S8x128_S1x128_0_0)) (iblk m c 6 t) (iblk m c 7 t)

/-- With the border at zero they are rows of the normalised images with their border. -/
theorem masked_apply (c : Dev nD) (t : Fin cfg0.N) (a : Fin 10) (u : Fin 226) (i : Fin 128) :
    maskedRows (normAt m c t) (grid0.coords t 1).val (ix3 a u i)
      = padded (normArr m c) ⟨t.val / 28 % 2, Nat.mod_lt _ (by omega)⟩ (8 * (t.val % 28) + a.val) u i := by
  have ht : t.val < 56 := lt_of_lt_of_eq t.isLt N_0
  rw [coord]
  refine (maskedRows_apply (normAt m c t) ⟨t.val % 28, Nat.mod_lt _ (by omega)⟩ a u i).trans ?_
  unfold padded
  by_cases hv : (1 ≤ 8 * (t.val % 28) + a.val ∧ 8 * (t.val % 28) + a.val ≤ 224) ∧ 1 ≤ u.val ∧ u.val ≤ 224
  · rw [if_pos hv, dif_pos hv]
    refine (normRows_apply a u i).trans ?_
    rw [s_block, q_block, g_block, bb_block]
    refine congrArg (fun x => normOf x (argS m c (ix2 0 i)) (argQ m c (ix2 0 i)) (argG m c (ix1 i)) (argBB m c (ix1 i))) ?_
    have e := yp_apply m c ⟨t.val / 28 % 2, Nat.mod_lt _ (by omega)⟩ ⟨8 * (t.val % 28) + a.val, by omega⟩ u i hv
    refine Eq.trans ?_ e
    by_cases h : a.val < 8
    · rw [dif_pos h]
      exact row_block m c t ⟨a.val, h⟩ u i ⟨8 * (t.val % 28) + a.val, by omega⟩ rfl ⟨t.val / 28 % 2, Nat.mod_lt _ (by omega)⟩
        (by show t.val / 28 % 2 = t.val / 28; omega)
    · rw [dif_neg h]
      exact next_block m c t ⟨a.val - 8, by omega⟩ u i ⟨8 * (t.val % 28) + a.val, by omega⟩ (by show 8 * (t.val % 28) + a.val = 8 * (t.val % 28) + (a.val - 8) + 8; omega)
        ⟨t.val / 28 % 2, Nat.mod_lt _ (by omega)⟩ (by show t.val / 28 % 2 = t.val / 28; omega)
  · rw [if_neg hv, dif_neg hv]

/-- The rows point `t` computes. -/
def rowsAt (c : Dev nD) (t : Fin cfg0.N) : FVec Ideal S8x224x64 .f32 :=
  rowsOf (normAt m c t) (grid0.coords t 1).val
    (View.ld (iblk m c 2 t) (Rect.unit ![0, 0, 0, 0] ![1, 1, 128, 64] inb_S3x3x128x64_S1x1x128x64_0_0_0_0))
    (View.ld (iblk m c 2 t) (Rect.unit ![0, 1, 0, 0] ![1, 1, 128, 64] inb_S3x3x128x64_S1x1x128x64_0_1_0_0))
    (View.ld (iblk m c 2 t) (Rect.unit ![0, 2, 0, 0] ![1, 1, 128, 64] inb_S3x3x128x64_S1x1x128x64_0_2_0_0))
    (View.ld (iblk m c 2 t) (Rect.unit ![1, 0, 0, 0] ![1, 1, 128, 64] inb_S3x3x128x64_S1x1x128x64_1_0_0_0))
    (View.ld (iblk m c 2 t) (Rect.unit ![1, 1, 0, 0] ![1, 1, 128, 64] inb_S3x3x128x64_S1x1x128x64_1_1_0_0))
    (View.ld (iblk m c 2 t) (Rect.unit ![1, 2, 0, 0] ![1, 1, 128, 64] inb_S3x3x128x64_S1x1x128x64_1_2_0_0))
    (View.ld (iblk m c 2 t) (Rect.unit ![2, 0, 0, 0] ![1, 1, 128, 64] inb_S3x3x128x64_S1x1x128x64_2_0_0_0))
    (View.ld (iblk m c 2 t) (Rect.unit ![2, 1, 0, 0] ![1, 1, 128, 64] inb_S3x3x128x64_S1x1x128x64_2_1_0_0))
    (View.ld (iblk m c 2 t) (Rect.unit ![2, 2, 0, 0] ![1, 1, 128, 64] inb_S3x3x128x64_S1x1x128x64_2_2_0_0))
    (iblk m c 3 t)

theorem ld_apply (c : Dev nD) (t : Fin cfg0.N) (p q : Fin 3) (inb : ∀ a, (![p.val, q.val, 0, 0] : Fin 4 → ℕ) a + (![1, 1, 128, 64] : Fin 4 → ℕ) a ≤ S3x3x128x64.size a)
    (i : Fin 128) (o : Fin 64) :
    View.ld (iblk m c 2 t) (Rect.unit (s := S3x3x128x64) ![p.val, q.val, 0, 0] ![1, 1, 128, 64] inb) (ix4 0 0 i o) = kernelOf (argW m c) o p q i := by
  refine Eq.trans ?_ ((w_block m c t p q i o).trans (w_apply m c p q i o))
  refine congrArg (iblk m c 2 t) ?_
  funext z; apply Fin.ext
  match z with
  | ⟨0, _⟩ => exact Nat.add_zero _
  | ⟨1, _⟩ => exact Nat.add_zero _
  | ⟨2, _⟩ => show 0 + 1 * i.val = i.val; omega
  | ⟨3, _⟩ => show 0 + 1 * o.val = o.val; omega

theorem rowsAt_apply (c : Dev nD) (t : Fin cfg0.N) (r : Fin 8) (v : Fin 224) (o : Fin 64) :
    rowsAt m c t (ix3 r v o) = layerAt m c (t.val / 28) (8 * (t.val % 28) + r.val) v o := by
  have ht : t.val < 56 := lt_of_lt_of_eq t.isLt N_0
  unfold rowsAt layerAt
  refine (rowsOf_apply (X := padded (normArr m c) ⟨t.val / 28 % 2, Nat.mod_lt _ (by omega)⟩) (W := kernelOf (argW m c) o) (h := 8 * (t.val % 28)) r v o ?_
    (ld_apply m c t 0 0 _ · o) (ld_apply m c t 0 1 _ · o) (ld_apply m c t 0 2 _ · o) (ld_apply m c t 1 0 _ · o) (ld_apply m c t 1 1 _ · o)
    (ld_apply m c t 1 2 _ · o) (ld_apply m c t 2 0 _ · o) (ld_apply m c t 2 1 _ · o) (ld_apply m c t 2 2 _ · o)).trans ?_
  · exact fun a u i => masked_apply m c t a u i
  · rw [b_block, b_apply]

/-! ### What a point leaves -/

theorem pay1_apply (y : FVec Ideal S8x224x64 .f32) (r : Fin 8) (v : Fin 224) (o : Fin 64) :
    k0_pay1 y (ix4 0 r v o) = y (ix3 r v o) := by
  pointwise [k0_pay1]

theorem zero2 (j : S8x64.Idx) : k0_pay2 (F := Ideal) j = (0 : EReal) := by pointwise [k0_pay2]
theorem zero3 (j : S8x64.Idx) : k0_pay3 (F := Ideal) j = (0 : EReal) := by pointwise [k0_pay3]

theorem out_point (c : Dev nD) (t : Fin cfg0.N) : (outsAt0 m c t.val t.isLt).1 = k0_pay1 (rowsAt m c t) := by
  by_cases h0 : t.val % 56 = 0
  · rw [outsAt0_A m c t h0]
    frame_out
    rfl
  · rw [outsAt0_B m c t h0]
    frame_out
    rfl

/-- The first row of the running sums at point `t`'s channel `o` gains this. -/
def sumAt (c : Dev nD) (t : ℕ) (o : Fin 64) : EReal :=
  ∑ r : Fin 8, ∑ v : Fin 224, layerAt m c (t / 28) (8 * (t % 28) + r.val) v o

theorem sumAt_eq (c : Dev nD) (t : Fin cfg0.N) (p : Vec Ideal S1x64 .f32) (o : Fin 64) :
    k0_pay4 (rowsAt m c t) p (ix2 0 o) = p (ix2 0 o) + sumAt m c t.val o := by
  refine (pay4_apply o).trans (congrArg (p (ix2 0 o) + ·) ?_)
  refine Finset.sum_congr rfl fun r _ => Finset.sum_congr rfl fun v _ => ?_
  rw [rowsAt_apply]

theorem sumAt_A (c : Dev nD) (t : Fin cfg0.N) (h0 : t.val % 56 = 0) (r : Fin 8) (o : Fin 64) :
    (outsAt0 m c t.val t.isLt).2.1 (ix2 r o) = if r = 0 then sumAt m c t.val o else 0 := by
  rw [outsAt0_A m c t h0]
  frame_out
  by_cases hr : r = 0
  · subst hr
    rw [if_pos rfl]
    refine (canon_row _ _ _ o).trans ?_
    refine (sumAt_eq m c t _ o).trans ?_
    refine (congrArg (· + sumAt m c t.val o) ((cov_row _ _ _ _ o).trans (zero2 _))).trans (zero_add _)
  · rw [if_neg hr]
    refine (canon_off _ _ _ r hr o).trans ?_
    exact (congrFun (canon_all _ _) _).trans (zero2 _)

theorem sumAt_B (c : Dev nD) (t : Fin cfg0.N) (h0 : ¬ t.val % 56 = 0) (r : Fin 8) (o : Fin 64) :
    (outsAt0 m c t.val t.isLt).2.1 (ix2 r o)
      = (outsAt0 m c (t.val - 1) (Nat.lt_of_le_of_lt (Nat.sub_le _ _) t.isLt)).2.1 (ix2 r o) + if r = 0 then sumAt m c t.val o else 0 := by
  rw [outsAt0_B m c t h0]
  frame_out
  by_cases hr : r = 0
  · subst hr
    rw [if_pos rfl]
    refine (read_row _ _ _ _ o).trans ?_
    refine (sumAt_eq m c t _ o).trans ?_
    exact congrArg (· + sumAt m c t.val o) (ld_row _ _ o)
  · rw [if_neg hr, add_zero]
    refine (read_off _ _ _ _ r hr o).trans ?_
    exact congrFun (Memref.IsWhole.read_unread _ _) _

/-- After the last point the first row holds the sums over all images, rows and columns. -/
theorem sumAt_last (c : Dev nD) (h : 55 < cfg0.N) (r : Fin 8) (o : Fin 64) :
    (outsAt0 m c 55 h).2.1 (ix2 r o)
      = if r = 0 then ∑ n : Fin 2, ∑ k : Fin 224, ∑ v : Fin 224, layerAt m c n k v o else 0 := by
  have hN : cfg0.N = 56 := N_0
  refine (running (fun n hn => (outsAt0 m c n hn).2.1 (ix2 r o)) (fun t => if r = 0 then sumAt m c t o else 0)
    (fun h => sumAt_A m c ⟨0, h⟩ (Nat.zero_mod _) r o)
    (fun n h => sumAt_B m c ⟨n + 1, h⟩ (by show ¬ (n + 1) % 56 = 0; omega) r o) 55 h).trans ?_
  by_cases hr : r = 0
  · simp only [if_pos hr]
    exact all_rows fun n h => ∑ v : Fin 224, layerAt m c n h v o
  · simp only [if_neg hr, Finset.sum_const_zero]

/-- The first row of the running sums of squares at point `t`'s channel `o` gains this. -/
def sqAt (c : Dev nD) (t : ℕ) (o : Fin 64) : EReal :=
  ∑ r : Fin 8, ∑ v : Fin 224, layerAt m c (t / 28) (8 * (t % 28) + r.val) v o * layerAt m c (t / 28) (8 * (t % 28) + r.val) v o

theorem sqAt_eq (c : Dev nD) (t : Fin cfg0.N) (p : Vec Ideal S1x64 .f32) (o : Fin 64) :
    k0_pay5 (rowsAt m c t) p (ix2 0 o) = p (ix2 0 o) + sqAt m c t.val o := by
  refine (pay5_apply o).trans (congrArg (p (ix2 0 o) + ·) ?_)
  refine Finset.sum_congr rfl fun r _ => Finset.sum_congr rfl fun v _ => ?_
  rw [rowsAt_apply]

theorem sqAt_A (c : Dev nD) (t : Fin cfg0.N) (h0 : t.val % 56 = 0) (r : Fin 8) (o : Fin 64) :
    (outsAt0 m c t.val t.isLt).2.2 (ix2 r o) = if r = 0 then sqAt m c t.val o else 0 := by
  rw [outsAt0_A m c t h0]
  frame_out
  by_cases hr : r = 0
  · subst hr
    rw [if_pos rfl]
    refine (canon_row _ _ _ o).trans ?_
    refine (sqAt_eq m c t _ o).trans ?_
    refine (congrArg (· + sqAt m c t.val o) ((cov_row _ _ _ _ o).trans (zero3 _))).trans (zero_add _)
  · rw [if_neg hr]
    refine (canon_off _ _ _ r hr o).trans ?_
    exact (congrFun (canon_all _ _) _).trans (zero3 _)

theorem sqAt_B (c : Dev nD) (t : Fin cfg0.N) (h0 : ¬ t.val % 56 = 0) (r : Fin 8) (o : Fin 64) :
    (outsAt0 m c t.val t.isLt).2.2 (ix2 r o)
      = (outsAt0 m c (t.val - 1) (Nat.lt_of_le_of_lt (Nat.sub_le _ _) t.isLt)).2.2 (ix2 r o) + if r = 0 then sqAt m c t.val o else 0 := by
  rw [outsAt0_B m c t h0]
  frame_out
  by_cases hr : r = 0
  · subst hr
    rw [if_pos rfl]
    refine (read_row _ _ _ _ o).trans ?_
    refine (sqAt_eq m c t _ o).trans ?_
    exact congrArg (· + sqAt m c t.val o) (ld_row _ _ o)
  · rw [if_neg hr, add_zero]
    refine (read_off _ _ _ _ r hr o).trans ?_
    exact congrFun (Memref.IsWhole.read_unread _ _) _

/-- After the last point the first row holds the sums of squares over all images, rows and columns. -/
theorem sqAt_last (c : Dev nD) (h : 55 < cfg0.N) (r : Fin 8) (o : Fin 64) :
    (outsAt0 m c 55 h).2.2 (ix2 r o)
      = if r = 0 then ∑ n : Fin 2, ∑ k : Fin 224, ∑ v : Fin 224, layerAt m c n k v o * layerAt m c n k v o else 0 := by
  have hN : cfg0.N = 56 := N_0
  refine (running (fun n hn => (outsAt0 m c n hn).2.2 (ix2 r o)) (fun t => if r = 0 then sqAt m c t o else 0)
    (fun h => sqAt_A m c ⟨0, h⟩ (Nat.zero_mod _) r o)
    (fun n h => sqAt_B m c ⟨n + 1, h⟩ (by show ¬ (n + 1) % 56 = 0; omega) r o) 55 h).trans ?_
  by_cases hr : r = 0
  · simp only [if_pos hr]
    exact all_rows fun n h => ∑ v : Fin 224, layerAt m c n h v o * layerAt m c n h v o
  · simp only [if_neg hr, Finset.sum_const_zero]

end Cert.Proof.D

end
-- ==== Proof.D.Reference.lean ====
/-
  The reference's convolution of the normalised images over the extended reals, read at an index.
-/
module

public import proofs.«01_k».proof.Proof.C.Norm
public import proofs.«01_k».proof.Proof.C.Sums
public import proofs.«01_k».proof.Proof.Gen.SecondConvIdeal.Run
public import Idealize.ShloMosaic.Lib.Pipeline.ValueKit

@[expose] public section

set_option maxRecDepth 16384

noncomputable section

namespace Cert.Proof.D

open Cert.SecondConvIdeal Cert.SecondConvIdeal.Gen
open Idealize.ShloMosaic Cert.Proof.C

/-- The channels' means, -/
def refMean (x : FVec Ideal S2x128x224x224 .f32) : FVec Ideal S1x128x1x1 .f32 :=
  Host.divf (broadcastInDim S1x128x1x1 ![1] bcast_S128_S1x128x1x1_1 (Host.reduceAdd x (constant S_ .f32 0x00000000#32) reducesTo_S2x128x224x224_S128_d0_2_3 h_S_)) (broadcastInDim S1x128x1x1 ![] bcast_S_S1x128x1x1 (constant S_ .f32 0x47C40000#32))

/-- their variances, -/
def refVar (x : FVec Ideal S2x128x224x224 .f32) : FVec Ideal S1x128x1x1 .f32 :=
  Host.divf (broadcastInDim S1x128x1x1 ![1] bcast_S128_S1x128x1x1_1 (Host.reduceAdd (mulf (subf x (broadcastInDim S2x128x224x224 ![0, 1, 2, 3] bcast_S1x128x1x1_S2x128x224x224_0_1_2_3 (refMean x))) (subf x (broadcastInDim S2x128x224x224 ![0, 1, 2, 3] bcast_S1x128x1x1_S2x128x224x224_0_1_2_3 (refMean x)))) (constant S_ .f32 0x00000000#32) reducesTo_S2x128x224x224_S128_d0_2_3 h_S_)) (broadcastInDim S1x128x1x1 ![] bcast_S_S1x128x1x1 (constant S_ .f32 0x47C40000#32))

/-- the normalised images, -/
def refNorm (x : FVec Ideal S2x128x224x224 .f32) (g bb : FVec Ideal S128 .f32) : FVec Ideal S2x128x224x224 .f32 :=
  maximumf (addf (mulf (Host.divf (subf x (broadcastInDim S2x128x224x224 ![0, 1, 2, 3] bcast_S1x128x1x1_S2x128x224x224_0_1_2_3 (refMean x))) (broadcastInDim S2x128x224x224 ![0, 1, 2, 3] bcast_S1x128x1x1_S2x128x224x224_0_1_2_3 (Host.sqrt (addf (refVar x) (broadcastInDim S1x128x1x1 ![] bcast_S_S1x128x1x1 (constant S_ .f32 0x3727C5AC#32)))))) (broadcastInDim S2x128x224x224 ![0, 1, 2, 3] bcast_S1x128x1x1_S2x128x224x224_0_1_2_3 (broadcastInDim S1x128x1x1 ![1] bcast_S128_S1x128x1x1_1 g))) (broadcastInDim S2x128x224x224 ![0, 1, 2, 3] bcast_S1x128x1x1_S2x128x224x224_0_1_2_3 (broadcastInDim S1x128x1x1 ![1] bcast_S128_S1x128x1x1_1 bb))) (broadcastInDim S2x128x224x224 ![] bcast_S_S2x128x224x224 (constant S_ .f32 0x00000000#32))

/-- with a border of zeros, -/
def refPad (h : FVec Ideal S2x128x224x224 .f32) : FVec Ideal S2x128x226x226 .f32 :=
  pad S2x128x226x226 ![0, 0, 1, 1] ![0, 0, 1, 1] ![0, 0, 0, 0] h (sitofp .f32 (constantI S_ 32 0#32)) pads_S2x128x224x224_S2x128x226x226_000_000_110_110 h_S_

/-- and their convolution. -/
def refConv (h : FVec Ideal S2x128x224x224 .f32) (w : FVec Ideal S64x128x3x3 .f32) (b : FVec Ideal S64 .f32) : FVec Ideal S2x64x224x224 .f32 :=
  addf (addf (addf (addf (addf (addf (addf (addf (addf (addf (broadcastInDim S2x64x224x224 ![] bcast_S_S2x64x224x224 (constant S_ .f32 0x00000000#32)) (transpose S2x64x224x224 [1, 0, 2, 3] (Host.dotGeneral dot_S64x128_S2x128x224x224_S64x2x224x224_1_1_0_023_n_n none (shapeCast _ (extractStridedSlice S64x128x1x1 ![0, 0, 0, 0] w slices_S64x128x3x3_S64x128x1x1_0_0_0_0) shapeCasts_S64x128x1x1_S64x128) (extractStridedSlice S2x128x224x224 ![0, 0, 0, 0] (refPad h) slices_S2x128x226x226_S2x128x224x224_0_0_0_0)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 0, 1] w slices_S64x128x3x3_S64x128x1x1_0_0_0_1) shapeCasts_S64x128x1x1_S64x128) (extractStridedSlice S2x128x224x224 ![0, 0, 0, 1] (refPad h) slices_S2x128x226x226_S2x128x224x224_0_0_0_1)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 0, 2] w slices_S64x128x3x3_S64x128x1x1_0_0_0_2) shapeCasts_S64x128x1x1_S64x128) (extractStridedSlice S2x128x224x224 ![0, 0, 0, 2] (refPad h) slices_S2x128x226x226_S2x128x224x224_0_0_0_2)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 1, 0] w slices_S64x128x3x3_S64x128x1x1_0_0_1_0) shapeCasts_S64x128x1x1_S64x128) (extractStridedSlice S2x128x224x224 ![0, 0, 1, 0] (refPad h) slices_S2x128x226x226_S2x128x224x224_0_0_1_0)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 1, 1] w slices_S64x128x3x3_S64x128x1x1_0_0_1_1) shapeCasts_S64x128x1x1_S64x128) (extractStridedSlice S2x128x224x224 ![0, 0, 1, 1] (refPad h) slices_S2x128x226x226_S2x128x224x224_0_0_1_1)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 1, 2] w slices_S64x128x3x3_S64x128x1x1_0_0_1_2) shapeCasts_S64x128x1x1_S64x128) (extractStridedSlice S2x128x224x224 ![0, 0, 1, 2] (refPad h) slices_S2x128x226x226_S2x128x224x224_0_0_1_2)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 2, 0] w slices_S64x128x3x3_S64x128x1x1_0_0_2_0) shapeCasts_S64x128x1x1_S64x128) (extractStridedSlice S2x128x224x224 ![0, 0, 2, 0] (refPad h) slices_S2x128x226x226_S2x128x224x224_0_0_2_0)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 2, 1] w slices_S64x128x3x3_S64x128x1x1_0_0_2_1) shapeCasts_S64x128x1x1_S64x128) (extractStridedSlice S2x128x224x224 ![0, 0, 2, 1] (refPad h) slices_S2x128x226x226_S2x128x224x224_0_0_2_1)) transposes_S64x2x224x224_S2x64x224x224_1_0_2_3)) (transpose S2x64x224x224 [1, 0, 2, 3] (Host.dotGeneral dot_S64x128_S2x128x224x224_S64x2x224x224_1_1_0_023_n_n none (shapeCast _ (extractStridedSlice S64x128x1x1 ![0, 0, 2, 2] w slices_S64x128x3x3_S64x128x1x1_0_0_2_2) shapeCasts_S64x128x1x1_S64x128) (extractStridedSlice S2x128x224x224 ![0, 0, 2, 2] (refPad h) slices_S2x128x226x226_S2x128x224x224_0_0_2_2)) transposes_S64x2x224x224_S2x64x224x224_1_0_2_3)) (broadcastInDim S2x64x224x224 ![0, 1, 2, 3] bcast_S1x64x1x1_S2x64x224x224_0_1_2_3 (broadcastInDim S1x64x1x1 ![1] bcast_S64_S1x64x1x1_1 b))

/-- The images with the channels second. -/
abbrev chan (y : FVec Ideal S2x224x224x128 .f32) : FVec Ideal S2x128x224x224 .f32 :=
  transpose S2x128x224x224 [0, 3, 1, 2] y transposes_S2x224x224x128_S2x128x224x224_0_3_1_2

theorem chan_apply (y : FVec Ideal S2x224x224x128 .f32) (n : Fin 2) (i : Fin 128) (h v : Fin 224) : chan y (ix4 n i h v) = y (ix4 n h v i) := by
  pointwise

theorem refMean_apply (x : FVec Ideal S2x128x224x224 .f32) (i : Fin 128) :
    refMean x (ix4 0 i 0 0) = meanOf (∑ n : Fin 2, ∑ h : Fin 224, ∑ v : Fin 224, x (ix4 n i h v)) := by
  pointwise [refMean]
  rw [sum_channel _ _ _ _ (by decide) i rfl, zero_add]
  rfl

theorem refVar_apply (x : FVec Ideal S2x128x224x224 .f32) (i : Fin 128) :
    refVar x (ix4 0 i 0 0) = meanOf (∑ n : Fin 2, ∑ h : Fin 224, ∑ v : Fin 224, (x (ix4 n i h v) - refMean x (ix4 0 i 0 0)) * (x (ix4 n i h v) - refMean x (ix4 0 i 0 0))) := by
  pointwise [refVar]
  rw [sum_channel _ _ _ _ (by decide) i rfl, zero_add]
  refine congrArg meanOf ?_
  refine Finset.sum_congr rfl fun n _ => Finset.sum_congr rfl fun h _ => Finset.sum_congr rfl fun v _ => ?_
  pointwise

theorem refNorm_apply (x : FVec Ideal S2x128x224x224 .f32) (g bb : FVec Ideal S128 .f32) (n : Fin 2) (i : Fin 128) (h v : Fin 224) :
    refNorm x g bb (ix4 n i h v) = refNormOf (x (ix4 n i h v)) (refMean x (ix4 0 i 0 0)) (refVar x (ix4 0 i 0 0)) (g (ix1 i)) (bb (ix1 i)) := by
  pointwise [refNorm]
  rfl

/-- The normalised images are the kernel's. -/
theorem refNorm_eq {y : FVec Ideal S2x224x224x128 .f32} {s q : FVec Ideal (⟨2, ![8, 128]⟩ : Shape) .f32} (g bb : FVec Ideal S128 .f32)
    (hy : ∀ n h v i, y (ix4 n h v i) = ((y (ix4 n h v i)).toReal : EReal))
    (hs : ∀ i, s (ix2 0 i) = ∑ n : Fin 2, ∑ h : Fin 224, ∑ v : Fin 224, y (ix4 n h v i))
    (hq : ∀ i, q (ix2 0 i) = ∑ n : Fin 2, ∑ h : Fin 224, ∑ v : Fin 224, y (ix4 n h v i) * y (ix4 n h v i)) :
    refNorm (chan y) g bb = normed y s q g bb := by
  funext j
  obtain ⟨n, i, h, v, rfl⟩ : ∃ (n : Fin 2) (i : Fin 128) (h v : Fin 224), j = ix4 n i h v := by
    refine ⟨j 0, j 1, j 2, j 3, ?_⟩
    funext a
    match a with
    | ⟨0, _⟩ => rfl
    | ⟨1, _⟩ => rfl
    | ⟨2, _⟩ => rfl
    | ⟨3, _⟩ => rfl
  have hM := refMean_apply (chan y) i
  have hV := refVar_apply (chan y) i
  simp only [chan_apply] at hM hV
  refine (refNorm_apply (chan y) g bb n i h v).trans ?_
  rw [chan_apply]
  exact normed_eq g bb hy i (hs i) (hq i) hM hV n h v

theorem refPad_apply (x : FVec Ideal S2x128x224x224 .f32) (n : Fin 2) (c : Fin 128) (h w : Fin 226) :
    refPad x (ix4 n c h w) = padded x n h w c := by
  have hz : (FloatOps.sitofp .f32 0#32 : Ideal .f32) = (0 : EReal) := by
    show (((0#32 : BitVec 32).toInt : ℝ) : EReal) = 0
    simp
  pointwise [refPad]
  unfold padded
  by_cases hv : (1 ≤ h.val ∧ h.val ≤ 224) ∧ 1 ≤ w.val ∧ w.val ≤ 224
  · rw [dif_pos hv, dif_pos (by omega)]
  · rw [dif_neg hv, dif_neg (by omega)]
    exact hz

theorem refConv_apply (x : FVec Ideal S2x128x224x224 .f32) (w : FVec Ideal S64x128x3x3 .f32) (b : FVec Ideal S64 .f32)
    (n : Fin 2) (o : Fin 64) (h v : Fin 224) :
    refConv x w b (ix4 n o h v) = conv (padded x n) (kernelOf w o) (b (ix1 o)) h v := by
  pointwise [refConv]
  refine conv_of ?_ ?_ ?_ ?_ ?_ ?_ ?_ ?_ ?_ rfl <;>
    exact tap_of' (fun i => refPad_apply x n i _ _) (fun i => rfl) (by first | rfl | exact Nat.add_comm _ _)
      (by first | rfl | exact Nat.add_comm _ _)

/-- Each channel's sum in the first row of eight. -/
def refSums (y : FVec Ideal S2x64x224x224 .f32) : FVec Ideal S8x64 .f32 :=
  select (broadcastInDim S8x64 ![0, 1] bcast_S8x1_S8x64_0_1 (cmpi .eq (broadcastInDim S8x1 ![0] bcast_S8_S8x1_0 (iotaInDim S8 32 0)) (broadcastInDim S8x1 ![] bcast_S_S8x1 (constantI S_ 32 0#32))))
    (broadcastInDim S8x64 ![0, 1] bcast_S1x64_S8x64_0_1 (broadcastInDim S1x64 ![1] bcast_S64_S1x64_1
      (Host.reduceAdd y (constant S_ .f32 0x00000000#32) reducesTo_S2x64x224x224_S64_d0_2_3 h_S_)))
    (broadcastInDim S8x64 ![] bcast_S_S8x64 (constant S_ .f32 0x00000000#32))

theorem refSums_apply (y : FVec Ideal S2x64x224x224 .f32) (r : Fin 8) (o : Fin 64) :
    refSums y (ix2 r o) = if r = 0 then ∑ n : Fin 2, ∑ h : Fin 224, ∑ v : Fin 224, y (ix4 n o h v) else 0 := by
  pointwise [refSums]
  rw [sum_channel _ _ _ _ (by decide) o rfl, zero_add]
  by_cases h : r = 0
  · subst h
    rw [if_pos rfl]
    rfl
  · rw [if_neg h]
    have e : IntOp.cmpi CmpIPredicate.eq (BitVec.ofNat 32 r.val) 0#32 = 0#1 := by revert h; revert r; decide
    rw [e]
    rfl

section Results

variable (m : (ℓ : Loc nD τ sig) → Buf (Elt Ideal) ℓ) (c : Dev nD)

/-- The convolution of the arguments. -/
abbrev resConv : FVec Ideal S2x64x224x224 .f32 :=
  refConv (refNorm (chan (m ((c.tc : Thread nD τ).loc main_arg0))) (m ((c.tc : Thread nD τ).loc main_arg3)) (m ((c.tc : Thread nD τ).loc main_arg4)))
    (m ((c.tc : Thread nD τ).loc main_arg5)) (m ((c.tc : Thread nD τ).loc main_arg6))

theorem res_out0_eq (n : Fin 2) (h v : Fin 224) (o : Fin 64) :
    Cert.SecondConvIdeal.Value.res_out0 m c (ix4 n h v o) = resConv m c (ix4 n o h v) := by
  have e : Cert.SecondConvIdeal.Value.res_out0 m c = transpose S2x224x224x64 [0, 2, 3, 1] (resConv m c) transposes_S2x64x224x224_S2x224x224x64_0_2_3_1 := rfl
  rw [e]
  pointwise

theorem res_out1_eq : Cert.SecondConvIdeal.Value.res_out1 m c = refSums (resConv m c) := rfl

theorem res_out2_eq : Cert.SecondConvIdeal.Value.res_out2 m c = refSums (mulf (resConv m c) (resConv m c)) := rfl

end Results

end Cert.Proof.D

end
-- ==== Proof.D.Given.lean ====
/-
  What the precondition says of the second layer's arguments over the extended reals.
-/
module

public import proofs.«01_k».proof.Pre_statistics
public import proofs.«01_k».proof.Proof.C.Sums
public import proofs.«01_k».proof.Proof.V.Pre
public import Idealize.ShloMosaic.Lib.Pipeline.ValueKit

@[expose] public section

set_option maxRecDepth 16384

noncomputable section

namespace Cert.Proof.D

open Idealize.ShloMosaic Cert.Proof.C
open Cert.Proof.V (of_flag lit_top real_of_abs_lt)

instance givenFacts : Cert.Pre_statistics.Facts where
  bcast_S_S2x224x224x128 := by decide
  slices_S8x128_S1x128_0_0 := by decide
  shapeCasts_S1x128_S128 := by decide
  reducesTo_S2x224x224x128_S128_d0_1_2 := by decide
  h_S_ := by decide

open Cert.Pre_statistics

variable {y : FVec Ideal S2x224x224x128 .f32} {s q : FVec Ideal S8x128 .f32} {g bb : FVec Ideal S128 .f32}
  {w : FVec Ideal S64x128x3x3 .f32} {b : FVec Ideal S64 .f32}

theorem given_real (p : (fn (F := Ideal) y s q g bb w b).1 = fun _ => 1#1) (n : Fin 2) (h v : Fin 224) (i : Fin 128) :
    y (ix4 n h v i) = ((y (ix4 n h v i)).toReal : EReal) := by
  have e : (fn (F := Ideal) y s q g bb w b).1 (ix4 n h v i) = BitVec.ofBool (decide (max (y (ix4 n h v i)) (-y (ix4 n h v i)) < Ideal.ofBits .f32 0x7F800000#32)) := by
    pointwise [fn]
    rfl
  rw [p, lit_top] at e
  exact (real_of_abs_lt (of_flag e.symm)).symm

theorem given_sum (p : (fn (F := Ideal) y s q g bb w b).2.1 = fun _ => 1#1) (i : Fin 128) :
    s (ix2 0 i) = ∑ n : Fin 2, ∑ h : Fin 224, ∑ v : Fin 224, y (ix4 n h v i) := by
  have e : (fn (F := Ideal) y s q g bb w b).2.1 (ix1 i) = BitVec.ofBool (decide (s (ix2 0 i) = Ideal.hostReduceAdd Cert.Pre_statistics.Facts.reducesTo_S2x224x224x128_S128_d0_1_2 y 0 (ix1 i))) := by
    pointwise [fn]
  rw [p] at e
  exact (of_flag e.symm).trans ((sum_last _ y 0 (ix1 i) (by decide) i rfl).trans (zero_add _))

theorem given_square (p : (fn (F := Ideal) y s q g bb w b).2.2 = fun _ => 1#1) (i : Fin 128) :
    q (ix2 0 i) = ∑ n : Fin 2, ∑ h : Fin 224, ∑ v : Fin 224, y (ix4 n h v i) * y (ix4 n h v i) := by
  have e : (fn (F := Ideal) y s q g bb w b).2.2 (ix1 i)
      = BitVec.ofBool (decide (q (ix2 0 i) = Ideal.hostReduceAdd Cert.Pre_statistics.Facts.reducesTo_S2x224x224x128_S128_d0_1_2 (mulf (F := Ideal) y y) 0 (ix1 i))) := by
    pointwise [fn]
  rw [p] at e
  exact (of_flag e.symm).trans ((sum_last _ (mulf (F := Ideal) y y) 0 (ix1 i) (by decide) i rfl).trans (zero_add _))

end Cert.Proof.D

end
-- ==== Proof.D.Value.lean ====
/-
  The second layer's kernel and the reference's convolution of the normalised images give the same arrays.
-/
module

public import proofs.«01_k».proof.Defs
public import proofs.«01_k».proof.Proof.D.Kernel
public import proofs.«01_k».proof.Proof.D.Reference
public import proofs.«01_k».proof.Proof.D.Given
public import Idealize.ShloMosaic.Lib.Quiescent

@[expose] public section

set_option maxRecDepth 16384

noncomputable section

namespace Cert.Proof.D

section Kernel

open Cert.SecondIdeal Cert.SecondIdeal.Gen
open Idealize.ShloMosaic Cert.Proof.C

variable (m : (ℓ : Loc nD τ sig) → Buf (Elt Ideal) ℓ)

/-- The convolution's array, its sums and its sums of squares. -/
def outArr (c : Dev nD) : FVec Ideal S2x224x224x64 .f32 := fun j => layerAt m c (j 0).val (j 1).val (j 2).val (j 3)

def sumArr (c : Dev nD) : FVec Ideal S8x64 .f32 := fun j =>
  if (show Fin 8 from j 0) = 0 then ∑ n : Fin 2, ∑ k : Fin 224, ∑ v : Fin 224, layerAt m c n k v (j 1) else 0

def sqArr (c : Dev nD) : FVec Ideal S8x64 .f32 := fun j =>
  if (show Fin 8 from j 0) = 0 then ∑ n : Fin 2, ∑ k : Fin 224, ∑ v : Fin 224, layerAt m c n k v (j 1) * layerAt m c n k v (j 1) else 0

theorem canon_row_col (j : S8x64.Idx) : ∃ (r : Fin 8) (o : Fin 64), j = ix2 r o := by
  refine ⟨j 0, j 1, ?_⟩
  funext a
  match a with
  | ⟨0, _⟩ => rfl
  | ⟨1, _⟩ => rfl

theorem idx_sums : ∀ t : Fin cfg0.N, win0_9.index t = ![0, 0] ∧ win0_10.index t = ![0, 0] := (by decide +kernel : ∀ t : Fin grid0.N, _)

theorem sumAt_end (c : Dev nD) (k : ℕ) (h : k < cfg0.N) (hk : k = 55) (r : Fin 8) (o : Fin 64) :
    (outsAt0 m c k h).2.1 (ix2 r o) = if r = 0 then ∑ n : Fin 2, ∑ k : Fin 224, ∑ v : Fin 224, layerAt m c n k v o else 0 := by
  subst hk
  exact sumAt_last m c h r o

theorem sqAt_end (c : Dev nD) (k : ℕ) (h : k < cfg0.N) (hk : k = 55) (r : Fin 8) (o : Fin 64) :
    (outsAt0 m c k h).2.2 (ix2 r o) = if r = 0 then ∑ n : Fin 2, ∑ k : Fin 224, ∑ v : Fin 224, layerAt m c n k v o * layerAt m c n k v o else 0 := by
  subst hk
  exact sqAt_last m c h r o

theorem final_out (c : Dev nD) : (dats m 0 c).arrAt 8 cfg0.N = outArr m c := by
  refine (dats m 0 c).arrAt_eq_of_covers 8 _ (by decide +kernel) fun t hf y => ?_
  have ht : t.val < 56 := lt_of_lt_of_eq t.isLt N_0
  have hy : ∃ (r : Fin 8) (v : Fin 224) (o : Fin 64), y = ix4 (0 : Fin 1) r v o := by
    refine ⟨y 1, y 2, y 3, ?_⟩
    funext a
    match a with
    | ⟨0, _⟩ => exact Fin.ext (Nat.lt_one_iff.mp (y 0).isLt)
    | ⟨1, _⟩ => rfl
    | ⟨2, _⟩ => rfl
    | ⟨3, _⟩ => rfl
  obtain ⟨r, v, o, rfl⟩ := hy
  blk_simp
  rw [after0_8, out_point]
  refine ((pay1_apply _ r v o).trans (rowsAt_apply m c t r v o)).trans ?_
  have e : outArr m c (ix4 ⟨t.val / 28, by omega⟩ ⟨8 * (t.val % 28) + r.val, by omega⟩ v o)
    = layerAt m c (t.val / 28) (8 * (t.val % 28) + r.val) v o := rfl
  refine e.symm.trans (congrArg _ ?_)
  blk_ext [idx t]

theorem final_sums (c : Dev nD) : (dats m 0 c).arrAt 9 cfg0.N = sumArr m c := by
  refine (dats m 0 c).arrAt_eq_of_covers 9 _ (by decide +kernel) fun t hf y => ?_
  have ht : t.val < 56 := lt_of_lt_of_eq t.isLt N_0
  have h55 : t.val % 56 = 55 := (flush0_9 t).mp hf
  obtain ⟨r, o, rfl⟩ := canon_row_col y
  blk_simp
  rw [after0_9]
  refine (sumAt_end m c t.val t.isLt (by omega) r o).trans ?_
  have e : sumArr m c (ix2 r o) = if r = 0 then ∑ n : Fin 2, ∑ k : Fin 224, ∑ v : Fin 224, layerAt m c n k v o else 0 := rfl
  refine e.symm.trans (congrArg _ ?_)
  blk_ext [idx_sums t]

theorem final_squares (c : Dev nD) : (dats m 0 c).arrAt 10 cfg0.N = sqArr m c := by
  refine (dats m 0 c).arrAt_eq_of_covers 10 _ (by decide +kernel) fun t hf y => ?_
  have ht : t.val < 56 := lt_of_lt_of_eq t.isLt N_0
  have h55 : t.val % 56 = 55 := (flush0_10 t).mp hf
  obtain ⟨r, o, rfl⟩ := canon_row_col y
  blk_simp
  rw [after0_10]
  refine (sqAt_end m c t.val t.isLt (by omega) r o).trans ?_
  have e : sqArr m c (ix2 r o)
    = if r = 0 then ∑ n : Fin 2, ∑ k : Fin 224, ∑ v : Fin 224, layerAt m c n k v o * layerAt m c n k v o else 0 := rfl
  refine e.symm.trans (congrArg _ ?_)
  blk_ext [idx_sums t]

end Kernel

open Idealize.ShloMosaic Idealize.SL.Sem Cert.Proof.C

section Reference

variable (m : (ℓ : Loc Cert.SecondIdeal.nD Cert.SecondIdeal.τ Cert.SecondIdeal.sig) → Buf (Elt Ideal) ℓ) (c : Dev Cert.SecondIdeal.nD)

/-- The reference's convolution of the arguments. -/
abbrev refOf : FVec Ideal Cert.SecondConvIdeal.S2x64x224x224 .f32 := refConv (refNorm (chan (argY m c)) (argG m c) (argBB m c)) (argW m c) (argB m c)

theorem refOf_apply (hpre : Cert.Pre_SecondIdeal_statistics m) (n : Fin 2) (h v : Fin 224) (o : Fin 64) :
    refOf m c (ix4 n o h v) = layerAt m c n h v o := by
  obtain ⟨p0, p1, p2⟩ := hpre c
  unfold refOf
  rw [refNorm_eq (y := argY m c) (s := argS m c) (q := argQ m c) (argG m c) (argBB m c) (given_real p0) (given_sum p1) (given_square p2)]
  refine (refConv_apply _ _ _ n o h v).trans ?_
  unfold layerAt
  have e : (⟨n.val % 2, Nat.mod_lt _ (by omega)⟩ : Fin 2) = n := Fin.ext (Nat.mod_eq_of_lt n.isLt)
  rw [e]
  rfl

theorem refSums_args (hpre : Cert.Pre_SecondIdeal_statistics m) : refSums (refOf m c) = sumArr m c := by
  funext j
  obtain ⟨r, o, rfl⟩ := canon_row_col j
  refine (refSums_apply _ _ _).trans ?_
  simp only [refOf_apply m c hpre]
  rfl

theorem refSquares_args (hpre : Cert.Pre_SecondIdeal_statistics m) : refSums (mulf (refOf m c) (refOf m c)) = sqArr m c := by
  funext j
  obtain ⟨r, o, rfl⟩ := canon_row_col j
  refine (refSums_apply _ _ _).trans ?_
  have e (n : Fin 2) (h v : Fin 224) (o : Fin 64) :
      mulf (refOf m c) (refOf m c) (ix4 n o h v) = layerAt m c n h v o * layerAt m c n h v o := by
    refine Eq.trans ?_ (congrArg₂ (· * ·) (refOf_apply m c hpre n h v o) (refOf_apply m c hpre n h v o))
    rfl
  simp only [e]
  rfl

end Reference

/-- The frame of the reference. -/
theorem conv_frame (m : (ℓ : Loc Cert.SecondConvIdeal.nD Cert.SecondConvIdeal.τ Cert.SecondConvIdeal.sig) → Buf (Elt Ideal) ℓ) (ρ : Dev Cert.SecondConvIdeal.nD → PrngReg) :
    θ_run (Cert.SecondConvIdeal.defs (F := Ideal)) (onTc (τ := Cert.SecondConvIdeal.τ) (Cert.SecondConvIdeal.main (F := Ideal))) ⟨m, fun _ => 0, ρ⟩
      (fun r => (∀ c : Dev Cert.SecondConvIdeal.nD,
        r.2.mem ((c.tc : Thread Cert.SecondConvIdeal.nD Cert.SecondConvIdeal.τ).loc Cert.SecondConvIdeal.main_arg0) = m ((c.tc : Thread Cert.SecondConvIdeal.nD Cert.SecondConvIdeal.τ).loc Cert.SecondConvIdeal.main_arg0)
        ∧ r.2.mem ((c.tc : Thread Cert.SecondConvIdeal.nD Cert.SecondConvIdeal.τ).loc Cert.SecondConvIdeal.main_arg1) = m ((c.tc : Thread Cert.SecondConvIdeal.nD Cert.SecondConvIdeal.τ).loc Cert.SecondConvIdeal.main_arg1)
        ∧ r.2.mem ((c.tc : Thread Cert.SecondConvIdeal.nD Cert.SecondConvIdeal.τ).loc Cert.SecondConvIdeal.main_arg2) = m ((c.tc : Thread Cert.SecondConvIdeal.nD Cert.SecondConvIdeal.τ).loc Cert.SecondConvIdeal.main_arg2)
        ∧ r.2.mem ((c.tc : Thread Cert.SecondConvIdeal.nD Cert.SecondConvIdeal.τ).loc Cert.SecondConvIdeal.main_arg3) = m ((c.tc : Thread Cert.SecondConvIdeal.nD Cert.SecondConvIdeal.τ).loc Cert.SecondConvIdeal.main_arg3)
        ∧ r.2.mem ((c.tc : Thread Cert.SecondConvIdeal.nD Cert.SecondConvIdeal.τ).loc Cert.SecondConvIdeal.main_arg4) = m ((c.tc : Thread Cert.SecondConvIdeal.nD Cert.SecondConvIdeal.τ).loc Cert.SecondConvIdeal.main_arg4)
        ∧ r.2.mem ((c.tc : Thread Cert.SecondConvIdeal.nD Cert.SecondConvIdeal.τ).loc Cert.SecondConvIdeal.main_arg5) = m ((c.tc : Thread Cert.SecondConvIdeal.nD Cert.SecondConvIdeal.τ).loc Cert.SecondConvIdeal.main_arg5)
        ∧ r.2.mem ((c.tc : Thread Cert.SecondConvIdeal.nD Cert.SecondConvIdeal.τ).loc Cert.SecondConvIdeal.main_arg6) = m ((c.tc : Thread Cert.SecondConvIdeal.nD Cert.SecondConvIdeal.τ).loc Cert.SecondConvIdeal.main_arg6))
        ∧ r.2.sem = fun _ => 0) :=
  (θ_run _ _ _).mono (fun r h => ⟨fun c => (h c).2.2.2, sem_eq_zero_of_no_sems (by decide) r.2⟩) (Cert.SecondConvIdeal.Value.run (F := Ideal) m ρ)

/-- The kernel and the reference end with the same results. -/
theorem equal : Cert.algebraic_SecondIdeal_SecondConvIdeal_pre_statistics := by
  intro m g m' g' hpre hargs
  refine ⟨fun c => outArr m c, fun c => sumArr m c, fun c => sqArr m c, ?_, ?_⟩
  · exact (θ_run _ _ _).mono (fun _ h c => ⟨(h c).1.trans (final_out m c), (h c).2.1.trans (final_sums m c),
      (h c).2.2.1.trans (final_squares m c), (h c).2.2.2⟩) (Cert.SecondIdeal.Value.run_blocks (F := Ideal) m g)
  · refine (θ_run _ _ _).mono (fun _ h c => ⟨(h c).1.trans ?_, (h c).2.1.trans ?_, (h c).2.2.1.trans ?_, (h c).2.2.2⟩)
      (Cert.SecondConvIdeal.Value.run (F := Ideal) m' g')
    all_goals obtain ⟨e0, e1, e2, e3, e4, e5, e6⟩ := hargs c
    · funext j
      have hj : j = ix4 (j 0 : Fin 2) (j 1 : Fin 224) (j 2 : Fin 224) (j 3 : Fin 64) := by
        funext a
        match a with
        | ⟨0, _⟩ => rfl
        | ⟨1, _⟩ => rfl
        | ⟨2, _⟩ => rfl
        | ⟨3, _⟩ => rfl
      rw [hj]
      refine (res_out0_eq m' c _ _ _ _).trans ?_
      rw [resConv, e0, e3, e4, e5, e6]
      exact refOf_apply m c hpre _ _ _ _
    · refine (res_out1_eq m' c).trans ?_
      rw [resConv, e0, e3, e4, e5, e6]
      exact refSums_args m c hpre
    · refine (res_out2_eq m' c).trans ?_
      rw [resConv, e0, e3, e4, e5, e6]
      exact refSquares_args m c hpre

end Cert.Proof.D

end
-- ==== Proof.E.Kernel.lean ====
/-
  One grid point of the third layer's kernel: the rows it computes and its two running sums.
-/
module

public import proofs.«01_k».proof.Proof.C.Norm
public import proofs.«01_k».proof.Proof.C.Sums
public import proofs.«01_k».proof.Proof.Gen.ThirdIdeal.Value
public import Idealize.ShloMosaic.Lib.Pipeline.ValueKit

@[expose] public section

set_option maxRecDepth 16384

noncomputable section

namespace Cert.Proof.E

open Cert.ThirdIdeal Cert.ThirdIdeal.Gen
open Idealize.ShloMosaic Cert.Proof.C

variable {v0 v2 : Vec Ideal S1x8x226x64 .f32} {sv qv gv bv : Vec Ideal S1x64 .f32}
  {w0 w1 w2 w3 w4 w5 w6 w7 w8 : Vec Ideal S1x1x64x32 .f32} {b : Vec Ideal S1x32 .f32}

/-- The normalised rows a point reads, before and -/
abbrev normRows (v0 v2 : Vec Ideal S1x8x226x64 .f32) (sv qv gv bv : Vec Ideal S1x64 .f32) : FVec Ideal S10x226x64 .f32 := k0_pay6 v0 v2 sv qv gv bv

/-- after the border is set to zero. -/
abbrev maskedRows (y : FVec Ideal S10x226x64 .f32) (k : ℕ) : FVec Ideal S10x226x64 .f32 :=
  k0_pay7 y (Scalar.muli (BitVec.ofNat 32 k) 8#32) (iota .tc S10x226x64 32 [0] iota_S10x226x64_d0_w32)

/-- The rows a point computes, from the normalised rows and its place in the image. -/
abbrev rowsOf (y : FVec Ideal S10x226x64 .f32) (k : ℕ) (w0 w1 w2 w3 w4 w5 w6 w7 w8 : Vec Ideal S1x1x64x32 .f32) (b : Vec Ideal S1x32 .f32) :
    FVec Ideal S8x224x32 .f32 :=
  k0_pay11 (maskedRows y k) (k0_pay8 y (Scalar.muli (BitVec.ofNat 32 k) 8#32) (iota .tc S10x226x64 32 [0] iota_S10x226x64_d0_w32) w0 w1 w2)
    (k0_pay9 y (Scalar.muli (BitVec.ofNat 32 k) 8#32) (iota .tc S10x226x64 32 [0] iota_S10x226x64_d0_w32)) (k0_pay10 w3) w4 w5 w6 w7 w8 b

theorem rowsOf_apply {y : FVec Ideal S10x226x64 .f32} {k : ℕ} {X : ℕ → ℕ → Fin 64 → EReal} {W : Fin 3 → Fin 3 → Fin 64 → EReal} {h : ℕ} (r : Fin 8) (v : Fin 224) (o : Fin 32)
    (hX : ∀ (a : Fin 10) (u : Fin 226) (i : Fin 64), maskedRows y k (ix3 a u i) = X (h + a.val) u i)
    (h0 : ∀ i, w0 (ix4 0 0 i o) = W 0 0 i) (h1 : ∀ i, w1 (ix4 0 0 i o) = W 0 1 i) (h2 : ∀ i, w2 (ix4 0 0 i o) = W 0 2 i)
    (h3 : ∀ i, w3 (ix4 0 0 i o) = W 1 0 i) (h4 : ∀ i, w4 (ix4 0 0 i o) = W 1 1 i) (h5 : ∀ i, w5 (ix4 0 0 i o) = W 1 2 i)
    (h6 : ∀ i, w6 (ix4 0 0 i o) = W 2 0 i) (h7 : ∀ i, w7 (ix4 0 0 i o) = W 2 1 i) (h8 : ∀ i, w8 (ix4 0 0 i o) = W 2 2 i) :
    rowsOf y k w0 w1 w2 w3 w4 w5 w6 w7 w8 b (ix3 r v o) = conv X W (b (ix2 0 o)) (h + r.val) v := by
  unfold rowsOf k0_pay8 k0_pay9 k0_pay10
  unfold maskedRows at hX ⊢
  have hX' : ∀ (a : Fin 10) (u : Fin 226) (i : Fin 64) (k' l : ℕ), k' = h + a.val → l = u.val → k0_pay7 y (Scalar.muli (BitVec.ofNat 32 k) 8#32) (iota .tc S10x226x64 32 [0] iota_S10x226x64_d0_w32) (ix3 a u i) = X k' l i := by
    intro a u i k l hk hl
    rw [hX, hk, hl]
  generalize k0_pay7 y (Scalar.muli (BitVec.ofNat 32 k) 8#32) (iota .tc S10x226x64 32 [0] iota_S10x226x64_d0_w32) = z at hX' ⊢
  pointwise [k0_pay11]
  refine conv_of ?_ ?_ ?_ ?_ ?_ ?_ ?_ ?_ ?_ rfl
  · exact tap_of (fun i => hX' _ _ i _ _ (by first | rfl | exact (Nat.add_assoc _ _ _).trans (congrArg (h + ·) (Nat.add_comm _ _)))
      (by first | rfl | exact Nat.add_comm _ _)) h0 rfl rfl
  · exact tap_of (fun i => hX' _ _ i _ _ (by first | rfl | exact (Nat.add_assoc _ _ _).trans (congrArg (h + ·) (Nat.add_comm _ _)))
      (by first | rfl | exact Nat.add_comm _ _)) h1 rfl rfl
  · exact tap_of (fun i => hX' _ _ i _ _ (by first | rfl | exact (Nat.add_assoc _ _ _).trans (congrArg (h + ·) (Nat.add_comm _ _)))
      (by first | rfl | exact Nat.add_comm _ _)) h2 rfl rfl
  · exact tap_of (fun i => hX' _ _ i _ _ (by first | rfl | exact (Nat.add_assoc _ _ _).trans (congrArg (h + ·) (Nat.add_comm _ _)))
      (by first | rfl | exact Nat.add_comm _ _)) h3 rfl rfl
  · exact tap_of (fun i => hX' _ _ i _ _ (by first | rfl | exact (Nat.add_assoc _ _ _).trans (congrArg (h + ·) (Nat.add_comm _ _)))
      (by first | rfl | exact Nat.add_comm _ _)) h4 rfl rfl
  · exact tap_of (fun i => hX' _ _ i _ _ (by first | rfl | exact (Nat.add_assoc _ _ _).trans (congrArg (h + ·) (Nat.add_comm _ _)))
      (by first | rfl | exact Nat.add_comm _ _)) h5 rfl rfl
  · exact tap_of (fun i => hX' _ _ i _ _ (by first | rfl | exact (Nat.add_assoc _ _ _).trans (congrArg (h + ·) (Nat.add_comm _ _)))
      (by first | rfl | exact Nat.add_comm _ _)) h6 rfl rfl
  · exact tap_of (fun i => hX' _ _ i _ _ (by first | rfl | exact (Nat.add_assoc _ _ _).trans (congrArg (h + ·) (Nat.add_comm _ _)))
      (by first | rfl | exact Nat.add_comm _ _)) h7 rfl rfl
  · exact tap_of (fun i => hX' _ _ i _ _ (by first | rfl | exact (Nat.add_assoc _ _ _).trans (congrArg (h + ·) (Nat.add_comm _ _)))
      (by first | rfl | exact Nat.add_comm _ _)) h8 rfl rfl

theorem normRows_apply (a : Fin 10) (u : Fin 226) (i : Fin 64) :
    normRows v0 v2 sv qv gv bv (ix3 a u i)
      = normOf (if h : a.val < 8 then v0 (ix4 0 ⟨a.val, h⟩ u i) else v2 (ix4 0 ⟨a.val - 8, by omega⟩ u i)) (sv (ix2 0 i)) (qv (ix2 0 i)) (gv (ix2 0 i)) (bv (ix2 0 i)) := by
  pointwise [k0_pay6]
  rfl

theorem place : ∀ (k : Fin 28) (a : Fin 10), IntOp.addi (IntOp.muli (BitVec.ofNat 32 k.val) 8#32) (BitVec.ofNat 32 a.val) = BitVec.ofNat 32 (8 * k.val + a.val) := by decide +kernel

theorem maskedRows_apply (y : FVec Ideal S10x226x64 .f32) (k : Fin 28) (a : Fin 10) (u : Fin 226) (i : Fin 64) :
    maskedRows y k.val (ix3 a u i) = if (1 ≤ 8 * k.val + a.val ∧ 8 * k.val + a.val ≤ 224) ∧ 1 ≤ u.val ∧ u.val ≤ 224 then y (ix3 a u i) else 0 := by
  pointwise [k0_pay7]
  refine Eq.trans ?_ (inside (h := 8 * k.val + a.val) (v := u.val) (by omega) (by omega) (y (ix3 a u i)) 0)
  rw [← place k a]
  rfl

theorem pay4_apply {y : FVec Ideal S8x224x32 .f32} {p : Vec Ideal S1x32 .f32} (o : Fin 32) :
    k0_pay4 y p (ix2 0 o) = p (ix2 0 o) + ∑ r : Fin 8, ∑ v : Fin 224, y (ix3 r v o) := by
  pointwise [k0_pay4]
  exact congrArg (p (ix2 0 o) + ·) (sum_front _ y (ix1 o) Nat.one_pos o rfl)

theorem pay5_apply {y : FVec Ideal S8x224x32 .f32} {p : Vec Ideal S1x32 .f32} (o : Fin 32) :
    k0_pay5 y p (ix2 0 o) = p (ix2 0 o) + ∑ r : Fin 8, ∑ v : Fin 224, y (ix3 r v o) * y (ix3 r v o) := by
  pointwise [k0_pay5]
  exact congrArg (p (ix2 0 o) + ·) (sum_front _ (mulf y y) (ix1 o) Nat.one_pos o rfl)

variable (m : (ℓ : Loc nD τ sig) → Buf (Elt Ideal) ℓ)

theorem idx : ∀ t : Fin cfg0.N, win0_0.index t = ![t.val / 28, t.val % 28, 0, 0] ∧ win0_1.index t = ![t.val / 28, t.val % 28 + 1, 0, 0]
    ∧ win0_2.index t = ![0, 0, 0, 0] ∧ win0_3.index t = ![0, 0] ∧ win0_8.index t = ![t.val / 28, t.val % 28, 0, 0] ∧ win0_4.index t = ![0, 0] ∧ win0_5.index t = ![0, 0] ∧ win0_6.index t = ![0, 0] ∧ win0_7.index t = ![0, 0] := (by decide +kernel : ∀ t : Fin grid0.N, _)

theorem coord : ∀ t : Fin cfg0.N, (grid0.coords t 1).val = t.val % 28 := (by decide +kernel : ∀ t : Fin grid0.N, _)

/-- The images, their sums and sums of squares, the affine parameters, the weights and the bias. -/
abbrev argY (c : Dev nD) : FVec Ideal S2x224x224x64 .f32 := m ((c.tc : Thread nD τ).loc main_arg0)
abbrev argS (c : Dev nD) : FVec Ideal S8x64 .f32 := m ((c.tc : Thread nD τ).loc main_arg1)
abbrev argQ (c : Dev nD) : FVec Ideal S8x64 .f32 := m ((c.tc : Thread nD τ).loc main_arg2)
abbrev argG (c : Dev nD) : FVec Ideal S64 .f32 := m ((c.tc : Thread nD τ).loc main_arg3)
abbrev argBB (c : Dev nD) : FVec Ideal S64 .f32 := m ((c.tc : Thread nD τ).loc main_arg4)
abbrev argW (c : Dev nD) : FVec Ideal S32x64x3x3 .f32 := m ((c.tc : Thread nD τ).loc main_arg5)
abbrev argB (c : Dev nD) : FVec Ideal S32 .f32 := m ((c.tc : Thread nD τ).loc main_arg6)

/-- The normalised images. -/
def normArr (c : Dev nD) : FVec Ideal (⟨4, ![2, 64, 224, 224]⟩ : Shape) .f32 := normed (argY m c) (argS m c) (argQ m c) (argG m c) (argBB m c)

theorem w_entry (c : Dev nD) :
    V m c main_v1 = transpose S3x3x64x32 [2, 3, 1, 0] (argW m c) transposes_S32x64x3x3_S3x3x64x32_2_3_1_0 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem yp_entry (c : Dev nD) :
    V m c main_v0 = pad S2x232x226x64 ![0, 1, 1, 0] ![0, 7, 1, 0] ![0, 0, 0, 0] (argY m c)
      (sitofp .f32 (constantI S_ 32 0#32)) pads_S2x224x224x64_S2x232x226x64_000_170_110_000 h_S_ := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem s_entry (c : Dev nD) : V m c main_arg1 = argS m c := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem q_entry (c : Dev nD) : V m c main_arg2 = argQ m c := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp

theorem b_entry (c : Dev nD) : V m c main_v2 = shapeCast S1x32 (argB m c) shapeCasts_S32_S1x32 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem b_apply (c : Dev nD) (o : Fin 32) : V m c main_v2 (ix2 0 o) = argB m c (ix1 o) := by
  refine (congrFun (b_entry m c) _).trans ?_
  pointwise

theorem g_entry (c : Dev nD) : V m c main_v3 = shapeCast S1x64 (argG m c) shapeCasts_S64_S1x64 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem g_apply (c : Dev nD) (o : Fin 64) : V m c main_v3 (ix2 0 o) = argG m c (ix1 o) := by
  refine (congrFun (g_entry m c) _).trans ?_
  pointwise

theorem bb_entry (c : Dev nD) : V m c main_v4 = shapeCast S1x64 (argBB m c) shapeCasts_S64_S1x64 := by
  unfold V
  simp only [hostOps0, hostOps0_1, hostOps0_2, List.flatten_cons, List.flatten_nil, List.append_nil, List.cons_append, List.nil_append,
    StableHlo.TRef.binary, StableHlo.TRef.ternary, StableHlo.TRef.unary, StableHlo.TRef.toBuf, StableHlo.TRef.ofBuf, cast_eq]
  after_results_simp
  rfl

theorem bb_apply (c : Dev nD) (o : Fin 64) : V m c main_v4 (ix2 0 o) = argBB m c (ix1 o) := by
  refine (congrFun (bb_entry m c) _).trans ?_
  pointwise

theorem yp_apply (c : Dev nD) (n : Fin 2) (h : Fin 232) (v : Fin 226) (i : Fin 64) (hv : (1 ≤ h.val ∧ h.val ≤ 224) ∧ 1 ≤ v.val ∧ v.val ≤ 224) :
    V m c main_v0 (ix4 n h v i) = argY m c (ix4 n ⟨h.val - 1, by omega⟩ ⟨v.val - 1, by omega⟩ i) := by
  refine (congrFun (yp_entry m c) _).trans ?_
  pointwise
  rw [dif_pos (by omega)]

theorem w_apply (c : Dev nD) (p q : Fin 3) (i : Fin 64) (o : Fin 32) :
    V m c main_v1 (ix4 p q i o) = kernelOf (argW m c) o p q i := by
  refine (congrFun (w_entry m c) _).trans ?_
  pointwise
  rfl

theorem row_block (c : Dev nD) (t : Fin cfg0.N) (r : Fin 8) (v : Fin 226) (i : Fin 64) (h : Fin 232) (hh : h.val = 8 * (t.val % 28) + r.val) (n : Fin 2) (hn : n.val = t.val / 28):
    iblk m c 0 t (ix4 0 r v i) = V m c main_v0 (ix4 n h v i) := by
  blk_simp [iblk]
  blk_ext [idx t]

theorem next_block (c : Dev nD) (t : Fin cfg0.N) (r : Fin 8) (v : Fin 226) (i : Fin 64) (h : Fin 232) (hh : h.val = 8 * (t.val % 28) + r.val + 8) (n : Fin 2) (hn : n.val = t.val / 28):
    iblk m c 1 t (ix4 0 r v i) = V m c main_v0 (ix4 n h v i) := by
  blk_simp [iblk]
  blk_ext [idx t]

theorem w_block (c : Dev nD) (t : Fin cfg0.N) (p q : Fin 3) (i : Fin 64) (o : Fin 32) :
    iblk m c 2 t (ix4 p q i o) = V m c main_v1 (ix4 p q i o) := by
  blk_simp [iblk]
  blk_ext [idx t]

theorem b_block (c : Dev nD) (t : Fin cfg0.N) (o : Fin 32) :
    iblk m c 3 t (ix2 0 o) = V m c main_v2 (ix2 0 o) := by
  blk_simp [iblk]
  blk_ext [idx t]

theorem s_block (c : Dev nD) (t : Fin cfg0.N) (i : Fin 64) :
    View.ld (iblk m c 4 t) (Rect.unit ![0, 0] ![1, 64] inb_S8x64_S1x64_0_0) (ix2 0 i) = argS m c (ix2 0 i) := by
  have e : iblk m c 4 t (ix2 0 i) = V m c main_arg1 (ix2 0 i) := by
    blk_simp [iblk]
    blk_ext [idx t]
  exact ((ld_row _ _ i).trans e).trans (congrFun (s_entry m c) _)

theorem q_block (c : Dev nD) (t : Fin cfg0.N) (i : Fin 64) :
    View.ld (iblk m c 5 t) (Rect.unit ![0, 0] ![1, 64] inb_S8x64_S1x64_0_0) (ix2 0 i) = argQ m c (ix2 0 i) := by
  have e : iblk m c 5 t (ix2 0 i) = V m c main_arg2 (ix2 0 i) := by
    blk_simp [iblk]
    blk_ext [idx t]
  exact ((ld_row _ _ i).trans e).trans (congrFun (q_entry m c) _)

theorem g_block (c : Dev nD) (t : Fin cfg0.N) (i : Fin 64) : iblk m c 6 t (ix2 0 i) = argG m c (ix1 i) := by
  refine Eq.trans ?_ (g_apply m c i)
  blk_simp [iblk]
  blk_ext [idx t]

theorem bb_block (c : Dev nD) (t : Fin cfg0.N) (i : Fin 64) : iblk m c 7 t (ix2 0 i) = argBB m c (ix1 i) := by
  refine Eq.trans ?_ (bb_apply m c i)
  blk_simp [iblk]
  blk_ext [idx t]

/-- What the layer computes at image `n`, row `h`, column `v` and output channel `o`. -/
def layerAt (c : Dev nD) (n h v : ℕ) (o : Fin 32) : EReal :=
  conv (padded (normArr m c) ⟨n % 2, Nat.mod_lt _ (by omega)⟩) (kernelOf (argW m c) o) (argB m c (ix1 o)) h v

/-- The normalised rows point `t` reads. -/
def normAt (c : Dev nD) (t : Fin cfg0.N) : FVec Ideal S10x226x64 .f32 :=
  normRows (iblk m c 0 t) (iblk m c 1 t)
    (View.ld (iblk m c 4 t) (Rect.unit ![0, 0] ![1, 64] inb_S8x64_S1x64_0_0))
    (View.ld (iblk m c 5 t) (Rect.unit ![0, 0] ![1, 64] inb_S8x64_S1x64_0_0)) (iblk m c 6 t) (iblk m c 7 t)

/-- With the border at zero they are rows of the normalised images with their border. -/
theorem masked_apply (c : Dev nD) (t : Fin cfg0.N) (a : Fin 10) (u : Fin 226) (i : Fin 64) :
    maskedRows (normAt m c t) (grid0.coords t 1).val (ix3 a u i)
      = padded (normArr m c) ⟨t.val / 28 % 2, Nat.mod_lt _ (by omega)⟩ (8 * (t.val % 28) + a.val) u i := by
  have ht : t.val < 56 := lt_of_lt_of_eq t.isLt N_0
  rw [coord]
  refine (maskedRows_apply (normAt m c t) ⟨t.val % 28, Nat.mod_lt _ (by omega)⟩ a u i).trans ?_
  unfold padded
  by_cases hv : (1 ≤ 8 * (t.val % 28) + a.val ∧ 8 * (t.val % 28) + a.val ≤ 224) ∧ 1 ≤ u.val ∧ u.val ≤ 224
  · rw [if_pos hv, dif_pos hv]
    refine (normRows_apply a u i).trans ?_
    rw [s_block, q_block, g_block, bb_block]
    refine congrArg (fun x => normOf x (argS m c (ix2 0 i)) (argQ m c (ix2 0 i)) (argG m c (ix1 i)) (argBB m c (ix1 i))) ?_
    have e := yp_apply m c ⟨t.val / 28 % 2, Nat.mod_lt _ (by omega)⟩ ⟨8 * (t.val % 28) + a.val, by omega⟩ u i hv
    refine Eq.trans ?_ e
    by_cases h : a.val < 8
    · rw [dif_pos h]
      exact row_block m c t ⟨a.val, h⟩ u i ⟨8 * (t.val % 28) + a.val, by omega⟩ rfl ⟨t.val / 28 % 2, Nat.mod_lt _ (by omega)⟩
        (by show t.val / 28 % 2 = t.val / 28; omega)
    · rw [dif_neg h]
      exact next_block m c t ⟨a.val - 8, by omega⟩ u i ⟨8 * (t.val % 28) + a.val, by omega⟩ (by show 8 * (t.val % 28) + a.val = 8 * (t.val % 28) + (a.val - 8) + 8; omega)
        ⟨t.val / 28 % 2, Nat.mod_lt _ (by omega)⟩ (by show t.val / 28 % 2 = t.val / 28; omega)
  · rw [if_neg hv, dif_neg hv]

/-- The rows point `t` computes. -/
def rowsAt (c : Dev nD) (t : Fin cfg0.N) : FVec Ideal S8x224x32 .f32 :=
  rowsOf (normAt m c t) (grid0.coords t 1).val
    (View.ld (iblk m c 2 t) (Rect.unit ![0, 0, 0, 0] ![1, 1, 64, 32] inb_S3x3x64x32_S1x1x64x32_0_0_0_0))
    (View.ld (iblk m c 2 t) (Rect.unit ![0, 1, 0, 0] ![1, 1, 64, 32] inb_S3x3x64x32_S1x1x64x32_0_1_0_0))
    (View.ld (iblk m c 2 t) (Rect.unit ![0, 2, 0, 0] ![1, 1, 64, 32] inb_S3x3x64x32_S1x1x64x32_0_2_0_0))
    (View.ld (iblk m c 2 t) (Rect.unit ![1, 0, 0, 0] ![1, 1, 64, 32] inb_S3x3x64x32_S1x1x64x32_1_0_0_0))
    (View.ld (iblk m c 2 t) (Rect.unit ![1, 1, 0, 0] ![1, 1, 64, 32] inb_S3x3x64x32_S1x1x64x32_1_1_0_0))
    (View.ld (iblk m c 2 t) (Rect.unit ![1, 2, 0, 0] ![1, 1, 64, 32] inb_S3x3x64x32_S1x1x64x32_1_2_0_0))
    (View.ld (iblk m c 2 t) (Rect.unit ![2, 0, 0, 0] ![1, 1, 64, 32] inb_S3x3x64x32_S1x1x64x32_2_0_0_0))
    (View.ld (iblk m c 2 t) (Rect.unit ![2, 1, 0, 0] ![1, 1, 64, 32] inb_S3x3x64x32_S1x1x64x32_2_1_0_0))
    (View.ld (iblk m c 2 t) (Rect.unit ![2, 2, 0, 0] ![1, 1, 64, 32] inb_S3x3x64x32_S1x1x64x32_2_2_0_0))
    (iblk m c 3 t)

theorem ld_apply (c : Dev nD) (t : Fin cfg0.N) (p q : Fin 3) (inb : ∀ a, (![p.val, q.val, 0, 0] : Fin 4 → ℕ) a + (![1, 1, 64, 32] : Fin 4 → ℕ) a ≤ S3x3x64x32.size a)
    (i : Fin 64) (o : Fin 32) :
    View.ld (iblk m c 2 t) (Rect.unit (s := S3x3x64x32) ![p.val, q.val, 0, 0] ![1, 1, 64, 32] inb) (ix4 0 0 i o) = kernelOf (argW m c) o p q i := by
  refine Eq.trans ?_ ((w_block m c t p q i o).trans (w_apply m c p q i o))
  refine congrArg (iblk m c 2 t) ?_
  funext z; apply Fin.ext
  match z with
  | ⟨0, _⟩ => exact Nat.add_zero _
  | ⟨1, _⟩ => exact Nat.add_zero _
  | ⟨2, _⟩ => show 0 + 1 * i.val = i.val; omega
  | ⟨3, _⟩ => show 0 + 1 * o.val = o.val; omega

theorem rowsAt_apply (c : Dev nD) (t : Fin cfg0.N) (r : Fin 8) (v : Fin 224) (o : Fin 32) :
    rowsAt m c t (ix3 r v o) = layerAt m c (t.val / 28) (8 * (t.val % 28) + r.val) v o := by
  have ht : t.val < 56 := lt_of_lt_of_eq t.isLt N_0
  unfold rowsAt layerAt
  refine (rowsOf_apply (X := padded (normArr m c) ⟨t.val / 28 % 2, Nat.mod_lt _ (by omega)⟩) (W := kernelOf (argW m c) o) (h := 8 * (t.val % 28)) r v o ?_
    (ld_apply m c t 0 0 _ · o) (ld_apply m c t 0 1 _ · o) (ld_apply m c t 0 2 _ · o) (ld_apply m c t 1 0 _ · o) (ld_apply m c t 1 1 _ · o)
    (ld_apply m c t 1 2 _ · o) (ld_apply m c t 2 0 _ · o) (ld_apply m c t 2 1 _ · o) (ld_apply m c t 2 2 _ · o)).trans ?_
  · exact fun a u i => masked_apply m c t a u i
  · rw [b_block, b_apply]

/-! ### What a point leaves -/

theorem pay1_apply (y : FVec Ideal S8x224x32 .f32) (r : Fin 8) (v : Fin 224) (o : Fin 32) :
    k0_pay1 y (ix4 0 r v o) = y (ix3 r v o) := by
  pointwise [k0_pay1]

theorem zero2 (j : S8x32.Idx) : k0_pay2 (F := Ideal) j = (0 : EReal) := by pointwise [k0_pay2]
theorem zero3 (j : S8x32.Idx) : k0_pay3 (F := Ideal) j = (0 : EReal) := by pointwise [k0_pay3]

theorem out_point (c : Dev nD) (t : Fin cfg0.N) : (outsAt0 m c t.val t.isLt).1 = k0_pay1 (rowsAt m c t) := by
  by_cases h0 : t.val % 56 = 0
  · rw [outsAt0_A m c t h0]
    frame_out
    rfl
  · rw [outsAt0_B m c t h0]
    frame_out
    rfl

/-- The first row of the running sums at point `t`'s channel `o` gains this. -/
def sumAt (c : Dev nD) (t : ℕ) (o : Fin 32) : EReal :=
  ∑ r : Fin 8, ∑ v : Fin 224, layerAt m c (t / 28) (8 * (t % 28) + r.val) v o

theorem sumAt_eq (c : Dev nD) (t : Fin cfg0.N) (p : Vec Ideal S1x32 .f32) (o : Fin 32) :
    k0_pay4 (rowsAt m c t) p (ix2 0 o) = p (ix2 0 o) + sumAt m c t.val o := by
  refine (pay4_apply o).trans (congrArg (p (ix2 0 o) + ·) ?_)
  refine Finset.sum_congr rfl fun r _ => Finset.sum_congr rfl fun v _ => ?_
  rw [rowsAt_apply]

theorem sumAt_A (c : Dev nD) (t : Fin cfg0.N) (h0 : t.val % 56 = 0) (r : Fin 8) (o : Fin 32) :
    (outsAt0 m c t.val t.isLt).2.1 (ix2 r o) = if r = 0 then sumAt m c t.val o else 0 := by
  rw [outsAt0_A m c t h0]
  frame_out
  by_cases hr : r = 0
  · subst hr
    rw [if_pos rfl]
    refine (canon_row _ _ _ o).trans ?_
    refine (sumAt_eq m c t _ o).trans ?_
    refine (congrArg (· + sumAt m c t.val o) ((cov_row _ _ _ _ o).trans (zero2 _))).trans (zero_add _)
  · rw [if_neg hr]
    refine (canon_off _ _ _ r hr o).trans ?_
    exact (congrFun (canon_all _ _) _).trans (zero2 _)

theorem sumAt_B (c : Dev nD) (t : Fin cfg0.N) (h0 : ¬ t.val % 56 = 0) (r : Fin 8) (o : Fin 32) :
    (outsAt0 m c t.val t.isLt).2.1 (ix2 r o)
      = (outsAt0 m c (t.val - 1) (Nat.lt_of_le_of_lt (Nat.sub_le _ _) t.isLt)).2.1 (ix2 r o) + if r = 0 then sumAt m c t.val o else 0 := by
  rw [outsAt0_B m c t h0]
  frame_out
  by_cases hr : r = 0
  · subst hr
    rw [if_pos rfl]
    refine (read_row _ _ _ _ o).trans ?_
    refine (sumAt_eq m c t _ o).trans ?_
    exact congrArg (· + sumAt m c t.val o) (ld_row _ _ o)
  · rw [if_neg hr, add_zero]
    refine (read_off _ _ _ _ r hr o).trans ?_
    exact congrFun (Memref.IsWhole.read_unread _ _) _

/-- After the last point the first row holds the sums over all images, rows and columns. -/
theorem sumAt_last (c : Dev nD) (h : 55 < cfg0.N) (r : Fin 8) (o : Fin 32) :
    (outsAt0 m c 55 h).2.1 (ix2 r o)
      = if r = 0 then ∑ n : Fin 2, ∑ k : Fin 224, ∑ v : Fin 224, layerAt m c n k v o else 0 := by
  have hN : cfg0.N = 56 := N_0
  refine (running (fun n hn => (outsAt0 m c n hn).2.1 (ix2 r o)) (fun t => if r = 0 then sumAt m c t o else 0)
    (fun h => sumAt_A m c ⟨0, h⟩ (Nat.zero_mod _) r o)
    (fun n h => sumAt_B m c ⟨n + 1, h⟩ (by show ¬ (n + 1) % 56 = 0; omega) r o) 55 h).trans ?_
  by_cases hr : r = 0
  · simp only [if_pos hr]
    exact all_rows fun n h => ∑ v : Fin 224, layerAt m c n h v o
  · simp only [if_neg hr, Finset.sum_const_zero]

/-- The first row of the running sums of squares at point `t`'s channel `o` gains this. -/
def sqAt (c : Dev nD) (t : ℕ) (o : Fin 32) : EReal :=
  ∑ r : Fin 8, ∑ v : Fin 224, layerAt m c (t / 28) (8 * (t % 28) + r.val) v o * layerAt m c (t / 28) (8 * (t % 28) + r.val) v o

theorem sqAt_eq (c : Dev nD) (t : Fin cfg0.N) (p : Vec Ideal S1x32 .f32) (o : Fin 32) :
    k0_pay5 (rowsAt m c t) p (ix2 0 o) = p (ix2 0 o) + sqAt m c t.val o := by
  refine (pay5_apply o).trans (congrArg (p (ix2 0 o) + ·) ?_)
  refine Finset.sum_congr rfl fun r _ => Finset.sum_congr rfl fun v _ => ?_
  rw [rowsAt_apply]

theorem sqAt_A (c : Dev nD) (t : Fin cfg0.N) (h0 : t.val % 56 = 0) (r : Fin 8) (o : Fin 32) :
    (outsAt0 m c t.val t.isLt).2.2 (ix2 r o) = if r = 0 then sqAt m c t.val o else 0 := by
  rw [outsAt0_A m c t h0]
  frame_out
  by_cases hr : r = 0
  · subst hr
    rw [if_pos rfl]
    refine (canon_row _ _ _ o).trans ?_
    refine (sqAt_eq m c t _ o).trans ?_
    refine (congrArg (· + sqAt m c t.val o) ((cov_row _ _ _ _ o).trans (zero3 _))).trans (zero_add _)
  · rw [if_neg hr]
    refine (canon_off _ _ _ r hr o).trans ?_
    exact (congrFun (canon_all _ _) _).trans (zero3 _)

theorem sqAt_B (c : Dev nD) (t : Fin cfg0.N) (h0 : ¬ t.val % 56 = 0) (r : Fin 8) (o : Fin 32) :
    (outsAt0 m c t.val t.isLt).2.2 (ix2 r o)
      = (outsAt0 m c (t.val - 1) (Nat.lt_of_le_of_lt (Nat.sub_le _ _) t.isLt)).2.2 (ix2 r o) + if r = 0 then sqAt m c t.val o else 0 := by
  rw [outsAt0_B m c t h0]
  frame_out
  by_cases hr : r = 0
  · subst hr
    rw [if_pos rfl]
    refine (read_row _ _ _ _ o).trans ?_
    refine (sqAt_eq m c t _ o).trans ?_
    exact congrArg (· + sqAt m c t.val o) (ld_row _ _ o)
  · rw [if_neg hr, add_zero]
    refine (read_off _ _ _ _ r hr o).trans ?_
    exact congrFun (Memref.IsWhole.read_unread _ _) _

/-- After the last point the first row holds the sums of squares over all images, rows and columns. -/
theorem sqAt_last (c : Dev nD) (h : 55 < cfg0.N) (r : Fin 8) (o : Fin 32) :
    (outsAt0 m c 55 h).2.2 (ix2 r o)
      = if r = 0 then ∑ n : Fin 2, ∑ k : Fin 224, ∑ v : Fin 224, layerAt m c n k v o * layerAt m c n k v o else 0 := by
  have hN : cfg0.N = 56 := N_0
  refine (running (fun n hn => (outsAt0 m c n hn).2.2 (ix2 r o)) (fun t => if r = 0 then sqAt m c t o else 0)
    (fun h => sqAt_A m c ⟨0, h⟩ (Nat.zero_mod _) r o)
    (fun n h => sqAt_B m c ⟨n + 1, h⟩ (by show ¬ (n + 1) % 56 = 0; omega) r o) 55 h).trans ?_
  by_cases hr : r = 0
  · simp only [if_pos hr]
    exact all_rows fun n h => ∑ v : Fin 224, layerAt m c n h v o * layerAt m c n h v o
  · simp only [if_neg hr, Finset.sum_const_zero]

end Cert.Proof.E

end
-- ==== Proof.E.Reference.lean ====
/-
  The reference's convolution of the normalised images over the extended reals, read at an index.
-/
module

public import proofs.«01_k».proof.Proof.C.Norm
public import proofs.«01_k».proof.Proof.C.Sums
public import proofs.«01_k».proof.Proof.Gen.ThirdConvIdeal.Run
public import Idealize.ShloMosaic.Lib.Pipeline.ValueKit

@[expose] public section

set_option maxRecDepth 16384

noncomputable section

namespace Cert.Proof.E

open Cert.ThirdConvIdeal Cert.ThirdConvIdeal.Gen
open Idealize.ShloMosaic Cert.Proof.C

/-- The channels' means, -/
def refMean (x : FVec Ideal S2x64x224x224 .f32) : FVec Ideal S1x64x1x1 .f32 :=
  Host.divf (broadcastInDim S1x64x1x1 ![1] bcast_S64_S1x64x1x1_1 (Host.reduceAdd x (constant S_ .f32 0x00000000#32) reducesTo_S2x64x224x224_S64_d0_2_3 h_S_)) (broadcastInDim S1x64x1x1 ![] bcast_S_S1x64x1x1 (constant S_ .f32 0x47C40000#32))

/-- their variances, -/
def refVar (x : FVec Ideal S2x64x224x224 .f32) : FVec Ideal S1x64x1x1 .f32 :=
  Host.divf (broadcastInDim S1x64x1x1 ![1] bcast_S64_S1x64x1x1_1 (Host.reduceAdd (mulf (subf x (broadcastInDim S2x64x224x224 ![0, 1, 2, 3] bcast_S1x64x1x1_S2x64x224x224_0_1_2_3 (refMean x))) (subf x (broadcastInDim S2x64x224x224 ![0, 1, 2, 3] bcast_S1x64x1x1_S2x64x224x224_0_1_2_3 (refMean x)))) (constant S_ .f32 0x00000000#32) reducesTo_S2x64x224x224_S64_d0_2_3 h_S_)) (broadcastInDim S1x64x1x1 ![] bcast_S_S1x64x1x1 (constant S_ .f32 0x47C40000#32))

/-- the normalised images, -/
def refNorm (x : FVec Ideal S2x64x224x224 .f32) (g bb : FVec Ideal S64 .f32) : FVec Ideal S2x64x224x224 .f32 :=
  maximumf (addf (mulf (Host.divf (subf x (broadcastInDim S2x64x224x224 ![0, 1, 2, 3] bcast_S1x64x1x1_S2x64x224x224_0_1_2_3 (refMean x))) (broadcastInDim S2x64x224x224 ![0, 1, 2, 3] bcast_S1x64x1x1_S2x64x224x224_0_1_2_3 (Host.sqrt (addf (refVar x) (broadcastInDim S1x64x1x1 ![] bcast_S_S1x64x1x1 (constant S_ .f32 0x3727C5AC#32)))))) (broadcastInDim S2x64x224x224 ![0, 1, 2, 3] bcast_S1x64x1x1_S2x64x224x224_0_1_2_3 (broadcastInDim S1x64x1x1 ![1] bcast_S64_S1x64x1x1_1 g))) (broadcastInDim S2x64x224x224 ![0, 1, 2, 3] bcast_S1x64x1x1_S2x64x224x224_0_1_2_3 (broadcastInDim S1x64x1x1 ![1] bcast_S64_S1x64x1x1_1 bb))) (broadcastInDim S2x64x224x224 ![] bcast_S_S2x64x224x224 (constant S_ .f32 0x00000000#32))

/-- with a border of zeros, -/
def refPad (h : FVec Ideal S2x64x224x224 .f32) : FVec Ideal S2x64x226x226 .f32 :=
  pad S2x64x226x226 ![0, 0, 1, 1] ![0, 0, 1, 1] ![0, 0, 0, 0] h (sitofp .f32 (constantI S_ 32 0#32)) pads_S2x64x224x224_S2x64x226x226_000_000_110_110 h_S_

/-- and their convolution. -/
def refConv (h : FVec Ideal S2x64x224x224 .f32) (w : FVec Ideal S32x64x3x3 .f32) (b : FVec Ideal S32 .f32) : FVec Ideal S2x32x224x224 .f32 :=
  addf (addf (addf (addf (addf (addf (addf (addf (addf (addf (broadcastInDim S2x32x224x224 ![] bcast_S_S2x32x224x224 (constant S_ .f32 0x00000000#32)) (transpose S2x32x224x224 [1, 0, 2, 3] (Host.dotGeneral dot_S32x64_S2x64x224x224_S32x2x224x224_1_1_0_023_n_n none (shapeCast _ (extractStridedSlice S32x64x1x1 ![0, 0, 0, 0] w slices_S32x64x3x3_S32x64x1x1_0_0_0_0) shapeCasts_S32x64x1x1_S32x64) (extractStridedSlice S2x64x224x224 ![0, 0, 0, 0] (refPad h) slices_S2x64x226x226_S2x64x224x224_0_0_0_0)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 0, 1] w slices_S32x64x3x3_S32x64x1x1_0_0_0_1) shapeCasts_S32x64x1x1_S32x64) (extractStridedSlice S2x64x224x224 ![0, 0, 0, 1] (refPad h) slices_S2x64x226x226_S2x64x224x224_0_0_0_1)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 0, 2] w slices_S32x64x3x3_S32x64x1x1_0_0_0_2) shapeCasts_S32x64x1x1_S32x64) (extractStridedSlice S2x64x224x224 ![0, 0, 0, 2] (refPad h) slices_S2x64x226x226_S2x64x224x224_0_0_0_2)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 1, 0] w slices_S32x64x3x3_S32x64x1x1_0_0_1_0) shapeCasts_S32x64x1x1_S32x64) (extractStridedSlice S2x64x224x224 ![0, 0, 1, 0] (refPad h) slices_S2x64x226x226_S2x64x224x224_0_0_1_0)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 1, 1] w slices_S32x64x3x3_S32x64x1x1_0_0_1_1) shapeCasts_S32x64x1x1_S32x64) (extractStridedSlice S2x64x224x224 ![0, 0, 1, 1] (refPad h) slices_S2x64x226x226_S2x64x224x224_0_0_1_1)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 1, 2] w slices_S32x64x3x3_S32x64x1x1_0_0_1_2) shapeCasts_S32x64x1x1_S32x64) (extractStridedSlice S2x64x224x224 ![0, 0, 1, 2] (refPad h) slices_S2x64x226x226_S2x64x224x224_0_0_1_2)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 2, 0] w slices_S32x64x3x3_S32x64x1x1_0_0_2_0) shapeCasts_S32x64x1x1_S32x64) (extractStridedSlice S2x64x224x224 ![0, 0, 2, 0] (refPad h) slices_S2x64x226x226_S2x64x224x224_0_0_2_0)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 2, 1] w slices_S32x64x3x3_S32x64x1x1_0_0_2_1) shapeCasts_S32x64x1x1_S32x64) (extractStridedSlice S2x64x224x224 ![0, 0, 2, 1] (refPad h) slices_S2x64x226x226_S2x64x224x224_0_0_2_1)) transposes_S32x2x224x224_S2x32x224x224_1_0_2_3)) (transpose S2x32x224x224 [1, 0, 2, 3] (Host.dotGeneral dot_S32x64_S2x64x224x224_S32x2x224x224_1_1_0_023_n_n none (shapeCast _ (extractStridedSlice S32x64x1x1 ![0, 0, 2, 2] w slices_S32x64x3x3_S32x64x1x1_0_0_2_2) shapeCasts_S32x64x1x1_S32x64) (extractStridedSlice S2x64x224x224 ![0, 0, 2, 2] (refPad h) slices_S2x64x226x226_S2x64x224x224_0_0_2_2)) transposes_S32x2x224x224_S2x32x224x224_1_0_2_3)) (broadcastInDim S2x32x224x224 ![0, 1, 2, 3] bcast_S1x32x1x1_S2x32x224x224_0_1_2_3 (broadcastInDim S1x32x1x1 ![1] bcast_S32_S1x32x1x1_1 b))

/-- The images with the channels second. -/
abbrev chan (y : FVec Ideal S2x224x224x64 .f32) : FVec Ideal S2x64x224x224 .f32 :=
  transpose S2x64x224x224 [0, 3, 1, 2] y transposes_S2x224x224x64_S2x64x224x224_0_3_1_2

theorem chan_apply (y : FVec Ideal S2x224x224x64 .f32) (n : Fin 2) (i : Fin 64) (h v : Fin 224) : chan y (ix4 n i h v) = y (ix4 n h v i) := by
  pointwise

theorem refMean_apply (x : FVec Ideal S2x64x224x224 .f32) (i : Fin 64) :
    refMean x (ix4 0 i 0 0) = meanOf (∑ n : Fin 2, ∑ h : Fin 224, ∑ v : Fin 224, x (ix4 n i h v)) := by
  pointwise [refMean]
  rw [sum_channel _ _ _ _ (by decide) i rfl, zero_add]
  rfl

theorem refVar_apply (x : FVec Ideal S2x64x224x224 .f32) (i : Fin 64) :
    refVar x (ix4 0 i 0 0) = meanOf (∑ n : Fin 2, ∑ h : Fin 224, ∑ v : Fin 224, (x (ix4 n i h v) - refMean x (ix4 0 i 0 0)) * (x (ix4 n i h v) - refMean x (ix4 0 i 0 0))) := by
  pointwise [refVar]
  rw [sum_channel _ _ _ _ (by decide) i rfl, zero_add]
  refine congrArg meanOf ?_
  refine Finset.sum_congr rfl fun n _ => Finset.sum_congr rfl fun h _ => Finset.sum_congr rfl fun v _ => ?_
  pointwise

theorem refNorm_apply (x : FVec Ideal S2x64x224x224 .f32) (g bb : FVec Ideal S64 .f32) (n : Fin 2) (i : Fin 64) (h v : Fin 224) :
    refNorm x g bb (ix4 n i h v) = refNormOf (x (ix4 n i h v)) (refMean x (ix4 0 i 0 0)) (refVar x (ix4 0 i 0 0)) (g (ix1 i)) (bb (ix1 i)) := by
  pointwise [refNorm]
  rfl

/-- The normalised images are the kernel's. -/
theorem refNorm_eq {y : FVec Ideal S2x224x224x64 .f32} {s q : FVec Ideal (⟨2, ![8, 64]⟩ : Shape) .f32} (g bb : FVec Ideal S64 .f32)
    (hy : ∀ n h v i, y (ix4 n h v i) = ((y (ix4 n h v i)).toReal : EReal))
    (hs : ∀ i, s (ix2 0 i) = ∑ n : Fin 2, ∑ h : Fin 224, ∑ v : Fin 224, y (ix4 n h v i))
    (hq : ∀ i, q (ix2 0 i) = ∑ n : Fin 2, ∑ h : Fin 224, ∑ v : Fin 224, y (ix4 n h v i) * y (ix4 n h v i)) :
    refNorm (chan y) g bb = normed y s q g bb := by
  funext j
  obtain ⟨n, i, h, v, rfl⟩ : ∃ (n : Fin 2) (i : Fin 64) (h v : Fin 224), j = ix4 n i h v := by
    refine ⟨j 0, j 1, j 2, j 3, ?_⟩
    funext a
    match a with
    | ⟨0, _⟩ => rfl
    | ⟨1, _⟩ => rfl
    | ⟨2, _⟩ => rfl
    | ⟨3, _⟩ => rfl
  have hM := refMean_apply (chan y) i
  have hV := refVar_apply (chan y) i
  simp only [chan_apply] at hM hV
  refine (refNorm_apply (chan y) g bb n i h v).trans ?_
  rw [chan_apply]
  exact normed_eq g bb hy i (hs i) (hq i) hM hV n h v

theorem refPad_apply (x : FVec Ideal S2x64x224x224 .f32) (n : Fin 2) (c : Fin 64) (h w : Fin 226) :
    refPad x (ix4 n c h w) = padded x n h w c := by
  have hz : (FloatOps.sitofp .f32 0#32 : Ideal .f32) = (0 : EReal) := by
    show (((0#32 : BitVec 32).toInt : ℝ) : EReal) = 0
    simp
  pointwise [refPad]
  unfold padded
  by_cases hv : (1 ≤ h.val ∧ h.val ≤ 224) ∧ 1 ≤ w.val ∧ w.val ≤ 224
  · rw [dif_pos hv, dif_pos (by omega)]
  · rw [dif_neg hv, dif_neg (by omega)]
    exact hz

theorem refConv_apply (x : FVec Ideal S2x64x224x224 .f32) (w : FVec Ideal S32x64x3x3 .f32) (b : FVec Ideal S32 .f32)
    (n : Fin 2) (o : Fin 32) (h v : Fin 224) :
    refConv x w b (ix4 n o h v) = conv (padded x n) (kernelOf w o) (b (ix1 o)) h v := by
  pointwise [refConv]
  refine conv_of ?_ ?_ ?_ ?_ ?_ ?_ ?_ ?_ ?_ rfl <;>
    exact tap_of' (fun i => refPad_apply x n i _ _) (fun i => rfl) (by first | rfl | exact Nat.add_comm _ _)
      (by first | rfl | exact Nat.add_comm _ _)

/-- Each channel's sum in the first row of eight. -/
def refSums (y : FVec Ideal S2x32x224x224 .f32) : FVec Ideal S8x32 .f32 :=
  select (broadcastInDim S8x32 ![0, 1] bcast_S8x1_S8x32_0_1 (cmpi .eq (broadcastInDim S8x1 ![0] bcast_S8_S8x1_0 (iotaInDim S8 32 0)) (broadcastInDim S8x1 ![] bcast_S_S8x1 (constantI S_ 32 0#32))))
    (broadcastInDim S8x32 ![0, 1] bcast_S1x32_S8x32_0_1 (broadcastInDim S1x32 ![1] bcast_S32_S1x32_1
      (Host.reduceAdd y (constant S_ .f32 0x00000000#32) reducesTo_S2x32x224x224_S32_d0_2_3 h_S_)))
    (broadcastInDim S8x32 ![] bcast_S_S8x32 (constant S_ .f32 0x00000000#32))

theorem refSums_apply (y : FVec Ideal S2x32x224x224 .f32) (r : Fin 8) (o : Fin 32) :
    refSums y (ix2 r o) = if r = 0 then ∑ n : Fin 2, ∑ h : Fin 224, ∑ v : Fin 224, y (ix4 n o h v) else 0 := by
  pointwise [refSums]
  rw [sum_channel _ _ _ _ (by decide) o rfl, zero_add]
  by_cases h : r = 0
  · subst h
    rw [if_pos rfl]
    rfl
  · rw [if_neg h]
    have e : IntOp.cmpi CmpIPredicate.eq (BitVec.ofNat 32 r.val) 0#32 = 0#1 := by revert h; revert r; decide
    rw [e]
    rfl

section Results

variable (m : (ℓ : Loc nD τ sig) → Buf (Elt Ideal) ℓ) (c : Dev nD)

/-- The convolution of the arguments. -/
abbrev resConv : FVec Ideal S2x32x224x224 .f32 :=
  refConv (refNorm (chan (m ((c.tc : Thread nD τ).loc main_arg0))) (m ((c.tc : Thread nD τ).loc main_arg3)) (m ((c.tc : Thread nD τ).loc main_arg4)))
    (m ((c.tc : Thread nD τ).loc main_arg5)) (m ((c.tc : Thread nD τ).loc main_arg6))

theorem res_out0_eq (n : Fin 2) (h v : Fin 224) (o : Fin 32) :
    Cert.ThirdConvIdeal.Value.res_out0 m c (ix4 n h v o) = resConv m c (ix4 n o h v) := by
  have e : Cert.ThirdConvIdeal.Value.res_out0 m c = transpose S2x224x224x32 [0, 2, 3, 1] (resConv m c) transposes_S2x32x224x224_S2x224x224x32_0_2_3_1 := rfl
  rw [e]
  pointwise

theorem res_out1_eq : Cert.ThirdConvIdeal.Value.res_out1 m c = refSums (resConv m c) := rfl

theorem res_out2_eq : Cert.ThirdConvIdeal.Value.res_out2 m c = refSums (mulf (resConv m c) (resConv m c)) := rfl

end Results

end Cert.Proof.E

end
-- ==== Proof.E.Given.lean ====
/-
  What the precondition says of the third layer's arguments over the extended reals.
-/
module

public import proofs.«01_k».proof.Pre_statistics_of_third
public import proofs.«01_k».proof.Proof.C.Sums
public import proofs.«01_k».proof.Proof.V.Pre
public import Idealize.ShloMosaic.Lib.Pipeline.ValueKit

@[expose] public section

set_option maxRecDepth 16384

noncomputable section

namespace Cert.Proof.E

open Idealize.ShloMosaic Cert.Proof.C
open Cert.Proof.V (of_flag lit_top real_of_abs_lt)

instance givenFacts : Cert.Pre_statistics_of_third.Facts where
  bcast_S_S2x224x224x64 := by decide
  slices_S8x64_S1x64_0_0 := by decide
  shapeCasts_S1x64_S64 := by decide
  reducesTo_S2x224x224x64_S64_d0_1_2 := by decide
  h_S_ := by decide

open Cert.Pre_statistics_of_third

variable {y : FVec Ideal S2x224x224x64 .f32} {s q : FVec Ideal S8x64 .f32} {g bb : FVec Ideal S64 .f32}
  {w : FVec Ideal S32x64x3x3 .f32} {b : FVec Ideal S32 .f32}

theorem given_real (p : (fn (F := Ideal) y s q g bb w b).1 = fun _ => 1#1) (n : Fin 2) (h v : Fin 224) (i : Fin 64) :
    y (ix4 n h v i) = ((y (ix4 n h v i)).toReal : EReal) := by
  have e : (fn (F := Ideal) y s q g bb w b).1 (ix4 n h v i) = BitVec.ofBool (decide (max (y (ix4 n h v i)) (-y (ix4 n h v i)) < Ideal.ofBits .f32 0x7F800000#32)) := by
    pointwise [fn]
    rfl
  rw [p, lit_top] at e
  exact (real_of_abs_lt (of_flag e.symm)).symm

theorem given_sum (p : (fn (F := Ideal) y s q g bb w b).2.1 = fun _ => 1#1) (i : Fin 64) :
    s (ix2 0 i) = ∑ n : Fin 2, ∑ h : Fin 224, ∑ v : Fin 224, y (ix4 n h v i) := by
  have e : (fn (F := Ideal) y s q g bb w b).2.1 (ix1 i) = BitVec.ofBool (decide (s (ix2 0 i) = Ideal.hostReduceAdd Cert.Pre_statistics_of_third.Facts.reducesTo_S2x224x224x64_S64_d0_1_2 y 0 (ix1 i))) := by
    pointwise [fn]
  rw [p] at e
  exact (of_flag e.symm).trans ((sum_last _ y 0 (ix1 i) (by decide) i rfl).trans (zero_add _))

theorem given_square (p : (fn (F := Ideal) y s q g bb w b).2.2 = fun _ => 1#1) (i : Fin 64) :
    q (ix2 0 i) = ∑ n : Fin 2, ∑ h : Fin 224, ∑ v : Fin 224, y (ix4 n h v i) * y (ix4 n h v i) := by
  have e : (fn (F := Ideal) y s q g bb w b).2.2 (ix1 i)
      = BitVec.ofBool (decide (q (ix2 0 i) = Ideal.hostReduceAdd Cert.Pre_statistics_of_third.Facts.reducesTo_S2x224x224x64_S64_d0_1_2 (mulf (F := Ideal) y y) 0 (ix1 i))) := by
    pointwise [fn]
  rw [p] at e
  exact (of_flag e.symm).trans ((sum_last _ (mulf (F := Ideal) y y) 0 (ix1 i) (by decide) i rfl).trans (zero_add _))

end Cert.Proof.E

end
-- ==== Proof.E.Value.lean ====
/-
  The third layer's kernel and the reference's convolution of the normalised images give the same arrays.
-/
module

public import proofs.«01_k».proof.Defs
public import proofs.«01_k».proof.Proof.E.Kernel
public import proofs.«01_k».proof.Proof.E.Reference
public import proofs.«01_k».proof.Proof.E.Given
public import Idealize.ShloMosaic.Lib.Quiescent

@[expose] public section

set_option maxRecDepth 16384

noncomputable section

namespace Cert.Proof.E

section Kernel

open Cert.ThirdIdeal Cert.ThirdIdeal.Gen
open Idealize.ShloMosaic Cert.Proof.C

variable (m : (ℓ : Loc nD τ sig) → Buf (Elt Ideal) ℓ)

/-- The convolution's array, its sums and its sums of squares. -/
def outArr (c : Dev nD) : FVec Ideal S2x224x224x32 .f32 := fun j => layerAt m c (j 0).val (j 1).val (j 2).val (j 3)

def sumArr (c : Dev nD) : FVec Ideal S8x32 .f32 := fun j =>
  if (show Fin 8 from j 0) = 0 then ∑ n : Fin 2, ∑ k : Fin 224, ∑ v : Fin 224, layerAt m c n k v (j 1) else 0

def sqArr (c : Dev nD) : FVec Ideal S8x32 .f32 := fun j =>
  if (show Fin 8 from j 0) = 0 then ∑ n : Fin 2, ∑ k : Fin 224, ∑ v : Fin 224, layerAt m c n k v (j 1) * layerAt m c n k v (j 1) else 0

theorem canon_row_col (j : S8x32.Idx) : ∃ (r : Fin 8) (o : Fin 32), j = ix2 r o := by
  refine ⟨j 0, j 1, ?_⟩
  funext a
  match a with
  | ⟨0, _⟩ => rfl
  | ⟨1, _⟩ => rfl

theorem idx_sums : ∀ t : Fin cfg0.N, win0_9.index t = ![0, 0] ∧ win0_10.index t = ![0, 0] := (by decide +kernel : ∀ t : Fin grid0.N, _)

theorem sumAt_end (c : Dev nD) (k : ℕ) (h : k < cfg0.N) (hk : k = 55) (r : Fin 8) (o : Fin 32) :
    (outsAt0 m c k h).2.1 (ix2 r o) = if r = 0 then ∑ n : Fin 2, ∑ k : Fin 224, ∑ v : Fin 224, layerAt m c n k v o else 0 := by
  subst hk
  exact sumAt_last m c h r o

theorem sqAt_end (c : Dev nD) (k : ℕ) (h : k < cfg0.N) (hk : k = 55) (r : Fin 8) (o : Fin 32) :
    (outsAt0 m c k h).2.2 (ix2 r o) = if r = 0 then ∑ n : Fin 2, ∑ k : Fin 224, ∑ v : Fin 224, layerAt m c n k v o * layerAt m c n k v o else 0 := by
  subst hk
  exact sqAt_last m c h r o

theorem final_out (c : Dev nD) : (dats m 0 c).arrAt 8 cfg0.N = outArr m c := by
  refine (dats m 0 c).arrAt_eq_of_covers 8 _ (by decide +kernel) fun t hf y => ?_
  have ht : t.val < 56 := lt_of_lt_of_eq t.isLt N_0
  have hy : ∃ (r : Fin 8) (v : Fin 224) (o : Fin 32), y = ix4 (0 : Fin 1) r v o := by
    refine ⟨y 1, y 2, y 3, ?_⟩
    funext a
    match a with
    | ⟨0, _⟩ => exact Fin.ext (Nat.lt_one_iff.mp (y 0).isLt)
    | ⟨1, _⟩ => rfl
    | ⟨2, _⟩ => rfl
    | ⟨3, _⟩ => rfl
  obtain ⟨r, v, o, rfl⟩ := hy
  blk_simp
  rw [after0_8, out_point]
  refine ((pay1_apply _ r v o).trans (rowsAt_apply m c t r v o)).trans ?_
  have e : outArr m c (ix4 ⟨t.val / 28, by omega⟩ ⟨8 * (t.val % 28) + r.val, by omega⟩ v o)
    = layerAt m c (t.val / 28) (8 * (t.val % 28) + r.val) v o := rfl
  refine e.symm.trans (congrArg _ ?_)
  blk_ext [idx t]

theorem final_sums (c : Dev nD) : (dats m 0 c).arrAt 9 cfg0.N = sumArr m c := by
  refine (dats m 0 c).arrAt_eq_of_covers 9 _ (by decide +kernel) fun t hf y => ?_
  have ht : t.val < 56 := lt_of_lt_of_eq t.isLt N_0
  have h55 : t.val % 56 = 55 := (flush0_9 t).mp hf
  obtain ⟨r, o, rfl⟩ := canon_row_col y
  blk_simp
  rw [after0_9]
  refine (sumAt_end m c t.val t.isLt (by omega) r o).trans ?_
  have e : sumArr m c (ix2 r o) = if r = 0 then ∑ n : Fin 2, ∑ k : Fin 224, ∑ v : Fin 224, layerAt m c n k v o else 0 := rfl
  refine e.symm.trans (congrArg _ ?_)
  blk_ext [idx_sums t]

theorem final_squares (c : Dev nD) : (dats m 0 c).arrAt 10 cfg0.N = sqArr m c := by
  refine (dats m 0 c).arrAt_eq_of_covers 10 _ (by decide +kernel) fun t hf y => ?_
  have ht : t.val < 56 := lt_of_lt_of_eq t.isLt N_0
  have h55 : t.val % 56 = 55 := (flush0_10 t).mp hf
  obtain ⟨r, o, rfl⟩ := canon_row_col y
  blk_simp
  rw [after0_10]
  refine (sqAt_end m c t.val t.isLt (by omega) r o).trans ?_
  have e : sqArr m c (ix2 r o)
    = if r = 0 then ∑ n : Fin 2, ∑ k : Fin 224, ∑ v : Fin 224, layerAt m c n k v o * layerAt m c n k v o else 0 := rfl
  refine e.symm.trans (congrArg _ ?_)
  blk_ext [idx_sums t]

end Kernel

open Idealize.ShloMosaic Idealize.SL.Sem Cert.Proof.C

section Reference

variable (m : (ℓ : Loc Cert.ThirdIdeal.nD Cert.ThirdIdeal.τ Cert.ThirdIdeal.sig) → Buf (Elt Ideal) ℓ) (c : Dev Cert.ThirdIdeal.nD)

/-- The reference's convolution of the arguments. -/
abbrev refOf : FVec Ideal Cert.ThirdConvIdeal.S2x32x224x224 .f32 := refConv (refNorm (chan (argY m c)) (argG m c) (argBB m c)) (argW m c) (argB m c)

theorem refOf_apply (hpre : Cert.Pre_ThirdIdeal_statistics_of_third m) (n : Fin 2) (h v : Fin 224) (o : Fin 32) :
    refOf m c (ix4 n o h v) = layerAt m c n h v o := by
  obtain ⟨p0, p1, p2⟩ := hpre c
  unfold refOf
  rw [refNorm_eq (y := argY m c) (s := argS m c) (q := argQ m c) (argG m c) (argBB m c) (given_real p0) (given_sum p1) (given_square p2)]
  refine (refConv_apply _ _ _ n o h v).trans ?_
  unfold layerAt
  have e : (⟨n.val % 2, Nat.mod_lt _ (by omega)⟩ : Fin 2) = n := Fin.ext (Nat.mod_eq_of_lt n.isLt)
  rw [e]
  rfl

theorem refSums_args (hpre : Cert.Pre_ThirdIdeal_statistics_of_third m) : refSums (refOf m c) = sumArr m c := by
  funext j
  obtain ⟨r, o, rfl⟩ := canon_row_col j
  refine (refSums_apply _ _ _).trans ?_
  simp only [refOf_apply m c hpre]
  rfl

theorem refSquares_args (hpre : Cert.Pre_ThirdIdeal_statistics_of_third m) : refSums (mulf (refOf m c) (refOf m c)) = sqArr m c := by
  funext j
  obtain ⟨r, o, rfl⟩ := canon_row_col j
  refine (refSums_apply _ _ _).trans ?_
  have e (n : Fin 2) (h v : Fin 224) (o : Fin 32) :
      mulf (refOf m c) (refOf m c) (ix4 n o h v) = layerAt m c n h v o * layerAt m c n h v o := by
    refine Eq.trans ?_ (congrArg₂ (· * ·) (refOf_apply m c hpre n h v o) (refOf_apply m c hpre n h v o))
    rfl
  simp only [e]
  rfl

end Reference

/-- The frame of the reference. -/
theorem conv_frame (m : (ℓ : Loc Cert.ThirdConvIdeal.nD Cert.ThirdConvIdeal.τ Cert.ThirdConvIdeal.sig) → Buf (Elt Ideal) ℓ) (ρ : Dev Cert.ThirdConvIdeal.nD → PrngReg) :
    θ_run (Cert.ThirdConvIdeal.defs (F := Ideal)) (onTc (τ := Cert.ThirdConvIdeal.τ) (Cert.ThirdConvIdeal.main (F := Ideal))) ⟨m, fun _ => 0, ρ⟩
      (fun r => (∀ c : Dev Cert.ThirdConvIdeal.nD,
        r.2.mem ((c.tc : Thread Cert.ThirdConvIdeal.nD Cert.ThirdConvIdeal.τ).loc Cert.ThirdConvIdeal.main_arg0) = m ((c.tc : Thread Cert.ThirdConvIdeal.nD Cert.ThirdConvIdeal.τ).loc Cert.ThirdConvIdeal.main_arg0)
        ∧ r.2.mem ((c.tc : Thread Cert.ThirdConvIdeal.nD Cert.ThirdConvIdeal.τ).loc Cert.ThirdConvIdeal.main_arg1) = m ((c.tc : Thread Cert.ThirdConvIdeal.nD Cert.ThirdConvIdeal.τ).loc Cert.ThirdConvIdeal.main_arg1)
        ∧ r.2.mem ((c.tc : Thread Cert.ThirdConvIdeal.nD Cert.ThirdConvIdeal.τ).loc Cert.ThirdConvIdeal.main_arg2) = m ((c.tc : Thread Cert.ThirdConvIdeal.nD Cert.ThirdConvIdeal.τ).loc Cert.ThirdConvIdeal.main_arg2)
        ∧ r.2.mem ((c.tc : Thread Cert.ThirdConvIdeal.nD Cert.ThirdConvIdeal.τ).loc Cert.ThirdConvIdeal.main_arg3) = m ((c.tc : Thread Cert.ThirdConvIdeal.nD Cert.ThirdConvIdeal.τ).loc Cert.ThirdConvIdeal.main_arg3)
        ∧ r.2.mem ((c.tc : Thread Cert.ThirdConvIdeal.nD Cert.ThirdConvIdeal.τ).loc Cert.ThirdConvIdeal.main_arg4) = m ((c.tc : Thread Cert.ThirdConvIdeal.nD Cert.ThirdConvIdeal.τ).loc Cert.ThirdConvIdeal.main_arg4)
        ∧ r.2.mem ((c.tc : Thread Cert.ThirdConvIdeal.nD Cert.ThirdConvIdeal.τ).loc Cert.ThirdConvIdeal.main_arg5) = m ((c.tc : Thread Cert.ThirdConvIdeal.nD Cert.ThirdConvIdeal.τ).loc Cert.ThirdConvIdeal.main_arg5)
        ∧ r.2.mem ((c.tc : Thread Cert.ThirdConvIdeal.nD Cert.ThirdConvIdeal.τ).loc Cert.ThirdConvIdeal.main_arg6) = m ((c.tc : Thread Cert.ThirdConvIdeal.nD Cert.ThirdConvIdeal.τ).loc Cert.ThirdConvIdeal.main_arg6))
        ∧ r.2.sem = fun _ => 0) :=
  (θ_run _ _ _).mono (fun r h => ⟨fun c => (h c).2.2.2, sem_eq_zero_of_no_sems (by decide) r.2⟩) (Cert.ThirdConvIdeal.Value.run (F := Ideal) m ρ)

/-- The kernel and the reference end with the same results. -/
theorem equal : Cert.algebraic_ThirdIdeal_ThirdConvIdeal_pre_statistics_of_third := by
  intro m g m' g' hpre hargs
  refine ⟨fun c => outArr m c, fun c => sumArr m c, fun c => sqArr m c, ?_, ?_⟩
  · exact (θ_run _ _ _).mono (fun _ h c => ⟨(h c).1.trans (final_out m c), (h c).2.1.trans (final_sums m c),
      (h c).2.2.1.trans (final_squares m c), (h c).2.2.2⟩) (Cert.ThirdIdeal.Value.run_blocks (F := Ideal) m g)
  · refine (θ_run _ _ _).mono (fun _ h c => ⟨(h c).1.trans ?_, (h c).2.1.trans ?_, (h c).2.2.1.trans ?_, (h c).2.2.2⟩)
      (Cert.ThirdConvIdeal.Value.run (F := Ideal) m' g')
    all_goals obtain ⟨e0, e1, e2, e3, e4, e5, e6⟩ := hargs c
    · funext j
      have hj : j = ix4 (j 0 : Fin 2) (j 1 : Fin 224) (j 2 : Fin 224) (j 3 : Fin 32) := by
        funext a
        match a with
        | ⟨0, _⟩ => rfl
        | ⟨1, _⟩ => rfl
        | ⟨2, _⟩ => rfl
        | ⟨3, _⟩ => rfl
      rw [hj]
      refine (res_out0_eq m' c _ _ _ _).trans ?_
      rw [resConv, e0, e3, e4, e5, e6]
      exact refOf_apply m c hpre _ _ _ _
    · refine (res_out1_eq m' c).trans ?_
      rw [resConv, e0, e3, e4, e5, e6]
      exact refSums_args m c hpre
    · refine (res_out2_eq m' c).trans ?_
      rw [resConv, e0, e3, e4, e5, e6]
      exact refSquares_args m c hpre

end Cert.Proof.E

end
-- ==== Proof.lean ====
/-
  The certificate: the frames of the kernel, of its idealization and of the reference, the one constant the
  idealization renames, and the equality of the kernel's and the reference's results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.K.Run
public import proofs.«01_k».proof.Proof.KI.Run
public import proofs.«01_k».proof.Proof.R.Frame
public import proofs.«01_k».proof.Proof.V.Value
public import proofs.«01_k».proof.Proof.C.Value
public import proofs.«01_k».proof.Proof.D.Value
public import proofs.«01_k».proof.Proof.E.Value
public import proofs.«01_k».proof.Proof.Gen.Layer
public import proofs.«01_k».proof.Proof.Gen.LayerIdeal
public import proofs.«01_k».proof.Proof.Gen.ConvIdeal
public import proofs.«01_k».proof.Proof.Gen.Layer.Frame
public import proofs.«01_k».proof.Proof.Gen.LayerIdeal.Frame
public import proofs.«01_k».proof.Proof.Gen.LayerIdeal.Value
public import proofs.«01_k».proof.Proof.Gen.ConvIdeal.Run
public import proofs.«01_k».proof.Proof.Gen.Second
public import proofs.«01_k».proof.Proof.Gen.SecondIdeal
public import proofs.«01_k».proof.Proof.Gen.SecondConvIdeal
public import proofs.«01_k».proof.Proof.Gen.Second.Frame
public import proofs.«01_k».proof.Proof.Gen.SecondIdeal.Frame
public import proofs.«01_k».proof.Proof.Gen.SecondIdeal.Value
public import proofs.«01_k».proof.Proof.Gen.SecondConvIdeal.Run
public import proofs.«01_k».proof.Proof.Gen.Third
public import proofs.«01_k».proof.Proof.Gen.ThirdIdeal
public import proofs.«01_k».proof.Proof.Gen.ThirdConvIdeal
public import proofs.«01_k».proof.Proof.Gen.Third.Frame
public import proofs.«01_k».proof.Proof.Gen.ThirdIdeal.Frame
public import proofs.«01_k».proof.Proof.Gen.ThirdIdeal.Value
public import proofs.«01_k».proof.Proof.Gen.ThirdConvIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Layer.Gen.facts, Cert.LayerIdeal.Gen.facts, Cert.ConvIdeal.Gen.facts,
  Cert.Second.Gen.facts, Cert.SecondIdeal.Gen.facts, Cert.SecondConvIdeal.Gen.facts,
  Cert.Third.Gen.facts, Cert.ThirdIdeal.Gen.facts, Cert.ThirdConvIdeal.Gen.facts,
  V.preFacts, D.givenFacts, E.givenFacts,
  fun m g _ => K.frame (F := Bits) m g,
  fun m g _ => KI.frame (F := Ideal) m g,
  fun m g _ => KI.frame (F := Ideal) m g,
  fun m g _ => R.frame (F := Ideal) m g,
  fun m g _ => R.frame (F := Ideal) m g,
  fun m g _ => Cert.Layer.Gen.frame (F := Bits) m g,
  fun m g _ => Cert.LayerIdeal.Gen.frame (F := Ideal) m g,
  fun m g _ => C.conv_frame m g,
  fun m g _ => Cert.Second.Gen.frame (F := Bits) m g,
  fun m g _ => Cert.SecondIdeal.Gen.frame (F := Ideal) m g,
  fun m g _ => Cert.SecondIdeal.Gen.frame (F := Ideal) m g,
  fun m g _ => D.conv_frame m g,
  fun m g _ => D.conv_frame m g,
  fun m g _ => Cert.Third.Gen.frame (F := Bits) m g,
  fun m g _ => Cert.ThirdIdeal.Gen.frame (F := Ideal) m g,
  fun m g _ => Cert.ThirdIdeal.Gen.frame (F := Ideal) m g,
  fun m g _ => E.conv_frame m g,
  fun m g _ => E.conv_frame m g,
  IdealRules.named_const.statement _ _ _ _ _ rfl,
  V.equal,
  trivial,
  C.equal,
  trivial,
  D.equal,
  trivial,
  E.equal⟩

end Cert.Proof

end
